-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))).2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))).2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolIdeal_finite_gain [hPre_finite_gain : Cert.Pre_finite_gain.Facts] (m : (ℓ : Loc Cert.PoolIdeal.nD Cert.PoolIdeal.τ Cert.PoolIdeal.sig) → Buf (Elt Ideal) ℓ) : Prop :=
  ∀ c : Dev Cert.PoolIdeal.nD,
    (Cert.Pre_finite_gain.fn (F := Ideal) (m ((c.tc : Thread Cert.PoolIdeal.nD Cert.PoolIdeal.τ).loc Cert.PoolIdeal.main_arg0)) (m ((c.tc : Thread Cert.PoolIdeal.nD Cert.PoolIdeal.τ).loc Cert.PoolIdeal.main_arg1)) (m ((c.tc : Thread Cert.PoolIdeal.nD Cert.PoolIdeal.τ).loc Cert.PoolIdeal.main_arg2)) (m ((c.tc : Thread Cert.PoolIdeal.nD Cert.PoolIdeal.τ).loc Cert.PoolIdeal.main_arg3))) = (fun _ => 1#1)

def Pre_PoolRefIdeal (m : (ℓ : Loc Cert.PoolRefIdeal.nD Cert.PoolRefIdeal.τ Cert.PoolRefIdeal.sig) → Buf (Elt Ideal) ℓ) : Prop :=
  True

def Pre_PoolRefIdeal_finite_gain [hPre_finite_gain : Cert.Pre_finite_gain.Facts] (m : (ℓ : Loc Cert.PoolRefIdeal.nD Cert.PoolRefIdeal.τ Cert.PoolRefIdeal.sig) → Buf (Elt Ideal) ℓ) : Prop :=
  ∀ c : Dev Cert.PoolRefIdeal.nD,
    (Cert.Pre_finite_gain.fn (F := Ideal) (m ((c.tc : Thread Cert.PoolRefIdeal.nD Cert.PoolRefIdeal.τ).loc Cert.PoolRefIdeal.main_arg0)) (m ((c.tc : Thread Cert.PoolRefIdeal.nD Cert.PoolRefIdeal.τ).loc Cert.PoolRefIdeal.main_arg1)) (m ((c.tc : Thread Cert.PoolRefIdeal.nD Cert.PoolRefIdeal.τ).loc Cert.PoolRefIdeal.main_arg2)) (m ((c.tc : Thread Cert.PoolRefIdeal.nD Cert.PoolRefIdeal.τ).loc Cert.PoolRefIdeal.main_arg3))) = (fun _ => 1#1)

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutRefIdeal (m : (ℓ : Loc Cert.ConvOutRefIdeal.nD Cert.ConvOutRefIdeal.τ Cert.ConvOutRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2)
      ∧ r.2.mem ((c.tc : Thread Cert.ConvIn.nD Cert.ConvIn.τ).loc Cert.ConvIn.main_arg3) = m ((c.tc : Thread Cert.ConvIn.nD Cert.ConvIn.τ).loc Cert.ConvIn.main_arg3))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
      ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2)
      ∧ r.2.mem ((c.tc : Thread Cert.ConvInRefIdeal.nD Cert.ConvInRefIdeal.τ).loc Cert.ConvInRefIdeal.main_arg3) = m ((c.tc : Thread Cert.ConvInRefIdeal.nD Cert.ConvInRefIdeal.τ).loc Cert.ConvInRefIdeal.main_arg3))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2)
      ∧ r.2.mem ((c.tc : Thread Cert.Pool.nD Cert.Pool.τ).loc Cert.Pool.main_arg3) = m ((c.tc : Thread Cert.Pool.nD Cert.Pool.τ).loc Cert.Pool.main_arg3))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolIdeal_pre_finite_gain [hPoolIdeal : Cert.PoolIdeal.Facts] [hPre_finite_gain : Cert.Pre_finite_gain.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal_finite_gain m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
      ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_PoolRefIdeal_pre_finite_gain [hPoolRefIdeal : Cert.PoolRefIdeal.Facts] [hPre_finite_gain : Cert.Pre_finite_gain.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal_finite_gain m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2)
      ∧ r.2.mem ((c.tc : Thread Cert.PoolRefIdeal.nD Cert.PoolRefIdeal.τ).loc Cert.PoolRefIdeal.main_arg3) = m ((c.tc : Thread Cert.PoolRefIdeal.nD Cert.PoolRefIdeal.τ).loc Cert.PoolRefIdeal.main_arg3))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2)
      ∧ r.2.mem ((c.tc : Thread Cert.ConvOut.nD Cert.ConvOut.τ).loc Cert.ConvOut.main_arg3) = m ((c.tc : Thread Cert.ConvOut.nD Cert.ConvOut.τ).loc Cert.ConvOut.main_arg3)
      ∧ r.2.mem ((c.tc : Thread Cert.ConvOut.nD Cert.ConvOut.τ).loc Cert.ConvOut.main_arg4) = m ((c.tc : Thread Cert.ConvOut.nD Cert.ConvOut.τ).loc Cert.ConvOut.main_arg4)
      ∧ r.2.mem ((c.tc : Thread Cert.ConvOut.nD Cert.ConvOut.τ).loc Cert.ConvOut.main_arg5) = m ((c.tc : Thread Cert.ConvOut.nD Cert.ConvOut.τ).loc Cert.ConvOut.main_arg5)
      ∧ r.2.mem ((c.tc : Thread Cert.ConvOut.nD Cert.ConvOut.τ).loc Cert.ConvOut.main_arg6) = m ((c.tc : Thread Cert.ConvOut.nD Cert.ConvOut.τ).loc Cert.ConvOut.main_arg6)
      ∧ r.2.mem ((c.tc : Thread Cert.ConvOut.nD Cert.ConvOut.τ).loc Cert.ConvOut.main_arg7) = m ((c.tc : Thread Cert.ConvOut.nD Cert.ConvOut.τ).loc Cert.ConvOut.main_arg7))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
      ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
      ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4)
      ∧ r.2.mem ((c.tc : Thread Cert.ConvOutIdeal.nD Cert.ConvOutIdeal.τ).loc Cert.ConvOutIdeal.main_arg5) = m ((c.tc : Thread Cert.ConvOutIdeal.nD Cert.ConvOutIdeal.τ).loc Cert.ConvOutIdeal.main_arg5)
      ∧ r.2.mem ((c.tc : Thread Cert.ConvOutIdeal.nD Cert.ConvOutIdeal.τ).loc Cert.ConvOutIdeal.main_arg6) = m ((c.tc : Thread Cert.ConvOutIdeal.nD Cert.ConvOutIdeal.τ).loc Cert.ConvOutIdeal.main_arg6)
      ∧ r.2.mem ((c.tc : Thread Cert.ConvOutIdeal.nD Cert.ConvOutIdeal.τ).loc Cert.ConvOutIdeal.main_arg7) = m ((c.tc : Thread Cert.ConvOutIdeal.nD Cert.ConvOutIdeal.τ).loc Cert.ConvOutIdeal.main_arg7))
      ∧ r.2.sem = fun _ => 0)

def quiescent_ConvOutRefIdeal [hConvOutRefIdeal : Cert.ConvOutRefIdeal.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1)
      ∧ r.2.mem ((c.tc : Thread Cert.ConvOutRefIdeal.nD Cert.ConvOutRefIdeal.τ).loc Cert.ConvOutRefIdeal.main_arg2) = m ((c.tc : Thread Cert.ConvOutRefIdeal.nD Cert.ConvOutRefIdeal.τ).loc Cert.ConvOutRefIdeal.main_arg2)
      ∧ r.2.mem ((c.tc : Thread Cert.ConvOutRefIdeal.nD Cert.ConvOutRefIdeal.τ).loc Cert.ConvOutRefIdeal.main_arg3) = m ((c.tc : Thread Cert.ConvOutRefIdeal.nD Cert.ConvOutRefIdeal.τ).loc Cert.ConvOutRefIdeal.main_arg3)
      ∧ r.2.mem ((c.tc : Thread Cert.ConvOutRefIdeal.nD Cert.ConvOutRefIdeal.τ).loc Cert.ConvOutRefIdeal.main_arg4) = m ((c.tc : Thread Cert.ConvOutRefIdeal.nD Cert.ConvOutRefIdeal.τ).loc Cert.ConvOutRefIdeal.main_arg4)
      ∧ r.2.mem ((c.tc : Thread Cert.ConvOutRefIdeal.nD Cert.ConvOutRefIdeal.τ).loc Cert.ConvOutRefIdeal.main_arg5) = m ((c.tc : Thread Cert.ConvOutRefIdeal.nD Cert.ConvOutRefIdeal.τ).loc Cert.ConvOutRefIdeal.main_arg5)
      ∧ r.2.mem ((c.tc : Thread Cert.ConvOutRefIdeal.nD Cert.ConvOutRefIdeal.τ).loc Cert.ConvOutRefIdeal.main_arg6) = m ((c.tc : Thread Cert.ConvOutRefIdeal.nD Cert.ConvOutRefIdeal.τ).loc Cert.ConvOutRefIdeal.main_arg6)
      ∧ r.2.mem ((c.tc : Thread Cert.ConvOutRefIdeal.nD Cert.ConvOutRefIdeal.τ).loc Cert.ConvOutRefIdeal.main_arg7) = m ((c.tc : Thread Cert.ConvOutRefIdeal.nD Cert.ConvOutRefIdeal.τ).loc Cert.ConvOutRefIdeal.main_arg7))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v8)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v8) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v107) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v18) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)) →
    ∃ (v0 : (c : Dev Cert.PleIdeal.nD) → Buf (Elt Ideal) ((c.tc : Thread Cert.PleIdeal.nD Cert.PleIdeal.τ).loc Cert.PleIdeal.main_v4)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v4) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v25) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)
      ∧ m' ((c.tc : Thread Cert.ConvInRefIdeal.nD Cert.ConvInRefIdeal.τ).loc Cert.ConvInRefIdeal.main_arg2) = m ((c.tc : Thread Cert.ConvInIdeal.nD Cert.ConvInIdeal.τ).loc Cert.ConvInIdeal.main_arg2)
      ∧ m' ((c.tc : Thread Cert.ConvInRefIdeal.nD Cert.ConvInRefIdeal.τ).loc Cert.ConvInRefIdeal.main_arg3) = m ((c.tc : Thread Cert.ConvInIdeal.nD Cert.ConvInIdeal.τ).loc Cert.ConvInIdeal.main_arg3)) →
    ∃ (v0 : (c : Dev Cert.ConvInIdeal.nD) → Buf (Elt Ideal) ((c.tc : Thread Cert.ConvInIdeal.nD Cert.ConvInIdeal.τ).loc Cert.ConvInIdeal.main_v3)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v3) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2)
          ∧ r.2.mem ((c.tc : Thread Cert.ConvInIdeal.nD Cert.ConvInIdeal.τ).loc Cert.ConvInIdeal.main_arg3) = m ((c.tc : Thread Cert.ConvInIdeal.nD Cert.ConvInIdeal.τ).loc Cert.ConvInIdeal.main_arg3))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v25) = v0 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1)
          ∧ r.2.mem ((c.tc : Thread Cert.ConvInRefIdeal.nD Cert.ConvInRefIdeal.τ).loc Cert.ConvInRefIdeal.main_arg2) = m' ((c.tc : Thread Cert.ConvInRefIdeal.nD Cert.ConvInRefIdeal.τ).loc Cert.ConvInRefIdeal.main_arg2)
          ∧ r.2.mem ((c.tc : Thread Cert.ConvInRefIdeal.nD Cert.ConvInRefIdeal.τ).loc Cert.ConvInRefIdeal.main_arg3) = m' ((c.tc : Thread Cert.ConvInRefIdeal.nD Cert.ConvInRefIdeal.τ).loc Cert.ConvInRefIdeal.main_arg3))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)) →
    ∃ (v0 : (c : Dev Cert.QkvIdeal.nD) → Buf (Elt Ideal) ((c.tc : Thread Cert.QkvIdeal.nD Cert.QkvIdeal.τ).loc Cert.QkvIdeal.main_v2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v13) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_Pool_PoolIdeal : Prop :=
  True

def algebraic_PoolIdeal_PoolRefIdeal_pre_finite_gain [hPoolIdeal : Cert.PoolIdeal.Facts] [hPoolRefIdeal : Cert.PoolRefIdeal.Facts] [hPre_finite_gain : Cert.Pre_finite_gain.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal_finite_gain m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)
      ∧ m' ((c.tc : Thread Cert.PoolRefIdeal.nD Cert.PoolRefIdeal.τ).loc Cert.PoolRefIdeal.main_arg3) = m ((c.tc : Thread Cert.PoolIdeal.nD Cert.PoolIdeal.τ).loc Cert.PoolIdeal.main_arg3)) →
    ∃ (v0 : (c : Dev Cert.PoolIdeal.nD) → Buf (Elt Ideal) ((c.tc : Thread Cert.PoolIdeal.nD Cert.PoolIdeal.τ).loc Cert.PoolIdeal.main_v3)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v3) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2)
          ∧ r.2.mem ((c.tc : Thread Cert.PoolIdeal.nD Cert.PoolIdeal.τ).loc Cert.PoolIdeal.main_arg3) = m ((c.tc : Thread Cert.PoolIdeal.nD Cert.PoolIdeal.τ).loc Cert.PoolIdeal.main_arg3))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v128) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2)
          ∧ r.2.mem ((c.tc : Thread Cert.PoolRefIdeal.nD Cert.PoolRefIdeal.τ).loc Cert.PoolRefIdeal.main_arg3) = m' ((c.tc : Thread Cert.PoolRefIdeal.nD Cert.PoolRefIdeal.τ).loc Cert.PoolRefIdeal.main_arg3))

def preserves_ConvOut_ConvOutIdeal : Prop :=
  True

def algebraic_ConvOutIdeal_ConvOutRefIdeal [hConvOutIdeal : Cert.ConvOutIdeal.Facts] [hConvOutRefIdeal : Cert.ConvOutRefIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutRefIdeal.nD Cert.ConvOutRefIdeal.τ Cert.ConvOutRefIdeal.sig) → Buf (Elt Ideal) ℓ) (g' : Dev Cert.ConvOutRefIdeal.nD → PrngReg), Pre_ConvOutIdeal m →
    (∀ c : Dev Cert.ConvOutIdeal.nD,
      m' ((c.tc : Thread Cert.ConvOutRefIdeal.nD Cert.ConvOutRefIdeal.τ).loc Cert.ConvOutRefIdeal.main_arg0) = m ((c.tc : Thread Cert.ConvOutIdeal.nD Cert.ConvOutIdeal.τ).loc Cert.ConvOutIdeal.main_arg0)
      ∧ m' ((c.tc : Thread Cert.ConvOutRefIdeal.nD Cert.ConvOutRefIdeal.τ).loc Cert.ConvOutRefIdeal.main_arg1) = m ((c.tc : Thread Cert.ConvOutIdeal.nD Cert.ConvOutIdeal.τ).loc Cert.ConvOutIdeal.main_arg1)
      ∧ m' ((c.tc : Thread Cert.ConvOutRefIdeal.nD Cert.ConvOutRefIdeal.τ).loc Cert.ConvOutRefIdeal.main_arg2) = m ((c.tc : Thread Cert.ConvOutIdeal.nD Cert.ConvOutIdeal.τ).loc Cert.ConvOutIdeal.main_arg2)
      ∧ m' ((c.tc : Thread Cert.ConvOutRefIdeal.nD Cert.ConvOutRefIdeal.τ).loc Cert.ConvOutRefIdeal.main_arg3) = m ((c.tc : Thread Cert.ConvOutIdeal.nD Cert.ConvOutIdeal.τ).loc Cert.ConvOutIdeal.main_arg3)
      ∧ m' ((c.tc : Thread Cert.ConvOutRefIdeal.nD Cert.ConvOutRefIdeal.τ).loc Cert.ConvOutRefIdeal.main_arg4) = m ((c.tc : Thread Cert.ConvOutIdeal.nD Cert.ConvOutIdeal.τ).loc Cert.ConvOutIdeal.main_arg4)
      ∧ m' ((c.tc : Thread Cert.ConvOutRefIdeal.nD Cert.ConvOutRefIdeal.τ).loc Cert.ConvOutRefIdeal.main_arg5) = m ((c.tc : Thread Cert.ConvOutIdeal.nD Cert.ConvOutIdeal.τ).loc Cert.ConvOutIdeal.main_arg5)
      ∧ m' ((c.tc : Thread Cert.ConvOutRefIdeal.nD Cert.ConvOutRefIdeal.τ).loc Cert.ConvOutRefIdeal.main_arg6) = m ((c.tc : Thread Cert.ConvOutIdeal.nD Cert.ConvOutIdeal.τ).loc Cert.ConvOutIdeal.main_arg6)
      ∧ m' ((c.tc : Thread Cert.ConvOutRefIdeal.nD Cert.ConvOutRefIdeal.τ).loc Cert.ConvOutRefIdeal.main_arg7) = m ((c.tc : Thread Cert.ConvOutIdeal.nD Cert.ConvOutIdeal.τ).loc Cert.ConvOutIdeal.main_arg7)) →
    ∃ (v0 : (c : Dev Cert.ConvOutIdeal.nD) → Buf (Elt Ideal) ((c.tc : Thread Cert.ConvOutIdeal.nD Cert.ConvOutIdeal.τ).loc Cert.ConvOutIdeal.main_v5)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v5) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
          ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2)
          ∧ r.2.mem ((c.tc : Thread Cert.ConvOutIdeal.nD Cert.ConvOutIdeal.τ).loc Cert.ConvOutIdeal.main_arg3) = m ((c.tc : Thread Cert.ConvOutIdeal.nD Cert.ConvOutIdeal.τ).loc Cert.ConvOutIdeal.main_arg3)
          ∧ r.2.mem ((c.tc : Thread Cert.ConvOutIdeal.nD Cert.ConvOutIdeal.τ).loc Cert.ConvOutIdeal.main_arg4) = m ((c.tc : Thread Cert.ConvOutIdeal.nD Cert.ConvOutIdeal.τ).loc Cert.ConvOutIdeal.main_arg4)
          ∧ r.2.mem ((c.tc : Thread Cert.ConvOutIdeal.nD Cert.ConvOutIdeal.τ).loc Cert.ConvOutIdeal.main_arg5) = m ((c.tc : Thread Cert.ConvOutIdeal.nD Cert.ConvOutIdeal.τ).loc Cert.ConvOutIdeal.main_arg5)
          ∧ r.2.mem ((c.tc : Thread Cert.ConvOutIdeal.nD Cert.ConvOutIdeal.τ).loc Cert.ConvOutIdeal.main_arg6) = m ((c.tc : Thread Cert.ConvOutIdeal.nD Cert.ConvOutIdeal.τ).loc Cert.ConvOutIdeal.main_arg6)
          ∧ r.2.mem ((c.tc : Thread Cert.ConvOutIdeal.nD Cert.ConvOutIdeal.τ).loc Cert.ConvOutIdeal.main_arg7) = m ((c.tc : Thread Cert.ConvOutIdeal.nD Cert.ConvOutIdeal.τ).loc Cert.ConvOutIdeal.main_arg7))
      ∧ θ_run (Cert.ConvOutRefIdeal.defs (F := Ideal)) (onTc (τ := Cert.ConvOutRefIdeal.τ) (Cert.ConvOutRefIdeal.main (F := Ideal))) ⟨m', fun _ => 0, g'⟩ (fun r => ∀ c : Dev Cert.ConvOutRefIdeal.nD,
          r.2.mem ((c.tc : Thread Cert.ConvOutRefIdeal.nD Cert.ConvOutRefIdeal.τ).loc Cert.ConvOutRefIdeal.main_v248) = v0 c
          ∧ r.2.mem ((c.tc : Thread Cert.ConvOutRefIdeal.nD Cert.ConvOutRefIdeal.τ).loc Cert.ConvOutRefIdeal.main_arg0) = m' ((c.tc : Thread Cert.ConvOutRefIdeal.nD Cert.ConvOutRefIdeal.τ).loc Cert.ConvOutRefIdeal.main_arg0)
          ∧ r.2.mem ((c.tc : Thread Cert.ConvOutRefIdeal.nD Cert.ConvOutRefIdeal.τ).loc Cert.ConvOutRefIdeal.main_arg1) = m' ((c.tc : Thread Cert.ConvOutRefIdeal.nD Cert.ConvOutRefIdeal.τ).loc Cert.ConvOutRefIdeal.main_arg1)
          ∧ r.2.mem ((c.tc : Thread Cert.ConvOutRefIdeal.nD Cert.ConvOutRefIdeal.τ).loc Cert.ConvOutRefIdeal.main_arg2) = m' ((c.tc : Thread Cert.ConvOutRefIdeal.nD Cert.ConvOutRefIdeal.τ).loc Cert.ConvOutRefIdeal.main_arg2)
          ∧ r.2.mem ((c.tc : Thread Cert.ConvOutRefIdeal.nD Cert.ConvOutRefIdeal.τ).loc Cert.ConvOutRefIdeal.main_arg3) = m' ((c.tc : Thread Cert.ConvOutRefIdeal.nD Cert.ConvOutRefIdeal.τ).loc Cert.ConvOutRefIdeal.main_arg3)
          ∧ r.2.mem ((c.tc : Thread Cert.ConvOutRefIdeal.nD Cert.ConvOutRefIdeal.τ).loc Cert.ConvOutRefIdeal.main_arg4) = m' ((c.tc : Thread Cert.ConvOutRefIdeal.nD Cert.ConvOutRefIdeal.τ).loc Cert.ConvOutRefIdeal.main_arg4)
          ∧ r.2.mem ((c.tc : Thread Cert.ConvOutRefIdeal.nD Cert.ConvOutRefIdeal.τ).loc Cert.ConvOutRefIdeal.main_arg5) = m' ((c.tc : Thread Cert.ConvOutRefIdeal.nD Cert.ConvOutRefIdeal.τ).loc Cert.ConvOutRefIdeal.main_arg5)
          ∧ r.2.mem ((c.tc : Thread Cert.ConvOutRefIdeal.nD Cert.ConvOutRefIdeal.τ).loc Cert.ConvOutRefIdeal.main_arg6) = m' ((c.tc : Thread Cert.ConvOutRefIdeal.nD Cert.ConvOutRefIdeal.τ).loc Cert.ConvOutRefIdeal.main_arg6)
          ∧ r.2.mem ((c.tc : Thread Cert.ConvOutRefIdeal.nD Cert.ConvOutRefIdeal.τ).loc Cert.ConvOutRefIdeal.main_arg7) = m' ((c.tc : Thread Cert.ConvOutRefIdeal.nD Cert.ConvOutRefIdeal.τ).loc Cert.ConvOutRefIdeal.main_arg7))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hPle : Cert.Ple.Facts) (hPleIdeal : Cert.PleIdeal.Facts) (hPleRefIdeal : Cert.PleRefIdeal.Facts) (hConvIn : Cert.ConvIn.Facts) (hConvInIdeal : Cert.ConvInIdeal.Facts) (hConvInRefIdeal : Cert.ConvInRefIdeal.Facts) (hQkv : Cert.Qkv.Facts) (hQkvIdeal : Cert.QkvIdeal.Facts) (hQkvRefIdeal : Cert.QkvRefIdeal.Facts) (hOutProj : Cert.OutProj.Facts) (hOutProjIdeal : Cert.OutProjIdeal.Facts) (hOutProjRefIdeal : Cert.OutProjRefIdeal.Facts) (hPool : Cert.Pool.Facts) (hPoolIdeal : Cert.PoolIdeal.Facts) (hPoolRefIdeal : Cert.PoolRefIdeal.Facts) (hConvOut : Cert.ConvOut.Facts) (hConvOutIdeal : Cert.ConvOutIdeal.Facts) (hConvOutRefIdeal : Cert.ConvOutRefIdeal.Facts) (hPre_finite : Cert.Pre_finite.Facts) (hPre_finite_gain : Cert.Pre_finite_gain.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Ple (hPle := hPle)
    ∧ quiescent_PleIdeal (hPleIdeal := hPleIdeal)
    ∧ quiescent_PleRefIdeal (hPleRefIdeal := hPleRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_Qkv (hQkv := hQkv)
    ∧ quiescent_QkvIdeal (hQkvIdeal := hQkvIdeal)
    ∧ quiescent_QkvRefIdeal (hQkvRefIdeal := hQkvRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Pool (hPool := hPool)
    ∧ quiescent_PoolIdeal (hPoolIdeal := hPoolIdeal)
    ∧ quiescent_PoolIdeal_pre_finite_gain (hPoolIdeal := hPoolIdeal) (hPre_finite_gain := hPre_finite_gain)
    ∧ quiescent_PoolRefIdeal (hPoolRefIdeal := hPoolRefIdeal)
    ∧ quiescent_PoolRefIdeal_pre_finite_gain (hPoolRefIdeal := hPoolRefIdeal) (hPre_finite_gain := hPre_finite_gain)
    ∧ quiescent_ConvOut (hConvOut := hConvOut)
    ∧ quiescent_ConvOutIdeal (hConvOutIdeal := hConvOutIdeal)
    ∧ quiescent_ConvOutRefIdeal (hConvOutRefIdeal := hConvOutRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Ple_PleIdeal
    ∧ algebraic_PleIdeal_PleRefIdeal (hPleIdeal := hPleIdeal) (hPleRefIdeal := hPleRefIdeal)
    ∧ preserves_ConvIn_ConvInIdeal
    ∧ algebraic_ConvInIdeal_ConvInRefIdeal (hConvInIdeal := hConvInIdeal) (hConvInRefIdeal := hConvInRefIdeal)
    ∧ preserves_Qkv_QkvIdeal
    ∧ algebraic_QkvIdeal_QkvRefIdeal (hQkvIdeal := hQkvIdeal) (hQkvRefIdeal := hQkvRefIdeal)
    ∧ preserves_OutProj_OutProjIdeal
    ∧ algebraic_OutProjIdeal_OutProjRefIdeal (hOutProjIdeal := hOutProjIdeal) (hOutProjRefIdeal := hOutProjRefIdeal)
    ∧ preserves_Pool_PoolIdeal
    ∧ algebraic_PoolIdeal_PoolRefIdeal_pre_finite_gain (hPoolIdeal := hPoolIdeal) (hPoolRefIdeal := hPoolRefIdeal) (hPre_finite_gain := hPre_finite_gain)
    ∧ preserves_ConvOut_ConvOutIdeal
    ∧ algebraic_ConvOutIdeal_ConvOutRefIdeal (hConvOutIdeal := hConvOutIdeal) (hConvOutRefIdeal := hConvOutRefIdeal)
-- ==== Pre_finite.lean ====
abbrev S8192x3072 : Shape := ⟨2, ![8192, 3072]⟩
abbrev S32x128x256 : Shape := ⟨3, ![32, 128, 256]⟩
abbrev S32 : Shape := ⟨1, ![32]⟩
abbrev S64 : Shape := ⟨1, ![64]⟩
abbrev S_ : Shape := ⟨0, ![]⟩

class Facts : Prop where
  bcast_S_S8192x3072 : S_.BroadcastsInDim S8192x3072 (![] : Fin 0 → Fin S8192x3072.rank)
  bcast_S_S32x128x256 : S_.BroadcastsInDim S32x128x256 (![] : Fin 0 → Fin S32x128x256.rank)
  bcast_S_S32 : S_.BroadcastsInDim S32 (![] : Fin 0 → Fin S32.rank)
  bcast_S_S64 : S_.BroadcastsInDim S64 (![] : Fin 0 → Fin S64.rank)

variable [Facts]

def fn {F : FTy → Type} [FloatOps F] (main_arg0 : FVec F S8192x3072 .f32) (main_arg1 : FVec F S32x128x256 .f32) (main_arg2 : FVec F S32 .f32) (main_arg3 : FVec F S64 .f32) (main_arg4 : FVec F S64 .f32) : IVec S8192x3072 1 × IVec S32x128x256 1 × IVec S32 1 × IVec S64 1 × IVec S64 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_v3 : FVec F S32x128x256 .f32 := Host.absf main_arg1
  let main_cst_0 : FVec F S_ .f32 := constant S_ .f32 0x7F800000#32
  let main_v4 : FVec F S32x128x256 .f32 := broadcastInDim S32x128x256 ![] bcast_S_S32x128x256 main_cst_0
  let main_v5 : IVec S32x128x256 1 := cmpf .olt main_v3 main_v4
  let main_v6 : FVec F S32 .f32 := Host.absf main_arg2
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  (main_v2, main_v5, main_v8, main_v11, main_v14)
-- ==== Pre_finite_gain.lean ====
abbrev S8192x2048 : Shape := ⟨2, ![8192, 2048]⟩
abbrev S2048 : Shape := ⟨1, ![2048]⟩
abbrev S4x512x512 : Shape := ⟨3, ![4, 512, 512]⟩
abbrev S_ : Shape := ⟨0, ![]⟩

class Facts : Prop where
  bcast_S_S2048 : S_.BroadcastsInDim S2048 (![] : Fin 0 → Fin S2048.rank)

variable [Facts]

def fn {F : FTy → Type} [FloatOps F] (main_arg0 : FVec F S8192x2048 .f32) (main_arg1 : FVec F S2048 .f32) (main_arg2 : FVec F S4x512x512 .f32) (main_arg3 : FVec F S2048 .f32) : IVec S2048 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  main_v2
-- ==== Attn.lean ====
abbrev S8192x3072 : Shape := ⟨2, ![8192, 3072]⟩
abbrev S32x128x256 : Shape := ⟨3, ![32, 128, 256]⟩
abbrev S32 : Shape := ⟨1, ![32]⟩
abbrev S64 : Shape := ⟨1, ![64]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S8192x2048 : Shape := ⟨2, ![8192, 2048]⟩
abbrev S128x2048 : Shape := ⟨2, ![128, 2048]⟩
abbrev S128x512 : Shape := ⟨2, ![128, 512]⟩
abbrev S128x256 : Shape := ⟨2, ![128, 256]⟩
abbrev S128x128 : Shape := ⟨2, ![128, 128]⟩
abbrev S256x128 : Shape := ⟨2, ![256, 128]⟩
abbrev S256 : Shape := ⟨1, ![256]⟩
abbrev S256x1 : Shape := ⟨2, ![256, 1]⟩
abbrev S128x1 : Shape := ⟨2, ![128, 1]⟩
abbrev S1x128x256 : Shape := ⟨3, ![1, 128, 256]⟩
abbrev S1 : Shape := ⟨1, ![1]⟩

abbrev nBuf : Space → Nat
  | .hbm => 14
  | .vmem => 15
  | .smem => 1
  | _ => 0

abbrev bufTy : (tb : Table) → Fin (tcTables nBuf tb) → BufTy
  | .hbm, ⟨0, _⟩ => ⟨S8192x3072, .f32⟩
  | .hbm, ⟨1, _⟩ => ⟨S32x128x256, .f32⟩
  | .hbm, ⟨2, _⟩ => ⟨S32, .f32⟩
  | .hbm, ⟨3, _⟩ => ⟨S64, .f32⟩
  | .hbm, ⟨4, _⟩ => ⟨S64, .f32⟩
  | .hbm, ⟨5, _⟩ => ⟨S1x64, .f32⟩
  | .hbm, ⟨6, _⟩ => ⟨S2x64, .f32⟩
  | .hbm, ⟨7, _⟩ => ⟨S128, .f32⟩
  | .hbm, ⟨8, _⟩ => ⟨S1x128, .f32⟩
  | .hbm, ⟨9, _⟩ => ⟨S1x64, .f32⟩
  | .hbm, ⟨10, _⟩ => ⟨S2x64, .f32⟩
  | .hbm, ⟨11, _⟩ => ⟨S128, .f32⟩
  | .hbm, ⟨12, _⟩ => ⟨S1x128, .f32⟩
  | .hbm, ⟨13, _⟩ => ⟨S8192x2048, .bf16⟩
  | .local _ .vmem, ⟨0, _⟩ => ⟨S128x2048, .f32⟩
  | .local _ .vmem, ⟨1, _⟩ => ⟨S128x2048, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S32x128x256, .f32⟩
  | .local _ .vmem, ⟨11, _⟩ => ⟨S1x128, .f32⟩
  | .local _ .vmem, ⟨12, _⟩ => ⟨S1x128, .f32⟩
  | .local _ .vmem, ⟨13, _⟩ => ⟨S128x2048, .bf16⟩
  | .local _ .vmem, ⟨14, _⟩ => ⟨S128x2048, .bf16⟩
  | .local _ .smem, ⟨0, _⟩ => ⟨S32, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_4 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S32x128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== AttnIdeal.lean ====
variable {F : FTy → Type} [FloatOps F] [Named F]
def κ : String → Option EReal := fun
  | "mask" => some ⊥
  | _ => none
-- ==== AttnRefIdeal.lean ====
abbrev S8192x3072 : Shape := ⟨2, ![8192, 3072]⟩
abbrev S32x128x256 : Shape := ⟨3, ![32, 128, 256]⟩
abbrev S32 : Shape := ⟨1, ![32]⟩
abbrev S64 : Shape := ⟨1, ![64]⟩
abbrev S1x8192x3072 : Shape := ⟨3, ![1, 8192, 3072]⟩
abbrev S1x8192x2048 : Shape := ⟨3, ![1, 8192, 2048]⟩
abbrev S1x8192x512 : Shape := ⟨3, ![1, 8192, 512]⟩
abbrev S1x8192x8x4x64 : Shape := ⟨5, ![1, 8192, 8, 4, 64]⟩
abbrev S_ : Shape := ⟨0, ![]⟩
abbrev S1x8192x8x4 : Shape := ⟨4, ![1, 8192, 8, 4]⟩
abbrev S1x8192x8x4x1 : Shape := ⟨5, ![1, 8192, 8, 4, 1]⟩
abbrev S1x1x1x1x64 : Shape := ⟨5, ![1, 1, 1, 1, 64]⟩
abbrev S1x8192x8x64 : Shape := ⟨4, ![1, 8192, 8, 64]⟩
abbrev S1x8192x8 : Shape := ⟨3, ![1, 8192, 8]⟩
abbrev S1x8192x8x1 : Shape := ⟨4, ![1, 8192, 8, 1]⟩
abbrev S1x1x1x64 : Shape := ⟨4, ![1, 1, 1, 64]⟩
abbrev S1x64x128x8x4x64 : Shape := ⟨6, ![1, 64, 128, 8, 4, 64]⟩
abbrev S1x64x128x8x64 : Shape := ⟨5, ![1, 64, 128, 8, 64]⟩
abbrev S1x1x128x8x64 : Shape := ⟨5, ![1, 1, 128, 8, 64]⟩
abbrev S1x63x128x8x64 : Shape := ⟨5, ![1, 63, 128, 8, 64]⟩
abbrev S1x64x256x8x64 : Shape := ⟨5, ![1, 64, 256, 8, 64]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64x1x1 : Shape := ⟨3, ![64, 1, 1]⟩
abbrev S1x128x256 : Shape := ⟨3, ![1, 128, 256]⟩
abbrev S1x1x256 : Shape := ⟨3, ![1, 1, 256]⟩
abbrev S64x1x256 : Shape := ⟨3, ![64, 1, 256]⟩
abbrev S64x128x256 : Shape := ⟨3, ![64, 128, 256]⟩
abbrev S8x4x128x256 : Shape := ⟨4, ![8, 4, 128, 256]⟩
abbrev S1x64x8x256x128x4 : Shape := ⟨6, ![1, 64, 8, 256, 128, 4]⟩
abbrev S1x64x8x4x128x256 : Shape := ⟨6, ![1, 64, 8, 4, 128, 256]⟩
abbrev S1x1x8x4x128x256 : Shape := ⟨6, ![1, 1, 8, 4, 128, 256]⟩
abbrev S1x64x1x1x128x256 : Shape := ⟨6, ![1, 64, 1, 1, 128, 256]⟩
abbrev S1x1x8x4x1x1 : Shape := ⟨6, ![1, 1, 8, 4, 1, 1]⟩
abbrev S1x64x8x4x128 : Shape := ⟨5, ![1, 64, 8, 4, 128]⟩
abbrev S1x64x8x4x128x1 : Shape := ⟨6, ![1, 64, 8, 4, 128, 1]⟩
abbrev S1x64x8x64x4x128 : Shape := ⟨6, ![1, 64, 8, 64, 4, 128]⟩
abbrev S8192x2048 : Shape := ⟨2, ![8192, 2048]⟩

abbrev nBuf : Space → Nat
  | .hbm => 166
  | .vmem => 0
  | .smem => 0
  | _ => 0

abbrev hbmTy0_0 (i : Nat) : BufTy := match i % 128 with
  | 0 => ⟨S8192x3072, .f32⟩
  | 1 => ⟨S32x128x256, .f32⟩
  | 2 => ⟨S32, .f32⟩
  | 3 => ⟨S64, .f32⟩
  | 4 => ⟨S64, .f32⟩
  | 5 => ⟨S1x8192x3072, .f32⟩
  | 6 => ⟨S1x8192x2048, .f32⟩
  | 7 => ⟨S1x8192x512, .f32⟩
  | 8 => ⟨S1x8192x512, .f32⟩
  | 9 => ⟨S1x8192x8x4x64, .f32⟩
  | 10 => ⟨S1x8192x8x4x64, .f32⟩
  | 11 => ⟨S_, .f32⟩
  | 12 => ⟨S1x8192x8x4, .f32⟩
  | 13 => ⟨S1x8192x8x4x1, .f32⟩
  | 14 => ⟨S_, .f32⟩
  | 15 => ⟨S1x8192x8x4x1, .f32⟩
  | 16 => ⟨S1x8192x8x4x1, .f32⟩
  | 17 => ⟨S_, .f32⟩
  | 18 => ⟨S1x8192x8x4x1, .f32⟩
  | 19 => ⟨S1x8192x8x4x1, .f32⟩
  | 20 => ⟨S1x8192x8x4x1, .f32⟩
  | 21 => ⟨S1x8192x8x4x64, .f32⟩
  | 22 => ⟨S1x8192x8x4x64, .f32⟩
  | 23 => ⟨S1x1x1x1x64, .f32⟩
  | 24 => ⟨S1x8192x8x4x64, .f32⟩
  | 25 => ⟨S1x8192x8x4x64, .f32⟩
  | 26 => ⟨S1x8192x8x64, .f32⟩
  | 27 => ⟨S1x8192x8x64, .f32⟩
  | 28 => ⟨S_, .f32⟩
  | 29 => ⟨S1x8192x8, .f32⟩
  | 30 => ⟨S1x8192x8x1, .f32⟩
  | 31 => ⟨S_, .f32⟩
  | 32 => ⟨S1x8192x8x1, .f32⟩
  | 33 => ⟨S1x8192x8x1, .f32⟩
  | 34 => ⟨S_, .f32⟩
  | 35 => ⟨S1x8192x8x1, .f32⟩
  | 36 => ⟨S1x8192x8x1, .f32⟩
  | 37 => ⟨S1x8192x8x1, .f32⟩
  | 38 => ⟨S1x8192x8x64, .f32⟩
  | 39 => ⟨S1x8192x8x64, .f32⟩
  | 40 => ⟨S1x1x1x64, .f32⟩
  | 41 => ⟨S1x8192x8x64, .f32⟩
  | 42 => ⟨S1x8192x8x64, .f32⟩
  | 43 => ⟨S1x8192x8x64, .f32⟩
  | 44 => ⟨S1x64x128x8x4x64, .f32⟩
  | 45 => ⟨S1x64x128x8x64, .f32⟩
  | 46 => ⟨S1x1x128x8x64, .f32⟩
  | 47 => ⟨S_, .f32⟩
  | 48 => ⟨S1x1x128x8x64, .f32⟩
  | 49 => ⟨S1x63x128x8x64, .f32⟩
  | 50 => ⟨S1x64x128x8x64, .f32⟩
  | 51 => ⟨S1x64x256x8x64, .f32⟩
  | 52 => ⟨S1x64x128x8x64, .f32⟩
  | 53 => ⟨S1x1x128x8x64, .f32⟩
  | 54 => ⟨S_, .f32⟩
  | 55 => ⟨S1x1x128x8x64, .f32⟩
  | 56 => ⟨S1x63x128x8x64, .f32⟩
  | 57 => ⟨S1x64x128x8x64, .f32⟩
  | 58 => ⟨S1x64x256x8x64, .f32⟩
  | 59 => ⟨S128, .i32⟩
  | 60 => ⟨S128x1, .i32⟩
  | 61 => ⟨S256, .i32⟩
  | 62 => ⟨S1x256, .i32⟩
  | 63 => ⟨S_, .i32⟩
  | 64 => ⟨S_, .i32⟩
  | 65 => ⟨S128x1, .i32⟩
  | 66 => ⟨S128x1, .i32⟩
  | 67 => ⟨S128x1, .i32⟩
  | 68 => ⟨S_, .i32⟩
  | 69 => ⟨S128x1, .i32⟩
  | 70 => ⟨S128x1, .i1⟩
  | 71 => ⟨S128x1, .i32⟩
  | 72 => ⟨S128x1, .i32⟩
  | 73 => ⟨S_, .i32⟩
  | 74 => ⟨S128x1, .i32⟩
  | 75 => ⟨S128x1, .i1⟩
  | 76 => ⟨S128x1, .i1⟩
  | 77 => ⟨S_, .i32⟩
  | 78 => ⟨S128x1, .i32⟩
  | 79 => ⟨S128x1, .i32⟩
  | 80 => ⟨S128x1, .i32⟩
  | 81 => ⟨S_, .i32⟩
  | 82 => ⟨S1x256, .i32⟩
  | 83 => ⟨S1x256, .i32⟩
  | 84 => ⟨S_, .i32⟩
  | 85 => ⟨S_, .i32⟩
  | 86 => ⟨S1x256, .i32⟩
  | 87 => ⟨S1x256, .i32⟩
  | 88 => ⟨S1x256, .i32⟩
  | 89 => ⟨S_, .i32⟩
  | 90 => ⟨S1x256, .i32⟩
  | 91 => ⟨S1x256, .i1⟩
  | 92 => ⟨S1x256, .i32⟩
  | 93 => ⟨S1x256, .i32⟩
  | 94 => ⟨S_, .i32⟩
  | 95 => ⟨S1x256, .i32⟩
  | 96 => ⟨S1x256, .i1⟩
  | 97 => ⟨S1x256, .i1⟩
  | 98 => ⟨S_, .i32⟩
  | 99 => ⟨S1x256, .i32⟩
  | 100 => ⟨S1x256, .i32⟩
  | 101 => ⟨S1x256, .i32⟩
  | 102 => ⟨S128x256, .i32⟩
  | 103 => ⟨S128x256, .i32⟩
  | 104 => ⟨S128x256, .i1⟩
  | 105 => ⟨S_, .i32⟩
  | 106 => ⟨S128x1, .i32⟩
  | 107 => ⟨S128x1, .i32⟩
  | 108 => ⟨S128x256, .i32⟩
  | 109 => ⟨S128x256, .i32⟩
  | 110 => ⟨S128x256, .i1⟩
  | 111 => ⟨S128x256, .i1⟩
  | 112 => ⟨S64, .i32⟩
  | 113 => ⟨S64x1x1, .i32⟩
  | 114 => ⟨S1x128x256, .i1⟩
  | 115 => ⟨S_, .i32⟩
  | 116 => ⟨S64x1x1, .i32⟩
  | 117 => ⟨S64x1x1, .i1⟩
  | 118 => ⟨S1x1x256, .i32⟩
  | 119 => ⟨S_, .i32⟩
  | 120 => ⟨S1x1x256, .i32⟩
  | 121 => ⟨S1x1x256, .i1⟩
  | 122 => ⟨S64x1x256, .i1⟩
  | 123 => ⟨S64x1x256, .i1⟩
  | 124 => ⟨S64x1x256, .i1⟩
  | 125 => ⟨S64x128x256, .i1⟩
  | 126 => ⟨S64x128x256, .i1⟩
  | 127 => ⟨S64x128x256, .i1⟩
  | _ => ⟨S8192x3072, .f32⟩

abbrev hbmTy0_1 (i : Nat) : BufTy := match i % 128 with
  | 0 => ⟨S8x4x128x256, .f32⟩
  | 1 => ⟨S1x64x8x256x128x4, .f32⟩
  | 2 => ⟨S1x64x8x4x128x256, .f32⟩
  | 3 => ⟨S_, .f32⟩
  | 4 => ⟨S1x64x8x4x128x256, .f32⟩
  | 5 => ⟨S1x64x8x4x128x256, .f32⟩
  | 6 => ⟨S1x1x8x4x128x256, .f32⟩
  | 7 => ⟨S1x64x8x4x128x256, .f32⟩
  | 8 => ⟨S1x64x8x4x128x256, .f32⟩
  | 9 => ⟨S1x64x1x1x128x256, .i1⟩
  | 10 => ⟨S_, .f32⟩
  | 11 => ⟨S_, .f32⟩
  | 12 => ⟨S1x64x8x4x128x256, .i1⟩
  | 13 => ⟨S1x64x8x4x128x256, .f32⟩
  | 14 => ⟨S1x64x8x4x128x256, .f32⟩
  | 15 => ⟨S1x1x8x4x1x1, .f32⟩
  | 16 => ⟨S_, .f32⟩
  | 17 => ⟨S1x64x8x4x128, .f32⟩
  | 18 => ⟨S1x64x8x4x128x1, .f32⟩
  | 19 => ⟨S1x64x8x4x128x1, .f32⟩
  | 20 => ⟨S1x64x8x4x128x1, .f32⟩
  | 21 => ⟨S1x64x8x4x128x256, .f32⟩
  | 22 => ⟨S1x64x8x4x128x256, .f32⟩
  | 23 => ⟨S1x64x8x4x128x256, .f32⟩
  | 24 => ⟨S_, .f32⟩
  | 25 => ⟨S1x64x8x4x128, .f32⟩
  | 26 => ⟨S1x64x8x4x128x1, .f32⟩
  | 27 => ⟨S1x64x8x4x128x1, .f32⟩
  | 28 => ⟨S1x64x8x4x128x1, .f32⟩
  | 29 => ⟨S1x64x8x4x128x1, .f32⟩
  | 30 => ⟨S1x64x8x4x128x1, .f32⟩
  | 31 => ⟨S1x64x8x4x128x256, .f32⟩
  | 32 => ⟨S1x64x8x4x128x256, .f32⟩
  | 33 => ⟨S1x64x8x64x4x128, .f32⟩
  | 34 => ⟨S1x64x128x8x4x64, .f32⟩
  | 35 => ⟨S1x8192x2048, .f32⟩
  | 36 => ⟨S8192x2048, .f32⟩
  | 37 => ⟨S8192x2048, .bf16⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_c : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_v7 : Ref sig .tc := ⟨.hbm, 71, rfl⟩
abbrev main_call0_v8 : Ref sig .tc := ⟨.hbm, 72, rfl⟩
abbrev main_call0_c : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_c_0 : Ref sig .tc := ⟨.hbm, 77, rfl⟩
abbrev main_call0_v12 : Ref sig .tc := ⟨.hbm, 78, rfl⟩
abbrev main_call0_v13 : Ref sig .tc := ⟨.hbm, 79, rfl⟩
abbrev main_v50 : Ref sig .tc := ⟨.hbm, 80, rfl⟩
abbrev main_c_7 : Ref sig .tc := ⟨.hbm, 81, rfl⟩
abbrev main_v51 : Ref sig .tc := ⟨.hbm, 82, rfl⟩
abbrev main_v52 : Ref sig .tc := ⟨.hbm, 83, rfl⟩
abbrev main_c_8 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_c : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_c_0 : Ref sig .tc := ⟨.hbm, 98, rfl⟩
abbrev main_call1_v12 : Ref sig .tc := ⟨.hbm, 99, rfl⟩
abbrev main_call1_v13 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_c_9 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_c_10 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_c_11 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_cst_12 : Ref sig .tc := ⟨.hbm, 131, rfl⟩
abbrev main_v80 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_cst_13 : Ref sig .tc := ⟨.hbm, 138, rfl⟩
abbrev main_call2_v0 : Ref sig .tc := ⟨.hbm, 139, rfl⟩
abbrev main_call2_v1 : Ref sig .tc := ⟨.hbm, 140, rfl⟩
abbrev main_call2_v2 : Ref sig .tc := ⟨.hbm, 141, rfl⟩
abbrev main_v86 : Ref sig .tc := ⟨.hbm, 142, rfl⟩
abbrev main_v87 : Ref sig .tc := ⟨.hbm, 143, rfl⟩
abbrev main_cst_14 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_cst_15 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩

abbrev nD : Nat := 1
abbrev τ : Topo := Topo.v7x

variable {F : FTy → Type} [FloatOps F]
-- ==== Ffn.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩
abbrev S512x512 : Shape := ⟨2, ![512, 512]⟩

abbrev nBuf : Space → Nat
  | .hbm => 10
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S1x2048, .f32⟩
  | .hbm, ⟨6, _⟩ => ⟨S2048x5632, .bf16⟩
  | .hbm, ⟨7, _⟩ => ⟨S2048x5632, .bf16⟩
  | .hbm, ⟨8, _⟩ => ⟨S5632x2048, .bf16⟩
  | .hbm, ⟨9, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S_, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x2048, .f32⟩
  | .hbm, ⟨34, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Ple.lean ====
abbrev S8192x2048 : Shape := ⟨2, ![8192, 2048]⟩
abbrev S8192x256 : Shape := ⟨2, ![8192, 256]⟩
abbrev S2048 : Shape := ⟨1, ![2048]⟩
abbrev S2048x2048 : Shape := ⟨2, ![2048, 2048]⟩
abbrev S256x2048 : Shape := ⟨2, ![256, 2048]⟩
abbrev S1x2048 : Shape := ⟨2, ![1, 2048]⟩
abbrev S512x2048 : Shape := ⟨2, ![512, 2048]⟩
abbrev S512x256 : Shape := ⟨2, ![512, 256]⟩
abbrev S2048x512 : Shape := ⟨2, ![2048, 512]⟩
abbrev S1x512 : Shape := ⟨2, ![1, 512]⟩
abbrev S256x512 : Shape := ⟨2, ![256, 512]⟩
abbrev S512x512 : Shape := ⟨2, ![512, 512]⟩
abbrev S512 : Shape := ⟨1, ![512]⟩
abbrev S512x1 : Shape := ⟨2, ![512, 1]⟩

abbrev nBuf : Space → Nat
  | .hbm => 11
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S256x2048, .f32⟩
  | .hbm, ⟨6, _⟩ => ⟨S1x2048, .f32⟩
  | .hbm, ⟨7, _⟩ => ⟨S2048x2048, .bf16⟩
  | .hbm, ⟨8, _⟩ => ⟨S1x2048, .f32⟩
  | .hbm, ⟨9, _⟩ => ⟨S256x2048, .bf16⟩
  | .hbm, ⟨10, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x256, .f32⟩
  | .local _ .vmem, ⟨3, _⟩ => ⟨S512x256, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S1x512, .f32⟩
  | .local _ .vmem, ⟨8, _⟩ => ⟨S1x512, .f32⟩
  | .local _ .vmem, ⟨9, _⟩ => ⟨S256x512, .bf16⟩
  | .local _ .vmem, ⟨10, _⟩ => ⟨S256x512, .bf16⟩
  | .local _ .vmem, ⟨11, _⟩ => ⟨S512x512, .f32⟩
  | .local _ .vmem, ⟨12, _⟩ => ⟨S512x512, .f32⟩
  | .local _ .vmem, ⟨13, _⟩ => ⟨S512x2048, .bf16⟩
  | .local _ .vmem, ⟨14, _⟩ => ⟨S512x256, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def k0_mult1 (i : grid0.Coords) : BitVec 32 :=
  let arg1 : BitVec 32 := BitVec.ofNat 32 (i 1).val
  let c512_i32 : BitVec 32 := 512#32
  let v12 : BitVec 32 := Scalar.muli arg1 c512_i32
  v12
def k0_off1 (i : grid0.Coords) : Fin 2 → Nat :=
  let c0_6 : Index := 0#32
  let arg1 : BitVec 32 := BitVec.ofNat 32 (i 1).val
  let c512_i32 : BitVec 32 := 512#32
  let v12 : BitVec 32 := Scalar.muli arg1 c512_i32
  let v13 : BitVec 32 := v12
  let v14 : Index := Scalar.indexCast v13
  ![0, v14.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== PleRefIdeal.lean ====
abbrev S8192x2048 : Shape := ⟨2, ![8192, 2048]⟩
abbrev S8192x256 : Shape := ⟨2, ![8192, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x256, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S256x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== ConvIn.lean ====
abbrev S8192x2048 : Shape := ⟨2, ![8192, 2048]⟩
abbrev S2048 : Shape := ⟨1, ![2048]⟩
abbrev S2048x4096 : Shape := ⟨2, ![2048, 4096]⟩
abbrev S4096 : Shape := ⟨1, ![4096]⟩
abbrev S1x2048 : Shape := ⟨2, ![1, 2048]⟩
abbrev S1x4096 : Shape := ⟨2, ![1, 4096]⟩
abbrev S512x2048 : Shape := ⟨2, ![512, 2048]⟩
abbrev S2048x512 : Shape := ⟨2, ![2048, 512]⟩
abbrev S1x512 : Shape := ⟨2, ![1, 512]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S4096, .f32⟩
  | .hbm, ⟨4, _⟩ => ⟨S1x2048, .f32⟩
  | .hbm, ⟨5, _⟩ => ⟨S2048x4096, .bf16⟩
  | .hbm, ⟨6, _⟩ => ⟨S1x4096, .f32⟩
  | .hbm, ⟨7, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ConvInRefIdeal.lean ====
abbrev S8192x2048 : Shape := ⟨2, ![8192, 2048]⟩
abbrev S2048 : Shape := ⟨1, ![2048]⟩
abbrev S2048x4096 : Shape := ⟨2, ![2048, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x4096 : Shape := ⟨2, ![8192, 4096]⟩
abbrev S1x4096 : Shape := ⟨2, ![1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x4096, .f32⟩
  | .hbm, ⟨3, _⟩ => ⟨S4096, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x4096, .f32⟩
  | .hbm, ⟨21, _⟩ => ⟨S1x4096, .f32⟩
  | .hbm, ⟨22, _⟩ => ⟨S8192x4096, .f32⟩
  | .hbm, ⟨23, _⟩ => ⟨S8192x4096, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Qkv.lean ====
abbrev S8192x2048 : Shape := ⟨2, ![8192, 2048]⟩
abbrev S2048 : Shape := ⟨1, ![2048]⟩
abbrev S2048x3072 : Shape := ⟨2, ![2048, 3072]⟩
abbrev S1x2048 : Shape := ⟨2, ![1, 2048]⟩
abbrev S8192x3072 : Shape := ⟨2, ![8192, 3072]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3072, .f32⟩
  | .hbm, ⟨3, _⟩ => ⟨S1x2048, .f32⟩
  | .hbm, ⟨4, _⟩ => ⟨S2048x3072, .bf16⟩
  | .hbm, ⟨5, _⟩ => ⟨S8192x3072, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S512x512, .f32⟩
  | .local _ .vmem, ⟨6, _⟩ => ⟨S512x512, .f32⟩
  | .local _ .vmem, ⟨7, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== QkvRefIdeal.lean ====
abbrev S8192x2048 : Shape := ⟨2, ![8192, 2048]⟩
abbrev S2048 : Shape := ⟨1, ![2048]⟩
abbrev S2048x3072 : Shape := ⟨2, ![2048, 3072]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x3072 : Shape := ⟨2, ![8192, 3072]⟩

abbrev nBuf : Space → Nat
  | .hbm => 20
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x3072, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x3072, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== OutProj.lean ====
abbrev S8192x2048 : Shape := ⟨2, ![8192, 2048]⟩
abbrev S2048x2048 : Shape := ⟨2, ![2048, 2048]⟩
abbrev S512x2048 : Shape := ⟨2, ![512, 2048]⟩
abbrev S2048x512 : Shape := ⟨2, ![2048, 512]⟩
abbrev S512x512 : Shape := ⟨2, ![512, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048x2048, .bf16⟩
  | .hbm, ⟨4, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutProjRefIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Pool.lean ====
abbrev S8192x2048 : Shape := ⟨2, ![8192, 2048]⟩
abbrev S2048 : Shape := ⟨1, ![2048]⟩
abbrev S4x512x512 : Shape := ⟨3, ![4, 512, 512]⟩
abbrev S1x2048 : Shape := ⟨2, ![1, 2048]⟩
abbrev S256x2048 : Shape := ⟨2, ![256, 2048]⟩
abbrev S16x2048 : Shape := ⟨2, ![16, 2048]⟩
abbrev S272x2048 : Shape := ⟨2, ![272, 2048]⟩
abbrev S256 : Shape := ⟨1, ![256]⟩
abbrev S256x1 : Shape := ⟨2, ![256, 1]⟩
abbrev S16 : Shape := ⟨1, ![16]⟩
abbrev S16x1 : Shape := ⟨2, ![16, 1]⟩
abbrev S256x512 : Shape := ⟨2, ![256, 512]⟩
abbrev S1x512x512 : Shape := ⟨3, ![1, 512, 512]⟩
abbrev S512x512 : Shape := ⟨2, ![512, 512]⟩
abbrev S1x512 : Shape := ⟨2, ![1, 512]⟩

abbrev nBuf : Space → Nat
  | .hbm => 8
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S4x512x512, .f32⟩
  | .hbm, ⟨3, _⟩ => ⟨S2048, .f32⟩
  | .hbm, ⟨4, _⟩ => ⟨S1x2048, .f32⟩
  | .hbm, ⟨5, _⟩ => ⟨S4x512x512, .bf16⟩
  | .hbm, ⟨6, _⟩ => ⟨S1x2048, .f32⟩
  | .hbm, ⟨7, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S16x2048, .f32⟩
  | .local _ .vmem, ⟨3, _⟩ => ⟨S16x2048, .f32⟩
  | .local _ .vmem, ⟨4, _⟩ => ⟨S1x2048, .f32⟩
  | .local _ .vmem, ⟨5, _⟩ => ⟨S4x512x512, .bf16⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S272x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PoolRefIdeal.lean ====
abbrev S8192x2048 : Shape := ⟨2, ![8192, 2048]⟩
abbrev S2048 : Shape := ⟨1, ![2048]⟩
abbrev S4x512x512 : Shape := ⟨3, ![4, 512, 512]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x8192x2048 : Shape := ⟨3, ![1, 8192, 2048]⟩
abbrev S1x1x2048 : Shape := ⟨3, ![1, 1, 2048]⟩
abbrev S1x8193x2048 : Shape := ⟨3, ![1, 8193, 2048]⟩
abbrev S1x8192x512 : Shape := ⟨3, ![1, 8192, 512]⟩
abbrev S8192x2 : Shape := ⟨2, ![8192, 2]⟩
abbrev S1x8192x1 : Shape := ⟨3, ![1, 8192, 1]⟩
abbrev S1x8192x1x512 : Shape := ⟨4, ![1, 8192, 1, 512]⟩
abbrev S1x8192x4x512 : Shape := ⟨4, ![1, 8192, 4, 512]⟩
abbrev S4x512x1x8192 : Shape := ⟨4, ![4, 512, 1, 8192]⟩

abbrev nBuf : Space → Nat
  | .hbm => 167
  | .vmem => 0
  | .smem => 0
  | _ => 0

abbrev hbmTy0_0 (i : Nat) : BufTy := match i % 128 with
  | 0 => ⟨S8192x2048, .f32⟩
  | 1 => ⟨S2048, .f32⟩
  | 2 => ⟨S4x512x512, .f32⟩
  | 3 => ⟨S2048, .f32⟩
  | 4 => ⟨S8192x2048, .f32⟩
  | 5 => ⟨S_, .f32⟩
  | 6 => ⟨S8192, .f32⟩
  | 7 => ⟨S8192x1, .f32⟩
  | 8 => ⟨S_, .f32⟩
  | 9 => ⟨S8192x1, .f32⟩
  | 10 => ⟨S8192x1, .f32⟩
  | 11 => ⟨S_, .f32⟩
  | 12 => ⟨S8192x1, .f32⟩
  | 13 => ⟨S8192x1, .f32⟩
  | 14 => ⟨S8192x1, .f32⟩
  | 15 => ⟨S8192x2048, .f32⟩
  | 16 => ⟨S8192x2048, .f32⟩
  | 17 => ⟨S1x2048, .f32⟩
  | 18 => ⟨S8192x2048, .f32⟩
  | 19 => ⟨S8192x2048, .f32⟩
  | 20 => ⟨S1x8192x2048, .f32⟩
  | 21 => ⟨S_, .f32⟩
  | 22 => ⟨S1x1x2048, .f32⟩
  | 23 => ⟨S_, .f32⟩
  | 24 => ⟨S_, .f32⟩
  | 25 => ⟨S1x8192x2048, .f32⟩
  | 26 => ⟨S1x8193x2048, .f32⟩
  | 27 => ⟨S8192, .i32⟩
  | 28 => ⟨S_, .i32⟩
  | 29 => ⟨S8192, .i32⟩
  | 30 => ⟨S8192, .i32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S1x8192x512, .f32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S8192x1, .i32⟩
  | 46 => ⟨S_, .i32⟩
  | 47 => ⟨S8192x1, .i32⟩
  | 48 => ⟨S8192x2, .i32⟩
  | 49 => ⟨S1x8192x512, .f32⟩
  | 50 => ⟨S1x8192x512, .f32⟩
  | 51 => ⟨S_, .i32⟩
  | 52 => ⟨S8192, .i32⟩
  | 53 => ⟨S8192, .i32⟩
  | 54 => ⟨S8192, .i32⟩
  | 55 => ⟨S8192, .f32⟩
  | 56 => ⟨S1x8192x1, .f32⟩
  | 57 => ⟨S1x8192x512, .f32⟩
  | 58 => ⟨S1x8192x512, .f32⟩
  | 59 => ⟨S_, .i32⟩
  | 60 => ⟨S8192, .i32⟩
  | 61 => ⟨S8192, .i32⟩
  | 62 => ⟨S_, .i32⟩
  | 63 => ⟨S8192, .i32⟩
  | 64 => ⟨S8192, .i32⟩
  | 65 => ⟨S_, .i32⟩
  | 66 => ⟨S8192, .i32⟩
  | 67 => ⟨S8192, .i32⟩
  | 68 => ⟨S1x8192x512, .f32⟩
  | 69 => ⟨S_, .i32⟩
  | 70 => ⟨S8192, .i32⟩
  | 71 => ⟨S8192, .i1⟩
  | 72 => ⟨S_, .i32⟩
  | 73 => ⟨S8192, .i32⟩
  | 74 => ⟨S8192, .i32⟩
  | 75 => ⟨S8192, .i32⟩
  | 76 => ⟨S8192x1, .i32⟩
  | 77 => ⟨S_, .i32⟩
  | 78 => ⟨S8192x1, .i32⟩
  | 79 => ⟨S8192x2, .i32⟩
  | 80 => ⟨S1x8192x512, .f32⟩
  | 81 => ⟨S1x8192x512, .f32⟩
  | 82 => ⟨S_, .i32⟩
  | 83 => ⟨S8192, .i32⟩
  | 84 => ⟨S8192, .i32⟩
  | 85 => ⟨S8192, .i32⟩
  | 86 => ⟨S8192, .f32⟩
  | 87 => ⟨S1x8192x1, .f32⟩
  | 88 => ⟨S1x8192x512, .f32⟩
  | 89 => ⟨S1x8192x512, .f32⟩
  | 90 => ⟨S_, .i32⟩
  | 91 => ⟨S8192, .i32⟩
  | 92 => ⟨S8192, .i32⟩
  | 93 => ⟨S_, .i32⟩
  | 94 => ⟨S8192, .i32⟩
  | 95 => ⟨S8192, .i32⟩
  | 96 => ⟨S_, .i32⟩
  | 97 => ⟨S8192, .i32⟩
  | 98 => ⟨S8192, .i32⟩
  | 99 => ⟨S1x8192x512, .f32⟩
  | 100 => ⟨S_, .i32⟩
  | 101 => ⟨S8192, .i32⟩
  | 102 => ⟨S8192, .i1⟩
  | 103 => ⟨S_, .i32⟩
  | 104 => ⟨S8192, .i32⟩
  | 105 => ⟨S8192, .i32⟩
  | 106 => ⟨S8192, .i32⟩
  | 107 => ⟨S8192x1, .i32⟩
  | 108 => ⟨S_, .i32⟩
  | 109 => ⟨S8192x1, .i32⟩
  | 110 => ⟨S8192x2, .i32⟩
  | 111 => ⟨S1x8192x512, .f32⟩
  | 112 => ⟨S1x8192x512, .f32⟩
  | 113 => ⟨S_, .i32⟩
  | 114 => ⟨S8192, .i32⟩
  | 115 => ⟨S8192, .i32⟩
  | 116 => ⟨S8192, .i32⟩
  | 117 => ⟨S8192, .f32⟩
  | 118 => ⟨S1x8192x1, .f32⟩
  | 119 => ⟨S1x8192x512, .f32⟩
  | 120 => ⟨S1x8192x512, .f32⟩
  | 121 => ⟨S_, .i32⟩
  | 122 => ⟨S8192, .i32⟩
  | 123 => ⟨S8192, .i32⟩
  | 124 => ⟨S_, .i32⟩
  | 125 => ⟨S8192, .i32⟩
  | 126 => ⟨S8192, .i32⟩
  | 127 => ⟨S_, .i32⟩
  | _ => ⟨S8192x2048, .f32⟩

abbrev hbmTy0_1 (i : Nat) : BufTy := match i % 128 with
  | 0 => ⟨S8192, .i32⟩
  | 1 => ⟨S8192, .i32⟩
  | 2 => ⟨S1x8192x512, .f32⟩
  | 3 => ⟨S_, .i32⟩
  | 4 => ⟨S8192, .i32⟩
  | 5 => ⟨S8192, .i1⟩
  | 6 => ⟨S_, .i32⟩
  | 7 => ⟨S8192, .i32⟩
  | 8 => ⟨S8192, .i32⟩
  | 9 => ⟨S8192, .i32⟩
  | 10 => ⟨S8192x1, .i32⟩
  | 11 => ⟨S_, .i32⟩
  | 12 => ⟨S8192x1, .i32⟩
  | 13 => ⟨S8192x2, .i32⟩
  | 14 => ⟨S1x8192x512, .f32⟩
  | 15 => ⟨S1x8192x512, .f32⟩
  | 16 => ⟨S_, .i32⟩
  | 17 => ⟨S8192, .i32⟩
  | 18 => ⟨S8192, .i32⟩
  | 19 => ⟨S8192, .i32⟩
  | 20 => ⟨S8192, .f32⟩
  | 21 => ⟨S1x8192x1, .f32⟩
  | 22 => ⟨S1x8192x512, .f32⟩
  | 23 => ⟨S1x8192x512, .f32⟩
  | 24 => ⟨S1x8192x1x512, .f32⟩
  | 25 => ⟨S1x8192x1x512, .f32⟩
  | 26 => ⟨S1x8192x1x512, .f32⟩
  | 27 => ⟨S1x8192x1x512, .f32⟩
  | 28 => ⟨S1x8192x4x512, .f32⟩
  | 29 => ⟨S1x8192x4x512, .f32⟩
  | 30 => ⟨S1x8192x4x512, .f32⟩
  | 31 => ⟨S4x512x1x8192, .f32⟩
  | 32 => ⟨S1x8192x4x512, .f32⟩
  | 33 => ⟨S1x8192x2048, .f32⟩
  | 34 => ⟨S1x1x2048, .f32⟩
  | 35 => ⟨S1x8192x2048, .f32⟩
  | 36 => ⟨S1x8192x2048, .f32⟩
  | 37 => ⟨S8192x2048, .f32⟩
  | 38 => ⟨S8192x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_call0_call0_cst : Ref sig .tc := ⟨.hbm, 23, rfl⟩
abbrev main_call0_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_c_9 : Ref sig .tc := ⟨.hbm, 59, rfl⟩
abbrev main_v42 : Ref sig .tc := ⟨.hbm, 60, rfl⟩
abbrev main_v43 : Ref sig .tc := ⟨.hbm, 61, rfl⟩
abbrev main_c_10 : Ref sig .tc := ⟨.hbm, 62, rfl⟩
abbrev main_v44 : Ref sig .tc := ⟨.hbm, 63, rfl⟩
abbrev main_v45 : Ref sig .tc := ⟨.hbm, 64, rfl⟩
abbrev main_c_11 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_12 : Ref sig .tc := ⟨.hbm, 69, rfl⟩
abbrev main_v49 : Ref sig .tc := ⟨.hbm, 70, rfl⟩
abbrev main_v50 : Ref sig .tc := ⟨.hbm, 71, rfl⟩
abbrev main_c_13 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_14 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_c_15 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_c_16 : Ref sig .tc := ⟨.hbm, 90, rfl⟩
abbrev main_v66 : Ref sig .tc := ⟨.hbm, 91, rfl⟩
abbrev main_v67 : Ref sig .tc := ⟨.hbm, 92, rfl⟩
abbrev main_c_17 : Ref sig .tc := ⟨.hbm, 93, rfl⟩
abbrev main_v68 : Ref sig .tc := ⟨.hbm, 94, rfl⟩
abbrev main_v69 : Ref sig .tc := ⟨.hbm, 95, rfl⟩
abbrev main_c_18 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_19 : Ref sig .tc := ⟨.hbm, 100, rfl⟩
abbrev main_v73 : Ref sig .tc := ⟨.hbm, 101, rfl⟩
abbrev main_v74 : Ref sig .tc := ⟨.hbm, 102, rfl⟩
abbrev main_c_20 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_21 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_22 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_23 : Ref sig .tc := ⟨.hbm, 121, rfl⟩
abbrev main_v90 : Ref sig .tc := ⟨.hbm, 122, rfl⟩
abbrev main_v91 : Ref sig .tc := ⟨.hbm, 123, rfl⟩
abbrev main_c_24 : Ref sig .tc := ⟨.hbm, 124, rfl⟩
abbrev main_v92 : Ref sig .tc := ⟨.hbm, 125, rfl⟩
abbrev main_v93 : Ref sig .tc := ⟨.hbm, 126, rfl⟩
abbrev main_c_25 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_26 : Ref sig .tc := ⟨.hbm, 131, rfl⟩
abbrev main_v97 : Ref sig .tc := ⟨.hbm, 132, rfl⟩
abbrev main_v98 : Ref sig .tc := ⟨.hbm, 133, rfl⟩
abbrev main_c_27 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_c_28 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_c_29 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩

abbrev nD : Nat := 1
abbrev τ : Topo := Topo.v7x

variable {F : FTy → Type} [FloatOps F]
-- ==== ConvOut.lean ====
abbrev S8192x2048 : Shape := ⟨2, ![8192, 2048]⟩
abbrev S31x2048 : Shape := ⟨2, ![31, 2048]⟩
abbrev S2048 : Shape := ⟨1, ![2048]⟩
abbrev S2048x2048 : Shape := ⟨2, ![2048, 2048]⟩
abbrev S1x2048 : Shape := ⟨2, ![1, 2048]⟩
abbrev S512x2048 : Shape := ⟨2, ![512, 2048]⟩
abbrev S32x2048 : Shape := ⟨2, ![32, 2048]⟩
abbrev S2048x512 : Shape := ⟨2, ![2048, 512]⟩
abbrev S1x512 : Shape := ⟨2, ![1, 512]⟩
abbrev S512x512 : Shape := ⟨2, ![512, 512]⟩
abbrev S544x2048 : Shape := ⟨2, ![544, 2048]⟩
abbrev S16x2048 : Shape := ⟨2, ![16, 2048]⟩
abbrev S48x512 : Shape := ⟨2, ![48, 512]⟩
abbrev S16x512 : Shape := ⟨2, ![16, 512]⟩
abbrev S16 : Shape := ⟨1, ![16]⟩
abbrev S16x1 : Shape := ⟨2, ![16, 1]⟩

abbrev nBuf : Space → Nat
  | .hbm => 14
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S31x2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S2048x2048, .bf16⟩
  | .hbm, ⟨12, _⟩ => ⟨S1x2048, .f32⟩
  | .hbm, ⟨13, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S32x2048, .f32⟩
  | .local _ .vmem, ⟨3, _⟩ => ⟨S32x2048, .f32⟩
  | .local _ .vmem, ⟨4, _⟩ => ⟨S31x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S2048x512, .bf16⟩
  | .local _ .vmem, ⟨9, _⟩ => ⟨S2048x512, .bf16⟩
  | .local _ .vmem, ⟨10, _⟩ => ⟨S1x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S544x2048, .f32⟩
  | .local _ .vmem, ⟨17, _⟩ => ⟨S16x2048, .f32⟩
  | .local _ .vmem, ⟨18, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_19 : BitVec 32 := 0#32
  let c32_i32 : BitVec 32 := 32#32
  let v25 : BitVec 32 := Scalar.addi c0_i32_19 c32_i32
  let c1_i32 : BitVec 32 := 1#32
  ⟨c0_i32_19, v25, c1_i32⟩
def k0_mult1 (k0_t1 : Fin k0_t1_loop.trips) : BitVec 32 :=
  let c0_i32_19 : BitVec 32 := 0#32
  let c1_i32 : BitVec 32 := 1#32
  let arg15 : BitVec 32 := Scf.iv c0_i32_19 c1_i32 k0_t1
  let c16_i32 : BitVec 32 := 16#32
  let v26 : BitVec 32 := Scalar.muli arg15 c16_i32
  v26
def k0_off1 (k0_t1 : Fin k0_t1_loop.trips) : Fin 2 → Nat :=
  let c0_i32_19 : BitVec 32 := 0#32
  let c1_i32 : BitVec 32 := 1#32
  let arg15 : BitVec 32 := Scf.iv c0_i32_19 c1_i32 k0_t1
  let c16_i32 : BitVec 32 := 16#32
  let v26 : BitVec 32 := Scalar.muli arg15 c16_i32
  let v27 : BitVec 32 := v26
  let v28 : Index := Scalar.indexCast v27
  let c0_21 : Index := 0#32
  ![v28.toNat, 0]
def k0_off2 (k0_t1 : Fin k0_t1_loop.trips) : Fin 2 → Nat :=
  let c0_i32_19 : BitVec 32 := 0#32
  let c1_i32 : BitVec 32 := 1#32
  let arg15 : BitVec 32 := Scf.iv c0_i32_19 c1_i32 k0_t1
  let c16_i32 : BitVec 32 := 16#32
  let v26 : BitVec 32 := Scalar.muli arg15 c16_i32
  let v27 : BitVec 32 := v26
  let v192 : Index := Scalar.indexCast v27
  let c512 : Index := 512#32
  ![v192.toNat, 512]
def k0_off3 (k0_t1 : Fin k0_t1_loop.trips) : Fin 2 → Nat :=
  let c0_i32_19 : BitVec 32 := 0#32
  let c1_i32 : BitVec 32 := 1#32
  let arg15 : BitVec 32 := Scf.iv c0_i32_19 c1_i32 k0_t1
  let c16_i32 : BitVec 32 := 16#32
  let v26 : BitVec 32 := Scalar.muli arg15 c16_i32
  let v27 : BitVec 32 := v26
  let v356 : Index := Scalar.indexCast v27
  let c1024 : Index := 1024#32
  ![v356.toNat, 1024]
def k0_off4 (k0_t1 : Fin k0_t1_loop.trips) : Fin 2 → Nat :=
  let c0_i32_19 : BitVec 32 := 0#32
  let c1_i32 : BitVec 32 := 1#32
  let arg15 : BitVec 32 := Scf.iv c0_i32_19 c1_i32 k0_t1
  let c16_i32 : BitVec 32 := 16#32
  let v26 : BitVec 32 := Scalar.muli arg15 c16_i32
  let v27 : BitVec 32 := v26
  let v520 : Index := Scalar.indexCast v27
  let c1536 : Index := 1536#32
  ![v520.toNat, 1536]
def k0_off5 (k0_t1 : Fin k0_t1_loop.trips) : Fin 2 → Nat :=
  let c0_i32_19 : BitVec 32 := 0#32
  let c1_i32 : BitVec 32 := 1#32
  let arg15 : BitVec 32 := Scf.iv c0_i32_19 c1_i32 k0_t1
  let c16_i32 : BitVec 32 := 16#32
  let v26 : BitVec 32 := Scalar.muli arg15 c16_i32
  let v27 : BitVec 32 := v26
  let v712 : Index := Scalar.indexCast v27
  let c0_267 : Index := 0#32
  ![v712.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S32x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S31x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ConvOutRefIdeal.lean ====
abbrev S8192x2048 : Shape := ⟨2, ![8192, 2048]⟩
abbrev S31x2048 : Shape := ⟨2, ![31, 2048]⟩
abbrev S2048 : Shape := ⟨1, ![2048]⟩
abbrev S2048x2048 : Shape := ⟨2, ![2048, 2048]⟩
abbrev S_ : Shape := ⟨0, ![]⟩
abbrev S30x2048 : Shape := ⟨2, ![30, 2048]⟩
abbrev S8222x2048 : Shape := ⟨2, ![8222, 2048]⟩
abbrev S1x2048 : Shape := ⟨2, ![1, 2048]⟩
abbrev S8192 : Shape := ⟨1, ![8192]⟩
abbrev S8192x1 : Shape := ⟨2, ![8192, 1]⟩

abbrev nBuf : Space → Nat
  | .hbm => 271
  | .vmem => 0
  | .smem => 0
  | _ => 0

abbrev hbmTy0_0 (i : Nat) : BufTy := match i % 128 with
  | 0 => ⟨S8192x2048, .f32⟩
  | 1 => ⟨S8192x2048, .f32⟩
  | 2 => ⟨S31x2048, .f32⟩
  | 3 => ⟨S2048, .f32⟩
  | 4 => ⟨S2048, .f32⟩
  | 5 => ⟨S2048, .f32⟩
  | 6 => ⟨S2048x2048, .f32⟩
  | 7 => ⟨S2048, .f32⟩
  | 8 => ⟨S_, .f32⟩
  | 9 => ⟨S30x2048, .f32⟩
  | 10 => ⟨S8222x2048, .f32⟩
  | 11 => ⟨S8192x2048, .f32⟩
  | 12 => ⟨S1x2048, .f32⟩
  | 13 => ⟨S2048, .f32⟩
  | 14 => ⟨S1x2048, .f32⟩
  | 15 => ⟨S8192x2048, .f32⟩
  | 16 => ⟨S8192x2048, .f32⟩
  | 17 => ⟨S8192x2048, .f32⟩
  | 18 => ⟨S1x2048, .f32⟩
  | 19 => ⟨S2048, .f32⟩
  | 20 => ⟨S1x2048, .f32⟩
  | 21 => ⟨S8192x2048, .f32⟩
  | 22 => ⟨S8192x2048, .f32⟩
  | 23 => ⟨S8192x2048, .f32⟩
  | 24 => ⟨S8192x2048, .f32⟩
  | 25 => ⟨S1x2048, .f32⟩
  | 26 => ⟨S2048, .f32⟩
  | 27 => ⟨S1x2048, .f32⟩
  | 28 => ⟨S8192x2048, .f32⟩
  | 29 => ⟨S8192x2048, .f32⟩
  | 30 => ⟨S8192x2048, .f32⟩
  | 31 => ⟨S8192x2048, .f32⟩
  | 32 => ⟨S1x2048, .f32⟩
  | 33 => ⟨S2048, .f32⟩
  | 34 => ⟨S1x2048, .f32⟩
  | 35 => ⟨S8192x2048, .f32⟩
  | 36 => ⟨S8192x2048, .f32⟩
  | 37 => ⟨S8192x2048, .f32⟩
  | 38 => ⟨S8192x2048, .f32⟩
  | 39 => ⟨S1x2048, .f32⟩
  | 40 => ⟨S2048, .f32⟩
  | 41 => ⟨S1x2048, .f32⟩
  | 42 => ⟨S8192x2048, .f32⟩
  | 43 => ⟨S8192x2048, .f32⟩
  | 44 => ⟨S8192x2048, .f32⟩
  | 45 => ⟨S8192x2048, .f32⟩
  | 46 => ⟨S1x2048, .f32⟩
  | 47 => ⟨S2048, .f32⟩
  | 48 => ⟨S1x2048, .f32⟩
  | 49 => ⟨S8192x2048, .f32⟩
  | 50 => ⟨S8192x2048, .f32⟩
  | 51 => ⟨S8192x2048, .f32⟩
  | 52 => ⟨S8192x2048, .f32⟩
  | 53 => ⟨S1x2048, .f32⟩
  | 54 => ⟨S2048, .f32⟩
  | 55 => ⟨S1x2048, .f32⟩
  | 56 => ⟨S8192x2048, .f32⟩
  | 57 => ⟨S8192x2048, .f32⟩
  | 58 => ⟨S8192x2048, .f32⟩
  | 59 => ⟨S8192x2048, .f32⟩
  | 60 => ⟨S1x2048, .f32⟩
  | 61 => ⟨S2048, .f32⟩
  | 62 => ⟨S1x2048, .f32⟩
  | 63 => ⟨S8192x2048, .f32⟩
  | 64 => ⟨S8192x2048, .f32⟩
  | 65 => ⟨S8192x2048, .f32⟩
  | 66 => ⟨S8192x2048, .f32⟩
  | 67 => ⟨S1x2048, .f32⟩
  | 68 => ⟨S2048, .f32⟩
  | 69 => ⟨S1x2048, .f32⟩
  | 70 => ⟨S8192x2048, .f32⟩
  | 71 => ⟨S8192x2048, .f32⟩
  | 72 => ⟨S8192x2048, .f32⟩
  | 73 => ⟨S8192x2048, .f32⟩
  | 74 => ⟨S1x2048, .f32⟩
  | 75 => ⟨S2048, .f32⟩
  | 76 => ⟨S1x2048, .f32⟩
  | 77 => ⟨S8192x2048, .f32⟩
  | 78 => ⟨S8192x2048, .f32⟩
  | 79 => ⟨S8192x2048, .f32⟩
  | 80 => ⟨S8192x2048, .f32⟩
  | 81 => ⟨S1x2048, .f32⟩
  | 82 => ⟨S2048, .f32⟩
  | 83 => ⟨S1x2048, .f32⟩
  | 84 => ⟨S8192x2048, .f32⟩
  | 85 => ⟨S8192x2048, .f32⟩
  | 86 => ⟨S8192x2048, .f32⟩
  | 87 => ⟨S8192x2048, .f32⟩
  | 88 => ⟨S1x2048, .f32⟩
  | 89 => ⟨S2048, .f32⟩
  | 90 => ⟨S1x2048, .f32⟩
  | 91 => ⟨S8192x2048, .f32⟩
  | 92 => ⟨S8192x2048, .f32⟩
  | 93 => ⟨S8192x2048, .f32⟩
  | 94 => ⟨S8192x2048, .f32⟩
  | 95 => ⟨S1x2048, .f32⟩
  | 96 => ⟨S2048, .f32⟩
  | 97 => ⟨S1x2048, .f32⟩
  | 98 => ⟨S8192x2048, .f32⟩
  | 99 => ⟨S8192x2048, .f32⟩
  | 100 => ⟨S8192x2048, .f32⟩
  | 101 => ⟨S8192x2048, .f32⟩
  | 102 => ⟨S1x2048, .f32⟩
  | 103 => ⟨S2048, .f32⟩
  | 104 => ⟨S1x2048, .f32⟩
  | 105 => ⟨S8192x2048, .f32⟩
  | 106 => ⟨S8192x2048, .f32⟩
  | 107 => ⟨S8192x2048, .f32⟩
  | 108 => ⟨S8192x2048, .f32⟩
  | 109 => ⟨S1x2048, .f32⟩
  | 110 => ⟨S2048, .f32⟩
  | 111 => ⟨S1x2048, .f32⟩
  | 112 => ⟨S8192x2048, .f32⟩
  | 113 => ⟨S8192x2048, .f32⟩
  | 114 => ⟨S8192x2048, .f32⟩
  | 115 => ⟨S8192x2048, .f32⟩
  | 116 => ⟨S1x2048, .f32⟩
  | 117 => ⟨S2048, .f32⟩
  | 118 => ⟨S1x2048, .f32⟩
  | 119 => ⟨S8192x2048, .f32⟩
  | 120 => ⟨S8192x2048, .f32⟩
  | 121 => ⟨S8192x2048, .f32⟩
  | 122 => ⟨S8192x2048, .f32⟩
  | 123 => ⟨S1x2048, .f32⟩
  | 124 => ⟨S2048, .f32⟩
  | 125 => ⟨S1x2048, .f32⟩
  | 126 => ⟨S8192x2048, .f32⟩
  | 127 => ⟨S8192x2048, .f32⟩
  | _ => ⟨S8192x2048, .f32⟩

abbrev hbmTy0_1 (i : Nat) : BufTy := match i % 128 with
  | 0 => ⟨S8192x2048, .f32⟩
  | 1 => ⟨S8192x2048, .f32⟩
  | 2 => ⟨S1x2048, .f32⟩
  | 3 => ⟨S2048, .f32⟩
  | 4 => ⟨S1x2048, .f32⟩
  | 5 => ⟨S8192x2048, .f32⟩
  | 6 => ⟨S8192x2048, .f32⟩
  | 7 => ⟨S8192x2048, .f32⟩
  | 8 => ⟨S8192x2048, .f32⟩
  | 9 => ⟨S1x2048, .f32⟩
  | 10 => ⟨S2048, .f32⟩
  | 11 => ⟨S1x2048, .f32⟩
  | 12 => ⟨S8192x2048, .f32⟩
  | 13 => ⟨S8192x2048, .f32⟩
  | 14 => ⟨S8192x2048, .f32⟩
  | 15 => ⟨S8192x2048, .f32⟩
  | 16 => ⟨S1x2048, .f32⟩
  | 17 => ⟨S2048, .f32⟩
  | 18 => ⟨S1x2048, .f32⟩
  | 19 => ⟨S8192x2048, .f32⟩
  | 20 => ⟨S8192x2048, .f32⟩
  | 21 => ⟨S8192x2048, .f32⟩
  | 22 => ⟨S8192x2048, .f32⟩
  | 23 => ⟨S1x2048, .f32⟩
  | 24 => ⟨S2048, .f32⟩
  | 25 => ⟨S1x2048, .f32⟩
  | 26 => ⟨S8192x2048, .f32⟩
  | 27 => ⟨S8192x2048, .f32⟩
  | 28 => ⟨S8192x2048, .f32⟩
  | 29 => ⟨S8192x2048, .f32⟩
  | 30 => ⟨S1x2048, .f32⟩
  | 31 => ⟨S2048, .f32⟩
  | 32 => ⟨S1x2048, .f32⟩
  | 33 => ⟨S8192x2048, .f32⟩
  | 34 => ⟨S8192x2048, .f32⟩
  | 35 => ⟨S8192x2048, .f32⟩
  | 36 => ⟨S8192x2048, .f32⟩
  | 37 => ⟨S1x2048, .f32⟩
  | 38 => ⟨S2048, .f32⟩
  | 39 => ⟨S1x2048, .f32⟩
  | 40 => ⟨S8192x2048, .f32⟩
  | 41 => ⟨S8192x2048, .f32⟩
  | 42 => ⟨S8192x2048, .f32⟩
  | 43 => ⟨S8192x2048, .f32⟩
  | 44 => ⟨S1x2048, .f32⟩
  | 45 => ⟨S2048, .f32⟩
  | 46 => ⟨S1x2048, .f32⟩
  | 47 => ⟨S8192x2048, .f32⟩
  | 48 => ⟨S8192x2048, .f32⟩
  | 49 => ⟨S8192x2048, .f32⟩
  | 50 => ⟨S8192x2048, .f32⟩
  | 51 => ⟨S1x2048, .f32⟩
  | 52 => ⟨S2048, .f32⟩
  | 53 => ⟨S1x2048, .f32⟩
  | 54 => ⟨S8192x2048, .f32⟩
  | 55 => ⟨S8192x2048, .f32⟩
  | 56 => ⟨S8192x2048, .f32⟩
  | 57 => ⟨S8192x2048, .f32⟩
  | 58 => ⟨S1x2048, .f32⟩
  | 59 => ⟨S2048, .f32⟩
  | 60 => ⟨S1x2048, .f32⟩
  | 61 => ⟨S8192x2048, .f32⟩
  | 62 => ⟨S8192x2048, .f32⟩
  | 63 => ⟨S8192x2048, .f32⟩
  | 64 => ⟨S8192x2048, .f32⟩
  | 65 => ⟨S1x2048, .f32⟩
  | 66 => ⟨S2048, .f32⟩
  | 67 => ⟨S1x2048, .f32⟩
  | 68 => ⟨S8192x2048, .f32⟩
  | 69 => ⟨S8192x2048, .f32⟩
  | 70 => ⟨S8192x2048, .f32⟩
  | 71 => ⟨S8192x2048, .f32⟩
  | 72 => ⟨S1x2048, .f32⟩
  | 73 => ⟨S2048, .f32⟩
  | 74 => ⟨S1x2048, .f32⟩
  | 75 => ⟨S8192x2048, .f32⟩
  | 76 => ⟨S8192x2048, .f32⟩
  | 77 => ⟨S8192x2048, .f32⟩
  | 78 => ⟨S8192x2048, .f32⟩
  | 79 => ⟨S1x2048, .f32⟩
  | 80 => ⟨S2048, .f32⟩
  | 81 => ⟨S1x2048, .f32⟩
  | 82 => ⟨S8192x2048, .f32⟩
  | 83 => ⟨S8192x2048, .f32⟩
  | 84 => ⟨S8192x2048, .f32⟩
  | 85 => ⟨S8192x2048, .f32⟩
  | 86 => ⟨S1x2048, .f32⟩
  | 87 => ⟨S2048, .f32⟩
  | 88 => ⟨S1x2048, .f32⟩
  | 89 => ⟨S8192x2048, .f32⟩
  | 90 => ⟨S8192x2048, .f32⟩
  | 91 => ⟨S8192x2048, .f32⟩
  | 92 => ⟨S8192x2048, .f32⟩
  | 93 => ⟨S1x2048, .f32⟩
  | 94 => ⟨S2048, .f32⟩
  | 95 => ⟨S1x2048, .f32⟩
  | 96 => ⟨S8192x2048, .f32⟩
  | 97 => ⟨S8192x2048, .f32⟩
  | 98 => ⟨S8192x2048, .f32⟩
  | 99 => ⟨S1x2048, .f32⟩
  | 100 => ⟨S8192x2048, .f32⟩
  | 101 => ⟨S8192x2048, .f32⟩
  | 102 => ⟨S_, .f32⟩
  | 103 => ⟨S8192, .f32⟩
  | 104 => ⟨S8192x1, .f32⟩
  | 105 => ⟨S_, .f32⟩
  | 106 => ⟨S8192x1, .f32⟩
  | 107 => ⟨S8192x1, .f32⟩
  | 108 => ⟨S8192x2048, .f32⟩
  | 109 => ⟨S8192x2048, .f32⟩
  | 110 => ⟨S8192x2048, .f32⟩
  | 111 => ⟨S_, .f32⟩
  | 112 => ⟨S8192, .f32⟩
  | 113 => ⟨S8192x1, .f32⟩
  | 114 => ⟨S_, .f32⟩
  | 115 => ⟨S8192x1, .f32⟩
  | 116 => ⟨S8192x1, .f32⟩
  | 117 => ⟨S_, .f32⟩
  | 118 => ⟨S8192x1, .f32⟩
  | 119 => ⟨S8192x1, .f32⟩
  | 120 => ⟨S8192x1, .f32⟩
  | 121 => ⟨S8192x2048, .f32⟩
  | 122 => ⟨S8192x2048, .f32⟩
  | 123 => ⟨S1x2048, .f32⟩
  | 124 => ⟨S8192x2048, .f32⟩
  | 125 => ⟨S8192x2048, .f32⟩
  | 126 => ⟨S1x2048, .f32⟩
  | 127 => ⟨S8192x2048, .f32⟩
  | _ => ⟨S8192x2048, .f32⟩

abbrev hbmTy0_2 (i : Nat) : BufTy := match i % 128 with
  | 0 => ⟨S8192x2048, .f32⟩
  | 1 => ⟨S8192x2048, .f32⟩
  | 2 => ⟨S8192x2048, .f32⟩
  | 3 => ⟨S_, .f32⟩
  | 4 => ⟨S8192x2048, .f32⟩
  | 5 => ⟨S8192x2048, .f32⟩
  | 6 => ⟨S_, .f32⟩
  | 7 => ⟨S8192x2048, .f32⟩
  | 8 => ⟨S8192x2048, .f32⟩
  | 9 => ⟨S8192x2048, .f32⟩
  | 10 => ⟨S8192x2048, .f32⟩
  | 11 => ⟨S1x2048, .f32⟩
  | 12 => ⟨S8192x2048, .f32⟩
  | 13 => ⟨S8192x2048, .f32⟩
  | 14 => ⟨S8192x2048, .f32⟩
  | _ => ⟨S8192x2048, .f32⟩

abbrev hbmTy (i : Nat) : BufTy := match i / 128 with
  | 0 => hbmTy0_0 i
  | 1 => hbmTy0_1 i
  | 2 => hbmTy0_2 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_v176 : Ref sig .tc := ⟨.hbm, 185, rfl⟩
abbrev main_v177 : Ref sig .tc := ⟨.hbm, 186, rfl⟩
abbrev main_v178 : Ref sig .tc := ⟨.hbm, 187, rfl⟩
abbrev main_v179 : Ref sig .tc := ⟨.hbm, 188, rfl⟩
abbrev main_v180 : Ref sig .tc := ⟨.hbm, 189, rfl⟩
abbrev main_v181 : Ref sig .tc := ⟨.hbm, 190, rfl⟩
abbrev main_v182 : Ref sig .tc := ⟨.hbm, 191, rfl⟩
abbrev main_v183 : Ref sig .tc := ⟨.hbm, 192, rfl⟩
abbrev main_v184 : Ref sig .tc := ⟨.hbm, 193, rfl⟩
abbrev main_v185 : Ref sig .tc := ⟨.hbm, 194, rfl⟩
abbrev main_v186 : Ref sig .tc := ⟨.hbm, 195, rfl⟩
abbrev main_v187 : Ref sig .tc := ⟨.hbm, 196, rfl⟩
abbrev main_v188 : Ref sig .tc := ⟨.hbm, 197, rfl⟩
abbrev main_v189 : Ref sig .tc := ⟨.hbm, 198, rfl⟩
abbrev main_v190 : Ref sig .tc := ⟨.hbm, 199, rfl⟩
abbrev main_v191 : Ref sig .tc := ⟨.hbm, 200, rfl⟩
abbrev main_v192 : Ref sig .tc := ⟨.hbm, 201, rfl⟩
abbrev main_v193 : Ref sig .tc := ⟨.hbm, 202, rfl⟩
abbrev main_v194 : Ref sig .tc := ⟨.hbm, 203, rfl⟩
abbrev main_v195 : Ref sig .tc := ⟨.hbm, 204, rfl⟩
abbrev main_v196 : Ref sig .tc := ⟨.hbm, 205, rfl⟩
abbrev main_v197 : Ref sig .tc := ⟨.hbm, 206, rfl⟩
abbrev main_v198 : Ref sig .tc := ⟨.hbm, 207, rfl⟩
abbrev main_v199 : Ref sig .tc := ⟨.hbm, 208, rfl⟩
abbrev main_v200 : Ref sig .tc := ⟨.hbm, 209, rfl⟩
abbrev main_v201 : Ref sig .tc := ⟨.hbm, 210, rfl⟩
abbrev main_v202 : Ref sig .tc := ⟨.hbm, 211, rfl⟩
abbrev main_v203 : Ref sig .tc := ⟨.hbm, 212, rfl⟩
abbrev main_v204 : Ref sig .tc := ⟨.hbm, 213, rfl⟩
abbrev main_v205 : Ref sig .tc := ⟨.hbm, 214, rfl⟩
abbrev main_v206 : Ref sig .tc := ⟨.hbm, 215, rfl⟩
abbrev main_v207 : Ref sig .tc := ⟨.hbm, 216, rfl⟩
abbrev main_v208 : Ref sig .tc := ⟨.hbm, 217, rfl⟩
abbrev main_v209 : Ref sig .tc := ⟨.hbm, 218, rfl⟩
abbrev main_v210 : Ref sig .tc := ⟨.hbm, 219, rfl⟩
abbrev main_v211 : Ref sig .tc := ⟨.hbm, 220, rfl⟩
abbrev main_v212 : Ref sig .tc := ⟨.hbm, 221, rfl⟩
abbrev main_v213 : Ref sig .tc := ⟨.hbm, 222, rfl⟩
abbrev main_v214 : Ref sig .tc := ⟨.hbm, 223, rfl⟩
abbrev main_v215 : Ref sig .tc := ⟨.hbm, 224, rfl⟩
abbrev main_v216 : Ref sig .tc := ⟨.hbm, 225, rfl⟩
abbrev main_v217 : Ref sig .tc := ⟨.hbm, 226, rfl⟩
abbrev main_v218 : Ref sig .tc := ⟨.hbm, 227, rfl⟩
abbrev main_v219 : Ref sig .tc := ⟨.hbm, 228, rfl⟩
abbrev main_v220 : Ref sig .tc := ⟨.hbm, 229, rfl⟩
abbrev main_cst_0 : Ref sig .tc := ⟨.hbm, 230, rfl⟩
abbrev main_v221 : Ref sig .tc := ⟨.hbm, 231, rfl⟩
abbrev main_v222 : Ref sig .tc := ⟨.hbm, 232, rfl⟩
abbrev main_cst_1 : Ref sig .tc := ⟨.hbm, 233, rfl⟩
abbrev main_v223 : Ref sig .tc := ⟨.hbm, 234, rfl⟩
abbrev main_v224 : Ref sig .tc := ⟨.hbm, 235, rfl⟩
abbrev main_v225 : Ref sig .tc := ⟨.hbm, 236, rfl⟩
abbrev main_v226 : Ref sig .tc := ⟨.hbm, 237, rfl⟩
abbrev main_v227 : Ref sig .tc := ⟨.hbm, 238, rfl⟩
abbrev main_cst_2 : Ref sig .tc := ⟨.hbm, 239, rfl⟩
abbrev main_v228 : Ref sig .tc := ⟨.hbm, 240, rfl⟩
abbrev main_v229 : Ref sig .tc := ⟨.hbm, 241, rfl⟩
abbrev main_cst_3 : Ref sig .tc := ⟨.hbm, 242, rfl⟩
abbrev main_v230 : Ref sig .tc := ⟨.hbm, 243, rfl⟩
abbrev main_v231 : Ref sig .tc := ⟨.hbm, 244, rfl⟩
abbrev main_cst_4 : Ref sig .tc := ⟨.hbm, 245, rfl⟩
abbrev main_v232 : Ref sig .tc := ⟨.hbm, 246, rfl⟩
abbrev main_v233 : Ref sig .tc := ⟨.hbm, 247, rfl⟩
abbrev main_v234 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_v240 : Ref sig .tc := ⟨.hbm, 254, rfl⟩
abbrev main_v241 : Ref sig .tc := ⟨.hbm, 255, rfl⟩
abbrev main_v242 : Ref sig .tc := ⟨.hbm, 256, rfl⟩
abbrev main_call0_v0 : Ref sig .tc := ⟨.hbm, 257, rfl⟩
abbrev main_call0_v1 : Ref sig .tc := ⟨.hbm, 258, rfl⟩
abbrev main_call0_cst : Ref sig .tc := ⟨.hbm, 259, rfl⟩
abbrev main_call0_v2 : Ref sig .tc := ⟨.hbm, 260, rfl⟩
abbrev main_call0_v3 : Ref sig .tc := ⟨.hbm, 261, rfl⟩
abbrev main_call0_cst_0 : Ref sig .tc := ⟨.hbm, 262, rfl⟩
abbrev main_call0_v4 : Ref sig .tc := ⟨.hbm, 263, rfl⟩
abbrev main_call0_v5 : Ref sig .tc := ⟨.hbm, 264, rfl⟩
abbrev main_v243 : Ref sig .tc := ⟨.hbm, 265, rfl⟩
abbrev main_v244 : Ref sig .tc := ⟨.hbm, 266, rfl⟩
abbrev main_v245 : Ref sig .tc := ⟨.hbm, 267, rfl⟩
abbrev main_v246 : Ref sig .tc := ⟨.hbm, 268, rfl⟩
abbrev main_v247 : Ref sig .tc := ⟨.hbm, 269, rfl⟩
abbrev main_v248 : Ref sig .tc := ⟨.hbm, 270, rfl⟩

abbrev nD : Nat := 1
abbrev τ : Topo := Topo.v7x

variable {F : FTy → Type} [FloatOps F]
-- ==== Proof.AttnSpec.lean ====
module

public import Idealize.ShloMosaic.Lib.Pointwise

@[expose] public section

set_option maxRecDepth 16384

noncomputable section

open Idealize.ShloMosaic

namespace Cert.Layer

/-- A matrix read at natural coordinates, zero outside. -/
def at2 {R C : ℕ} (x : (⟨2, ![R, C]⟩ : Shape).Idx → EReal) (r c : ℕ) : EReal :=
  if h : r < R ∧ c < C then x (ix2 ⟨r, h.1⟩ ⟨c, h.2⟩) else 0

theorem at2_fin {R C : ℕ} (x : (⟨2, ![R, C]⟩ : Shape).Idx → EReal) (r : Fin R) (c : Fin C) : at2 x r.val c.val = x (ix2 r c) := by
  unfold at2
  rw [dif_pos ⟨r.isLt, c.isLt⟩]

theorem at2_of_lt {R C : ℕ} (x : (⟨2, ![R, C]⟩ : Shape).Idx → EReal) (r c : ℕ) (hr : r < R) (hc : c < C) :
    at2 x r c = x (ix2 ⟨r, hr⟩ ⟨c, hc⟩) := by
  unfold at2
  rw [dif_pos ⟨hr, hc⟩]

/-- The sixty-four, its reciprocal, the eighth and the mask's limit, as extended reals. -/
theorem lit_64 : Ideal.ofBits .f32 0x42800000#32 = ((64 : ℝ) : EReal) := by
  simp [Ideal.ofBits, Ideal.ieee, -EReal.coe_mul]; norm_num
theorem lit_inv64 : Ideal.ofBits .f32 0x3C800000#32 = ((1 / 64 : ℝ) : EReal) := by
  simp [Ideal.ofBits, Ideal.ieee, -EReal.coe_mul]; norm_num
theorem lit_eighth : Ideal.ofBits .f32 0x3E000000#32 = ((1 / 8 : ℝ) : EReal) := by
  simp [Ideal.ofBits, Ideal.ieee, -EReal.coe_mul]; norm_num
theorem lit_bot : Ideal.ofBits .f32 0xFF800000#32 = ⊥ := by
  simp [Ideal.ofBits, Ideal.ieee]
theorem lit_top : Ideal.ofBits .f32 0x7F800000#32 = ⊤ := by
  simp [Ideal.ofBits, Ideal.ieee]
theorem lit_eps : ∃ r : ℝ, 0 < r ∧ Ideal.ofBits .f32 0x358637BD#32 = (r : EReal) := by
  refine ⟨_, ?_, by simp [Ideal.ofBits, Ideal.ieee, -EReal.coe_mul]; rfl⟩
  positivity

/-- Division by sixty-four is multiplication by its reciprocal. -/
theorem div_64 (x : EReal) : Ideal.div x (Ideal.ofBits .f32 0x42800000#32) = x * Ideal.ofBits .f32 0x3C800000#32 := by
  rw [lit_64, lit_inv64]
  unfold Ideal.div
  rw [if_neg (by norm_num), ← EReal.coe_inv]
  norm_num

/-- A head's row normalized over its 64 entries. -/
def nrm64 (f g : ℕ → EReal) (d : ℕ) : EReal :=
  f d * Ideal.rsqrt ((∑ k ∈ Finset.range 64, f k * f k) * Ideal.ofBits .f32 0x3C800000#32 + Ideal.ofBits .f32 0x358637BD#32) * g d

/-- The masked score of a query and a key. -/
def score (q k : ℕ → EReal) (b : EReal) (v : Prop) [Decidable v] : EReal :=
  if v then (∑ d ∈ Finset.range 64, q d * k d) * Ideal.ofBits .f32 0x3E000000#32 + b else ⊥

/-- The maximum of the scores and the sink. -/
def topOf (s : Fin 256 → EReal) (sink : EReal) : EReal := max (Finset.univ.fold max ⊥ s) sink

/-- The softmax's denominator with the sink's share. -/
def denOf (s : Fin 256 → EReal) (sink : EReal) : EReal :=
  (∑ j : Fin 256, Ideal.exp (s j - topOf s sink)) + Ideal.exp (sink - topOf s sink)

/-- The values weighted by the softmax with a sink: each weight the exponential over the denominator. -/
def mixOf (s : Fin 256 → EReal) (sink : EReal) (v : Fin 256 → EReal) : EReal :=
  ∑ j : Fin 256, Ideal.div (Ideal.exp (s j - topOf s sink)) (denOf s sink) * v j

/-- The same with the denominator's reciprocal multiplied in. -/
def mixRec (s : Fin 256 → EReal) (sink : EReal) (v : Fin 256 → EReal) : EReal :=
  ∑ j : Fin 256, Ideal.exp (s j - topOf s sink) * Ideal.div 1 (denOf s sink) * v j

/-- Off a zero denominator the two agree. -/
theorem mixRec_eq (s : Fin 256 → EReal) (sink : EReal) (v : Fin 256 → EReal) (h : denOf s sink ≠ 0) :
    mixRec s sink v = mixOf s sink v := by
  unfold mixRec mixOf Ideal.div
  refine Finset.sum_congr rfl fun j _ => ?_
  rw [if_neg h, if_neg h, one_mul]

/-- Only the visible positions' values matter. -/
theorem mixRec_congr (s : Fin 256 → EReal) (sink : EReal) (v w : Fin 256 → EReal) (h : ∀ j, s j ≠ ⊥ → v j = w j) :
    mixRec s sink v = mixRec s sink w := by
  unfold mixRec
  refine Finset.sum_congr rfl fun j _ => ?_
  by_cases hs : s j = ⊥
  · rw [hs, EReal.bot_sub]
    show (0 : EReal) * _ * _ = 0 * _ * _
    simp only [zero_mul]
  · rw [h j hs]

theorem exp_nonneg (x : EReal) : 0 ≤ Ideal.exp x := by
  induction x with
  | bot => exact le_refl _
  | top => exact le_top
  | coe r =>
    show (0 : EReal) ≤ ((Real.exp r : ℝ) : EReal)
    exact_mod_cast (Real.exp_pos r).le

/-- With a finite sink and no infinite score the denominator is not zero. -/
theorem denOf_ne (s : Fin 256 → EReal) (sink : EReal) (hs : ∀ j, s j ≠ ⊤) (hb : sink ≠ ⊥) (ht : sink ≠ ⊤) : denOf s sink ≠ 0 := by
  have h1 : topOf s sink ≠ ⊤ := by
    refine ne_of_lt (max_lt ?_ (lt_top_iff_ne_top.2 ht))
    exact (Finset.fold_max_lt _).2 ⟨bot_lt_top, fun j _ => lt_top_iff_ne_top.2 (hs j)⟩
  have h2 : topOf s sink ≠ ⊥ := fun h => hb (le_bot_iff.1 (h ▸ le_max_right _ _))
  have h3 : 0 < Ideal.exp (sink - topOf s sink) := by
    lift sink to ℝ using ⟨ht, hb⟩
    generalize topOf s _ = t at h1 h2
    lift t to ℝ using ⟨h1, h2⟩
    rw [← EReal.coe_sub]
    show (0 : EReal) < ((Real.exp _ : ℝ) : EReal)
    exact_mod_cast Real.exp_pos _
  exact ne_of_gt (lt_of_lt_of_le h3 (le_add_of_nonneg_left (Finset.sum_nonneg fun j _ => exp_nonneg _)))

/-- A sum times the eighth is the sum of the terms times the eighth. -/
theorem sum_eighth (n : ℕ) (f : ℕ → EReal) :
    (∑ d ∈ Finset.range n, f d) * Ideal.ofBits .f32 0x3E000000#32 = ∑ d ∈ Finset.range n, f d * Ideal.ofBits .f32 0x3E000000#32 := by
  induction n with
  | zero => simp
  | succ n ih =>
    rw [Finset.sum_range_succ, Finset.sum_range_succ, ← ih, lit_eighth]
    exact EReal.right_distrib_of_nonneg_of_ne_top (by exact_mod_cast (by norm_num : (0 : ℝ) ≤ 1 / 8)) (EReal.coe_ne_top _) _ _

/-- A query scaled beforehand gives the scaled product. -/
theorem dot_scaled (q k : ℕ → EReal) :
    ∑ d ∈ Finset.range 64, q d * Ideal.ofBits .f32 0x3E000000#32 * k d = (∑ d ∈ Finset.range 64, q d * k d) * Ideal.ofBits .f32 0x3E000000#32 := by
  rw [sum_eighth]
  exact Finset.sum_congr rfl fun d _ => mul_right_comm _ _ _

/-- A sum over 128 lanes that keeps one half is a sum over 64. -/
theorem sum_lo (F : ℕ → EReal) : (∑ l : Fin 128, if l.val < 64 then F l.val else 0) = ∑ d ∈ Finset.range 64, F d := by
  rw [← Finset.sum_range (fun l => if l < 64 then F l else 0), show (128 : ℕ) = 64 + 64 from rfl, Finset.sum_range_add]
  rw [Finset.sum_congr rfl (fun l hl => if_pos (Finset.mem_range.1 hl)),
    Finset.sum_eq_zero (s := Finset.range 64) (f := fun x => if 64 + x < 64 then F (64 + x) else 0) (fun l _ => if_neg (by omega)), add_zero]

theorem sum_hi (F : ℕ → EReal) : (∑ l : Fin 128, if ¬ l.val < 64 then F l.val else 0) = ∑ d ∈ Finset.range 64, F (64 + d) := by
  rw [← Finset.sum_range (fun l => if ¬ l < 64 then F l else 0), show (128 : ℕ) = 64 + 64 from rfl, Finset.sum_range_add]
  rw [Finset.sum_eq_zero (s := Finset.range 64) (f := fun x => if ¬ x < 64 then F x else 0) (fun l hl => if_neg (not_not.2 (Finset.mem_range.1 hl))), zero_add]
  exact Finset.sum_congr rfl fun l _ => if_pos (by omega)

/-- A finite number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sum {f : ℕ → EReal} (n : ℕ) (h : ∀ d, d < n → IsReal (f d)) : IsReal (∑ d ∈ Finset.range n, f d) := by
  induction n with
  | zero => exact ⟨0, by simp⟩
  | succ n ih =>
    rw [Finset.sum_range_succ]
    exact (ih fun d hd => h d (by omega)).add (h n (by omega))

theorem sum_sq (f : ℕ → EReal) (n : ℕ) (h : ∀ d, d < n → IsReal (f d)) :
    ∃ r : ℝ, 0 ≤ r ∧ ∑ d ∈ Finset.range n, f d * f d = (r : EReal) := by
  induction n with
  | zero => exact ⟨0, le_refl _, by simp⟩
  | succ n ih =>
    obtain ⟨a, ha, ea⟩ := ih fun d hd => h d (by omega)
    obtain ⟨b, eb⟩ := h n (by omega)
    refine ⟨a + b * b, add_nonneg ha (mul_self_nonneg b), ?_⟩
    rw [Finset.sum_range_succ, ea, eb]
    push_cast
    rfl

/-- The normalization of finite entries is finite. -/
theorem nrm64_real (f g : ℕ → EReal) (d : ℕ) (hd : d < 64) (hf : ∀ d, d < 64 → IsReal (f d)) (hg : IsReal (g d)) : IsReal (nrm64 f g d) := by
  obtain ⟨a, ha, ea⟩ := sum_sq f 64 hf
  obtain ⟨e, he, ee⟩ := lit_eps
  unfold nrm64
  rw [ea, ee, lit_inv64, ← EReal.coe_mul, ← EReal.coe_add]
  have hp : 0 < a * (1 / 64) + e := by positivity
  refine ((hf d hd).mul ⟨(Real.sqrt (a * (1 / 64) + e))⁻¹, ?_⟩).mul hg
  show (if _ then (_ : EReal) else if _ then _ else _) = _
  rw [if_neg (not_lt.2 hp.le), if_neg hp.ne']

/-- The score of finite queries, keys and bias is not infinite above. -/
theorem score_ne_top (q k : ℕ → EReal) (b : EReal) (v : Prop) [Decidable v] (hq : ∀ d, d < 64 → IsReal (q d)) (hk : v → ∀ d, d < 64 → IsReal (k d))
    (hb : IsReal b) : score q k b v ≠ ⊤ := by
  unfold score
  split
  · rename_i h
    obtain ⟨r, hr⟩ := ((IsReal.sum 64 fun d hd => (hq d hd).mul (hk h d hd)).mul ⟨_, lit_eighth⟩).add hb
    rw [hr]
    exact EReal.coe_ne_top _
  · exact bot_ne_top

/-- Equal queries, equal visible keys and equal biases give equal scores. -/
theorem score_congr (q q' k k' : ℕ → EReal) (b b' : EReal) (v v' : Prop) [Decidable v] [Decidable v'] (hv : v ↔ v') (hq : ∀ d, d < 64 → q d = q' d)
    (hk : v → ∀ d, d < 64 → k d = k' d) (hb : b = b') : score q k b v = score q' k' b' v' := by
  unfold score
  by_cases h : v
  · rw [if_pos h, if_pos (hv.1 h), hb, Finset.sum_congr rfl fun d hd => by rw [hq d (Finset.mem_range.1 hd), hk h d (Finset.mem_range.1 hd)]]
  · rw [if_neg h, if_neg (mt hv.2 h)]

/-- Two blocks one above the other, at natural coordinates. -/
def band {C : ℕ} (a b : (⟨2, ![128, C]⟩ : Shape).Idx → EReal) (j c : ℕ) : EReal := if j < 128 then at2 a j c else at2 b (j - 128) c

/-- Key `j` of block `n`'s band is in the window of query `r`: by chunks of 64, and no key before the first block. -/
def seen (n r j : ℕ) : Prop := j / 64 ≤ r / 64 + 2 ∧ r / 64 ≤ j / 64 ∧ (0 < n ∨ 128 ≤ j)

instance (n r j : ℕ) : Decidable (seen n r j) := by unfold seen; infer_instance

theorem nrm64_congr (f f' g g' : ℕ → EReal) (d : ℕ) (hd : d < 64) (hf : ∀ e, e < 64 → f e = f' e) (hg : g d = g' d) :
    nrm64 f g d = nrm64 f' g' d := by
  unfold nrm64
  rw [hf d hd, hg, Finset.sum_congr rfl fun e he => by rw [hf e (Finset.mem_range.1 he)]]

theorem band_congr {C C' : ℕ} (a b : (⟨2, ![128, C]⟩ : Shape).Idx → EReal) (a' b' : (⟨2, ![128, C']⟩ : Shape).Idx → EReal) (j : Fin 256) (c c' : ℕ)
    (ha : ∀ r : Fin 128, at2 a r c = at2 a' r c') (hb : ∀ r : Fin 128, at2 b r c = at2 b' r c') : band a b j c = band a' b' j c' := by
  unfold band
  have hj := j.isLt
  split
  · rename_i h; exact ha ⟨j, h⟩
  · rename_i h; exact hb ⟨j - 128, by omega⟩

/-- The accessor of a bias array, and of the sinks. -/
def at3 {H : ℕ} (x : (⟨3, ![H, 128, 256]⟩ : Shape).Idx → EReal) (h : ℕ) (r : Fin 128) (j : Fin 256) : EReal :=
  if hh : h < H then x (ix3 ⟨h, hh⟩ r j) else 0
def at1 {H : ℕ} (x : (⟨1, ![H]⟩ : Shape).Idx → EReal) (h : ℕ) : EReal := if hh : h < H then x (ix1 ⟨h, hh⟩) else 0

/-- One entry of a block of the attention: row `r` of the block, column `64 H + d` for head `H`, the keys and values of
    key head `H / 4`; the division by the denominator as the kernel takes it. -/
def entry {Q K : ℕ} (n : ℕ) (q : (⟨2, ![128, Q]⟩ : Shape).Idx → EReal) (kp kc vp vc : (⟨2, ![128, K]⟩ : Shape).Idx → EReal)
    (gq gk : ℕ → EReal) (b : Fin 256 → EReal) (sink : EReal) (r : Fin 128) (H d : ℕ) : EReal :=
  mixRec (fun j => score (nrm64 (fun e => at2 q r (64 * H + e)) gq) (nrm64 (fun e => band kp kc j (64 * (H / 4) + e)) gk) (b j) (seen n r j)) sink
    (fun j => band vp vc j (64 * (H / 4) + d))

/-- Key row `j` of block `n`'s band in the whole array, zero before the first block. -/
def gband {C : ℕ} (x : (⟨2, ![8192, C]⟩ : Shape).Idx → EReal) (n j c : ℕ) : EReal :=
  if j < 128 then (if n < 1 then 0 else at2 x (128 * (n - 1) + j) c) else at2 x (128 * n + (j - 128)) c

/-- The masked scores of row `r` of block `n`, head `H`, over the whole arrays. -/
def gscore (x : (⟨2, ![8192, 3072]⟩ : Shape).Idx → EReal) (b : (⟨3, ![32, 128, 256]⟩ : Shape).Idx → EReal) (gq gk : (⟨1, ![64]⟩ : Shape).Idx → EReal)
    (n : ℕ) (r : Fin 128) (H : ℕ) (j : Fin 256) : EReal :=
  score (nrm64 (fun e => at2 x (128 * n + r) (64 * H + e)) (at1 gq)) (nrm64 (fun e => gband x n j (2048 + 64 * (H / 4) + e)) (at1 gk)) (at3 b H r j) (seen n r j)

/-- The attention's entry over the whole arrays, with the softmax's weights as the reference takes them. -/
def gmix (x : (⟨2, ![8192, 3072]⟩ : Shape).Idx → EReal) (b : (⟨3, ![32, 128, 256]⟩ : Shape).Idx → EReal) (sinks : (⟨1, ![32]⟩ : Shape).Idx → EReal)
    (gq gk : (⟨1, ![64]⟩ : Shape).Idx → EReal) (n : ℕ) (r : Fin 128) (H d : ℕ) : EReal :=
  mixOf (gscore x b gq gk n r H) (at1 sinks H) (fun j => gband x n j (2560 + 64 * (H / 4) + d))

/-- A finite array read at any coordinate is finite. -/
theorem at2_real {R C : ℕ} (x : (⟨2, ![R, C]⟩ : Shape).Idx → EReal) (h : ∀ i, IsReal (x i)) (r c : ℕ) : IsReal (at2 x r c) := by
  unfold at2
  split
  · exact h _
  · exact ⟨0, rfl⟩
theorem at1_real {H : ℕ} (x : (⟨1, ![H]⟩ : Shape).Idx → EReal) (h : ∀ i, IsReal (x i)) (c : ℕ) : IsReal (at1 x c) := by
  unfold at1
  split
  · exact h _
  · exact ⟨0, rfl⟩
theorem at3_real {H : ℕ} (x : (⟨3, ![H, 128, 256]⟩ : Shape).Idx → EReal) (h : ∀ i, IsReal (x i)) (c : ℕ) (r : Fin 128) (j : Fin 256) : IsReal (at3 x c r j) := by
  unfold at3
  split
  · exact h _
  · exact ⟨0, rfl⟩
theorem gband_real {C : ℕ} (x : (⟨2, ![8192, C]⟩ : Shape).Idx → EReal) (h : ∀ i, IsReal (x i)) (n j c : ℕ) : IsReal (gband x n j c) := by
  unfold gband
  split
  · split
    · exact ⟨0, rfl⟩
    · exact at2_real x h _ _
  · exact at2_real x h _ _

/-- Over finite arrays a block's entry by the kernel's reading is the attention's entry: the blocks are the whole arrays' rows,
    the previous block's only where there is one. -/
theorem entry_eq (x : (⟨2, ![8192, 3072]⟩ : Shape).Idx → EReal) (b : (⟨3, ![32, 128, 256]⟩ : Shape).Idx → EReal) (sinks : (⟨1, ![32]⟩ : Shape).Idx → EReal)
    (gq gk : (⟨1, ![64]⟩ : Shape).Idx → EReal) (hx : ∀ i, IsReal (x i)) (hb : ∀ i, IsReal (b i)) (hs : ∀ i, IsReal (sinks i))
    (hgq : ∀ i, IsReal (gq i)) (hgk : ∀ i, IsReal (gk i)) (n : ℕ) (r : Fin 128) (H d : ℕ) (hH : H < 32) (hd : d < 64)
    (q : (⟨2, ![128, 2048]⟩ : Shape).Idx → EReal) (kp kc vp vc : (⟨2, ![128, 512]⟩ : Shape).Idx → EReal) (uq uk : ℕ → EReal)
    (eq : ∀ c, c < 2048 → at2 q r c = at2 x (128 * n + r) c)
    (ekp : 0 < n → ∀ i c, i < 128 → c < 512 → at2 kp i c = at2 x (128 * (n - 1) + i) (2048 + c))
    (ekc : ∀ i c, i < 128 → c < 512 → at2 kc i c = at2 x (128 * n + i) (2048 + c))
    (evp : 0 < n → ∀ i c, i < 128 → c < 512 → at2 vp i c = at2 x (128 * (n - 1) + i) (2560 + c))
    (evc : ∀ i c, i < 128 → c < 512 → at2 vc i c = at2 x (128 * n + i) (2560 + c))
    (euq : ∀ e, e < 64 → uq e = at1 gq e) (euk : ∀ e, e < 64 → uk e = at1 gk e) :
    entry n q kp kc vp vc uq uk (at3 b H r) (at1 sinks H) r H d = gmix x b sinks gq gk n r H d := by
  have hband : ∀ (o : ℕ) (p c : (⟨2, ![128, 512]⟩ : Shape).Idx → EReal) (hp : 0 < n → ∀ i l, i < 128 → l < 512 → at2 p i l = at2 x (128 * (n - 1) + i) (o + l))
      (hc : ∀ i l, i < 128 → l < 512 → at2 c i l = at2 x (128 * n + i) (o + l)) (j : Fin 256) (l : ℕ) (hl : l < 512), seen n r j → band p c j l = gband x n j (o + l) := by
    intro o p c hp hc j l hl hv
    have hj := j.isLt
    unfold band gband
    by_cases h : j.val < 128
    · have hn : 0 < n := hv.2.2.resolve_right (by omega)
      rw [if_pos h, if_pos h, if_neg (by omega), hp hn _ _ h hl]
    · rw [if_neg h, if_neg h, hc _ _ (by omega) hl]
  have hs' : (fun j : Fin 256 => score (nrm64 (fun e => at2 q r (64 * H + e)) uq) (nrm64 (fun e => band kp kc j (64 * (H / 4) + e)) uk) (at3 b H r j) (seen n r j))
      = gscore x b gq gk n r H := by
    funext j
    unfold gscore
    refine score_congr _ _ _ _ _ _ _ _ Iff.rfl (fun e he => ?_) (fun hv e he => ?_) rfl
    · exact nrm64_congr _ _ _ _ e he (fun e he => eq _ (by omega)) (euq e he)
    · refine nrm64_congr _ _ _ _ e he (fun e he => ?_) (euk e he)
      rw [hband 2048 kp kc ekp ekc j _ (by omega) hv, Nat.add_assoc]
  unfold entry gmix
  rw [hs', mixRec_congr _ _ _ (fun j => gband x n j (2560 + 64 * (H / 4) + d)) (fun j hj => ?_)]
  · refine mixRec_eq _ _ _ (denOf_ne _ _ (fun j => ?_) ?_ ?_)
    · exact score_ne_top _ _ _ _ (fun d hd => nrm64_real _ _ d hd (fun _ _ => at2_real x hx _ _) (at1_real gq hgq _))
        (fun _ d hd => nrm64_real _ _ d hd (fun _ _ => gband_real x hx _ _ _) (at1_real gk hgk _)) (at3_real b hb _ _ _)
    · obtain ⟨s, e⟩ := at1_real sinks hs H; rw [e]; exact EReal.coe_ne_bot _
    · obtain ⟨s, e⟩ := at1_real sinks hs H; rw [e]; exact EReal.coe_ne_top _
  · have hv : seen n r j := by
      by_contra h
      exact hj (if_neg h)
    rw [hband 2560 vp vc evp evc j _ (by omega) hv, Nat.add_assoc]

end Cert.Layer

end
-- ==== Proof.AttnBody.lean ====
module

public import proofs.«01_k».proof.Proof.Gen.AttnIdeal.Value
public import proofs.«01_k».proof.Proof.AttnSpec
public import Idealize.ShloMosaic.Lib.Pointwise

@[expose] public section

set_option maxRecDepth 16384

noncomputable section

open Idealize.ShloMosaic Idealize.ShloMosaic.TcCoe Idealize.SL.Sem

namespace Cert.AttnIdeal.Body

open Cert.AttnIdeal Cert.AttnIdeal.Gen Cert.Layer

/-- The columns of a block, and the visible positions of a block of queries. -/
def cols : IVec S128x256 32 := iota .tc S128x256 32 [1] iota_S128x256_d1_w32
def vis (a : BitVec 32) : IVec S128x256 1 := k0_pay6 a cols k0_pay2 k0_pay3 k0_pay4 k0_pay5

/-- The low half of the lanes; the lanes a head keeps. -/
def keepLo : IVec S1x128 1 := xori (xori k0_pay7 (broadcastTo S1x128 (broadcast S1x128 1#1) broadcasts_S1x128_S1x128)) (constantI S1x128 1 1#1)
def keepHi : IVec S1x128 1 := xori (xori k0_pay7 (broadcastTo S1x128 (broadcast S1x128 0#1) broadcasts_S1x128_S1x128)) (constantI S1x128 1 1#1)

/-- The normalized keys of a pair of heads, over the previous and the own block. -/
def kn (kp kc : Vec Ideal S128x128 .f32) (g : Vec Ideal S1x128 .f32) : FVec Ideal S256x128 .bf16 :=
  k0_pay13 k0_pay7 (k0_pay8 kp kc) (k0_pay9 g) (k0_pay11 kp kc) (k0_pay12 kp kc)

/-- The normalized and scaled queries of a pair of heads. -/
def qn (q : Vec Ideal S128x128 .f32) (g : Vec Ideal S1x128 .f32) : FVec Ideal S128x128 .f32 :=
  k0_pay19 k0_pay7 q (k0_pay15 g) (k0_pay17 k0_pay7 q) (k0_pay18 k0_pay7 q)

/-- The queries with the lanes outside the kept ones zero. -/
def zeroed (keep : IVec S1x128 1) (q : FVec Ideal S128x128 .f32) : FVec Ideal S128x128 .f32 :=
  select (broadcastTo S128x128 (shapeCast S1x128 keep shapeCasts_S1x128_S1x128) broadcasts_S1x128_S128x128) q
    (broadcast S128x128 (Scalar.ofBits .f32 0x00000000#32))

/-- The two halves of the lanes exchanged. -/
def rot (x : FVec Ideal S128x128 .f32) : FVec Ideal S128x128 .f32 := dynamicRotate 1 64#32 none x rotates_S128x128_d1

/-- The masked scores of one head. -/
def scores (vis : IVec S128x256 1) (k : FVec Ideal S256x128 .bf16) (qz : FVec Ideal S128x128 .f32) (b : Vec Ideal S1x128x256 .f32) :
    FVec Ideal S128x256 .f32 :=
  select vis (addf (matmul dot_S128x128_S256x128_S128x256_1_1_0_0_n_n none (truncf .bf16 qz bitsLt_bf16_f32) k (constant S128x256 .f32 0x00000000#32))
    (shapeCast S128x256 b shapeCasts_S1x128x256_S128x256)) (broadcast S128x256 (Named.named κ "mask" 0xF149F2CA#32))

/-- The row maximum, with the sink. -/
def top (s : FVec Ideal S128x256 .f32) (sink : Elt Ideal .f32) : FVec Ideal S128x1 .f32 :=
  maximumf (shapeCast S128x1 (multiReduction .maximumf [1] S128 s 0xFF800000#32 reduces_S128x256_S128 (.inl rfl) rfl) shapeCasts_S128_S128x1)
    (broadcast S128x1 sink)

/-- The exponentials. -/
def expo (s : FVec Ideal S128x256 .f32) (mx : FVec Ideal S128x1 .f32) : FVec Ideal S128x256 .f32 :=
  exp (subf s (broadcastTo S128x256 mx broadcasts_S128x1_S128x256))

/-- The row's denominator. -/
def den (e : FVec Ideal S128x256 .f32) (mx : FVec Ideal S128x1 .f32) (sink : Elt Ideal .f32) : FVec Ideal S128x1 .f32 :=
  addf (shapeCast S128x1 (multiReduction .add [1] S128 e 0x00000000#32 reduces_S128x256_S128 (.inl rfl) rfl) shapeCasts_S128_S128x1)
    (exp (subf (broadcast S128x1 sink) mx))

/-- The weighted values. -/
def mixed (v : FVec Ideal S256x128 .bf16) (e : FVec Ideal S128x256 .f32) (d : FVec Ideal S128x1 .f32) : FVec Ideal S128x128 .f32 :=
  matmul dot_S128x256_S256x128_S128x128_1_0_0_1_n_n none
    (truncf .bf16 (mulf e (broadcastTo S128x256 (divf (broadcast S128x1 (Scalar.ofBits .f32 0x3F800000#32)) d) broadcasts_S128x1_S128x256)) bitsLt_bf16_f32)
    v (constant S128x128 .f32 0x00000000#32)

/-- One head's attention over the block's band. -/
def att (vis : IVec S128x256 1) (k v : FVec Ideal S256x128 .bf16) (qz : FVec Ideal S128x128 .f32) (b : Vec Ideal S1x128x256 .f32)
    (sink : Elt Ideal .f32) : FVec Ideal S128x128 .f32 :=
  mixed v (expo (scores vis k qz b) (top (scores vis k qz b) sink))
    (den (expo (scores vis k qz b) (top (scores vis k qz b) sink)) (top (scores vis k qz b) sink) sink)

/-- The pair of heads laid side by side. -/
def beside (o0 o1 : FVec Ideal S128x128 .f32) : FVec Ideal S128x128 .bf16 :=
  truncf .bf16 (select (broadcastTo S128x128 (shapeCast S1x128 k0_pay7 shapeCasts_S1x128_S1x128) broadcasts_S1x128_S128x128) o0 o1) bitsLt_bf16_f32

/-- The pair over the low, and over the high key head. -/
def pairLo (vis : IVec S128x256 1) (k v : FVec Ideal S256x128 .bf16) (q : FVec Ideal S128x128 .f32) (b0 b1 : Vec Ideal S1x128x256 .f32)
    (s0 s1 : Elt Ideal .f32) : FVec Ideal S128x128 .bf16 :=
  beside (att vis k v (zeroed keepLo q) b0 s0) (rot (att vis k v (rot (zeroed keepHi q)) b1 s1))
def pairHi (vis : IVec S128x256 1) (k v : FVec Ideal S256x128 .bf16) (q : FVec Ideal S128x128 .f32) (b0 b1 : Vec Ideal S1x128x256 .f32)
    (s0 s1 : Elt Ideal .f32) : FVec Ideal S128x128 .bf16 :=
  beside (rot (att vis k v (rot (zeroed keepLo q)) b0 s0)) (att vis k v (zeroed keepHi q) b1 s1)

theorem sel_if {α : Type} (c : BitVec 1) (a b : α) : Scalar.select c a b = if c = 1#1 then a else b := by
  unfold Scalar.select
  rfl

theorem mask_bot : Named.named (F := Ideal) (φ := .f32) κ "mask" 0xF149F2CA#32 = (⊥ : EReal) :=
  IdealRules.named_const.ideal_named_scalar κ "mask" _ _ rfl

theorem lo_at (l : Fin 128) : k0_pay7 (ix2 (0 : Fin 1) l) = 1#1 ↔ l.val < 64 := by
  revert l; decide +kernel

theorem keepLo_at (l : Fin 128) : keepLo (ix2 (0 : Fin 1) l) = 1#1 ↔ l.val < 64 := by
  revert l; decide +kernel

theorem keepHi_at (l : Fin 128) : keepHi (ix2 (0 : Fin 1) l) = 1#1 ↔ ¬ l.val < 64 := by
  revert l; decide +kernel

theorem zeroed_at (keep : IVec S1x128 1) (q : FVec Ideal S128x128 .f32) (r l : Fin 128) :
    zeroed keep q (ix2 r l) = if keep (ix2 0 l) = 1#1 then q (ix2 r l) else 0 := by
  rw [← sel_if]
  pointwise [zeroed]

theorem rot_at (x : FVec Ideal S128x128 .f32) (r l : Fin 128) :
    rot x (ix2 r l) = x (ix2 r ⟨(l.val + 64) % 128, Nat.mod_lt _ (by norm_num)⟩) := by
  pointwise [rot]
  exact congrArg (fun k => x (ix2 r k)) (Fin.ext (by show (l.val + 128 - 64) % 128 = (l.val + 64) % 128; omega))

theorem scores_at (vis : IVec S128x256 1) (k : FVec Ideal S256x128 .bf16) (qz : FVec Ideal S128x128 .f32) (b : Vec Ideal S1x128x256 .f32)
    (r : Fin 128) (j : Fin 256) :
    scores vis k qz b (ix2 r j) = if vis (ix2 r j) = 1#1 then (∑ l : Fin 128, qz (ix2 r l) * k (ix2 j l)) + b (ix3 0 r j) else ⊥ := by
  rw [← sel_if, ← mask_bot]
  pointwise [scores]

theorem top_at (s : FVec Ideal S128x256 .f32) (sink : Elt Ideal .f32) (r : Fin 128) :
    top s sink (ix2 r 0) = topOf (fun j => s (ix2 r j)) sink := by
  unfold topOf
  rw [← lit_bot]
  pointwise [top]

theorem expo_at (s : FVec Ideal S128x256 .f32) (mx : FVec Ideal S128x1 .f32) (r : Fin 128) (j : Fin 256) :
    expo s mx (ix2 r j) = Ideal.exp (s (ix2 r j) - mx (ix2 r 0)) := by
  pointwise [expo]

theorem den_at (e : FVec Ideal S128x256 .f32) (mx : FVec Ideal S128x1 .f32) (sink : Elt Ideal .f32) (r : Fin 128) :
    den e mx sink (ix2 r 0) = (∑ j : Fin 256, e (ix2 r j)) + Ideal.exp (sink - mx (ix2 r 0)) := by
  pointwise [den]

theorem mixed_at (v : FVec Ideal S256x128 .bf16) (e : FVec Ideal S128x256 .f32) (d : FVec Ideal S128x1 .f32) (r l : Fin 128) :
    mixed v e d (ix2 r l) = ∑ j : Fin 256, e (ix2 r j) * Ideal.div 1 (d (ix2 r 0)) * v (ix2 j l) := by
  pointwise [mixed]

theorem beside_at (o0 o1 : FVec Ideal S128x128 .f32) (r l : Fin 128) :
    beside o0 o1 (ix2 r l) = if l.val < 64 then o0 (ix2 r l) else o1 (ix2 r l) := by
  simp only [← lo_at, ← sel_if]
  pointwise [beside]

/-- One head's attention at an entry: the weighted values of its scores. -/
theorem att_at (vis : IVec S128x256 1) (k v : FVec Ideal S256x128 .bf16) (qz : FVec Ideal S128x128 .f32) (b : Vec Ideal S1x128x256 .f32)
    (sink : Elt Ideal .f32) (r l : Fin 128) :
    att vis k v qz b sink (ix2 r l) = mixRec (fun j => scores vis k qz b (ix2 r j)) sink (fun j => v (ix2 j l)) := by
  unfold att
  rw [mixed_at]
  simp only [den_at, expo_at, top_at]
  rfl

theorem qn_at' (q : Vec Ideal S128x128 .f32) (g : Vec Ideal S1x128 .f32) (r l : Fin 128) :
    qn q g (ix2 r l) = q (ix2 r l) * Ideal.rsqrt ((∑ j : Fin 128, if (j.val < 64 ↔ l.val < 64) then q (ix2 r j) * q (ix2 r j) else 0)
      * Ideal.ofBits .f32 0x3C800000#32 + Ideal.ofBits .f32 0x358637BD#32) * g (ix2 0 l) * Ideal.ofBits .f32 0x3E000000#32 := by
  by_cases h : l.val < 64
  · have h' := (lo_at l).2 h
    simp only [h, iff_true, ← lo_at]
    pointwise [qn, k0_pay19, k0_pay15, k0_pay16, k0_pay17, k0_pay18]
    simp only [sel_if, h', if_true]
  · have h' := mt (lo_at l).1 h
    simp only [h, iff_false, ← lo_at]
    pointwise [qn, k0_pay19, k0_pay15, k0_pay16, k0_pay17, k0_pay18]
    simp only [sel_if, h', if_false, ite_not]

theorem kn_at' (kp kc : Vec Ideal S128x128 .f32) (g : Vec Ideal S1x128 .f32) (j : Fin 256) (l : Fin 128) :
    kn kp kc g (ix2 j l) = k0_pay8 kp kc (ix2 j l) * Ideal.rsqrt ((∑ i : Fin 128, if (i.val < 64 ↔ l.val < 64) then k0_pay8 kp kc (ix2 j i) * k0_pay8 kp kc (ix2 j i) else 0)
      * Ideal.ofBits .f32 0x3C800000#32 + Ideal.ofBits .f32 0x358637BD#32) * g (ix2 0 l) := by
  by_cases h : l.val < 64
  · have h' := (lo_at l).2 h
    simp only [h, iff_true, ← lo_at]
    unfold kn
    pointwise [k0_pay13, k0_pay9, k0_pay10, k0_pay11, k0_pay12]
    simp only [sel_if, h', if_true]
  · have h' := mt (lo_at l).1 h
    simp only [h, iff_false, ← lo_at]
    unfold kn
    pointwise [k0_pay13, k0_pay9, k0_pay10, k0_pay11, k0_pay12]
    simp only [sel_if, h', if_false, ite_not]

/-- A sum over the lanes of one's own half is a sum over 64. -/
theorem half_sum (F : ℕ → EReal) (l : Fin 128) :
    (∑ j : Fin 128, if (j.val < 64 ↔ l.val < 64) then F j.val else 0) = ∑ d ∈ Finset.range 64, F (64 * (l.val / 64) + d) := by
  by_cases h : l.val < 64
  · simp only [h, iff_true]
    rw [sum_lo F, show l.val / 64 = 0 by omega]
    simp only [Nat.mul_zero, Nat.zero_add]
  · simp only [h, iff_false]
    rw [sum_hi F, show l.val / 64 = 1 by omega]

theorem qn_at (q : Vec Ideal S128x128 .f32) (g : Vec Ideal S1x128 .f32) (r l : Fin 128) :
    qn q g (ix2 r l) = nrm64 (fun d => at2 q r (64 * (l.val / 64) + d)) (fun d => at2 g 0 (64 * (l.val / 64) + d)) (l.val % 64)
      * Ideal.ofBits .f32 0x3E000000#32 := by
  rw [qn_at']
  unfold nrm64
  rw [← half_sum (fun c => at2 q r c * at2 q r c) l]
  simp only [at2_fin]
  rw [show 64 * (l.val / 64) + l.val % 64 = l.val by omega, at2_fin]
  rw [show at2 g 0 l.val = g (ix2 0 l) from at2_fin g 0 l]

theorem pay8_at (a b : Vec Ideal S128x128 .f32) (j : Fin 256) (l : Fin 128) : k0_pay8 a b (ix2 j l) = band a b j l := by
  unfold band
  by_cases h : j.val < 128
  · rw [if_pos h, at2_of_lt a _ _ h l.isLt]
    pointwise [k0_pay8]
    simp [h]
  · rw [if_neg h, at2_of_lt b _ _ (by omega) l.isLt]
    pointwise [k0_pay8]
    simp [h]

theorem pay14_at (a b : Vec Ideal S128x128 .f32) (j : Fin 256) (l : Fin 128) : k0_pay14 a b (ix2 j l) = band a b j l := by
  rw [← pay8_at]
  rfl

theorem kn_at (kp kc : Vec Ideal S128x128 .f32) (g : Vec Ideal S1x128 .f32) (j : Fin 256) (l : Fin 128) :
    kn kp kc g (ix2 j l) = nrm64 (fun d => band kp kc j (64 * (l.val / 64) + d)) (fun d => at2 g 0 (64 * (l.val / 64) + d)) (l.val % 64) := by
  rw [kn_at']
  unfold nrm64
  rw [← half_sum (fun c => band kp kc j c * band kp kc j c) l]
  simp only [pay8_at]
  rw [show 64 * (l.val / 64) + l.val % 64 = l.val by omega]
  rw [show at2 g 0 l.val = g (ix2 0 l) from at2_fin g 0 l]

/-- The low lanes' query against the low lanes' key, and the other three pairs. -/
theorem dot_ll (q : FVec Ideal S128x128 .f32) (k : FVec Ideal S256x128 .bf16) (r : Fin 128) (j : Fin 256) :
    (∑ l : Fin 128, zeroed keepLo q (ix2 r l) * k (ix2 j l)) = ∑ d ∈ Finset.range 64, at2 q r d * at2 k j d := by
  rw [← sum_lo (fun d => at2 q r d * at2 k j d)]
  refine Finset.sum_congr rfl fun l _ => ?_
  rw [zeroed_at, at2_fin, at2_fin]
  simp only [keepLo_at]
  split <;> simp only [zero_mul]

theorem dot_hh (q : FVec Ideal S128x128 .f32) (k : FVec Ideal S256x128 .bf16) (r : Fin 128) (j : Fin 256) :
    (∑ l : Fin 128, zeroed keepHi q (ix2 r l) * k (ix2 j l)) = ∑ d ∈ Finset.range 64, at2 q r (64 + d) * at2 k j (64 + d) := by
  rw [← sum_hi (fun d => at2 q r d * at2 k j d)]
  refine Finset.sum_congr rfl fun l _ => ?_
  rw [zeroed_at, at2_fin, at2_fin]
  simp only [keepHi_at]
  split <;> simp only [zero_mul]

theorem dot_hl (q : FVec Ideal S128x128 .f32) (k : FVec Ideal S256x128 .bf16) (r : Fin 128) (j : Fin 256) :
    (∑ l : Fin 128, rot (zeroed keepHi q) (ix2 r l) * k (ix2 j l)) = ∑ d ∈ Finset.range 64, at2 q r (64 + d) * at2 k j d := by
  rw [← sum_lo (fun d => at2 q r (64 + d) * at2 k j d)]
  refine Finset.sum_congr rfl fun l _ => ?_
  rw [rot_at, zeroed_at]
  simp only [keepHi_at]
  by_cases h : l.val < 64
  · rw [if_pos (by omega), if_pos h, at2_fin, at2_of_lt q _ _ r.isLt (by omega : 64 + l.val < 128)]
    congr 3
    exact Fin.ext (by show (l.val + 64) % 128 = 64 + l.val; omega)
  · rw [if_neg (by omega), if_neg h, zero_mul]

theorem dot_lh (q : FVec Ideal S128x128 .f32) (k : FVec Ideal S256x128 .bf16) (r : Fin 128) (j : Fin 256) :
    (∑ l : Fin 128, rot (zeroed keepLo q) (ix2 r l) * k (ix2 j l)) = ∑ d ∈ Finset.range 64, at2 q r d * at2 k j (64 + d) := by
  have e : ∑ d ∈ Finset.range 64, at2 q r d * at2 k j (64 + d) = ∑ d ∈ Finset.range 64, (fun l => at2 q r (l - 64) * at2 k j l) (64 + d) :=
    Finset.sum_congr rfl fun d _ => by show _ = at2 q r (64 + d - 64) * _; rw [Nat.add_sub_cancel_left]
  rw [e, ← sum_hi (fun l => at2 q r (l - 64) * at2 k j l)]
  refine Finset.sum_congr rfl fun l _ => ?_
  rw [rot_at, zeroed_at]
  simp only [keepLo_at]
  by_cases h : l.val < 64
  · rw [if_neg (by omega), if_neg (not_not.2 h), zero_mul]
  · rw [if_pos (by omega), if_pos h, at2_fin, at2_of_lt q _ _ r.isLt (by omega : l.val - 64 < 128)]
    congr 3
    exact Fin.ext (by show (l.val + 64) % 128 = l.val - 64; omega)

theorem qn_nat (q : Vec Ideal S128x128 .f32) (g : Vec Ideal S1x128 .f32) (r : Fin 128) (u d : ℕ) (hu : u < 2) (hd : d < 64) :
    at2 (qn q g) r (64 * u + d) = nrm64 (fun d => at2 q r (64 * u + d)) (fun d => at2 g 0 (64 * u + d)) d * Ideal.ofBits .f32 0x3E000000#32 := by
  rw [at2_of_lt _ _ _ r.isLt (by omega : 64 * u + d < 128), qn_at]
  show nrm64 (fun c => at2 q r (64 * ((64 * u + d) / 64) + c)) (fun c => at2 g 0 (64 * ((64 * u + d) / 64) + c)) ((64 * u + d) % 64) * _ = _
  rw [show (64 * u + d) / 64 = u by omega, show (64 * u + d) % 64 = d by omega]

theorem kn_nat (kp kc : Vec Ideal S128x128 .f32) (g : Vec Ideal S1x128 .f32) (j : Fin 256) (u d : ℕ) (hu : u < 2) (hd : d < 64) :
    at2 (kn kp kc g) j (64 * u + d) = nrm64 (fun d => band kp kc j (64 * u + d)) (fun d => at2 g 0 (64 * u + d)) d := by
  rw [at2_of_lt _ _ _ j.isLt (by omega : 64 * u + d < 128), kn_at]
  show nrm64 (fun c => band kp kc j (64 * ((64 * u + d) / 64) + c)) (fun c => at2 g 0 (64 * ((64 * u + d) / 64) + c)) ((64 * u + d) % 64) = _
  rw [show (64 * u + d) / 64 = u by omega, show (64 * u + d) % 64 = d by omega]

/-- The product of a normalized query and a normalized key, the scale taken out. -/
theorem dot_norm (q kp kc : Vec Ideal S128x128 .f32) (gq gk : Vec Ideal S1x128 .f32) (r : Fin 128) (j : Fin 256) (u h : ℕ) (hu : u < 2) (hh : h < 2) :
    ∑ d ∈ Finset.range 64, at2 (qn q gq) r (64 * u + d) * at2 (kn kp kc gk) j (64 * h + d)
      = (∑ d ∈ Finset.range 64, nrm64 (fun d => at2 q r (64 * u + d)) (fun d => at2 gq 0 (64 * u + d)) d
          * nrm64 (fun d => band kp kc j (64 * h + d)) (fun d => at2 gk 0 (64 * h + d)) d) * Ideal.ofBits .f32 0x3E000000#32 := by
  rw [← dot_scaled]
  refine Finset.sum_congr rfl fun d hd => ?_
  rw [qn_nat q gq r u d hu (Finset.mem_range.1 hd), kn_nat kp kc gk j h d hh (Finset.mem_range.1 hd)]

/-- One head of the pair, at an entry: the query half `u`, the key and value half `h`. -/
def hd (vis : IVec S128x256 1) (q kp kc vp vc : Vec Ideal S128x128 .f32) (gq gk : Vec Ideal S1x128 .f32) (b : Vec Ideal S1x128x256 .f32)
    (sink : Elt Ideal .f32) (r : Fin 128) (u h d : ℕ) : EReal :=
  mixRec (fun j => score (nrm64 (fun d => at2 q r (64 * u + d)) (fun d => at2 gq 0 (64 * u + d)))
    (nrm64 (fun d => band kp kc j (64 * h + d)) (fun d => at2 gk 0 (64 * h + d))) (b (ix3 0 r j)) (vis (ix2 r j) = 1#1)) sink
    (fun j => band vp vc j (64 * h + d))

/-- The pair over the low key head, at an entry. -/
theorem pairLo_at (vis : IVec S128x256 1) (q kp kc vp vc : Vec Ideal S128x128 .f32) (gq gk : Vec Ideal S1x128 .f32) (b0 b1 : Vec Ideal S1x128x256 .f32)
    (s0 s1 : Elt Ideal .f32) (r l : Fin 128) :
    pairLo vis (kn kp kc gk) (k0_pay14 vp vc) (qn q gq) b0 b1 s0 s1 (ix2 r l)
      = if l.val < 64 then hd vis q kp kc vp vc gq gk b0 s0 r 0 0 l.val else hd vis q kp kc vp vc gq gk b1 s1 r 1 0 (l.val - 64) := by
  unfold pairLo
  rw [beside_at]
  by_cases h : l.val < 64
  · rw [if_pos h, if_pos h, att_at]
    unfold hd score
    congr 1
    · funext j
      rw [scores_at, dot_ll, ← dot_norm q kp kc gq gk r j 0 0 (by omega) (by omega)]
      simp only [Nat.mul_zero, Nat.zero_add]
    · funext j
      rw [pay14_at, Nat.mul_zero, Nat.zero_add]
  · rw [if_neg h, if_neg h, rot_at, att_at]
    unfold hd score
    congr 1
    · funext j
      rw [scores_at, dot_hl, ← dot_norm q kp kc gq gk r j 1 0 (by omega) (by omega)]
      simp only [Nat.mul_zero, Nat.zero_add, Nat.mul_one]
    · funext j
      rw [pay14_at, Nat.mul_zero, Nat.zero_add]
      show band vp vc j ((l.val + 64) % 128) = _
      rw [show (l.val + 64) % 128 = l.val - 64 by omega]

/-- The pair over the high key head, at an entry. -/
theorem pairHi_at (vis : IVec S128x256 1) (q kp kc vp vc : Vec Ideal S128x128 .f32) (gq gk : Vec Ideal S1x128 .f32) (b0 b1 : Vec Ideal S1x128x256 .f32)
    (s0 s1 : Elt Ideal .f32) (r l : Fin 128) :
    pairHi vis (kn kp kc gk) (k0_pay14 vp vc) (qn q gq) b0 b1 s0 s1 (ix2 r l)
      = if l.val < 64 then hd vis q kp kc vp vc gq gk b0 s0 r 0 1 l.val else hd vis q kp kc vp vc gq gk b1 s1 r 1 1 (l.val - 64) := by
  unfold pairHi
  rw [beside_at]
  by_cases h : l.val < 64
  · rw [if_pos h, if_pos h, rot_at, att_at]
    unfold hd score
    congr 1
    · funext j
      rw [scores_at, dot_lh, ← dot_norm q kp kc gq gk r j 0 1 (by omega) (by omega)]
      simp only [Nat.mul_zero, Nat.zero_add, Nat.mul_one]
    · funext j
      rw [pay14_at]
      show band vp vc j ((l.val + 64) % 128) = _
      rw [show (l.val + 64) % 128 = 64 * 1 + l.val by omega]
  · rw [if_neg h, if_neg h, att_at]
    unfold hd score
    congr 1
    · funext j
      rw [scores_at, dot_hh, ← dot_norm q kp kc gq gk r j 1 1 (by omega) (by omega)]
    · funext j
      rw [pay14_at, show 64 * 1 + (l.val - 64) = l.val by omega]

end Cert.AttnIdeal.Body

end
-- ==== Proof.AttnBlock.lean ====
module

public import proofs.«01_k».proof.Proof.AttnBody
public import Idealize.ShloMosaic.Lib.Pointwise

@[expose] public section

set_option maxRecDepth 16384

noncomputable section

open Idealize.ShloMosaic Idealize.ShloMosaic.TcCoe Idealize.SL.Sem

namespace Cert.AttnIdeal.Body

open Cert.AttnIdeal Cert.AttnIdeal.Gen Cert.Layer

/-- The chunk of a query row and of a band column, as the words the kernel compares. -/
def kch : IVec S128x256 32 :=
  subi (select (andi k0_pay4 k0_pay5) (subi k0_pay3 (broadcast S128x256 1#32)) k0_pay3) (broadcast S128x256 2#32)

theorem qch_at (r : Fin 128) (j : Fin 256) : k0_pay2 (ix2 r j) = BitVec.ofNat 32 (r.val / 64) :=
  (rfl : k0_pay2 (ix2 r j) = k0_pay2 (ix2 r 0)).trans
    ((by decide +kernel : ∀ r : Fin 128, k0_pay2 (ix2 r 0) = BitVec.ofNat 32 (r.val / 64)) r)

theorem kch_at (r : Fin 128) (j : Fin 256) : kch (ix2 r j) = BitVec.ofNat 32 (j.val / 64) - 2#32 :=
  (rfl : kch (ix2 r j) = kch (ix2 0 j)).trans
    ((by decide +kernel : ∀ j : Fin 256, kch (ix2 0 j) = BitVec.ofNat 32 (j.val / 64) - 2#32) j)

theorem own_at : ∀ j : Fin 256, Scalar.cmpi .sge (BitVec.ofNat 32 j.val) 128#32 = 1#1 ↔ 128 ≤ j.val := by decide +kernel

theorem pos_at : ∀ n : Fin 64, Scalar.cmpi .sgt (BitVec.ofNat 32 n.val) 0#32 = 1#1 ↔ 0 < n.val := by decide +kernel

theorem chunk_at : ∀ (x : Fin 2) (y : Fin 4),
    (Scalar.cmpi .sle (BitVec.ofNat 32 y.val - 2#32) (BitVec.ofNat 32 x.val) = 1#1 ↔ y.val ≤ x.val + 2)
    ∧ (Scalar.cmpi .sge (BitVec.ofNat 32 y.val - 2#32) (BitVec.ofNat 32 x.val - 2#32) = 1#1 ↔ x.val ≤ y.val) := by decide +kernel

theorem and_one : ∀ a b : BitVec 1, a &&& b = 1#1 ↔ a = 1#1 ∧ b = 1#1 := by decide
theorem or_one : ∀ a b : BitVec 1, a ||| b = 1#1 ↔ a = 1#1 ∨ b = 1#1 := by decide

/-- What the kernel's mask keeps. -/
theorem vis_at (n : Fin 64) (r : Fin 128) (j : Fin 256) : vis (BitVec.ofNat 32 n.val) (ix2 r j) = 1#1 ↔ seen n.val r.val j.val := by
  have e : vis (BitVec.ofNat 32 n.val) (ix2 r j)
      = (Scalar.cmpi .sle (kch (ix2 r j)) (k0_pay2 (ix2 r j)) &&& Scalar.cmpi .sge (kch (ix2 r j)) (k0_pay2 (ix2 r j) - 2#32))
        &&& (Scalar.cmpi .sgt (BitVec.ofNat 32 n.val) 0#32 ||| Scalar.cmpi .sge (BitVec.ofNat 32 j.val) 128#32) := by
    unfold vis k0_pay6 cols
    pointwise [kch]
    rfl
  obtain ⟨h1, h2⟩ := chunk_at ⟨r.val / 64, by omega⟩ ⟨j.val / 64, by omega⟩
  dsimp only at h1 h2
  rw [e, and_one, and_one, or_one, qch_at, kch_at, own_at, pos_at, h1, h2, and_assoc]
  rfl

/-- One head of the pair over a block is the block's entry. -/
theorem hd_entry (n : Fin 64) (q kp kc vp vc : Vec Ideal S128x128 .f32) (gq gk : Vec Ideal S1x128 .f32) (b : Vec Ideal S1x128x256 .f32)
    (sink : Elt Ideal .f32) (x1 : Vec Ideal S128x2048 .f32) (x2 x3 x4 x5 : Vec Ideal S128x512 .f32) (x6 : Vec Ideal S32x128x256 .f32)
    (x0 : Vec Ideal S32 .f32) (s u h d : ℕ) (hs : s < 16) (hu : u < 2) (hh : h = s / 2 % 2) (hd' : d < 64) (r : Fin 128)
    (hq : ∀ (r : Fin 128) e, e < 128 → at2 q r e = at2 x1 r (128 * s + e))
    (hkc : ∀ (r : Fin 128) e, e < 128 → at2 kc r e = at2 x2 r (128 * (s / 4) + e))
    (hkp : ∀ (r : Fin 128) e, e < 128 → at2 kp r e = at2 x3 r (128 * (s / 4) + e))
    (hvc : ∀ (r : Fin 128) e, e < 128 → at2 vc r e = at2 x4 r (128 * (s / 4) + e))
    (hvp : ∀ (r : Fin 128) e, e < 128 → at2 vp r e = at2 x5 r (128 * (s / 4) + e))
    (hb : ∀ j, b (ix3 0 r j) = at3 x6 (2 * s + u) r j) (hsink : sink = at1 x0 (2 * s + u)) :
    hd (vis (BitVec.ofNat 32 n.val)) q kp kc vp vc gq gk b sink r u h d
      = entry n.val x1 x3 x2 x5 x4 (fun d => at2 gq 0 (64 * u + d)) (fun d => at2 gk 0 (64 * h + d)) (at3 x6 (2 * s + u) r) (at1 x0 (2 * s + u))
          r (2 * s + u) d := by
  unfold hd entry
  rw [hsink]
  congr 1
  · funext j
    refine score_congr _ _ _ _ _ _ _ _ (vis_at n r j) (fun e he => ?_) (fun _ e he => ?_) (hb j)
    · refine nrm64_congr _ _ _ _ e he (fun e he => ?_) rfl
      rw [hq r _ (by omega)]
      congr 1; omega
    · refine nrm64_congr _ _ _ _ e he (fun e he => ?_) rfl
      refine band_congr _ _ _ _ j _ _ (fun r => ?_) (fun r => ?_)
      · rw [hkp r _ (by omega)]; congr 1; omega
      · rw [hkc r _ (by omega)]; congr 1; omega
  · funext j
    refine band_congr _ _ _ _ j _ _ (fun r => ?_) (fun r => ?_)
    · rw [hvp r _ (by omega)]; congr 1; omega
    · rw [hvc r _ (by omega)]; congr 1; omega

/-- The block's entry at a column. -/
def cell (n : ℕ) (x0 : Vec Ideal S32 .f32) (x1 : Vec Ideal S128x2048 .f32) (x2 x3 x4 x5 : Vec Ideal S128x512 .f32)
    (x6 : Vec Ideal S32x128x256 .f32) (x7 x8 : Vec Ideal S1x128 .f32) (r : Fin 128) (l : ℕ) : EReal :=
  entry n x1 x3 x2 x5 x4 (fun d => at2 x7 0 (64 * (l / 64 % 2) + d)) (fun d => at2 x8 0 (64 * (l / 256 % 2) + d)) (at3 x6 (l / 64) r)
    (at1 x0 (l / 64)) r (l / 64) (l % 64)

/-- A pair over the low key head is its columns of the block. -/
theorem lo_cell (n : Fin 64) (q kp kc vp vc : Vec Ideal S128x128 .f32) (gq gk : Vec Ideal S1x128 .f32) (b0 b1 : Vec Ideal S1x128x256 .f32)
    (s0 s1 : Elt Ideal .f32) (x1 : Vec Ideal S128x2048 .f32) (x2 x3 x4 x5 : Vec Ideal S128x512 .f32) (x6 : Vec Ideal S32x128x256 .f32)
    (x0 : Vec Ideal S32 .f32) (s : ℕ) (hs : s < 16) (hh : s / 2 % 2 = 0)
    (hq : ∀ (r : Fin 128) e, e < 128 → at2 q r e = at2 x1 r (128 * s + e))
    (hkc : ∀ (r : Fin 128) e, e < 128 → at2 kc r e = at2 x2 r (128 * (s / 4) + e))
    (hkp : ∀ (r : Fin 128) e, e < 128 → at2 kp r e = at2 x3 r (128 * (s / 4) + e))
    (hvc : ∀ (r : Fin 128) e, e < 128 → at2 vc r e = at2 x4 r (128 * (s / 4) + e))
    (hvp : ∀ (r : Fin 128) e, e < 128 → at2 vp r e = at2 x5 r (128 * (s / 4) + e))
    (hb0 : ∀ r j, b0 (ix3 0 r j) = at3 x6 (2 * s + 0) r j) (hb1 : ∀ r j, b1 (ix3 0 r j) = at3 x6 (2 * s + 1) r j)
    (hs0 : s0 = at1 x0 (2 * s + 0)) (hs1 : s1 = at1 x0 (2 * s + 1)) (y : S128x128.Idx) :
    pairLo (vis (BitVec.ofNat 32 n.val)) (kn kp kc gk) (k0_pay14 vp vc) (qn q gq) b0 b1 s0 s1 y
      = cell n.val x0 x1 x2 x3 x4 x5 x6 gq gk (y 0) (128 * s + (y 1).val) := by
  have hy := (y 1).isLt
  change (y 1).val < 128 at hy
  have ey : y = ix2 (y 0) (y 1) := by funext a; fin_cases a <;> rfl
  conv_lhs => rw [ey]
  refine (pairLo_at _ _ _ _ _ _ _ _ _ _ _ _ _ _).trans ?_
  unfold cell
  by_cases h : (y 1).val < 64
  · rw [if_pos h, hd_entry n q kp kc vp vc gq gk b0 s0 x1 x2 x3 x4 x5 x6 x0 s 0 0 (y 1).val hs (by omega) (by omega) h (y 0) hq hkc hkp hvc hvp (hb0 _) hs0]
    rw [show (128 * s + (y 1).val) / 64 = 2 * s + 0 by omega, show (128 * s + (y 1).val) / 256 % 2 = 0 by omega,
      show (128 * s + (y 1).val) % 64 = (y 1).val by omega, show (2 * s + 0) % 2 = 0 by omega]
  · rw [if_neg h, hd_entry n q kp kc vp vc gq gk b1 s1 x1 x2 x3 x4 x5 x6 x0 s 1 0 ((y 1).val - 64) hs (by omega) (by omega) (by omega) (y 0) hq hkc hkp hvc hvp (hb1 _) hs1]
    rw [show (128 * s + (y 1).val) / 64 = 2 * s + 1 by omega, show (128 * s + (y 1).val) / 256 % 2 = 0 by omega,
      show (128 * s + (y 1).val) % 64 = (y 1).val - 64 by omega, show (2 * s + 1) % 2 = 1 by omega]

/-- A pair over the high key head is its columns of the block. -/
theorem hi_cell (n : Fin 64) (q kp kc vp vc : Vec Ideal S128x128 .f32) (gq gk : Vec Ideal S1x128 .f32) (b0 b1 : Vec Ideal S1x128x256 .f32)
    (s0 s1 : Elt Ideal .f32) (x1 : Vec Ideal S128x2048 .f32) (x2 x3 x4 x5 : Vec Ideal S128x512 .f32) (x6 : Vec Ideal S32x128x256 .f32)
    (x0 : Vec Ideal S32 .f32) (s : ℕ) (hs : s < 16) (hh : s / 2 % 2 = 1)
    (hq : ∀ (r : Fin 128) e, e < 128 → at2 q r e = at2 x1 r (128 * s + e))
    (hkc : ∀ (r : Fin 128) e, e < 128 → at2 kc r e = at2 x2 r (128 * (s / 4) + e))
    (hkp : ∀ (r : Fin 128) e, e < 128 → at2 kp r e = at2 x3 r (128 * (s / 4) + e))
    (hvc : ∀ (r : Fin 128) e, e < 128 → at2 vc r e = at2 x4 r (128 * (s / 4) + e))
    (hvp : ∀ (r : Fin 128) e, e < 128 → at2 vp r e = at2 x5 r (128 * (s / 4) + e))
    (hb0 : ∀ r j, b0 (ix3 0 r j) = at3 x6 (2 * s + 0) r j) (hb1 : ∀ r j, b1 (ix3 0 r j) = at3 x6 (2 * s + 1) r j)
    (hs0 : s0 = at1 x0 (2 * s + 0)) (hs1 : s1 = at1 x0 (2 * s + 1)) (y : S128x128.Idx) :
    pairHi (vis (BitVec.ofNat 32 n.val)) (kn kp kc gk) (k0_pay14 vp vc) (qn q gq) b0 b1 s0 s1 y
      = cell n.val x0 x1 x2 x3 x4 x5 x6 gq gk (y 0) (128 * s + (y 1).val) := by
  have hy := (y 1).isLt
  change (y 1).val < 128 at hy
  have ey : y = ix2 (y 0) (y 1) := by funext a; fin_cases a <;> rfl
  conv_lhs => rw [ey]
  refine (pairHi_at _ _ _ _ _ _ _ _ _ _ _ _ _ _).trans ?_
  unfold cell
  by_cases h : (y 1).val < 64
  · rw [if_pos h, hd_entry n q kp kc vp vc gq gk b0 s0 x1 x2 x3 x4 x5 x6 x0 s 0 1 (y 1).val hs (by omega) (by omega) h (y 0) hq hkc hkp hvc hvp (hb0 _) hs0]
    rw [show (128 * s + (y 1).val) / 64 = 2 * s + 0 by omega, show (128 * s + (y 1).val) / 256 % 2 = 1 by omega,
      show (128 * s + (y 1).val) % 64 = (y 1).val by omega, show (2 * s + 0) % 2 = 0 by omega]
  · rw [if_neg h, hd_entry n q kp kc vp vc gq gk b1 s1 x1 x2 x3 x4 x5 x6 x0 s 1 1 ((y 1).val - 64) hs (by omega) (by omega) (by omega) (y 0) hq hkc hkp hvc hvp (hb1 _) hs1]
    rw [show (128 * s + (y 1).val) / 64 = 2 * s + 1 by omega, show (128 * s + (y 1).val) / 256 % 2 = 1 by omega,
      show (128 * s + (y 1).val) % 64 = (y 1).val - 64 by omega, show (2 * s + 1) % 2 = 1 by omega]

end Cert.AttnIdeal.Body

end
-- ==== Proof.AttnOut.lean ====
module

public import proofs.«01_k».proof.Proof.AttnBlock
public import Idealize.ShloMosaic.Lib.Pointwise

@[expose] public section

set_option maxRecDepth 16384

noncomputable section

open Idealize.ShloMosaic Idealize.ShloMosaic.TcCoe Idealize.SL.Sem

namespace Cert.AttnIdeal.Body

open Cert.AttnIdeal Cert.AttnIdeal.Gen Cert.Layer

/-- The body's loads: a pair of heads of the queries, of the keys or values, one head of the bias, one sink, a gain. -/
def rdq (a : Memref sig .tc .vmem S128x2048 .f32) (h : a.IsWhole) (x : Vec Ideal S128x2048 .f32) (n : ℕ) (hn : ∀ a, (![0, n] : Fin 2 → Nat) a + S128x128.size a ≤ S128x2048.size a) : Vec Ideal S128x128 .f32 :=
  View.readAt (Elt Ideal) a.view (Rect.unit (s := S128x2048) ![0, n] S128x128.size hn).toLoadRect (h.unread x)
def rdk (a : Memref sig .tc .vmem S128x512 .f32) (h : a.IsWhole) (x : Vec Ideal S128x512 .f32) (n : ℕ) (hn : ∀ a, (![0, n] : Fin 2 → Nat) a + S128x128.size a ≤ S128x512.size a) : Vec Ideal S128x128 .f32 :=
  View.readAt (Elt Ideal) a.view (Rect.unit (s := S128x512) ![0, n] S128x128.size hn).toLoadRect (h.unread x)
def rdb (a : Memref sig .tc .vmem S32x128x256 .f32) (h : a.IsWhole) (x : Vec Ideal S32x128x256 .f32) (n : ℕ) (hn : ∀ a, (![n, 0, 0] : Fin 3 → Nat) a + S1x128x256.size a ≤ S32x128x256.size a) : Vec Ideal S1x128x256 .f32 :=
  View.readAt (Elt Ideal) a.view (Rect.unit (s := S32x128x256) ![n, 0, 0] S1x128x256.size hn).toLoadRect (h.unread x)
def rds (a : Memref sig .tc .smem S32 .f32) (h : a.IsWhole) (x : Vec Ideal S32 .f32) (n : ℕ) (hn : ∀ a, (![n] : Fin 1 → Nat) a + S1.size a ≤ S32.size a) : Elt Ideal .f32 :=
  View.readAt (Elt Ideal) a.view (Rect.unit (s := S32) ![n] S1.size hn).toLoadRect (h.unread x) (Shape.Idx.first (show 0 < S1.numel by decide))
def rdg (a : Memref sig .tc .vmem S1x128 .f32) (h : a.IsWhole) (x : Vec Ideal S1x128 .f32) : Vec Ideal S1x128 .f32 :=
  View.readAt (Elt Ideal) a.view (Rect.unit (s := S1x128) ![0, 0] S1x128.size inb_S1x128_S1x128_0_0).toLoadRect (h.unread x)

theorem rdq_at (a : Memref sig .tc .vmem S128x2048 .f32) (h : a.IsWhole) (x : Vec Ideal S128x2048 .f32) (n : ℕ) (hn) (r : Fin 128) (e : ℕ) (he : e < 128) :
    at2 (rdq a h x n hn) r e = at2 x r (n + e) := by
  have hb : n + 128 ≤ 2048 := hn 1
  rw [at2_of_lt _ _ _ r.isLt he, at2_of_lt x _ _ r.isLt (by omega : n + e < 2048)]
  unfold rdq
  rw [View.readAt_eq_ld, h.read_unread]
  refine congrArg x (funext fun a => Fin.ext ?_)
  match a with
  | ⟨0, _⟩ => show 0 + 1 * r.val = r.val; omega
  | ⟨1, _⟩ => show n + 1 * e = n + e; omega

theorem rdk_at (a : Memref sig .tc .vmem S128x512 .f32) (h : a.IsWhole) (x : Vec Ideal S128x512 .f32) (n : ℕ) (hn) (r : Fin 128) (e : ℕ) (he : e < 128) :
    at2 (rdk a h x n hn) r e = at2 x r (n + e) := by
  have hb : n + 128 ≤ 512 := hn 1
  rw [at2_of_lt _ _ _ r.isLt he, at2_of_lt x _ _ r.isLt (by omega : n + e < 512)]
  unfold rdk
  rw [View.readAt_eq_ld, h.read_unread]
  refine congrArg x (funext fun a => Fin.ext ?_)
  match a with
  | ⟨0, _⟩ => show 0 + 1 * r.val = r.val; omega
  | ⟨1, _⟩ => show n + 1 * e = n + e; omega

theorem rdb_at (a : Memref sig .tc .vmem S32x128x256 .f32) (h : a.IsWhole) (x : Vec Ideal S32x128x256 .f32) (n : ℕ) (hn) (r : Fin 128) (j : Fin 256) :
    rdb a h x n hn (ix3 0 r j) = at3 x n r j := by
  have hb : n + 1 ≤ 32 := hn 0
  unfold rdb at3
  rw [View.readAt_eq_ld, h.read_unread, dif_pos (by omega : n < 32)]
  refine congrArg x (funext fun a => Fin.ext ?_)
  match a with
  | ⟨0, _⟩ => show n + 1 * 0 = n; omega
  | ⟨1, _⟩ => show 0 + 1 * r.val = r.val; omega
  | ⟨2, _⟩ => show 0 + 1 * j.val = j.val; omega

theorem rds_at (a : Memref sig .tc .smem S32 .f32) (h : a.IsWhole) (x : Vec Ideal S32 .f32) (n : ℕ) (hn) : rds a h x n hn = at1 x n := by
  have hb : n + 1 ≤ 32 := hn 0
  unfold rds at1
  rw [View.readAt_eq_ld, h.read_unread, dif_pos (by omega : n < 32)]
  refine congrArg x (funext fun a => Fin.ext ?_)
  match a with
  | ⟨0, _⟩ => rfl

theorem hz2 : (![0, 0] : Fin 2 → Nat) = fun _ => 0 := funext fun a => by fin_cases a <;> rfl

theorem rdg_eq (a : Memref sig .tc .vmem S1x128 .f32) (h : a.IsWhole) (x : Vec Ideal S1x128 .f32) : rdg a h x = x := by
  unfold rdg
  rw [View.readAt_eq_ld, h.read_unread, View.ld_unit_zero (S := S1x128) hz2]

variable (c : Dev nD) (i : grid0.Coords) (arg1 : Memref sig .tc .smem S32 .f32) (harg1 : arg1.IsWhole) (arg2 : Memref sig .tc .vmem S128x2048 .f32) (harg2 : arg2.IsWhole) (arg3 : Memref sig .tc .vmem S128x512 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S128x512 .f32) (harg6 : arg6.IsWhole) (arg7 : Memref sig .tc .vmem S32x128x256 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S128x2048 .bf16) (harg10 : arg10.IsWhole)
  (x0 : Vec Ideal S32 .f32) (x1 : Vec Ideal S128x2048 .f32) (x2 x3 x4 x5 : Vec Ideal S128x512 .f32) (x6 : Vec Ideal S32x128x256 .f32) (x7 x8 : Vec Ideal S1x128 .f32)

/-- One store's payload over the body's loads. -/
abbrev storedLo (n : ℕ) (hq : ∀ a, (![0, n] : Fin 2 → Nat) a + S128x128.size a ≤ S128x2048.size a)
    (p : ℕ) (hp : ∀ a, (![0, p] : Fin 2 → Nat) a + S128x128.size a ≤ S128x512.size a) (b : ℕ)
    (hb0 : ∀ a, (![b, 0, 0] : Fin 3 → Nat) a + S1x128x256.size a ≤ S32x128x256.size a)
    (hb1 : ∀ a, (![b + 1, 0, 0] : Fin 3 → Nat) a + S1x128x256.size a ≤ S32x128x256.size a)
    (hs0 : ∀ a, (![b] : Fin 1 → Nat) a + S1.size a ≤ S32.size a) (hs1 : ∀ a, (![b + 1] : Fin 1 → Nat) a + S1.size a ≤ S32.size a) : FVec Ideal S128x128 .bf16 :=
  pairLo (vis (BitVec.ofNat 32 (i 0).val)) (kn (rdk arg4 harg4 x3 p hp) (rdk arg3 harg3 x2 p hp) (rdg arg9 harg9 x8))
    (k0_pay14 (rdk arg6 harg6 x5 p hp) (rdk arg5 harg5 x4 p hp)) (qn (rdq arg2 harg2 x1 n hq) (rdg arg8 harg8 x7))
    (rdb arg7 harg7 x6 b hb0) (rdb arg7 harg7 x6 (b + 1) hb1) (rds arg1 harg1 x0 b hs0) (rds arg1 harg1 x0 (b + 1) hs1)
abbrev storedHi (n : ℕ) (hq : ∀ a, (![0, n] : Fin 2 → Nat) a + S128x128.size a ≤ S128x2048.size a)
    (p : ℕ) (hp : ∀ a, (![0, p] : Fin 2 → Nat) a + S128x128.size a ≤ S128x512.size a) (b : ℕ)
    (hb0 : ∀ a, (![b, 0, 0] : Fin 3 → Nat) a + S1x128x256.size a ≤ S32x128x256.size a)
    (hb1 : ∀ a, (![b + 1, 0, 0] : Fin 3 → Nat) a + S1x128x256.size a ≤ S32x128x256.size a)
    (hs0 : ∀ a, (![b] : Fin 1 → Nat) a + S1.size a ≤ S32.size a) (hs1 : ∀ a, (![b + 1] : Fin 1 → Nat) a + S1.size a ≤ S32.size a) : FVec Ideal S128x128 .bf16 :=
  pairHi (vis (BitVec.ofNat 32 (i 0).val)) (kn (rdk arg4 harg4 x3 p hp) (rdk arg3 harg3 x2 p hp) (rdg arg9 harg9 x8))
    (k0_pay14 (rdk arg6 harg6 x5 p hp) (rdk arg5 harg5 x4 p hp)) (qn (rdq arg2 harg2 x1 n hq) (rdg arg8 harg8 x7))
    (rdb arg7 harg7 x6 b hb0) (rdb arg7 harg7 x6 (b + 1) hb1) (rds arg1 harg1 x0 b hs0) (rds arg1 harg1 x0 (b + 1) hs1)

/-- The block the body leaves, at an index. -/
abbrev blockOf (y : S128x2048.Idx) : EReal := cell (i 0).val x0 x1 x2 x3 x4 x5 x6 x7 x8 (y 0) (y 1).val

/-- A store's payload over the low, and over the high key head, is its columns of the block. -/
theorem storedLo_at (s : ℕ) (hs : s < 16) (hh : s / 2 % 2 = 0) (hn : ∀ a, (![0, 128 * s] : Fin 2 → Nat) a + S128x128.size a ≤ S128x2048.size a)
    (hq hp hb0 hb1 hs0 hs1) (y : S128x128.Idx) :
    storedLo i arg1 harg1 arg2 harg2 arg3 harg3 arg4 harg4 arg5 harg5 arg6 harg6 arg7 harg7 arg8 harg8 arg9 harg9 x0 x1 x2 x3 x4 x5 x6 x7 x8 (128 * s) hq (128 * (s / 4)) hp (2 * s) hb0 hb1 hs0 hs1 y
      = blockOf i x0 x1 x2 x3 x4 x5 x6 x7 x8 ((Rect.unit (s := S128x2048) ![0, 128 * s] S128x128.size hn).emb y) := by
  unfold storedLo
  rw [rdg_eq, rdg_eq]
  refine (lo_cell (i 0) _ _ _ _ _ _ _ _ _ _ _ x1 x2 x3 x4 x5 x6 x0 s hs hh (fun r e he => rdq_at _ _ _ _ _ r e he)
    (fun r e he => rdk_at _ _ _ _ _ r e he) (fun r e he => rdk_at _ _ _ _ _ r e he) (fun r e he => rdk_at _ _ _ _ _ r e he)
    (fun r e he => rdk_at _ _ _ _ _ r e he) (fun r j => rdb_at _ _ _ _ _ r j) (fun r j => rdb_at _ _ _ _ _ r j)
    (rds_at _ _ _ _ _) (rds_at _ _ _ _ _) y).trans ?_
  refine congrArg₂ (cell (i 0).val x0 x1 x2 x3 x4 x5 x6 x7 x8) (Fin.ext ?_) ?_
  · show (y 0).val = 0 + 1 * (y 0).val; omega
  · show 128 * s + (y 1).val = 128 * s + 1 * (y 1).val; omega

theorem storedHi_at (s : ℕ) (hs : s < 16) (hh : s / 2 % 2 = 1) (hn : ∀ a, (![0, 128 * s] : Fin 2 → Nat) a + S128x128.size a ≤ S128x2048.size a)
    (hq hp hb0 hb1 hs0 hs1) (y : S128x128.Idx) :
    storedHi i arg1 harg1 arg2 harg2 arg3 harg3 arg4 harg4 arg5 harg5 arg6 harg6 arg7 harg7 arg8 harg8 arg9 harg9 x0 x1 x2 x3 x4 x5 x6 x7 x8 (128 * s) hq (128 * (s / 4)) hp (2 * s) hb0 hb1 hs0 hs1 y
      = blockOf i x0 x1 x2 x3 x4 x5 x6 x7 x8 ((Rect.unit (s := S128x2048) ![0, 128 * s] S128x128.size hn).emb y) := by
  unfold storedHi
  rw [rdg_eq, rdg_eq]
  refine (hi_cell (i 0) _ _ _ _ _ _ _ _ _ _ _ x1 x2 x3 x4 x5 x6 x0 s hs hh (fun r e he => rdq_at _ _ _ _ _ r e he)
    (fun r e he => rdk_at _ _ _ _ _ r e he) (fun r e he => rdk_at _ _ _ _ _ r e he) (fun r e he => rdk_at _ _ _ _ _ r e he)
    (fun r e he => rdk_at _ _ _ _ _ r e he) (fun r j => rdb_at _ _ _ _ _ r j) (fun r j => rdb_at _ _ _ _ _ r j)
    (rds_at _ _ _ _ _) (rds_at _ _ _ _ _) y).trans ?_
  refine congrArg₂ (cell (i 0).val x0 x1 x2 x3 x4 x5 x6 x7 x8) (Fin.ext ?_) ?_
  · show (y 0).val = 0 + 1 * (y 0).val; omega
  · show 128 * s + (y 1).val = 128 * s + 1 * (y 1).val; omega

/-- The block the body leaves. -/
theorem out_eq : out0_A_9 c i arg1 harg1 arg2 harg2 arg3 harg3 arg4 harg4 arg5 harg5 arg6 harg6 arg7 harg7 arg8 harg8 arg9 harg9 arg10 harg10 x0 x1 x2 x3 x4 x5 x6 x7 x8 = blockOf i x0 x1 x2 x3 x4 x5 x6 x7 x8 := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7 x8)]
  funext y
  refine View.canon_apply_of_pieces (Val := Elt Ideal) (e := .bf16) (blockOf i x0 x1 x2 x3 x4 x5 x6 x7 x8) _ ?_ y ?_
  · unfold kernelRun0_A
    dsimp only
    simp only [List.forall_mem_cons]
    refine ⟨fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, ?_⟩
    · exact (storedHi_at i arg1 harg1 arg2 harg2 arg3 harg3 arg4 harg4 arg5 harg5 arg6 harg6 arg7 harg7 arg8 harg8 arg9 harg9 x0 x1 x2 x3 x4 x5 x6 x7 x8 15 (by decide) (by decide) inb_S128x2048_S128x128_0_1920 inb_S128x2048_S128x128_0_1920 inb_S128x512_S128x128_0_384
        inb_S32x128x256_S1x128x256_30_0_0 inb_S32x128x256_S1x128x256_31_0_0 inb_S32_S1_30 inb_S32_S1_31 y)
    · exact (storedHi_at i arg1 harg1 arg2 harg2 arg3 harg3 arg4 harg4 arg5 harg5 arg6 harg6 arg7 harg7 arg8 harg8 arg9 harg9 x0 x1 x2 x3 x4 x5 x6 x7 x8 14 (by decide) (by decide) inb_S128x2048_S128x128_0_1792 inb_S128x2048_S128x128_0_1792 inb_S128x512_S128x128_0_384
        inb_S32x128x256_S1x128x256_28_0_0 inb_S32x128x256_S1x128x256_29_0_0 inb_S32_S1_28 inb_S32_S1_29 y)
    · exact (storedLo_at i arg1 harg1 arg2 harg2 arg3 harg3 arg4 harg4 arg5 harg5 arg6 harg6 arg7 harg7 arg8 harg8 arg9 harg9 x0 x1 x2 x3 x4 x5 x6 x7 x8 13 (by decide) (by decide) inb_S128x2048_S128x128_0_1664 inb_S128x2048_S128x128_0_1664 inb_S128x512_S128x128_0_384
        inb_S32x128x256_S1x128x256_26_0_0 inb_S32x128x256_S1x128x256_27_0_0 inb_S32_S1_26 inb_S32_S1_27 y)
    · exact (storedLo_at i arg1 harg1 arg2 harg2 arg3 harg3 arg4 harg4 arg5 harg5 arg6 harg6 arg7 harg7 arg8 harg8 arg9 harg9 x0 x1 x2 x3 x4 x5 x6 x7 x8 12 (by decide) (by decide) inb_S128x2048_S128x128_0_1536 inb_S128x2048_S128x128_0_1536 inb_S128x512_S128x128_0_384
        inb_S32x128x256_S1x128x256_24_0_0 inb_S32x128x256_S1x128x256_25_0_0 inb_S32_S1_24 inb_S32_S1_25 y)
    · exact (storedHi_at i arg1 harg1 arg2 harg2 arg3 harg3 arg4 harg4 arg5 harg5 arg6 harg6 arg7 harg7 arg8 harg8 arg9 harg9 x0 x1 x2 x3 x4 x5 x6 x7 x8 11 (by decide) (by decide) inb_S128x2048_S128x128_0_1408 inb_S128x2048_S128x128_0_1408 inb_S128x512_S128x128_0_256
        inb_S32x128x256_S1x128x256_22_0_0 inb_S32x128x256_S1x128x256_23_0_0 inb_S32_S1_22 inb_S32_S1_23 y)
    · exact (storedHi_at i arg1 harg1 arg2 harg2 arg3 harg3 arg4 harg4 arg5 harg5 arg6 harg6 arg7 harg7 arg8 harg8 arg9 harg9 x0 x1 x2 x3 x4 x5 x6 x7 x8 10 (by decide) (by decide) inb_S128x2048_S128x128_0_1280 inb_S128x2048_S128x128_0_1280 inb_S128x512_S128x128_0_256
        inb_S32x128x256_S1x128x256_20_0_0 inb_S32x128x256_S1x128x256_21_0_0 inb_S32_S1_20 inb_S32_S1_21 y)
    · exact (storedLo_at i arg1 harg1 arg2 harg2 arg3 harg3 arg4 harg4 arg5 harg5 arg6 harg6 arg7 harg7 arg8 harg8 arg9 harg9 x0 x1 x2 x3 x4 x5 x6 x7 x8 9 (by decide) (by decide) inb_S128x2048_S128x128_0_1152 inb_S128x2048_S128x128_0_1152 inb_S128x512_S128x128_0_256
        inb_S32x128x256_S1x128x256_18_0_0 inb_S32x128x256_S1x128x256_19_0_0 inb_S32_S1_18 inb_S32_S1_19 y)
    · exact (storedLo_at i arg1 harg1 arg2 harg2 arg3 harg3 arg4 harg4 arg5 harg5 arg6 harg6 arg7 harg7 arg8 harg8 arg9 harg9 x0 x1 x2 x3 x4 x5 x6 x7 x8 8 (by decide) (by decide) inb_S128x2048_S128x128_0_1024 inb_S128x2048_S128x128_0_1024 inb_S128x512_S128x128_0_256
        inb_S32x128x256_S1x128x256_16_0_0 inb_S32x128x256_S1x128x256_17_0_0 inb_S32_S1_16 inb_S32_S1_17 y)
    · exact (storedHi_at i arg1 harg1 arg2 harg2 arg3 harg3 arg4 harg4 arg5 harg5 arg6 harg6 arg7 harg7 arg8 harg8 arg9 harg9 x0 x1 x2 x3 x4 x5 x6 x7 x8 7 (by decide) (by decide) inb_S128x2048_S128x128_0_896 inb_S128x2048_S128x128_0_896 inb_S128x512_S128x128_0_128
        inb_S32x128x256_S1x128x256_14_0_0 inb_S32x128x256_S1x128x256_15_0_0 inb_S32_S1_14 inb_S32_S1_15 y)
    · exact (storedHi_at i arg1 harg1 arg2 harg2 arg3 harg3 arg4 harg4 arg5 harg5 arg6 harg6 arg7 harg7 arg8 harg8 arg9 harg9 x0 x1 x2 x3 x4 x5 x6 x7 x8 6 (by decide) (by decide) inb_S128x2048_S128x128_0_768 inb_S128x2048_S128x128_0_768 inb_S128x512_S128x128_0_128
        inb_S32x128x256_S1x128x256_12_0_0 inb_S32x128x256_S1x128x256_13_0_0 inb_S32_S1_12 inb_S32_S1_13 y)
    · exact (storedLo_at i arg1 harg1 arg2 harg2 arg3 harg3 arg4 harg4 arg5 harg5 arg6 harg6 arg7 harg7 arg8 harg8 arg9 harg9 x0 x1 x2 x3 x4 x5 x6 x7 x8 5 (by decide) (by decide) inb_S128x2048_S128x128_0_640 inb_S128x2048_S128x128_0_640 inb_S128x512_S128x128_0_128
        inb_S32x128x256_S1x128x256_10_0_0 inb_S32x128x256_S1x128x256_11_0_0 inb_S32_S1_10 inb_S32_S1_11 y)
    · exact (storedLo_at i arg1 harg1 arg2 harg2 arg3 harg3 arg4 harg4 arg5 harg5 arg6 harg6 arg7 harg7 arg8 harg8 arg9 harg9 x0 x1 x2 x3 x4 x5 x6 x7 x8 4 (by decide) (by decide) inb_S128x2048_S128x128_0_512 inb_S128x2048_S128x128_0_512 inb_S128x512_S128x128_0_128
        inb_S32x128x256_S1x128x256_8_0_0 inb_S32x128x256_S1x128x256_9_0_0 inb_S32_S1_8 inb_S32_S1_9 y)
    · exact (storedHi_at i arg1 harg1 arg2 harg2 arg3 harg3 arg4 harg4 arg5 harg5 arg6 harg6 arg7 harg7 arg8 harg8 arg9 harg9 x0 x1 x2 x3 x4 x5 x6 x7 x8 3 (by decide) (by decide) inb_S128x2048_S128x128_0_384 inb_S128x2048_S128x128_0_384 inb_S128x512_S128x128_0_0
        inb_S32x128x256_S1x128x256_6_0_0 inb_S32x128x256_S1x128x256_7_0_0 inb_S32_S1_6 inb_S32_S1_7 y)
    · exact (storedHi_at i arg1 harg1 arg2 harg2 arg3 harg3 arg4 harg4 arg5 harg5 arg6 harg6 arg7 harg7 arg8 harg8 arg9 harg9 x0 x1 x2 x3 x4 x5 x6 x7 x8 2 (by decide) (by decide) inb_S128x2048_S128x128_0_256 inb_S128x2048_S128x128_0_256 inb_S128x512_S128x128_0_0
        inb_S32x128x256_S1x128x256_4_0_0 inb_S32x128x256_S1x128x256_5_0_0 inb_S32_S1_4 inb_S32_S1_5 y)
    · exact (storedLo_at i arg1 harg1 arg2 harg2 arg3 harg3 arg4 harg4 arg5 harg5 arg6 harg6 arg7 harg7 arg8 harg8 arg9 harg9 x0 x1 x2 x3 x4 x5 x6 x7 x8 1 (by decide) (by decide) inb_S128x2048_S128x128_0_128 inb_S128x2048_S128x128_0_128 inb_S128x512_S128x128_0_0
        inb_S32x128x256_S1x128x256_2_0_0 inb_S32x128x256_S1x128x256_3_0_0 inb_S32_S1_2 inb_S32_S1_3 y)
    · exact (storedLo_at i arg1 harg1 arg2 harg2 arg3 harg3 arg4 harg4 arg5 harg5 arg6 harg6 arg7 harg7 arg8 harg8 arg9 harg9 x0 x1 x2 x3 x4 x5 x6 x7 x8 0 (by decide) (by decide) inb_S128x2048_S128x128_0_0 inb_S128x2048_S128x128_0_0 inb_S128x512_S128x128_0_0
        inb_S32x128x256_S1x128x256_0_0_0 inb_S32x128x256_S1x128x256_1_0_0 inb_S32_S1_0 inb_S32_S1_1 y)
    · intro p hp
      exact absurd hp List.not_mem_nil
  · exact cover0_A_9 c i arg1 harg1 arg2 harg2 arg3 harg3 arg4 harg4 arg5 harg5 arg6 harg6 arg7 harg7 arg8 harg8 arg9 harg9 arg10 harg10 x0 x1 x2 x3 x4 x5 x6 x7 x8 y

end Cert.AttnIdeal.Body

end
-- ==== Proof.AttnKernel.lean ====
module

public import proofs.«01_k».proof.Proof.Gen.AttnIdeal.Value
public import proofs.«01_k».proof.Proof.AttnOut
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen Cert.Layer Cert.AttnIdeal.Body

variable (m : (ℓ : Loc nD τ sig) → Buf (Elt Ideal) ℓ) (ρ : Dev nD → PrngReg)

/-- The arguments at launch: the projected rows, the bias, the sinks, the query's gain and the key's. -/
abbrev A0 (c : Dev nD) : FVec Ideal S8192x3072 .f32 := m ((c : Thread nD τ).loc main_arg0)
abbrev A1 (c : Dev nD) : FVec Ideal S32x128x256 .f32 := m ((c : Thread nD τ).loc main_arg1)
abbrev A2 (c : Dev nD) : FVec Ideal S32 .f32 := m ((c : Thread nD τ).loc main_arg2)
abbrev A3 (c : Dev nD) : FVec Ideal S64 .f32 := m ((c : Thread nD τ).loc main_arg3)
abbrev A4 (c : Dev nD) : FVec Ideal S64 .f32 := m ((c : Thread nD τ).loc main_arg4)

/-- The index maps in closed form. -/
theorem idx_all : ∀ t : Fin cfg0.N,
    win0_0.index t 0 = 0
    ∧ (win0_1.index t 0 = t.val ∧ win0_1.index t 1 = 0)
    ∧ (win0_2.index t 0 = t.val ∧ win0_2.index t 1 = 4)
    ∧ (win0_3.index t 0 = t.val - 1 ∧ win0_3.index t 1 = 4)
    ∧ (win0_4.index t 0 = t.val ∧ win0_4.index t 1 = 5)
    ∧ (win0_5.index t 0 = t.val - 1 ∧ win0_5.index t 1 = 5)
    ∧ (win0_6.index t 0 = 0 ∧ win0_6.index t 1 = 0 ∧ win0_6.index t 2 = 0)
    ∧ (win0_7.index t 0 = 0 ∧ win0_7.index t 1 = 0)
    ∧ (win0_8.index t 0 = 0 ∧ win0_8.index t 1 = 0)
    ∧ (win0_9.index t 0 = t.val ∧ win0_9.index t 1 = 0)
    ∧ (grid0.coords t 0).val = t.val :=
  (by decide +kernel : ∀ t : Fin grid0.N, _)

/-- The tiled gains. -/
theorem V_main_v3 (c : Dev nD) : (V m c main_v3 : FVec Ideal S1x128 .f32) = fun y => A3 m c (ix1 ⟨(y 1).val % 64, Nat.mod_lt _ (by decide)⟩) := by
  entry_read
  funext y
  pointwise
theorem V_main_v7 (c : Dev nD) : (V m c main_v7 : FVec Ideal S1x128 .f32) = fun y => A4 m c (ix1 ⟨(y 1).val % 64, Nat.mod_lt _ (by decide)⟩) := by
  entry_read
  funext y
  pointwise

/-- The sinks' window. -/
theorem blk0 (c : Dev nD) (t : Fin cfg0.N) : (iblk m c 0 t : FVec Ideal S32 .f32) = A2 m c := by
  have e0 := (idx_all t).1
  funext y
  unfold iblk
  rw [View.read_apply]
  show (V m c main_arg2 : FVec Ideal S32 .f32) _ = _
  rw [V_main_arg2]
  refine congrArg (A2 m c) (funext fun a => Fin.ext ?_)
  match a with
  | ⟨0, _⟩ => show win0_0.index t 0 * 32 + 1 * (y 0).val = (y 0).val; rw [e0]; omega

/-- The bias's window. -/
theorem blk6 (c : Dev nD) (t : Fin cfg0.N) : (iblk m c 6 t : FVec Ideal S32x128x256 .f32) = A1 m c := by
  obtain ⟨-, -, -, -, -, -, ⟨e0, e1, e2⟩, -⟩ := idx_all t
  funext y
  unfold iblk
  rw [View.read_apply]
  show (V m c main_arg1 : FVec Ideal S32x128x256 .f32) _ = _
  rw [V_main_arg1]
  refine congrArg (A1 m c) (funext fun a => Fin.ext ?_)
  match a with
  | ⟨0, _⟩ => show win0_6.index t 0 * 32 + 1 * (y 0).val = (y 0).val; rw [e0]; omega
  | ⟨1, _⟩ => show win0_6.index t 1 * 128 + 1 * (y 1).val = (y 1).val; rw [e1]; omega
  | ⟨2, _⟩ => show win0_6.index t 2 * 256 + 1 * (y 2).val = (y 2).val; rw [e2]; omega

/-- The gains' windows. -/
theorem blk7 (c : Dev nD) (t : Fin cfg0.N) (y : S1x128.Idx) : (iblk m c 7 t : FVec Ideal S1x128 .f32) y = A3 m c (ix1 ⟨(y 1).val % 64, Nat.mod_lt _ (by decide)⟩) := by
  obtain ⟨-, -, -, -, -, -, -, ⟨e0, e1⟩, -⟩ := idx_all t
  unfold iblk
  rw [View.read_apply]
  show (V m c main_v3 : FVec Ideal S1x128 .f32) _ = _
  rw [V_main_v3]
  refine congrArg (A3 m c) (funext fun a => Fin.ext ?_)
  match a with
  | ⟨0, _⟩ => show (win0_7.index t 1 * 128 + 1 * (y 1).val) % 64 = (y 1).val % 64; rw [e1]; omega
theorem blk8 (c : Dev nD) (t : Fin cfg0.N) (y : S1x128.Idx) : (iblk m c 8 t : FVec Ideal S1x128 .f32) y = A4 m c (ix1 ⟨(y 1).val % 64, Nat.mod_lt _ (by decide)⟩) := by
  obtain ⟨-, -, -, -, -, -, -, -, ⟨e0, e1⟩, -⟩ := idx_all t
  unfold iblk
  rw [View.read_apply]
  show (V m c main_v7 : FVec Ideal S1x128 .f32) _ = _
  rw [V_main_v7]
  refine congrArg (A4 m c) (funext fun a => Fin.ext ?_)
  match a with
  | ⟨0, _⟩ => show (win0_8.index t 1 * 128 + 1 * (y 1).val) % 64 = (y 1).val % 64; rw [e1]; omega

/-- The query's window. -/
theorem blk1 (c : Dev nD) (t : Fin cfg0.N) (y : S128x2048.Idx) (h0 : 128 * t.val + (y 0).val < 8192) (h1 : (y 1).val < 3072) :
    (X0_1 m c t : FVec Ideal S128x2048 .f32) y = A0 m c (ix2 ⟨128 * t.val + (y 0).val, h0⟩ ⟨(y 1).val, h1⟩) := by
  obtain ⟨-, ⟨e0, e1⟩, -⟩ := idx_all t
  unfold X0_1 Pipeline.Window.fill
  rw [dif_pos (moved0_1 t y)]
  unfold iblk
  rw [View.read_apply]
  show (V m c main_arg0 : FVec Ideal S8192x3072 .f32) _ = _
  rw [V_main_arg0]
  congr 1
  funext a
  apply Fin.ext
  match a with
  | ⟨0, _⟩ => show win0_1.index t 0 * 128 + 1 * (y 0).val = _; rw [e0]; show _ = 128 * t.val + (y 0).val; omega
  | ⟨1, _⟩ => show win0_1.index t 1 * 2048 + 1 * (y 1).val = (y 1).val; rw [e1]; omega

/-- The keys' and the values' windows, the block's own and the one before. -/
theorem blk2 (c : Dev nD) (t : Fin cfg0.N) (y : S128x512.Idx) (h0 : 128 * t.val + (y 0).val < 8192) (h1 : 2048 + (y 1).val < 3072) :
    (iblk m c 2 t : FVec Ideal S128x512 .f32) y = A0 m c (ix2 ⟨128 * t.val + (y 0).val, h0⟩ ⟨2048 + (y 1).val, h1⟩) := by
  obtain ⟨-, -, ⟨e0, e1⟩, -⟩ := idx_all t
  unfold iblk
  rw [View.read_apply]
  show (V m c main_arg0 : FVec Ideal S8192x3072 .f32) _ = _
  rw [V_main_arg0]
  congr 1
  funext a
  apply Fin.ext
  match a with
  | ⟨0, _⟩ => show win0_2.index t 0 * 128 + 1 * (y 0).val = _; rw [e0]; show _ = 128 * t.val + (y 0).val; omega
  | ⟨1, _⟩ => show win0_2.index t 1 * 512 + 1 * (y 1).val = 2048 + (y 1).val; rw [e1]; omega
theorem blk3 (c : Dev nD) (t : Fin cfg0.N) (y : S128x512.Idx) (h0 : 128 * (t.val - 1) + (y 0).val < 8192) (h1 : 2048 + (y 1).val < 3072) :
    (iblk m c 3 t : FVec Ideal S128x512 .f32) y = A0 m c (ix2 ⟨128 * (t.val - 1) + (y 0).val, h0⟩ ⟨2048 + (y 1).val, h1⟩) := by
  obtain ⟨-, -, -, ⟨e0, e1⟩, -⟩ := idx_all t
  unfold iblk
  rw [View.read_apply]
  show (V m c main_arg0 : FVec Ideal S8192x3072 .f32) _ = _
  rw [V_main_arg0]
  congr 1
  funext a
  apply Fin.ext
  match a with
  | ⟨0, _⟩ => show win0_3.index t 0 * 128 + 1 * (y 0).val = _; rw [e0]; show _ = 128 * (t.val - 1) + (y 0).val; omega
  | ⟨1, _⟩ => show win0_3.index t 1 * 512 + 1 * (y 1).val = 2048 + (y 1).val; rw [e1]; omega
theorem blk4 (c : Dev nD) (t : Fin cfg0.N) (y : S128x512.Idx) (h0 : 128 * t.val + (y 0).val < 8192) (h1 : 2560 + (y 1).val < 3072) :
    (iblk m c 4 t : FVec Ideal S128x512 .f32) y = A0 m c (ix2 ⟨128 * t.val + (y 0).val, h0⟩ ⟨2560 + (y 1).val, h1⟩) := by
  obtain ⟨-, -, -, -, ⟨e0, e1⟩, -⟩ := idx_all t
  unfold iblk
  rw [View.read_apply]
  show (V m c main_arg0 : FVec Ideal S8192x3072 .f32) _ = _
  rw [V_main_arg0]
  congr 1
  funext a
  apply Fin.ext
  match a with
  | ⟨0, _⟩ => show win0_4.index t 0 * 128 + 1 * (y 0).val = _; rw [e0]; show _ = 128 * t.val + (y 0).val; omega
  | ⟨1, _⟩ => show win0_4.index t 1 * 512 + 1 * (y 1).val = 2560 + (y 1).val; rw [e1]; omega
theorem blk5 (c : Dev nD) (t : Fin cfg0.N) (y : S128x512.Idx) (h0 : 128 * (t.val - 1) + (y 0).val < 8192) (h1 : 2560 + (y 1).val < 3072) :
    (iblk m c 5 t : FVec Ideal S128x512 .f32) y = A0 m c (ix2 ⟨128 * (t.val - 1) + (y 0).val, h0⟩ ⟨2560 + (y 1).val, h1⟩) := by
  obtain ⟨-, -, -, -, -, ⟨e0, e1⟩, -⟩ := idx_all t
  unfold iblk
  rw [View.read_apply]
  show (V m c main_arg0 : FVec Ideal S8192x3072 .f32) _ = _
  rw [V_main_arg0]
  congr 1
  funext a
  apply Fin.ext
  match a with
  | ⟨0, _⟩ => show win0_5.index t 0 * 128 + 1 * (y 0).val = _; rw [e0]; show _ = 128 * (t.val - 1) + (y 0).val; omega
  | ⟨1, _⟩ => show win0_5.index t 1 * 512 + 1 * (y 1).val = 2560 + (y 1).val; rw [e1]; omega

/-- A point is below 64. -/
theorem pt_lt (t : Fin cfg0.N) : t.val < 64 := lt_of_lt_of_eq t.isLt N_0

/-- Over finite arguments, the block a point leaves is the attention's rows. -/
theorem out_at (c : Dev nD) (t : Fin cfg0.N) (hx : ∀ i, IsReal (A0 m c i)) (hb : ∀ i, IsReal (A1 m c i)) (hs : ∀ i, IsReal (A2 m c i))
    (hgq : ∀ i, IsReal (A3 m c i)) (hgk : ∀ i, IsReal (A4 m c i)) (y : S128x2048.Idx) :
    (outsAt0 m c t : FVec Ideal S128x2048 .bf16) y = gmix (A0 m c) (A1 m c) (A2 m c) (A3 m c) (A4 m c) t.val (y 0) ((y 1).val / 64) ((y 1).val % 64) := by
  have hy := (y 1).isLt
  change (y 1).val < 2048 at hy
  have ht := pt_lt t
  unfold outsAt0
  rw [out_eq]
  unfold blockOf cell
  rw [(idx_all t).2.2.2.2.2.2.2.2.2.2, blk0, blk6]
  refine entry_eq (A0 m c) (A1 m c) (A2 m c) (A3 m c) (A4 m c) hx hb hs hgq hgk t.val (y 0) _ _ (by omega) (by omega) _ _ _ _ _ _ _ ?_ ?_ ?_ ?_ ?_ ?_ ?_
  · intro l hl
    have hr : (y 0).val < 128 := (y 0).isLt
    refine (at2_of_lt (X0_1 m c t : FVec Ideal S128x2048 .f32) (y 0).val l hr hl).trans ?_
    refine Eq.trans ?_ (at2_of_lt (A0 m c) (128 * t.val + (y 0).val) l (by omega) (by omega)).symm
    exact blk1 m c t (ix2 (y 0) ⟨l, hl⟩) _ _
  · intro hn i l hi hl
    rw [at2_of_lt _ _ _ hi hl, at2_of_lt _ _ _ (by omega) (by omega)]
    exact blk3 m c t (ix2 ⟨i, hi⟩ ⟨l, hl⟩) _ _
  · intro i l hi hl
    rw [at2_of_lt _ _ _ hi hl, at2_of_lt _ _ _ (by omega) (by omega)]
    exact blk2 m c t (ix2 ⟨i, hi⟩ ⟨l, hl⟩) _ _
  · intro hn i l hi hl
    rw [at2_of_lt _ _ _ hi hl, at2_of_lt _ _ _ (by omega) (by omega)]
    exact blk5 m c t (ix2 ⟨i, hi⟩ ⟨l, hl⟩) _ _
  · intro i l hi hl
    rw [at2_of_lt _ _ _ hi hl, at2_of_lt _ _ _ (by omega) (by omega)]
    exact blk4 m c t (ix2 ⟨i, hi⟩ ⟨l, hl⟩) _ _
  · intro e he
    have hl : 64 * ((y 1).val / 64 % 2) + e < 128 := by omega
    unfold at1
    rw [at2_of_lt _ _ _ (by decide) hl, dif_pos he]
    refine (blk7 m c t (ix2 ⟨0, by decide⟩ ⟨_, hl⟩)).trans ?_
    refine congrArg (A3 m c) (congrArg ix1 (Fin.ext ?_))
    show (64 * ((y 1).val / 64 % 2) + e) % 64 = e
    omega
  · intro e he
    have hl : 64 * ((y 1).val / 256 % 2) + e < 128 := by omega
    unfold at1
    rw [at2_of_lt _ _ _ (by decide) hl, dif_pos he]
    refine (blk8 m c t (ix2 ⟨0, by decide⟩ ⟨_, hl⟩)).trans ?_
    refine congrArg (A4 m c) (congrArg ix1 (Fin.ext ?_))
    show (64 * ((y 1).val / 256 % 2) + e) % 64 = e
    omega

/-- The attention's array. -/
def attn (a0 : FVec Ideal S8192x3072 .f32) (a1 : FVec Ideal S32x128x256 .f32) (a2 : FVec Ideal S32 .f32) (a3 a4 : FVec Ideal S64 .f32) : FVec Ideal S8192x2048 .bf16 :=
  fun i => gmix a0 a1 a2 a3 a4 ((i 0).val / 128) ⟨(i 0).val % 128, Nat.mod_lt _ (by decide)⟩ ((i 1).val / 64) ((i 1).val % 64)

/-- An index is in a point's block when each coordinate is in the block's range. -/
theorem mem_blk9 (t : Fin cfg0.N) (i : S8192x2048.Idx) :
    i ∈ ((cfg0.win 9).blk t).view.set ↔ ∀ a : Fin 2, win0_9.index t a * S128x2048.size a ≤ (i a).val ∧ (i a).val < win0_9.index t a * S128x2048.size a + S128x2048.size a := by
  show i ∈ ((View.whole main_v8).slice (win0_9.rect t)).set ↔ _
  rw [View.set_slice_whole, Rect.mem_set_unit]
  exact Iff.rfl

/-- Every point writes its block back. -/
theorem flush_all : ∀ t : Fin cfg0.N, (cfg0.win 9).flush t = true :=
  (by decide +kernel : ∀ t : Fin grid0.N, win0_9.flush t = true)

/-- Over finite arguments the result array is the attention. -/
theorem final_at (c : Dev nD) (hx : ∀ i, IsReal (A0 m c i)) (hb : ∀ i, IsReal (A1 m c i)) (hs : ∀ i, IsReal (A2 m c i))
    (hgq : ∀ i, IsReal (A3 m c i)) (hgk : ∀ i, IsReal (A4 m c i)) :
    (dats m 0 c).arrAt 9 cfg0.N = attn (A0 m c) (A1 m c) (A2 m c) (A3 m c) (A4 m c) := by
  refine (dats m 0 c).arrAt_eq_of_cover 9 _ (fun t hf => ?_) (fun i => ?_)
  · rw [flushed9]
    obtain ⟨-, -, -, -, -, -, -, -, -, ⟨e0, e1⟩, -⟩ := idx_all t
    funext y
    have hy0 : (y 0).val < 128 := (y 0).isLt
    have hy1 : (y 1).val < 2048 := (y 1).isLt
    have hb0 : (((cfg0.win 9).blk t).view.emb y 0).val = win0_9.index t (0 : Fin 2) * 128 + 1 * (y 0).val := rfl
    have hb1 : (((cfg0.win 9).blk t).view.emb y 1).val = win0_9.index t (1 : Fin 2) * 2048 + 1 * (y 1).val := rfl
    show (outsAt0 m c t : FVec Ideal S128x2048 .bf16) ((cfg0.win 9).xinj (grid0.coords t) y)
      = attn (A0 m c) (A1 m c) (A2 m c) (A3 m c) (A4 m c) (((cfg0.win 9).blk t).view.emb y)
    rw [out_at m c t hx hb hs hgq hgk]
    unfold attn
    have r0 : (((cfg0.win 9).blk t).view.emb y 0).val / 128 = t.val := by rw [hb0, e0]; omega
    have r1 : (⟨(((cfg0.win 9).blk t).view.emb y 0).val % 128, Nat.mod_lt _ (by decide)⟩ : Fin 128) = (cfg0.win 9).xinj (grid0.coords t) y 0 := by
      apply Fin.ext
      show (((cfg0.win 9).blk t).view.emb y 0).val % 128 = (y 0).val
      rw [hb0, e0]; omega
    have r2 : (((cfg0.win 9).blk t).view.emb y 1).val = (y 1).val := by rw [hb1, e1]; omega
    rw [r0, r1, r2]
  · have h0 : (i 0).val < 8192 := (i 0).isLt
    have h1 : (i 1).val < 2048 := (i 1).isLt
    let t : Fin cfg0.N := ⟨(i 0).val / 128, lt_of_lt_of_eq (by omega) N_0.symm⟩
    obtain ⟨-, -, -, -, -, -, -, -, -, ⟨e0, e1⟩, -⟩ := idx_all t
    refine ⟨t, flush_all t, ?_⟩
    have ev : t.val = (i 0).val / 128 := rfl
    rw [mem_blk9]
    intro a
    match a with
    | ⟨0, _⟩ => show win0_9.index t (0 : Fin 2) * 128 ≤ (i 0).val ∧ (i 0).val < win0_9.index t (0 : Fin 2) * 128 + 128; rw [e0]; omega
    | ⟨1, _⟩ => show win0_9.index t (1 : Fin 2) * 2048 ≤ (i 1).val ∧ (i 1).val < win0_9.index t (1 : Fin 2) * 2048 + 2048; rw [e1]; omega

end Cert.AttnIdeal.Value

end
-- ==== Proof.AttnRef.lean ====
module

public import proofs.«01_k».proof.Proof.Gen.AttnRefIdeal.Run
public import proofs.«01_k».proof.Proof.AttnSpec
public import Idealize.ShloMosaic.Lib.Pointwise

@[expose] public section

set_option maxRecDepth 16384

noncomputable section

open Idealize.ShloMosaic Idealize.ShloMosaic.TcCoe Idealize.SL.Sem

namespace Cert.AttnRefIdeal.Body

open Cert.AttnRefIdeal Cert.AttnRefIdeal.Gen Cert.Layer

/-- The queries, keys and values by head, as the reference splits them. -/
def heads (a0 : FVec Ideal S8192x3072 .f32) : FVec Ideal S1x8192x3072 .f32 := broadcastInDim S1x8192x3072 ![1, 2] bcast_S8192x3072_S1x8192x3072_1_2 a0
def qr (a0 : FVec Ideal S8192x3072 .f32) : FVec Ideal S1x8192x8x4x64 .f32 :=
  shapeCast _ (extractStridedSlice S1x8192x2048 ![0, 0, 0] (heads a0) slices_S1x8192x3072_S1x8192x2048_0_0_0) shapeCasts_S1x8192x2048_S1x8192x8x4x64
def kr (a0 : FVec Ideal S8192x3072 .f32) : FVec Ideal S1x8192x8x64 .f32 :=
  shapeCast _ (extractStridedSlice S1x8192x512 ![0, 0, 2048] (heads a0) slices_S1x8192x3072_S1x8192x512_0_0_2048) shapeCasts_S1x8192x512_S1x8192x8x64
def vr (a0 : FVec Ideal S8192x3072 .f32) : FVec Ideal S1x8192x8x64 .f32 :=
  shapeCast _ (extractStridedSlice S1x8192x512 ![0, 0, 2560] (heads a0) slices_S1x8192x3072_S1x8192x512_0_0_2560) shapeCasts_S1x8192x512_S1x8192x8x64

/-- The normalized queries and keys. -/
def qnR (x : FVec Ideal S1x8192x8x4x64 .f32) (g : FVec Ideal S64 .f32) : FVec Ideal S1x8192x8x4x64 .f32 :=
  mulf (mulf x (broadcastInDim S1x8192x8x4x64 ![0, 1, 2, 3, 4] bcast_S1x8192x8x4x1_S1x8192x8x4x64_0_1_2_3_4 (Host.rsqrt (addf (Host.divf
    (broadcastInDim S1x8192x8x4x1 ![0, 1, 2, 3] bcast_S1x8192x8x4_S1x8192x8x4x1_0_1_2_3 (Host.reduceAdd (mulf x x) (constant S_ .f32 0x00000000#32) reducesTo_S1x8192x8x4x64_S1x8192x8x4_d4 h_S_))
    (broadcastInDim S1x8192x8x4x1 ![] bcast_S_S1x8192x8x4x1 (constant S_ .f32 0x42800000#32))) (broadcastInDim S1x8192x8x4x1 ![] bcast_S_S1x8192x8x4x1 (constant S_ .f32 0x358637BD#32))))))
    (broadcastInDim S1x8192x8x4x64 ![0, 1, 2, 3, 4] bcast_S1x1x1x1x64_S1x8192x8x4x64_0_1_2_3_4 (broadcastInDim S1x1x1x1x64 ![4] bcast_S64_S1x1x1x1x64_4 g))
def knR (x : FVec Ideal S1x8192x8x64 .f32) (g : FVec Ideal S64 .f32) : FVec Ideal S1x8192x8x64 .f32 :=
  mulf (mulf x (broadcastInDim S1x8192x8x64 ![0, 1, 2, 3] bcast_S1x8192x8x1_S1x8192x8x64_0_1_2_3 (Host.rsqrt (addf (Host.divf
    (broadcastInDim S1x8192x8x1 ![0, 1, 2] bcast_S1x8192x8_S1x8192x8x1_0_1_2 (Host.reduceAdd (mulf x x) (constant S_ .f32 0x00000000#32) reducesTo_S1x8192x8x64_S1x8192x8_d3 h_S_))
    (broadcastInDim S1x8192x8x1 ![] bcast_S_S1x8192x8x1 (constant S_ .f32 0x42800000#32))) (broadcastInDim S1x8192x8x1 ![] bcast_S_S1x8192x8x1 (constant S_ .f32 0x358637BD#32))))))
    (broadcastInDim S1x8192x8x64 ![0, 1, 2, 3] bcast_S1x1x1x64_S1x8192x8x64_0_1_2_3 (broadcastInDim S1x1x1x64 ![3] bcast_S64_S1x1x1x64_3 g))

/-- The rows by blocks of 128, and each block's band: the block before it (zeros before the first) and itself. -/
def blocks (x : FVec Ideal S1x8192x8x64 .f32) : FVec Ideal S1x64x128x8x64 .f32 := shapeCast _ x shapeCasts_S1x8192x8x64_S1x64x128x8x64
def before (x : FVec Ideal S1x64x128x8x64 .f32) : FVec Ideal S1x64x128x8x64 .f32 :=
  concatenate S1x64x128x8x64 1 [⟨S1x1x128x8x64, (broadcastInDim S1x1x128x8x64 ![] bcast_S_S1x1x128x8x64 (constant S_ .f32 0x00000000#32))⟩,
    ⟨S1x63x128x8x64, (extractStridedSlice S1x63x128x8x64 ![0, 0, 0, 0, 0] x slices_S1x64x128x8x64_S1x63x128x8x64_0_0_0_0_0)⟩]
    concatenates_S1x1x128x8x64_S1x63x128x8x64_S1x64x128x8x64_d1
def bandR (x : FVec Ideal S1x8192x8x64 .f32) : FVec Ideal S1x64x256x8x64 .f32 :=
  concatenate S1x64x256x8x64 2 [⟨S1x64x128x8x64, before (blocks x)⟩, ⟨S1x64x128x8x64, blocks x⟩] concatenates_S1x64x128x8x64_S1x64x128x8x64_S1x64x256x8x64_d2

/-- The chunk of a query row and of a band column. -/
def qchR : IVec S128x1 32 :=
  select (andi (cmpi .ne (signi (broadcastInDim S128x1 ![0] bcast_S128_S128x1_0 (iotaInDim S128 32 0))) (broadcastInDim S128x1 ![] bcast_S_S128x1 (signi (id (constantI S_ 32 64#32)))))
      (cmpi .ne (Host.remsi (broadcastInDim S128x1 ![0] bcast_S128_S128x1_0 (iotaInDim S128 32 0)) (broadcastInDim S128x1 ![] bcast_S_S128x1 (id (constantI S_ 32 64#32)))) (broadcastInDim S128x1 ![] bcast_S_S128x1 (constantI S_ 32 0#32))))
    (subi (Host.divsi (broadcastInDim S128x1 ![0] bcast_S128_S128x1_0 (iotaInDim S128 32 0)) (broadcastInDim S128x1 ![] bcast_S_S128x1 (id (constantI S_ 32 64#32)))) (broadcastInDim S128x1 ![] bcast_S_S128x1 (constantI S_ 32 1#32)))
    (Host.divsi (broadcastInDim S128x1 ![0] bcast_S128_S128x1_0 (iotaInDim S128 32 0)) (broadcastInDim S128x1 ![] bcast_S_S128x1 (id (constantI S_ 32 64#32))))
def colR : IVec S1x256 32 := broadcastInDim S1x256 ![1] bcast_S256_S1x256_1 (iotaInDim S256 32 0)
def kchR : IVec S1x256 32 :=
  select (andi (cmpi .ne (signi (subi colR (broadcastInDim S1x256 ![] bcast_S_S1x256 (constantI S_ 32 128#32)))) (broadcastInDim S1x256 ![] bcast_S_S1x256 (signi (id (constantI S_ 32 64#32)))))
      (cmpi .ne (Host.remsi (subi colR (broadcastInDim S1x256 ![] bcast_S_S1x256 (constantI S_ 32 128#32))) (broadcastInDim S1x256 ![] bcast_S_S1x256 (id (constantI S_ 32 64#32)))) (broadcastInDim S1x256 ![] bcast_S_S1x256 (constantI S_ 32 0#32))))
    (subi (Host.divsi (subi colR (broadcastInDim S1x256 ![] bcast_S_S1x256 (constantI S_ 32 128#32))) (broadcastInDim S1x256 ![] bcast_S_S1x256 (id (constantI S_ 32 64#32)))) (broadcastInDim S1x256 ![] bcast_S_S1x256 (constantI S_ 32 1#32)))
    (Host.divsi (subi colR (broadcastInDim S1x256 ![] bcast_S_S1x256 (constantI S_ 32 128#32))) (broadcastInDim S1x256 ![] bcast_S_S1x256 (id (constantI S_ 32 64#32))))

/-- The reference's mask. -/
def maskR : IVec S64x128x256 1 :=
  andi (broadcastInDim S64x128x256 ![0, 1, 2] bcast_S1x128x256_S64x128x256_0_1_2 (broadcastInDim S1x128x256 ![1, 2] bcast_S128x256_S1x128x256_1_2
      (andi (cmpi .sle (broadcastInDim S128x256 ![0, 1] bcast_S1x256_S128x256_0_1 kchR) (broadcastInDim S128x256 ![0, 1] bcast_S128x1_S128x256_0_1 qchR))
        (cmpi .sge (broadcastInDim S128x256 ![0, 1] bcast_S1x256_S128x256_0_1 kchR) (broadcastInDim S128x256 ![0, 1] bcast_S128x1_S128x256_0_1 (subi qchR (broadcastInDim S128x1 ![] bcast_S_S128x1 (constantI S_ 32 2#32))))))))
    (broadcastInDim S64x128x256 ![0, 1, 2] bcast_S64x1x256_S64x128x256_0_1_2
      (ori (broadcastInDim S64x1x256 ![0, 1, 2] bcast_S64x1x1_S64x1x256_0_1_2 (cmpi .sgt (broadcastInDim S64x1x1 ![0] bcast_S64_S64x1x1_0 (iotaInDim S64 32 0)) (broadcastInDim S64x1x1 ![] bcast_S_S64x1x1 (constantI S_ 32 0#32))))
        (broadcastInDim S64x1x256 ![0, 1, 2] bcast_S1x1x256_S64x1x256_0_1_2 (cmpi .sge (broadcastInDim S1x1x256 ![1, 2] bcast_S1x256_S1x1x256_1_2 colR) (broadcastInDim S1x1x256 ![] bcast_S_S1x1x256 (constantI S_ 32 128#32))))))

/-- The masked scores. -/
def scoresR (mask : IVec S64x128x256 1) (k : FVec Ideal S1x64x256x8x64 .f32) (q : FVec Ideal S1x8192x8x4x64 .f32) (b : FVec Ideal S32x128x256 .f32) : FVec Ideal S1x64x8x4x128x256 .f32 :=
  select (broadcastInDim S1x64x8x4x128x256 ![0, 1, 2, 3, 4, 5] bcast_S1x64x1x1x128x256_S1x64x8x4x128x256_0_1_2_3_4_5 (broadcastInDim S1x64x1x1x128x256 ![1, 4, 5] bcast_S64x128x256_S1x64x1x1x128x256_1_4_5 mask))
    (addf (mulf (transpose S1x64x8x4x128x256 [0, 1, 2, 5, 4, 3]
        (Host.dotGeneral dot_S1x64x256x8x64_S1x64x128x8x4x64_S1x64x8x256x128x4_4_5_2_24_013_013 none k (shapeCast _ q shapeCasts_S1x8192x8x4x64_S1x64x128x8x4x64))
        transposes_S1x64x8x256x128x4_S1x64x8x4x128x256_0_1_2_5_4_3) (broadcastInDim S1x64x8x4x128x256 ![] bcast_S_S1x64x8x4x128x256 (constant S_ .f32 0x3E000000#32)))
      (broadcastInDim S1x64x8x4x128x256 ![0, 1, 2, 3, 4, 5] bcast_S1x1x8x4x128x256_S1x64x8x4x128x256_0_1_2_3_4_5 (broadcastInDim S1x1x8x4x128x256 ![2, 3, 4, 5] bcast_S8x4x128x256_S1x1x8x4x128x256_2_3_4_5 (shapeCast _ b shapeCasts_S32x128x256_S8x4x128x256))))
    (broadcastInDim S1x64x8x4x128x256 ![] bcast_S_S1x64x8x4x128x256 (id (constant S_ .f32 0xFF800000#32)))

/-- The sinks by head, the row maxima with them, the exponentials, the denominators and the probabilities. -/
def sinkR (a2 : FVec Ideal S32 .f32) : FVec Ideal S1x64x8x4x128x1 .f32 :=
  broadcastInDim S1x64x8x4x128x1 ![0, 1, 2, 3, 4, 5] bcast_S1x1x8x4x1x1_S1x64x8x4x128x1_0_1_2_3_4_5 (shapeCast _ a2 shapeCasts_S32_S1x1x8x4x1x1)
def topR (s : FVec Ideal S1x64x8x4x128x256 .f32) (k : FVec Ideal S1x64x8x4x128x1 .f32) : FVec Ideal S1x64x8x4x128x1 .f32 :=
  maximumf (broadcastInDim S1x64x8x4x128x1 ![0, 1, 2, 3, 4] bcast_S1x64x8x4x128_S1x64x8x4x128x1_0_1_2_3_4 (Host.reduce FloatOps.maximumf s (constant S_ .f32 0xFF800000#32) reducesTo_S1x64x8x4x128x256_S1x64x8x4x128_d5 h_S_)) k
def expR (s : FVec Ideal S1x64x8x4x128x256 .f32) (t : FVec Ideal S1x64x8x4x128x1 .f32) : FVec Ideal S1x64x8x4x128x256 .f32 :=
  Host.exp (subf s (broadcastInDim S1x64x8x4x128x256 ![0, 1, 2, 3, 4, 5] bcast_S1x64x8x4x128x1_S1x64x8x4x128x256_0_1_2_3_4_5 t))
def denR (e : FVec Ideal S1x64x8x4x128x256 .f32) (k t : FVec Ideal S1x64x8x4x128x1 .f32) : FVec Ideal S1x64x8x4x128x1 .f32 :=
  addf (broadcastInDim S1x64x8x4x128x1 ![0, 1, 2, 3, 4] bcast_S1x64x8x4x128_S1x64x8x4x128x1_0_1_2_3_4 (Host.reduceAdd e (constant S_ .f32 0x00000000#32) reducesTo_S1x64x8x4x128x256_S1x64x8x4x128_d5 h_S_)) (Host.exp (subf k t))
def probR (e : FVec Ideal S1x64x8x4x128x256 .f32) (d : FVec Ideal S1x64x8x4x128x1 .f32) : FVec Ideal S1x64x8x4x128x256 .f32 :=
  Host.divf e (broadcastInDim S1x64x8x4x128x256 ![0, 1, 2, 3, 4, 5] bcast_S1x64x8x4x128x1_S1x64x8x4x128x256_0_1_2_3_4_5 d)

/-- The values weighted, laid out by row and column. -/
def outR (v : FVec Ideal S1x64x256x8x64 .f32) (p : FVec Ideal S1x64x8x4x128x256 .f32) : FVec Ideal S8192x2048 .bf16 :=
  truncf .bf16 (shapeCast _ (shapeCast _ (transpose S1x64x128x8x4x64 [0, 1, 5, 2, 4, 3] (Host.dotGeneral dot_S1x64x256x8x64_S1x64x8x4x128x256_S1x64x8x64x4x128_2_5_4_34_013_012 none v p)
    transposes_S1x64x8x64x4x128_S1x64x128x8x4x64_0_1_5_2_4_3) shapeCasts_S1x64x128x8x4x64_S1x8192x2048) shapeCasts_S1x8192x2048_S8192x2048) bitsLt_bf16_f32

/-- The reference's value, stage by stage. -/
def sR (a0 : FVec Ideal S8192x3072 .f32) (a1 : FVec Ideal S32x128x256 .f32) (a3 a4 : FVec Ideal S64 .f32) : FVec Ideal S1x64x8x4x128x256 .f32 :=
  scoresR maskR (bandR (knR (kr a0) a4)) (qnR (qr a0) a3) a1
def mixR (s : FVec Ideal S1x64x8x4x128x256 .f32) (k : FVec Ideal S1x64x8x4x128x1 .f32) : FVec Ideal S1x64x8x4x128x256 .f32 :=
  probR (expR s (topR s k)) (denR (expR s (topR s k)) k (topR s k))
def refv (a0 : FVec Ideal S8192x3072 .f32) (a1 : FVec Ideal S32x128x256 .f32) (a2 : FVec Ideal S32 .f32) (a3 a4 : FVec Ideal S64 .f32) : FVec Ideal S8192x2048 .bf16 :=
  outR (bandR (vr a0)) (mixR (sR a0 a1 a3 a4) (sinkR a2))

/-- The run's result is that value. -/
theorem res_eq (m : (ℓ : Loc nD τ sig) → Buf (Elt Ideal) ℓ) (c : Dev nD) :
    Cert.AttnRefIdeal.Value.res_main_v107 m c = refv (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := rfl

theorem sel_if {α : Type} (c : BitVec 1) (a b : α) : Scalar.select c a b = if c = 1#1 then a else b := by
  unfold Scalar.select
  rfl

theorem qr_at (a0 : FVec Ideal S8192x3072 .f32) (R : Fin 8192) (g : Fin 8) (h : Fin 4) (d : Fin 64) :
    qr a0 (ix5 0 R g h d) = at2 a0 R (64 * (4 * g.val + h.val) + d.val) := by
  rw [at2_of_lt _ _ _ R.isLt (by omega)]
  pointwise [qr, heads]
  try (congr 1; first | rfl | (congr 1; apply Fin.ext; dsimp only; omega))

theorem kr_at (a0 : FVec Ideal S8192x3072 .f32) (R : Fin 8192) (g : Fin 8) (d : Fin 64) :
    kr a0 (ix4 0 R g d) = at2 a0 R (2048 + 64 * g.val + d.val) := by
  rw [at2_of_lt _ _ _ R.isLt (by omega)]
  pointwise [kr, heads]
  try (congr 1; first | rfl | (congr 1; apply Fin.ext; dsimp only; omega))

theorem vr_at (a0 : FVec Ideal S8192x3072 .f32) (R : Fin 8192) (g : Fin 8) (d : Fin 64) :
    vr a0 (ix4 0 R g d) = at2 a0 R (2560 + 64 * g.val + d.val) := by
  rw [at2_of_lt _ _ _ R.isLt (by omega)]
  pointwise [vr, heads]
  try (congr 1; first | rfl | (congr 1; apply Fin.ext; dsimp only; omega))

theorem qnR_at (x : FVec Ideal S1x8192x8x4x64 .f32) (g : FVec Ideal S64 .f32) (f : ℕ → EReal) (R : Fin 8192) (a : Fin 8) (b : Fin 4) (d : Fin 64)
    (hf : ∀ e : Fin 64, x (ix5 0 R a b e) = f e) : qnR x g (ix5 0 R a b d) = nrm64 f (at1 g) d := by
  unfold nrm64 at1
  rw [Finset.sum_range (fun k => f k * f k), ← div_64, dif_pos d.isLt]
  simp only [← hf]
  pointwise [qnR]

theorem knR_at (x : FVec Ideal S1x8192x8x64 .f32) (g : FVec Ideal S64 .f32) (f : ℕ → EReal) (R : Fin 8192) (a : Fin 8) (d : Fin 64)
    (hf : ∀ e : Fin 64, x (ix4 0 R a e) = f e) : knR x g (ix4 0 R a d) = nrm64 f (at1 g) d := by
  unfold nrm64 at1
  rw [Finset.sum_range (fun k => f k * f k), ← div_64, dif_pos d.isLt]
  simp only [← hf]
  pointwise [knR]

theorem bandR_at (x : FVec Ideal S1x8192x8x64 .f32) (f : ℕ → EReal) (n : Fin 64) (j : Fin 256) (g : Fin 8) (d : Fin 64)
    (hf : ∀ R : Fin 8192, x (ix4 0 R g d) = f R.val) :
    bandR x (ix5 0 n j g d) = if j.val < 128 then (if n.val < 1 then 0 else f (128 * (n.val - 1) + j.val)) else f (128 * n.val + (j.val - 128)) := by
  pointwise [bandR, before, blocks]
  repeat' split
  all_goals try omega
  all_goals try rw [hf]
  all_goals first | rfl | (congr 1; dsimp only; omega)

theorem qchR_at : ∀ r : Fin 128, qchR (ix2 r 0) = BitVec.ofNat 32 (r.val / 64) := by decide +kernel
theorem kchR_at : ∀ j : Fin 256, kchR (ix2 0 j) = BitVec.ofNat 32 (j.val / 64) - 2#32 := by decide +kernel

theorem scoresR_at (mask : IVec S64x128x256 1) (k : FVec Ideal S1x64x256x8x64 .f32) (q : FVec Ideal S1x8192x8x4x64 .f32) (b : FVec Ideal S32x128x256 .f32)
    (n : Fin 64) (g : Fin 8) (h : Fin 4) (r : Fin 128) (j : Fin 256) :
    scoresR mask k q b (ix6 0 n g h r j) = if mask (ix3 n r j) = 1#1
      then (∑ d : Fin 64, k (ix5 0 n j g d) * q (ix5 0 ⟨128 * n.val + r.val, by omega⟩ g h d)) * Ideal.ofBits .f32 0x3E000000#32 + b (ix3 ⟨4 * g.val + h.val, by omega⟩ r j) else ⊥ := by
  rw [← sel_if, ← lit_bot]
  pointwise [scoresR]
  unfold id
  simp only [show ∀ e, (⟨128 * n.val + r.val, e⟩ : Fin 8192) = ⟨n.val * 128 + r.val, by omega⟩ from fun e => Fin.ext (by dsimp only; omega),
    show ∀ e, (⟨4 * g.val + h.val, e⟩ : Fin 32) = ⟨g.val * 4 + h.val, by omega⟩ from fun e => Fin.ext (by dsimp only; omega)]
  rfl

theorem sinkR_at (a2 : FVec Ideal S32 .f32) (n : Fin 64) (g : Fin 8) (h : Fin 4) (r : Fin 128) :
    sinkR a2 (ix6 0 n g h r 0) = at1 a2 (4 * g.val + h.val) := by
  unfold at1
  rw [dif_pos (by omega)]
  pointwise [sinkR]
  congr 2
  apply Fin.ext
  dsimp only
  omega

theorem outR_at (v : FVec Ideal S1x64x256x8x64 .f32) (p : FVec Ideal S1x64x8x4x128x256 .f32) (R : Fin 8192) (l : Fin 2048) :
    outR v p (ix2 R l) = ∑ j : Fin 256, v (ix5 0 ⟨R.val / 128, by omega⟩ j ⟨l.val / 256, by omega⟩ ⟨l.val % 64, by omega⟩)
      * p (ix6 0 ⟨R.val / 128, by omega⟩ ⟨l.val / 256, by omega⟩ ⟨l.val / 64 % 4, by omega⟩ ⟨R.val % 128, by omega⟩ j) := by
  pointwise [outR]

end Cert.AttnRefIdeal.Body

end
-- ==== Proof.AttnSoft.lean ====
module

public import proofs.«01_k».proof.Proof.AttnRef
public import Idealize.ShloMosaic.Lib.Pointwise

@[expose] public section

set_option maxRecDepth 16384

noncomputable section

open Idealize.ShloMosaic Idealize.ShloMosaic.TcCoe Idealize.SL.Sem

namespace Cert.AttnRefIdeal.Body

open Cert.AttnRefIdeal Cert.AttnRefIdeal.Gen Cert.Layer

section row
variable {n0 n1 n2 n3 n4 n5 : ℕ} (hr : (⟨6, ![n0, n1, n2, n3, n4, n5]⟩ : Shape).ReducesTo [5] ⟨5, ![n0, n1, n2, n3, n4]⟩)
  (a0 : Fin n0) (a1 : Fin n1) (a2 : Fin n2) (a3 : Fin n3) (a4 : Fin n4)

/-- The indices the last axis' reduction sends to one row. -/
theorem fiber_row (i : (⟨6, ![n0, n1, n2, n3, n4, n5]⟩ : Shape).Idx) : hr.drop i = ix5 a0 a1 a2 a3 a4 ↔ ∃ k : Fin n5, ix6 a0 a1 a2 a3 a4 k = i := by
  constructor
  · intro e
    refine ⟨i 5, ?_⟩
    funext a
    apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext b
    apply Fin.ext
    match b with
    | ⟨0, _⟩ => rfl
    | ⟨1, _⟩ => rfl
    | ⟨2, _⟩ => rfl
    | ⟨3, _⟩ => rfl
    | ⟨4, _⟩ => rfl

/-- Distinct last coordinates give distinct indices. -/
theorem row_inj : Function.Injective (fun k : Fin n5 => ix6 a0 a1 a2 a3 a4 k) := fun x y e => (congrFun e 5 : ix6 a0 a1 a2 a3 a4 x 5 = ix6 a0 a1 a2 a3 a4 y 5)

/-- A sum over one row. -/
theorem sum_row (v : (⟨6, ![n0, n1, n2, n3, n4, n5]⟩ : Shape).Idx → EReal) (init : EReal) :
    Ideal.hostReduceAdd hr v init (ix5 a0 a1 a2 a3 a4) = init + ∑ k : Fin n5, v (ix6 a0 a1 a2 a3 a4 k) :=
  congrArg (init + ·) (Finset.sum_filter_eq_sum_of_fiber _ _ (row_inj a0 a1 a2 a3 a4) (fiber_row hr a0 a1 a2 a3 a4) v)

/-- A maximum over one row. -/
theorem fold_row {u : Shape} (hu : 0 < u.numel) (v : FVec Ideal ⟨6, ![n0, n1, n2, n3, n4, n5]⟩ .f32) (b : FVec Ideal u .f32) :
    Host.reduce FloatOps.maximumf v b hr hu (ix5 a0 a1 a2 a3 a4) = (Finset.univ : Finset (Fin n5)).fold max (b (Shape.Idx.first hu)) (fun k => v (ix6 a0 a1 a2 a3 a4 k)) := by
  rw [Host.reduce_eq_fold]
  exact Finset.fold_filter_eq_fold_of_fiber _ _ _ (row_inj a0 a1 a2 a3 a4) (fiber_row hr a0 a1 a2 a3 a4) _ v

end row

theorem max_at (z : FVec Ideal S1x64x8x4x128 .f32) (k : FVec Ideal S1x64x8x4x128x1 .f32) (n : Fin 64) (g : Fin 8) (h : Fin 4) (r : Fin 128) :
    maximumf (broadcastInDim S1x64x8x4x128x1 ![0, 1, 2, 3, 4] bcast_S1x64x8x4x128_S1x64x8x4x128x1_0_1_2_3_4 z) k (ix6 0 n g h r 0) = max (z (ix5 0 n g h r)) (k (ix6 0 n g h r 0)) := by
  pointwise

theorem bot_at (i : S_.Idx) : constant (F := Ideal) S_ .f32 0xFF800000#32 i = ⊥ := lit_bot

theorem topR_at (s : FVec Ideal S1x64x8x4x128x256 .f32) (k : FVec Ideal S1x64x8x4x128x1 .f32) (n : Fin 64) (g : Fin 8) (h : Fin 4) (r : Fin 128) :
    topR s k (ix6 0 n g h r 0) = topOf (fun j => s (ix6 0 n g h r j)) (k (ix6 0 n g h r 0)) := by
  unfold topR topOf
  rw [max_at, fold_row, bot_at]

theorem expR_at (s : FVec Ideal S1x64x8x4x128x256 .f32) (t : FVec Ideal S1x64x8x4x128x1 .f32) (n : Fin 64) (g : Fin 8) (h : Fin 4) (r : Fin 128) (j : Fin 256) :
    expR s t (ix6 0 n g h r j) = Ideal.exp (s (ix6 0 n g h r j) - t (ix6 0 n g h r 0)) := by
  pointwise [expR]

theorem denR_at (e : FVec Ideal S1x64x8x4x128x256 .f32) (k t : FVec Ideal S1x64x8x4x128x1 .f32) (n : Fin 64) (g : Fin 8) (h : Fin 4) (r : Fin 128) :
    denR e k t (ix6 0 n g h r 0) = (∑ j : Fin 256, e (ix6 0 n g h r j)) + Ideal.exp (k (ix6 0 n g h r 0) - t (ix6 0 n g h r 0)) := by
  pointwise [denR]
  refine congrArg (· + _) ((sum_row reducesTo_S1x64x8x4x128x256_S1x64x8x4x128_d5 0 n g h r e _).trans ?_)
  exact zero_add _

theorem mixR_at (s : FVec Ideal S1x64x8x4x128x256 .f32) (k : FVec Ideal S1x64x8x4x128x1 .f32) (n : Fin 64) (g : Fin 8) (h : Fin 4) (r : Fin 128) (j : Fin 256) :
    mixR s k (ix6 0 n g h r j) = Ideal.div (Ideal.exp (s (ix6 0 n g h r j) - topOf (fun j => s (ix6 0 n g h r j)) (k (ix6 0 n g h r 0))))
      (denOf (fun j => s (ix6 0 n g h r j)) (k (ix6 0 n g h r 0))) := by
  have hp : ∀ e d, probR e d (ix6 0 n g h r j) = Ideal.div (e (ix6 0 n g h r j)) (d (ix6 0 n g h r 0)) := by
    intro e d
    pointwise [probR]
  unfold mixR denOf
  rw [hp, denR_at]
  simp only [expR_at, topR_at]

theorem own_at : ∀ j : Fin 256, Scalar.cmpi .sge (BitVec.ofNat 32 j.val) 128#32 = 1#1 ↔ 128 ≤ j.val := by decide +kernel

theorem pos_at : ∀ n : Fin 64, Scalar.cmpi .sgt (BitVec.ofNat 32 n.val) 0#32 = 1#1 ↔ 0 < n.val := by decide +kernel

theorem chunk_at : ∀ (x : Fin 2) (y : Fin 4),
    (Scalar.cmpi .sle (BitVec.ofNat 32 y.val - 2#32) (BitVec.ofNat 32 x.val) = 1#1 ↔ y.val ≤ x.val + 2)
    ∧ (Scalar.cmpi .sge (BitVec.ofNat 32 y.val - 2#32) (BitVec.ofNat 32 x.val - 2#32) = 1#1 ↔ x.val ≤ y.val) := by decide +kernel

theorem and_one : ∀ a b : BitVec 1, a &&& b = 1#1 ↔ a = 1#1 ∧ b = 1#1 := by decide
theorem or_one : ∀ a b : BitVec 1, a ||| b = 1#1 ↔ a = 1#1 ∨ b = 1#1 := by decide

/-- What the reference's mask keeps. -/
theorem maskR_at (n : Fin 64) (r : Fin 128) (j : Fin 256) : maskR (ix3 n r j) = 1#1 ↔ seen n.val r.val j.val := by
  have e : maskR (ix3 n r j)
      = (Scalar.cmpi .sle (kchR (ix2 0 j)) (qchR (ix2 r 0)) &&& Scalar.cmpi .sge (kchR (ix2 0 j)) (qchR (ix2 r 0) - 2#32))
        &&& (Scalar.cmpi .sgt (BitVec.ofNat 32 n.val) 0#32 ||| Scalar.cmpi .sge (BitVec.ofNat 32 j.val) 128#32) := by
    pointwise [maskR, colR]
    rfl
  obtain ⟨h1, h2⟩ := chunk_at ⟨r.val / 64, by omega⟩ ⟨j.val / 64, by omega⟩
  dsimp only at h1 h2
  rw [e, and_one, and_one, or_one, qchR_at, kchR_at, own_at, pos_at, h1, h2, and_assoc]
  rfl

/-- The reference's scores are the attention's. -/
theorem sR_at (a0 : FVec Ideal S8192x3072 .f32) (a1 : FVec Ideal S32x128x256 .f32) (a3 a4 : FVec Ideal S64 .f32) (n : Fin 64) (g : Fin 8) (h : Fin 4) (r : Fin 128) (j : Fin 256) :
    sR a0 a1 a3 a4 (ix6 0 n g h r j) = gscore a0 a1 a3 a4 n r (4 * g.val + h.val) j := by
  have hk : ∀ d : Fin 64, bandR (knR (kr a0) a4) (ix5 0 n j g d) = if j.val < 128 ∧ n.val < 1 then 0
      else nrm64 (fun e => gband a0 n j (2048 + 64 * g.val + e)) (at1 a4) d := by
    intro d
    rw [bandR_at _ (fun R => nrm64 (fun e => at2 a0 R (2048 + 64 * g.val + e)) (at1 a4) d) n j g d (fun R => knR_at _ _ _ R g d (fun e => kr_at a0 R g e))]
    unfold gband
    by_cases h1 : j.val < 128
    · by_cases h2 : n.val < 1
      · rw [if_pos h1, if_pos h2, if_pos ⟨h1, h2⟩]
      · rw [if_pos h1, if_neg h2, if_neg (by omega)]
        simp only [if_pos h1, if_neg h2]
    · rw [if_neg h1, if_neg (by omega)]
      simp only [if_neg h1]
  unfold sR gscore score
  rw [scoresR_at]
  by_cases hv : seen n r j
  · have hz : ¬ (j.val < 128 ∧ n.val < 1) := by have := hv.2.2; omega
    rw [if_pos ((maskR_at n r j).2 hv), if_pos hv]
    unfold at3
    rw [dif_pos (by omega), Finset.sum_range]
    congr 2
    refine Finset.sum_congr rfl fun d _ => ?_
    rw [hk d, if_neg hz, qnR_at (qr a0) a3 (fun e => at2 a0 (128 * n.val + r.val) (64 * (4 * g.val + h.val) + e)) ⟨128 * n.val + r.val, by omega⟩ g h d
      (fun e => qr_at a0 _ g h e), show (4 * g.val + h.val) / 4 = g.val by omega]
    exact mul_comm _ _
  · rw [if_neg (mt (maskR_at n r j).1 hv), if_neg hv]

/-- The reference's value at an index. -/
theorem refv_at (a0 : FVec Ideal S8192x3072 .f32) (a1 : FVec Ideal S32x128x256 .f32) (a2 : FVec Ideal S32 .f32) (a3 a4 : FVec Ideal S64 .f32) (R : Fin 8192) (l : Fin 2048) :
    refv a0 a1 a2 a3 a4 (ix2 R l) = gmix a0 a1 a2 a3 a4 (R.val / 128) ⟨R.val % 128, by omega⟩ (l.val / 64) (l.val % 64) := by
  unfold refv gmix mixOf
  rw [outR_at]
  refine Finset.sum_congr rfl fun j _ => ?_
  have eH : 4 * (l.val / 256) + l.val / 64 % 4 = l.val / 64 := by omega
  have eg : l.val / 64 / 4 = l.val / 256 := by omega
  rw [mixR_at, sinkR_at, bandR_at _ (fun R => at2 a0 R (2560 + 64 * (l.val / 256) + l.val % 64)) _ j _ _ (fun R => vr_at a0 R _ _)]
  simp only [sR_at]
  rw [eH, eg]
  exact mul_comm _ _

end Cert.AttnRefIdeal.Body

end
-- ==== Proof.Attn.lean ====
module

public import proofs.«01_k».proof.Defs
public import proofs.«01_k».proof.Proof.AttnKernel
public import proofs.«01_k».proof.Proof.AttnSoft
public import proofs.«01_k».proof.Proof.Gen.AttnRefIdeal.Run
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Layer

/-- A number whose absolute value lies below the top is a real. -/
theorem real_of_abs_lt {x : EReal} (h : max x (-x) < ⊤) : IsReal x := by
  induction x with
  | bot => simp at h
  | top => simp at h
  | coe r => exact ⟨r, rfl⟩

/-- The side conditions of the precondition's operations. -/
theorem pre_facts : Cert.Pre_finite.Facts where
  bcast_S_S8192x3072 := by decide
  bcast_S_S32x128x256 := by decide
  bcast_S_S32 := by decide
  bcast_S_S64 := by decide

/-- Where the comparison of the absolute value with infinity is one everywhere, every entry is a real. -/
theorem real_of_flag {s : Shape} (h : (⟨0, ![]⟩ : Shape).BroadcastsInDim s (![] : Fin 0 → Fin s.rank)) (x : FVec Ideal s .f32)
    (e : cmpf .olt (Host.absf x) (broadcastInDim s ![] h (constant ⟨0, ![]⟩ .f32 0x7F800000#32)) = fun _ => 1#1)
    (i : s.Idx) : IsReal (x i) := by
  have h1 := congrFun e i
  have h2 : Ideal.cmp .olt (max (x i) (-(x i))) (Ideal.ofBits .f32 0x7F800000#32) = 1#1 := h1
  rw [lit_top] at h2
  refine real_of_abs_lt ?_
  by_contra hn
  have h3 : Ideal.cmp .olt (max (x i) (-(x i))) ⊤ = 0#1 := by
    show BitVec.ofBool (decide _) = _
    rw [decide_eq_false hn]; rfl
  rw [h3] at h2
  exact absurd h2 (by decide)

end Cert.Layer

namespace Cert.AttnIdeal.Value

open Cert.AttnIdeal Cert.AttnIdeal.Gen Cert.Layer Cert.AttnIdeal.Body

variable (m : (ℓ : Loc nD τ sig) → Buf (Elt Ideal) ℓ)

/-- The reference's array is the windowed attention, entry by entry. -/
theorem attn_eq (a0 : FVec Ideal S8192x3072 .f32) (a1 : FVec Ideal S32x128x256 .f32) (a2 : FVec Ideal S32 .f32)
    (a3 a4 : FVec Ideal S64 .f32) : attn a0 a1 a2 a3 a4 = Cert.AttnRefIdeal.Body.refv a0 a1 a2 a3 a4 := by
  funext i
  have hi : i = (ix2 (i 0) (i 1) : S8192x2048.Idx) := by
    funext a
    match a with
    | ⟨0, _⟩ => rfl
    | ⟨1, _⟩ => rfl
  refine Eq.trans ?_ (congrArg (Cert.AttnRefIdeal.Body.refv a0 a1 a2 a3 a4) hi).symm
  exact (Cert.AttnRefIdeal.Body.refv_at a0 a1 a2 a3 a4 (i 0) (i 1)).symm

/-- On real arguments the result array is the reference's. -/
theorem final_eq (c : Dev nD) (hp : Cert.Pre_AttnIdeal_finite (hPre_finite := pre_facts) m) :
    (dats m 0 c).arrAt 9 cfg0.N = Cert.AttnRefIdeal.Body.refv (A0 m c) (A1 m c) (A2 m c) (A3 m c) (A4 m c) := by
  obtain ⟨p0, p1, p2, p3, p4⟩ := hp c
  rw [← attn_eq]
  exact final_at m c (real_of_flag _ _ p0) (real_of_flag _ _ p1) (real_of_flag _ _ p2) (real_of_flag _ _ p3) (real_of_flag _ _ p4)

end Cert.AttnIdeal.Value

namespace Cert.Proof

/-- The kernel's mask constant is read as minus infinity over the extended reals. -/
theorem preserves_Attn : preserves_Attn_AttnIdeal :=
  IdealRules.named_const.statement Cert.AttnIdeal.κ "mask" .f32 _ _ rfl

/-- On finite arguments the attention kernel computes, over the extended reals, the reference's attention. -/
theorem algebraic_Attn : algebraic_AttnIdeal_AttnRefIdeal_pre_finite (hAttnIdeal := Cert.AttnIdeal.Gen.facts)
    (hAttnRefIdeal := Cert.AttnRefIdeal.Gen.facts) (hPre_finite := Cert.Layer.pre_facts) := by
  pair_intro
  · run_from Cert.AttnIdeal.Value.run_blocks m g
  · refine θ_run_mono (Cert.AttnRefIdeal.Value.run (F := Ideal) m' g') fun r h c => ⟨?_, (h c).2⟩
    obtain ⟨q0, q1, q2, q3, q4⟩ := hagree c
    rw [(h c).1, Cert.AttnRefIdeal.Body.res_eq, q0, q1, q2, q3, q4]
    exact (Cert.AttnIdeal.Value.final_eq m c hpre).symm

end Cert.Proof

end
-- ==== Proof.Common.lean ====
module

public import Idealize.ShloMosaic.Lib.Pointwise

@[expose] public section

set_option maxRecDepth 16384

noncomputable section

open Idealize.ShloMosaic

namespace Cert.Layer

/-- One row's root-mean-square normalization: the entry times the reciprocal root of the row's mean square plus the small constant, times the gain. -/
def nrm (x g : Fin 2048 → EReal) (k : Fin 2048) : EReal :=
  x k * Ideal.rsqrt (Ideal.div (∑ j : Fin 2048, x j * x j) (Ideal.ofBits .f32 0x45000000#32) + Ideal.ofBits .f32 0x358637BD#32) * g k

/-- A sum over the first `n + m` numbers is the sum over the first `n` and the sum over the next `m`. -/
theorem sum_blocks (n m : ℕ) (f : ℕ → EReal) :
    ∑ k ∈ Finset.range (n + m), f k = ∑ k ∈ Finset.range n, f k + ∑ k : Fin m, f (n + k.val) := by
  rw [Finset.sum_range_add, Finset.sum_range (fun k => f (n + k))]

end Cert.Layer

end
-- ==== Proof.Ffn.lean ====
module

public import proofs.«01_k».proof.Defs
public import proofs.«01_k».proof.Proof.Gen.FfnIdeal.Value
public import proofs.«01_k».proof.Proof.Gen.FfnRefIdeal.Run
public import proofs.«01_k».proof.Proof.Common
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen Cert.Layer

variable (m : (ℓ : Loc nD τ sig) → Buf (Elt Ideal) ℓ) (ρ : Dev nD → PrngReg)

/-- The input, the gain and the three weights at launch. -/
abbrev A0 (c : Dev nD) : FVec Ideal S8192x2048 .f32 := m ((c : Thread nD τ).loc main_arg0)
abbrev A1 (c : Dev nD) : FVec Ideal S2048 .f32 := m ((c : Thread nD τ).loc main_arg1)
abbrev A2 (c : Dev nD) : FVec Ideal S2048x5632 .f32 := m ((c : Thread nD τ).loc main_arg2)
abbrev A3 (c : Dev nD) : FVec Ideal S2048x5632 .f32 := m ((c : Thread nD τ).loc main_arg3)
abbrev A4 (c : Dev nD) : FVec Ideal S5632x2048 .f32 := m ((c : Thread nD τ).loc main_arg4)

theorem hz : (![0, 0] : Fin 2 → Nat) = fun _ => 0 := funext fun a => by fin_cases a <;> rfl

/-- The index maps in closed form: the point's row block and its block of hidden features. -/
theorem idx_all : ∀ t : Fin cfg0.N,
    (win0_0.index t 0 = t.val / 11 ∧ win0_0.index t 1 = 0) ∧ (win0_1.index t 0 = 0 ∧ win0_1.index t 1 = 0)
    ∧ (win0_2.index t 0 = 0 ∧ win0_2.index t 1 = t.val % 11) ∧ (win0_3.index t 0 = 0 ∧ win0_3.index t 1 = t.val % 11)
    ∧ (win0_4.index t 0 = t.val % 11 ∧ win0_4.index t 1 = 0) :=
  (by decide +kernel : ∀ t : Fin grid0.N, _)

/-- The normalized row block, at an index. -/
theorem pay1_at (x : Vec Ideal S512x2048 .f32) (g : Vec Ideal S1x2048 .f32) (y : S512x2048.Idx) :
    k0_pay1 x g y = nrm (fun k => x (ix2 (y 0) k)) (fun k => g (ix2 0 k)) (y 1) := by
  pointwise [k0_pay1, nrm]

/-- One step of the accumulation, at an index: what was there plus the gated product over the block of hidden features. -/
theorem pay2_at (h : Vec Ideal S512x2048 .bf16) (wg wu : Vec Ideal S2048x512 .bf16) (o : Vec Ideal S512x2048 .f32) (wd : Vec Ideal S512x2048 .bf16) (y : S512x2048.Idx) :
    k0_pay2 h wg wu o wd y = o y + ∑ f : Fin 512, ((∑ k : Fin 2048, h (ix2 (y 0) k) * wg (ix2 k f)) * Ideal.logistic (∑ k : Fin 2048, h (ix2 (y 0) k) * wg (ix2 k f)) * (∑ k : Fin 2048, h (ix2 (y 0) k) * wu (ix2 k f))) * wd (ix2 f (y 1)) := by
  pointwise [k0_pay2]

/-- First point of a row block: the output block after the body. -/
theorem outA (c : Dev nD) (i : grid0.Coords) (m2 : Memref sig .tc .vmem S512x2048 .f32) (h2 : m2.IsWhole) (m3 : Memref sig .tc .vmem S1x2048 .f32) (h3 : m3.IsWhole) (m4 : Memref sig .tc .vmem S2048x512 .bf16) (h4 : m4.IsWhole) (m5 : Memref sig .tc .vmem S2048x512 .bf16) (h5 : m5.IsWhole) (m6 : Memref sig .tc .vmem S512x2048 .bf16) (h6 : m6.IsWhole) (m7 : Memref sig .tc .vmem S512x2048 .f32) (h7 : m7.IsWhole) (m8 : Memref sig .tc .vmem S512x2048 .bf16) (h8 : m8.IsWhole) (hc : cond0_0 i) (x0 : Vec Ideal S512x2048 .f32) (x1 : Vec Ideal S1x2048 .f32) (x2 x3 : Vec Ideal S2048x512 .bf16) (x4 : Vec Ideal S512x2048 .bf16) :
    out0_A_5 c i m2 h2 m3 h3 m4 h4 m5 h5 m6 h6 m7 h7 m8 h8 hc x0 x1 x2 x3 x4 = k0_pay2 (k0_pay1 x0 x1) x2 x3 x0 x4 := by
  unfold out0_A_5
  rw [View.read_writes_eq_canon _ _ _ (cover0_A_5 c i m2 h2 m3 h3 m4 h4 m5 h5 m6 h6 m7 h7 m8 h8 hc x0 x1 x2 x3 x4)]
  unfold kernelRun0_A
  dsimp only
  sl_unfold_words
  rw [View.canon_cons_unit_zero (S := S512x2048) hz]
  simp only [View.readCov_unit_zero (S := S512x2048) _ hz]
  simp only [View.readAt_eq_ld, h2.read_unread, h3.read_unread, h4.read_unread, h5.read_unread, h6.read_unread, h7.read_unread, h8.read_unread, View.ld_unit_zero (S := S512x2048) hz, View.ld_unit_zero (S := S2048x512) hz, View.ld_unit_zero (S := S1x2048) hz]

/-- First point of a row block: the scratch after the body. -/
theorem soutA (c : Dev nD) (i : grid0.Coords) (m2 : Memref sig .tc .vmem S512x2048 .f32) (h2 : m2.IsWhole) (m3 : Memref sig .tc .vmem S1x2048 .f32) (h3 : m3.IsWhole) (m4 : Memref sig .tc .vmem S2048x512 .bf16) (h4 : m4.IsWhole) (m5 : Memref sig .tc .vmem S2048x512 .bf16) (h5 : m5.IsWhole) (m6 : Memref sig .tc .vmem S512x2048 .bf16) (h6 : m6.IsWhole) (m7 : Memref sig .tc .vmem S512x2048 .f32) (h7 : m7.IsWhole) (m8 : Memref sig .tc .vmem S512x2048 .bf16) (h8 : m8.IsWhole) (hc : cond0_0 i) (x0 : Vec Ideal S512x2048 .f32) (x1 : Vec Ideal S1x2048 .f32) (x2 x3 : Vec Ideal S2048x512 .bf16) (x4 : Vec Ideal S512x2048 .bf16) :
    sout0_A_0 c i m2 h2 m3 h3 m4 h4 m5 h5 m6 h6 m7 h7 m8 h8 hc x0 x1 x2 x3 x4 = k0_pay1 x0 x1 := by
  unfold sout0_A_0
  rw [View.read_writes_eq_canon _ _ _ (scover0_A_0 c i m2 h2 m3 h3 m4 h4 m5 h5 m6 h6 m7 h7 m8 h8 hc x0 x1 x2 x3 x4)]
  unfold kernelRun0_A
  dsimp only
  sl_unfold_words
  rw [View.canon_cons_unit_zero (S := S512x2048) hz]
  simp only [View.readAt_eq_ld, h2.read_unread, h3.read_unread, h4.read_unread, h5.read_unread, h6.read_unread, h7.read_unread, h8.read_unread, View.ld_unit_zero (S := S512x2048) hz, View.ld_unit_zero (S := S2048x512) hz, View.ld_unit_zero (S := S1x2048) hz]

/-- Later points of a row block: the output block after the body. -/
theorem outB (c : Dev nD) (i : grid0.Coords) (m2 : Memref sig .tc .vmem S512x2048 .f32) (h2 : m2.IsWhole) (m3 : Memref sig .tc .vmem S1x2048 .f32) (h3 : m3.IsWhole) (m4 : Memref sig .tc .vmem S2048x512 .bf16) (h4 : m4.IsWhole) (m5 : Memref sig .tc .vmem S2048x512 .bf16) (h5 : m5.IsWhole) (m6 : Memref sig .tc .vmem S512x2048 .bf16) (h6 : m6.IsWhole) (m7 : Memref sig .tc .vmem S512x2048 .f32) (h7 : m7.IsWhole) (m8 : Memref sig .tc .vmem S512x2048 .bf16) (h8 : m8.IsWhole) (hc : ¬cond0_0 i) (x0 : Vec Ideal S512x2048 .f32) (x1 : Vec Ideal S1x2048 .f32) (x2 x3 : Vec Ideal S2048x512 .bf16) (x4 : Vec Ideal S512x2048 .bf16) (xo : Vec Ideal S512x2048 .f32) (xs : Vec Ideal S512x2048 .bf16) :
    out0_B_5 c i m2 h2 m3 h3 m4 h4 m5 h5 m6 h6 m7 h7 m8 h8 hc x0 x1 x2 x3 x4 xo xs = k0_pay2 xs x2 x3 xo x4 := by
  unfold out0_B_5
  rw [View.read_writes_eq_canon _ _ _ (cover0_B_5 c i m2 h2 m3 h3 m4 h4 m5 h5 m6 h6 m7 h7 m8 h8 hc x0 x1 x2 x3 x4 xo xs)]
  unfold kernelRun0_B
  dsimp only
  sl_unfold_words
  rw [View.canon_cons_unit_zero (S := S512x2048) hz]
  simp only [View.readAt_eq_ld, h2.read_unread, h3.read_unread, h4.read_unread, h5.read_unread, h6.read_unread, h7.read_unread, h8.read_unread, View.ld_unit_zero (S := S512x2048) hz, View.ld_unit_zero (S := S2048x512) hz, View.ld_unit_zero (S := S1x2048) hz]

theorem V_main_v1 (c : Dev nD) : (V m c main_v1 : FVec Ideal S2048x5632 .bf16) = m ((c : Thread nD τ).loc main_arg2) := by
  entry_read
  rfl

theorem V_main_v2 (c : Dev nD) : (V m c main_v2 : FVec Ideal S2048x5632 .bf16) = m ((c : Thread nD τ).loc main_arg3) := by
  entry_read
  rfl

theorem V_main_v3 (c : Dev nD) : (V m c main_v3 : FVec Ideal S5632x2048 .bf16) = m ((c : Thread nD τ).loc main_arg4) := by
  entry_read
  rfl

theorem V_main_v0 (c : Dev nD) : (V m c main_v0 : FVec Ideal S1x2048 .f32) = fun y => A1 m c (ix1 (y 1)) := by
  entry_read
  funext y
  pointwise

/-- The row-block window reads the block's own rows of the input. -/
theorem blk0 (c : Dev nD) (t : Fin cfg0.N) (y : S512x2048.Idx) (h : t.val / 11 * 512 + (y 0).val < 8192) :
    (iblk m c 0 t : FVec Ideal S512x2048 .f32) y = A0 m c (ix2 ⟨t.val / 11 * 512 + (y 0).val, h⟩ (y 1)) := by
  obtain ⟨⟨e0, e1⟩, -⟩ := idx_all t
  unfold iblk
  rw [View.read_apply]
  show (V m c main_arg0 : FVec Ideal S8192x2048 .f32) _ = _
  rw [V_main_arg0]
  congr 1
  funext a
  apply Fin.ext
  match a with
  | ⟨0, _⟩ => show win0_0.index t 0 * 512 + 1 * (y 0).val = _; rw [e0]; first | (show _ = (y 0).val; omega) | (show _ = t.val / 11 * 512 + (y 0).val; omega)
  | ⟨1, _⟩ => show win0_0.index t 1 * 2048 + 1 * (y 1).val = _; rw [e1]; first | (show _ = (y 1).val; omega) | (show _ = t.val / 11 * 2048 + (y 1).val; omega)

/-- The gain's window reads the gain. -/
theorem blk1 (c : Dev nD) (t : Fin cfg0.N) (y : S1x2048.Idx) :
    (iblk m c 1 t : FVec Ideal S1x2048 .f32) y = A1 m c (ix1 (y 1)) := by
  obtain ⟨-, ⟨e0, e1⟩, -⟩ := idx_all t
  unfold iblk
  rw [View.read_apply]
  show (V m c main_v0 : FVec Ideal S1x2048 .f32) _ = _
  rw [V_main_v0]
  show A1 m c (ix1 _) = _
  congr 2
  apply Fin.ext
  show win0_1.index t 1 * 2048 + 1 * (y 1).val = (y 1).val
  rw [e1]; omega

/-- The gate's window reads the block of hidden features. -/
theorem blk2 (c : Dev nD) (t : Fin cfg0.N) (y : S2048x512.Idx) (h : t.val % 11 * 512 + (y 1).val < 5632) :
    (iblk m c 2 t : FVec Ideal S2048x512 .bf16) y = A2 m c (ix2 (y 0) ⟨t.val % 11 * 512 + (y 1).val, h⟩) := by
  obtain ⟨-, -, ⟨e0, e1⟩, -⟩ := idx_all t
  unfold iblk
  rw [View.read_apply]
  show (V m c main_v1 : FVec Ideal S2048x5632 .bf16) _ = _
  rw [V_main_v1]
  congr 1
  funext a
  apply Fin.ext
  match a with
  | ⟨0, _⟩ => show win0_2.index t 0 * 2048 + 1 * (y 0).val = _; rw [e0]; first | (show _ = (y 0).val; omega) | (show _ = t.val % 11 * 2048 + (y 0).val; omega)
  | ⟨1, _⟩ => show win0_2.index t 1 * 512 + 1 * (y 1).val = _; rw [e1]; first | (show _ = (y 1).val; omega) | (show _ = t.val % 11 * 512 + (y 1).val; omega)

/-- The second factor's window reads the block of hidden features. -/
theorem blk3 (c : Dev nD) (t : Fin cfg0.N) (y : S2048x512.Idx) (h : t.val % 11 * 512 + (y 1).val < 5632) :
    (iblk m c 3 t : FVec Ideal S2048x512 .bf16) y = A3 m c (ix2 (y 0) ⟨t.val % 11 * 512 + (y 1).val, h⟩) := by
  obtain ⟨-, -, -, ⟨e0, e1⟩, -⟩ := idx_all t
  unfold iblk
  rw [View.read_apply]
  show (V m c main_v2 : FVec Ideal S2048x5632 .bf16) _ = _
  rw [V_main_v2]
  congr 1
  funext a
  apply Fin.ext
  match a with
  | ⟨0, _⟩ => show win0_3.index t 0 * 2048 + 1 * (y 0).val = _; rw [e0]; first | (show _ = (y 0).val; omega) | (show _ = t.val % 11 * 2048 + (y 0).val; omega)
  | ⟨1, _⟩ => show win0_3.index t 1 * 512 + 1 * (y 1).val = _; rw [e1]; first | (show _ = (y 1).val; omega) | (show _ = t.val % 11 * 512 + (y 1).val; omega)

/-- The last weight's window reads the block of hidden features. -/
theorem blk4 (c : Dev nD) (t : Fin cfg0.N) (y : S512x2048.Idx) (h : t.val % 11 * 512 + (y 0).val < 5632) :
    (iblk m c 4 t : FVec Ideal S512x2048 .bf16) y = A4 m c (ix2 ⟨t.val % 11 * 512 + (y 0).val, h⟩ (y 1)) := by
  obtain ⟨-, -, -, -, e0, e1⟩ := idx_all t
  unfold iblk
  rw [View.read_apply]
  show (V m c main_v3 : FVec Ideal S5632x2048 .bf16) _ = _
  rw [V_main_v3]
  congr 1
  funext a
  apply Fin.ext
  match a with
  | ⟨0, _⟩ => show win0_4.index t 0 * 512 + 1 * (y 0).val = _; rw [e0]; first | (show _ = (y 0).val; omega) | (show _ = t.val % 11 * 512 + (y 0).val; omega)
  | ⟨1, _⟩ => show win0_4.index t 1 * 2048 + 1 * (y 1).val = _; rw [e1]; first | (show _ = (y 1).val; omega) | (show _ = t.val % 11 * 2048 + (y 1).val; omega)

/-- Row `r` of the input, normalized. -/
def hrow (a0 : FVec Ideal S8192x2048 .f32) (a1 : FVec Ideal S2048 .f32) (r : Fin 8192) : Fin 2048 → EReal :=
  nrm (fun k => a0 (ix2 r k)) (fun k => a1 (ix1 k))

/-- Hidden feature number `n`. -/
def feat (n : ℕ) : Fin 5632 := ⟨n % 5632, Nat.mod_lt _ (by decide)⟩

/-- What hidden feature `n` contributes to row `r`, column `j`. -/
def term (a0 : FVec Ideal S8192x2048 .f32) (a1 : FVec Ideal S2048 .f32) (a2 a3 : FVec Ideal S2048x5632 .f32) (a4 : FVec Ideal S5632x2048 .f32)
    (r : Fin 8192) (j : Fin 2048) (n : ℕ) : EReal :=
  ((∑ k : Fin 2048, hrow a0 a1 r k * a2 (ix2 k (feat n))) * Ideal.logistic (∑ k : Fin 2048, hrow a0 a1 r k * a2 (ix2 k (feat n)))
    * (∑ k : Fin 2048, hrow a0 a1 r k * a3 (ix2 k (feat n)))) * a4 (ix2 (feat n) j)

theorem feat_val (n : ℕ) (h : n < 5632) : feat n = ⟨n, h⟩ := Fin.ext (Nat.mod_eq_of_lt h)

/-- A step over the point's blocks, the scratch holding the normalized rows: the sum grows by the point's block of hidden features. -/
theorem step_at (c : Dev nD) (t : Fin cfg0.N) (o : Vec Ideal S512x2048 .f32) (h : Vec Ideal S512x2048 .bf16) (y : S512x2048.Idx)
    (hr : t.val / 11 * 512 + (y 0).val < 8192)
    (hh : ∀ k : Fin 2048, h (ix2 (y 0) k) = hrow (A0 m c) (A1 m c) ⟨t.val / 11 * 512 + (y 0).val, hr⟩ k) :
    k0_pay2 h (iblk m c 2 t) (iblk m c 3 t) o (iblk m c 4 t) y = o y + ∑ f : Fin 512,
      term (A0 m c) (A1 m c) (A2 m c) (A3 m c) (A4 m c)
        ⟨t.val / 11 * 512 + (y 0).val, hr⟩ (y 1) (t.val % 11 * 512 + f.val) := by
  rw [pay2_at]
  congr 1
  refine Finset.sum_congr rfl fun f _ => ?_
  have hf : t.val % 11 * 512 + f.val < 5632 := by have := f.isLt; omega
  have e2 : ∀ k : Fin 2048, (iblk m c 2 t : FVec Ideal S2048x512 .bf16) (ix2 k f) = A2 m c (ix2 k ⟨t.val % 11 * 512 + f.val, hf⟩) :=
    fun k => blk2 m c t (ix2 k f) hf
  have e3 : ∀ k : Fin 2048, (iblk m c 3 t : FVec Ideal S2048x512 .bf16) (ix2 k f) = A3 m c (ix2 k ⟨t.val % 11 * 512 + f.val, hf⟩) :=
    fun k => blk3 m c t (ix2 k f) hf
  have e4 : (iblk m c 4 t : FVec Ideal S512x2048 .bf16) (ix2 f (y 1)) = A4 m c (ix2 ⟨t.val % 11 * 512 + f.val, hf⟩ (y 1)) :=
    blk4 m c t (ix2 f (y 1)) hf
  rw [e4]
  simp only [e2, e3, hh]
  unfold term
  rw [feat_val _ hf]

/-- The normalized row block of a point, at an index. -/
theorem norm_at (c : Dev nD) (t : Fin cfg0.N) (y : S512x2048.Idx) (hr : t.val / 11 * 512 + (y 0).val < 8192) :
    k0_pay1 (iblk m c 0 t) (iblk m c 1 t) y = hrow (A0 m c) (A1 m c) ⟨t.val / 11 * 512 + (y 0).val, hr⟩ (y 1) := by
  rw [pay1_at]
  have e0 : ∀ k : Fin 2048, (iblk m c 0 t : FVec Ideal S512x2048 .f32) (ix2 (y 0) k) = A0 m c (ix2 ⟨t.val / 11 * 512 + (y 0).val, hr⟩ k) :=
    fun k => blk0 m c t (ix2 (y 0) k) hr
  have e1 : ∀ k : Fin 2048, (iblk m c 1 t : FVec Ideal S1x2048 .f32) (ix2 0 k) = A1 m c (ix1 k) :=
    fun k => blk1 m c t (ix2 0 k)
  unfold hrow
  simp only [e0, e1]

/-- What the output block holds at a place after the first `j` hidden features. -/
def part (c : Dev nD) (r : Fin 8192) (k : Fin 2048) (j : ℕ) : EReal :=
  A0 m c (ix2 r k) + ∑ f ∈ Finset.range j, term (A0 m c) (A1 m c) (A2 m c) (A3 m c) (A4 m c) r k f

/-- The state after the first point of a row block. -/
theorem first_eq (c : Dev nD) (t : Fin cfg0.N) (h0 : t.val % 11 = 0) (y : S512x2048.Idx) (hr : t.val / 11 * 512 + (y 0).val < 8192) :
    (outsAt0 m c t.val t.isLt).1 y = part m c ⟨t.val / 11 * 512 + (y 0).val, hr⟩ (y 1) (t.val % 11 * 512 + 512)
    ∧ (outsAt0 m c t.val t.isLt).2 y = hrow (A0 m c) (A1 m c) ⟨t.val / 11 * 512 + (y 0).val, hr⟩ (y 1) := by
  rw [outsAt0_A m c t h0]
  dsimp only
  constructor
  · rw [outA]
    refine (step_at m c t _ _ y hr fun k => norm_at m c t (ix2 (y 0) k) hr).trans ?_
    unfold part
    rw [blk0 m c t y hr, h0, Nat.zero_mul, Nat.zero_add, Finset.sum_range]
    simp only [Nat.zero_add]
  · rw [soutA]
    exact norm_at m c t y hr

/-- The state after a later point of a row block, from the state after the point before. -/
theorem next_eq (c : Dev nD) (t : Fin cfg0.N) (h0 : ¬t.val % 11 = 0) (r : Fin 8192) (y : S512x2048.Idx) (hr : t.val / 11 * 512 + (y 0).val < 8192)
    (hrr : r = ⟨t.val / 11 * 512 + (y 0).val, hr⟩) (q : Vec Ideal S512x2048 .f32 × Vec Ideal S512x2048 .bf16) (j : ℕ) (hj : t.val % 11 * 512 = j)
    (hq : outsAt0 m c (t.val - 1) (Nat.lt_of_le_of_lt (Nat.sub_le _ _) t.isLt) = q)
    (ho : q.1 y = part m c r (y 1) j)
    (hs : ∀ k : Fin 2048, q.2 (ix2 (y 0) k) = hrow (A0 m c) (A1 m c) r k) :
    (outsAt0 m c t.val t.isLt).1 y = part m c r (y 1) (j + 512)
    ∧ (outsAt0 m c t.val t.isLt).2 = q.2 := by
  subst hj hrr
  rw [outsAt0_B m c t h0, hq]
  dsimp only
  constructor
  · rw [outB]
    refine (step_at m c t _ _ y hr hs).trans ?_
    rw [ho]
    unfold part
    rw [sum_blocks, add_assoc]
  · rfl

/-- After point `n`: the scratch holds the row block's normalized rows, the output block the input plus the sum over the hidden features met so far. -/
theorem outs_eq (c : Dev nD) (n : ℕ) : ∀ (hn : n < cfg0.N) (y : S512x2048.Idx) (hr : n / 11 * 512 + (y 0).val < 8192),
    (outsAt0 m c n hn).1 y = part m c ⟨n / 11 * 512 + (y 0).val, hr⟩ (y 1) (n % 11 * 512 + 512)
    ∧ (outsAt0 m c n hn).2 y = hrow (A0 m c) (A1 m c) ⟨n / 11 * 512 + (y 0).val, hr⟩ (y 1) := by
  induction n with
  | zero => exact fun hn y hr => first_eq m c ⟨0, hn⟩ rfl y hr
  | succ n ih =>
    intro hn y hr
    by_cases h0 : (n + 1) % 11 = 0
    · exact first_eq m c ⟨n + 1, hn⟩ h0 y hr
    · have hd : n / 11 = (n + 1) / 11 := by omega
      have hm : n % 11 * 512 + 512 = (n + 1) % 11 * 512 := by omega
      have ih' := ih (Nat.lt_of_succ_lt hn)
      simp only [hd, hm] at ih'
      obtain ⟨e1, e2⟩ := next_eq m c ⟨n + 1, hn⟩ h0 _ y hr rfl _ _ rfl rfl (ih' y hr).1 (fun k => (ih' (ix2 (y 0) k) hr).2)
      exact ⟨e1, (congrFun e2 y).trans (ih' y hr).2⟩

/-- The reference's composed term over the launch contents. -/
abbrev refv (a0 : FVec Ideal S8192x2048 .f32) (a1 : FVec Ideal S2048 .f32) (a2 a3 : FVec Ideal S2048x5632 .f32) (a4 : FVec Ideal S5632x2048 .f32) : FVec Ideal S8192x2048 .f32 :=
  addf a0 (Host.dotGeneral Cert.FfnRefIdeal.dot_S8192x5632_S5632x2048_S8192x2048_1_0_0_1_n_n none (mulf (mulf (Host.dotGeneral Cert.FfnRefIdeal.dot_S8192x2048_S2048x5632_S8192x5632_1_0_0_1_n_n none (mulf (mulf a0 (broadcastInDim Cert.FfnRefIdeal.S8192x2048 ![0, 1] Cert.FfnRefIdeal.Gen.bcast_S8192x1_S8192x2048_0_1 (Host.rsqrt (addf (Host.divf (broadcastInDim Cert.FfnRefIdeal.S8192x1 ![0] Cert.FfnRefIdeal.Gen.bcast_S8192_S8192x1_0 (Host.reduceAdd (mulf a0 a0) (constant Cert.FfnRefIdeal.S_ .f32 0x00000000#32) Cert.FfnRefIdeal.Gen.reducesTo_S8192x2048_S8192_d1 Cert.FfnRefIdeal.Gen.h_S_)) (broadcastInDim Cert.FfnRefIdeal.S8192x1 ![] Cert.FfnRefIdeal.Gen.bcast_S_S8192x1 (constant Cert.FfnRefIdeal.S_ .f32 0x45000000#32))) (broadcastInDim Cert.FfnRefIdeal.S8192x1 ![] Cert.FfnRefIdeal.Gen.bcast_S_S8192x1 (constant Cert.FfnRefIdeal.S_ .f32 0x358637BD#32)))))) (broadcastInDim Cert.FfnRefIdeal.S8192x2048 ![0, 1] Cert.FfnRefIdeal.Gen.bcast_S1x2048_S8192x2048_0_1 (broadcastInDim Cert.FfnRefIdeal.S1x2048 ![1] Cert.FfnRefIdeal.Gen.bcast_S2048_S1x2048_1 a1))) a2) (Host.divf (broadcastInDim Cert.FfnRefIdeal.S8192x5632 ![] Cert.FfnRefIdeal.Gen.bcast_S_S8192x5632 (constant Cert.FfnRefIdeal.S_ .f32 0x3F800000#32)) (addf (broadcastInDim Cert.FfnRefIdeal.S8192x5632 ![] Cert.FfnRefIdeal.Gen.bcast_S_S8192x5632 (constant Cert.FfnRefIdeal.S_ .f32 0x3F800000#32)) (Host.exp (Host.negf (Host.dotGeneral Cert.FfnRefIdeal.dot_S8192x2048_S2048x5632_S8192x5632_1_0_0_1_n_n none (mulf (mulf a0 (broadcastInDim Cert.FfnRefIdeal.S8192x2048 ![0, 1] Cert.FfnRefIdeal.Gen.bcast_S8192x1_S8192x2048_0_1 (Host.rsqrt (addf (Host.divf (broadcastInDim Cert.FfnRefIdeal.S8192x1 ![0] Cert.FfnRefIdeal.Gen.bcast_S8192_S8192x1_0 (Host.reduceAdd (mulf a0 a0) (constant Cert.FfnRefIdeal.S_ .f32 0x00000000#32) Cert.FfnRefIdeal.Gen.reducesTo_S8192x2048_S8192_d1 Cert.FfnRefIdeal.Gen.h_S_)) (broadcastInDim Cert.FfnRefIdeal.S8192x1 ![] Cert.FfnRefIdeal.Gen.bcast_S_S8192x1 (constant Cert.FfnRefIdeal.S_ .f32 0x45000000#32))) (broadcastInDim Cert.FfnRefIdeal.S8192x1 ![] Cert.FfnRefIdeal.Gen.bcast_S_S8192x1 (constant Cert.FfnRefIdeal.S_ .f32 0x358637BD#32)))))) (broadcastInDim Cert.FfnRefIdeal.S8192x2048 ![0, 1] Cert.FfnRefIdeal.Gen.bcast_S1x2048_S8192x2048_0_1 (broadcastInDim Cert.FfnRefIdeal.S1x2048 ![1] Cert.FfnRefIdeal.Gen.bcast_S2048_S1x2048_1 a1))) a2)))))) (Host.dotGeneral Cert.FfnRefIdeal.dot_S8192x2048_S2048x5632_S8192x5632_1_0_0_1_n_n none (mulf (mulf a0 (broadcastInDim Cert.FfnRefIdeal.S8192x2048 ![0, 1] Cert.FfnRefIdeal.Gen.bcast_S8192x1_S8192x2048_0_1 (Host.rsqrt (addf (Host.divf (broadcastInDim Cert.FfnRefIdeal.S8192x1 ![0] Cert.FfnRefIdeal.Gen.bcast_S8192_S8192x1_0 (Host.reduceAdd (mulf a0 a0) (constant Cert.FfnRefIdeal.S_ .f32 0x00000000#32) Cert.FfnRefIdeal.Gen.reducesTo_S8192x2048_S8192_d1 Cert.FfnRefIdeal.Gen.h_S_)) (broadcastInDim Cert.FfnRefIdeal.S8192x1 ![] Cert.FfnRefIdeal.Gen.bcast_S_S8192x1 (constant Cert.FfnRefIdeal.S_ .f32 0x45000000#32))) (broadcastInDim Cert.FfnRefIdeal.S8192x1 ![] Cert.FfnRefIdeal.Gen.bcast_S_S8192x1 (constant Cert.FfnRefIdeal.S_ .f32 0x358637BD#32)))))) (broadcastInDim Cert.FfnRefIdeal.S8192x2048 ![0, 1] Cert.FfnRefIdeal.Gen.bcast_S1x2048_S8192x2048_0_1 (broadcastInDim Cert.FfnRefIdeal.S1x2048 ![1] Cert.FfnRefIdeal.Gen.bcast_S2048_S1x2048_1 a1))) a3)) a4)

/-- The reference at an index: the input plus the sum over all hidden features. -/
theorem refv_at (a0 : FVec Ideal S8192x2048 .f32) (a1 : FVec Ideal S2048 .f32) (a2 a3 : FVec Ideal S2048x5632 .f32) (a4 : FVec Ideal S5632x2048 .f32) (y : S8192x2048.Idx) :
    refv a0 a1 a2 a3 a4 y = a0 y + ∑ f : Fin 5632, ((∑ k : Fin 2048, hrow a0 a1 (y 0) k * a2 (ix2 k f)) * Ideal.logistic (∑ k : Fin 2048, hrow a0 a1 (y 0) k * a2 (ix2 k f))
      * (∑ k : Fin 2048, hrow a0 a1 (y 0) k * a3 (ix2 k f))) * a4 (ix2 f (y 1)) := by
  pointwise [refv, hrow, nrm, Ideal.logistic]

/-- The result array is the reference's. -/
theorem final_eq (c : Dev nD) : (dats m 0 c).arrAt 5 cfg0.N = refv (A0 m c) (A1 m c) (A2 m c) (A3 m c) (A4 m c) := by
  rw [final5]
  funext i
  have h0 : (i 0).val < 8192 := (i 0).isLt
  have h1 : (i 1).val < 2048 := (i 1).isLt
  have hp : pt5Of i = (i 0).val / 512 * 11 + 10 := by
    show 11 * (1 * ((i 0).val / 512 - 0) + 1 * ((i 1).val / 2048 - 0)) + 10 = _
    omega
  have hd : pt5Of i / 11 = (i 0).val / 512 := by rw [hp]; omega
  have hm : pt5Of i % 11 = 10 := by rw [hp]; omega
  have ht : pt5Of i < cfg0.N := by show _ < grid0.N; rw [N_0, hp]; omega
  have e0 : (loc5Of i 0).val = (i 0).val % 512 := rfl
  have e1 : (loc5Of i 1).val = (i 1).val % 2048 := rfl
  have hr : pt5Of i / 11 * 512 + (loc5Of i 0).val < 8192 := by rw [hd, e0]; omega
  unfold G5
  rw [dif_pos ht, ← outsAt0_sweep m c (pt5Of i) ht, (outs_eq m c (pt5Of i) ht (loc5Of i) hr).1, refv_at]
  have er : (⟨pt5Of i / 11 * 512 + (loc5Of i 0).val, hr⟩ : Fin 8192) = i 0 := Fin.ext (by dsimp only; rw [hd]; omega)
  have ec : loc5Of i 1 = i 1 := Fin.ext (by omega)
  unfold part
  rw [er, ec, hm, show 10 * 512 + 512 = 5632 from rfl, Finset.sum_range]
  have ei : (ix2 (i 0) (i 1) : S8192x2048.Idx) = i := by funext a; match a with | ⟨0, _⟩ => rfl | ⟨1, _⟩ => rfl
  refine congrArg₂ (· + ·) (congrArg _ ei) (Finset.sum_congr rfl fun f _ => ?_)
  unfold term
  rw [feat_val f.val f.isLt]

end Cert.FfnIdeal.Value

namespace Cert.Proof

/-- Over the extended reals the feed-forward kernel computes the reference's gated sum over all hidden features, added to the input. -/
theorem algebraic_Ffn : algebraic_FfnIdeal_FfnRefIdeal (hFfnIdeal := Cert.FfnIdeal.Gen.facts) (hFfnRefIdeal := Cert.FfnRefIdeal.Gen.facts) := by
  pair_intro
  · run_from Cert.FfnIdeal.Value.run_blocks m g
  · run_from Cert.FfnRefIdeal.Value.run m' g'
    exact (Cert.FfnIdeal.Value.final_eq m c).symm

end Cert.Proof

end
-- ==== Proof.Ple.lean ====
module

public import proofs.«01_k».proof.Defs
public import proofs.«01_k».proof.Proof.Gen.PleIdeal.Value
public import proofs.«01_k».proof.Proof.Gen.PleRefIdeal.Run
public import proofs.«01_k».proof.Proof.Common
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.PleIdeal.Value

open Cert.PleIdeal Cert.PleIdeal.Gen Cert.Layer

variable (m : (ℓ : Loc nD τ sig) → Buf (Elt Ideal) ℓ) (ρ : Dev nD → PrngReg)

/-- The arguments at launch: the input, the embedding, the gain, the gate's weight and bias, and the projection's weight. -/
abbrev A0 (c : Dev nD) : FVec Ideal S8192x2048 .f32 := m ((c : Thread nD τ).loc main_arg0)
abbrev A1 (c : Dev nD) : FVec Ideal S8192x256 .f32 := m ((c : Thread nD τ).loc main_arg1)
abbrev A2 (c : Dev nD) : FVec Ideal S2048 .f32 := m ((c : Thread nD τ).loc main_arg2)
abbrev A3 (c : Dev nD) : FVec Ideal S2048x2048 .f32 := m ((c : Thread nD τ).loc main_arg3)
abbrev A4 (c : Dev nD) : FVec Ideal S2048 .f32 := m ((c : Thread nD τ).loc main_arg4)
abbrev A5 (c : Dev nD) : FVec Ideal S256x2048 .f32 := m ((c : Thread nD τ).loc main_arg5)

theorem hz : (![0, 0] : Fin 2 → Nat) = fun _ => 0 := funext fun a => by fin_cases a <;> rfl

/-- The index maps in closed form. -/
theorem idx_all : ∀ t : Fin cfg0.N,
    (win0_0.index t 0 = t.val / 4 ∧ win0_0.index t 1 = 0)
    ∧ (win0_1.index t 0 = t.val / 4 ∧ win0_1.index t 1 = 0)
    ∧ (win0_2.index t 0 = 0 ∧ win0_2.index t 1 = 0)
    ∧ (win0_3.index t 0 = 0 ∧ win0_3.index t 1 = t.val % 4)
    ∧ (win0_4.index t 0 = 0 ∧ win0_4.index t 1 = t.val % 4)
    ∧ (win0_5.index t 0 = 0 ∧ win0_5.index t 1 = t.val % 4) :=
  (by decide +kernel : ∀ t : Fin grid0.N, _)

theorem V_main_v0 (c : Dev nD) : (V m c main_v0 : FVec Ideal S1x2048 .f32) = fun y => A2 m c (ix1 (y 1)) := by
  entry_read
  funext y
  pointwise

theorem V_main_v1 (c : Dev nD) : (V m c main_v1 : FVec Ideal S2048x2048 .bf16) = A3 m c := by
  entry_read
  rfl

theorem V_main_v2 (c : Dev nD) : (V m c main_v2 : FVec Ideal S1x2048 .f32) = fun y => A4 m c (ix1 (y 1)) := by
  entry_read
  funext y
  pointwise

theorem V_main_v3 (c : Dev nD) : (V m c main_v3 : FVec Ideal S256x2048 .bf16) = A5 m c := by
  entry_read
  rfl

/-- The row-block window reads the block's own rows of the input. -/
theorem blk0 (c : Dev nD) (t : Fin cfg0.N) (y : S512x2048.Idx) (h0 : (t.val / 4) * 512 + (y 0).val < 8192) :
    (iblk m c 0 t : FVec Ideal S512x2048 .f32) y = A0 m c (ix2 ⟨(t.val / 4) * 512 + (y 0).val, h0⟩ (y 1)) := by
  obtain ⟨⟨e0, e1⟩, -⟩ := idx_all t
  unfold iblk
  rw [View.read_apply]
  show (V m c main_arg0 : FVec Ideal S8192x2048 .f32) _ = _
  rw [V_main_arg0]
  congr 1
  funext a
  apply Fin.ext
  match a with
  | ⟨0, _⟩ => show win0_0.index t 0 * 512 + 1 * (y 0).val = _; rw [e0]; show _ = (t.val / 4) * 512 + (y 0).val; omega
  | ⟨1, _⟩ => show win0_0.index t 1 * 2048 + 1 * (y 1).val = (y 1).val; rw [e1]; omega

/-- The second row-block window reads the block's own rows of the embedding. -/
theorem blk1 (c : Dev nD) (t : Fin cfg0.N) (y : S512x256.Idx) (h0 : (t.val / 4) * 512 + (y 0).val < 8192) :
    (iblk m c 1 t : FVec Ideal S512x256 .f32) y = A1 m c (ix2 ⟨(t.val / 4) * 512 + (y 0).val, h0⟩ (y 1)) := by
  obtain ⟨-, ⟨e0, e1⟩, -⟩ := idx_all t
  unfold iblk
  rw [View.read_apply]
  show (V m c main_arg1 : FVec Ideal S8192x256 .f32) _ = _
  rw [V_main_arg1]
  congr 1
  funext a
  apply Fin.ext
  match a with
  | ⟨0, _⟩ => show win0_1.index t 0 * 512 + 1 * (y 0).val = _; rw [e0]; show _ = (t.val / 4) * 512 + (y 0).val; omega
  | ⟨1, _⟩ => show win0_1.index t 1 * 256 + 1 * (y 1).val = (y 1).val; rw [e1]; omega

/-- The gain's window reads the gain. -/
theorem blk2 (c : Dev nD) (t : Fin cfg0.N) (y : S1x2048.Idx) :
    (iblk m c 2 t : FVec Ideal S1x2048 .f32) y = A2 m c (ix1 (y 1)) := by
  obtain ⟨-, -, ⟨e0, e1⟩, -⟩ := idx_all t
  unfold iblk
  rw [View.read_apply]
  show (V m c main_v0 : FVec Ideal S1x2048 .f32) _ = _
  rw [V_main_v0]
  refine congrArg (A2 m c) (funext fun a => Fin.ext ?_)
  match a with
  | ⟨0, _⟩ => show win0_2.index t 1 * 2048 + 1 * (y 1).val = (y 1).val; rw [e1]; omega

/-- The gate's window reads its block of columns. -/
theorem blk3 (c : Dev nD) (t : Fin cfg0.N) (y : S2048x512.Idx) (h1 : (t.val % 4) * 512 + (y 1).val < 2048) :
    (iblk m c 3 t : FVec Ideal S2048x512 .bf16) y = A3 m c (ix2 (y 0) ⟨(t.val % 4) * 512 + (y 1).val, h1⟩) := by
  obtain ⟨-, -, -, ⟨e0, e1⟩, -⟩ := idx_all t
  unfold iblk
  rw [View.read_apply]
  show (V m c main_v1 : FVec Ideal S2048x2048 .bf16) _ = _
  rw [V_main_v1]
  congr 1
  funext a
  apply Fin.ext
  match a with
  | ⟨0, _⟩ => show win0_3.index t 0 * 2048 + 1 * (y 0).val = (y 0).val; rw [e0]; omega
  | ⟨1, _⟩ => show win0_3.index t 1 * 512 + 1 * (y 1).val = _; rw [e1]; show _ = (t.val % 4) * 512 + (y 1).val; omega

/-- The gate's bias window reads its block. -/
theorem blk4 (c : Dev nD) (t : Fin cfg0.N) (y : S1x512.Idx) (h1 : (t.val % 4) * 512 + (y 1).val < 2048) :
    (iblk m c 4 t : FVec Ideal S1x512 .f32) y = A4 m c (ix1 ⟨(t.val % 4) * 512 + (y 1).val, h1⟩) := by
  obtain ⟨-, -, -, -, ⟨e0, e1⟩, -⟩ := idx_all t
  unfold iblk
  rw [View.read_apply]
  show (V m c main_v2 : FVec Ideal S1x2048 .f32) _ = _
  rw [V_main_v2]
  refine congrArg (A4 m c) (funext fun a => Fin.ext ?_)
  match a with
  | ⟨0, _⟩ => show win0_4.index t 1 * 512 + 1 * (y 1).val = _; rw [e1]; show _ = (t.val % 4) * 512 + (y 1).val; omega

/-- The projection's window reads its block of columns. -/
theorem blk5 (c : Dev nD) (t : Fin cfg0.N) (y : S256x512.Idx) (h1 : (t.val % 4) * 512 + (y 1).val < 2048) :
    (iblk m c 5 t : FVec Ideal S256x512 .bf16) y = A5 m c (ix2 (y 0) ⟨(t.val % 4) * 512 + (y 1).val, h1⟩) := by
  obtain ⟨-, -, -, -, -, e0, e1⟩ := idx_all t
  unfold iblk
  rw [View.read_apply]
  show (V m c main_v3 : FVec Ideal S256x2048 .bf16) _ = _
  rw [V_main_v3]
  congr 1
  funext a
  apply Fin.ext
  match a with
  | ⟨0, _⟩ => show win0_5.index t 0 * 256 + 1 * (y 0).val = (y 0).val; rw [e0]; omega
  | ⟨1, _⟩ => show win0_5.index t 1 * 512 + 1 * (y 1).val = _; rw [e1]; show _ = (t.val % 4) * 512 + (y 1).val; omega

/-- The normalized row block, at an index. -/
theorem pay1_at (x : Vec Ideal S512x2048 .f32) (g : Vec Ideal S1x2048 .f32) (y : S512x2048.Idx) :
    k0_pay1 x g y = nrm (fun k => x (ix2 (y 0) k)) (fun k => g (ix2 0 k)) (y 1) := by
  pointwise [k0_pay1, nrm]

theorem pay2_at (x : Vec Ideal S512x256 .f32) (y : S512x256.Idx) : k0_pay2 x y = x y := by
  pointwise [k0_pay2]

/-- The output block's payload, at an index. -/
theorem pay3_at (h : Vec Ideal S512x2048 .bf16) (w : Vec Ideal S2048x512 .bf16) (b : Vec Ideal S1x512 .f32) (x : Vec Ideal S512x512 .f32) (q : Vec Ideal S512x256 .bf16) (v : Vec Ideal S256x512 .bf16) (y : S512x512.Idx) :
    k0_pay3 h w b x q v y = x y + Ideal.logistic (∑ k : Fin 2048, h (ix2 (y 0) k) * w (ix2 k (y 1)) + b (ix2 0 (y 1))) * ∑ k : Fin 256, q (ix2 (y 0) k) * v (ix2 k (y 1)) := by
  pointwise [k0_pay3]

/-- First point of a row block: the output block after the body. -/
theorem outA (c : Dev nD) (i : grid0.Coords) (m2 : Memref sig .tc .vmem S512x2048 .f32) (h2 : m2.IsWhole) (m3 : Memref sig .tc .vmem S512x256 .f32) (h3 : m3.IsWhole) (m4 : Memref sig .tc .vmem S1x2048 .f32) (h4 : m4.IsWhole) (m5 : Memref sig .tc .vmem S2048x512 .bf16) (h5 : m5.IsWhole) (m6 : Memref sig .tc .vmem S1x512 .f32) (h6 : m6.IsWhole) (m7 : Memref sig .tc .vmem S256x512 .bf16) (h7 : m7.IsWhole) (m8 : Memref sig .tc .vmem S512x512 .f32) (h8 : m8.IsWhole) (m9 : Memref sig .tc .vmem S512x2048 .bf16) (h9 : m9.IsWhole) (m10 : Memref sig .tc .vmem S512x256 .bf16) (h10 : m10.IsWhole) (hc : cond0_0 i) (x0 : Vec Ideal S512x2048 .f32) (x1 : Vec Ideal S512x256 .f32) (x2 : Vec Ideal S1x2048 .f32) (x3 : Vec Ideal S2048x512 .bf16) (x4 : Vec Ideal S1x512 .f32) (x5 : Vec Ideal S256x512 .bf16) :
    out0_A_6 c i m2 h2 m3 h3 m4 h4 m5 h5 m6 h6 m7 h7 m8 h8 m9 h9 m10 h10 hc x0 x1 x2 x3 x4 x5 = k0_pay3 (k0_pay1 x0 x2) x3 x4 (View.ld x0 (Rect.unit (s := S512x2048) (k0_off1 i) S512x512.size (k0_off1_inb i))) (k0_pay2 x1) x5 := by
  unfold out0_A_6
  rw [View.read_writes_eq_canon _ _ _ (cover0_A_6 c i m2 h2 m3 h3 m4 h4 m5 h5 m6 h6 m7 h7 m8 h8 m9 h9 m10 h10 hc x0 x1 x2 x3 x4 x5)]
  unfold kernelRun0_A
  dsimp only
  sl_unfold_words
  rw [View.canon_unit_zero (S := S512x512) hz]
  simp only [View.readCov_unit_zero (S := S512x2048) _ hz, View.readCov_unit_zero (S := S512x256) _ hz]
  simp only [View.readAt_eq_ld, h2.read_unread, h3.read_unread, h4.read_unread, h5.read_unread, h6.read_unread, h7.read_unread, h8.read_unread, h9.read_unread, h10.read_unread, View.ld_unit_zero (S := S512x2048) hz, View.ld_unit_zero (S := S512x256) hz, View.ld_unit_zero (S := S1x2048) hz, View.ld_unit_zero (S := S2048x512) hz, View.ld_unit_zero (S := S1x512) hz, View.ld_unit_zero (S := S256x512) hz, View.ld_unit_zero (S := S512x512) hz]

/-- First point of a row block: the scratch after the body. -/
theorem soutA0 (c : Dev nD) (i : grid0.Coords) (m2 : Memref sig .tc .vmem S512x2048 .f32) (h2 : m2.IsWhole) (m3 : Memref sig .tc .vmem S512x256 .f32) (h3 : m3.IsWhole) (m4 : Memref sig .tc .vmem S1x2048 .f32) (h4 : m4.IsWhole) (m5 : Memref sig .tc .vmem S2048x512 .bf16) (h5 : m5.IsWhole) (m6 : Memref sig .tc .vmem S1x512 .f32) (h6 : m6.IsWhole) (m7 : Memref sig .tc .vmem S256x512 .bf16) (h7 : m7.IsWhole) (m8 : Memref sig .tc .vmem S512x512 .f32) (h8 : m8.IsWhole) (m9 : Memref sig .tc .vmem S512x2048 .bf16) (h9 : m9.IsWhole) (m10 : Memref sig .tc .vmem S512x256 .bf16) (h10 : m10.IsWhole) (hc : cond0_0 i) (x0 : Vec Ideal S512x2048 .f32) (x1 : Vec Ideal S512x256 .f32) (x2 : Vec Ideal S1x2048 .f32) (x3 : Vec Ideal S2048x512 .bf16) (x4 : Vec Ideal S1x512 .f32) (x5 : Vec Ideal S256x512 .bf16) :
    sout0_A_0 c i m2 h2 m3 h3 m4 h4 m5 h5 m6 h6 m7 h7 m8 h8 m9 h9 m10 h10 hc x0 x1 x2 x3 x4 x5 = k0_pay1 x0 x2 := by
  unfold sout0_A_0
  rw [View.read_writes_eq_canon _ _ _ (scover0_A_0 c i m2 h2 m3 h3 m4 h4 m5 h5 m6 h6 m7 h7 m8 h8 m9 h9 m10 h10 hc x0 x1 x2 x3 x4 x5)]
  unfold kernelRun0_A
  dsimp only
  sl_unfold_words
  rw [View.canon_unit_zero (S := S512x2048) hz]
  simp only [View.readAt_eq_ld, h2.read_unread, h3.read_unread, h4.read_unread, h5.read_unread, h6.read_unread, h7.read_unread, h8.read_unread, h9.read_unread, h10.read_unread, View.ld_unit_zero (S := S512x2048) hz, View.ld_unit_zero (S := S512x256) hz, View.ld_unit_zero (S := S1x2048) hz, View.ld_unit_zero (S := S2048x512) hz, View.ld_unit_zero (S := S1x512) hz, View.ld_unit_zero (S := S256x512) hz, View.ld_unit_zero (S := S512x512) hz]

/-- First point of a row block: the scratch after the body. -/
theorem soutA1 (c : Dev nD) (i : grid0.Coords) (m2 : Memref sig .tc .vmem S512x2048 .f32) (h2 : m2.IsWhole) (m3 : Memref sig .tc .vmem S512x256 .f32) (h3 : m3.IsWhole) (m4 : Memref sig .tc .vmem S1x2048 .f32) (h4 : m4.IsWhole) (m5 : Memref sig .tc .vmem S2048x512 .bf16) (h5 : m5.IsWhole) (m6 : Memref sig .tc .vmem S1x512 .f32) (h6 : m6.IsWhole) (m7 : Memref sig .tc .vmem S256x512 .bf16) (h7 : m7.IsWhole) (m8 : Memref sig .tc .vmem S512x512 .f32) (h8 : m8.IsWhole) (m9 : Memref sig .tc .vmem S512x2048 .bf16) (h9 : m9.IsWhole) (m10 : Memref sig .tc .vmem S512x256 .bf16) (h10 : m10.IsWhole) (hc : cond0_0 i) (x0 : Vec Ideal S512x2048 .f32) (x1 : Vec Ideal S512x256 .f32) (x2 : Vec Ideal S1x2048 .f32) (x3 : Vec Ideal S2048x512 .bf16) (x4 : Vec Ideal S1x512 .f32) (x5 : Vec Ideal S256x512 .bf16) :
    sout0_A_1 c i m2 h2 m3 h3 m4 h4 m5 h5 m6 h6 m7 h7 m8 h8 m9 h9 m10 h10 hc x0 x1 x2 x3 x4 x5 = k0_pay2 x1 := by
  unfold sout0_A_1
  rw [View.read_writes_eq_canon _ _ _ (scover0_A_1 c i m2 h2 m3 h3 m4 h4 m5 h5 m6 h6 m7 h7 m8 h8 m9 h9 m10 h10 hc x0 x1 x2 x3 x4 x5)]
  unfold kernelRun0_A
  dsimp only
  sl_unfold_words
  rw [View.canon_unit_zero (S := S512x256) hz]
  simp only [View.readAt_eq_ld, h2.read_unread, h3.read_unread, h4.read_unread, h5.read_unread, h6.read_unread, h7.read_unread, h8.read_unread, h9.read_unread, h10.read_unread, View.ld_unit_zero (S := S512x2048) hz, View.ld_unit_zero (S := S512x256) hz, View.ld_unit_zero (S := S1x2048) hz, View.ld_unit_zero (S := S2048x512) hz, View.ld_unit_zero (S := S1x512) hz, View.ld_unit_zero (S := S256x512) hz, View.ld_unit_zero (S := S512x512) hz]

/-- Later points of a row block: the output block after the body. -/
theorem outB (c : Dev nD) (i : grid0.Coords) (m2 : Memref sig .tc .vmem S512x2048 .f32) (h2 : m2.IsWhole) (m3 : Memref sig .tc .vmem S512x256 .f32) (h3 : m3.IsWhole) (m4 : Memref sig .tc .vmem S1x2048 .f32) (h4 : m4.IsWhole) (m5 : Memref sig .tc .vmem S2048x512 .bf16) (h5 : m5.IsWhole) (m6 : Memref sig .tc .vmem S1x512 .f32) (h6 : m6.IsWhole) (m7 : Memref sig .tc .vmem S256x512 .bf16) (h7 : m7.IsWhole) (m8 : Memref sig .tc .vmem S512x512 .f32) (h8 : m8.IsWhole) (m9 : Memref sig .tc .vmem S512x2048 .bf16) (h9 : m9.IsWhole) (m10 : Memref sig .tc .vmem S512x256 .bf16) (h10 : m10.IsWhole) (hc : ¬cond0_0 i) (x0 : Vec Ideal S512x2048 .f32) (x1 : Vec Ideal S512x256 .f32) (x2 : Vec Ideal S1x2048 .f32) (x3 : Vec Ideal S2048x512 .bf16) (x4 : Vec Ideal S1x512 .f32) (x5 : Vec Ideal S256x512 .bf16) (s0 : Vec Ideal S512x2048 .bf16) (s1 : Vec Ideal S512x256 .bf16) :
    out0_B_6 c i m2 h2 m3 h3 m4 h4 m5 h5 m6 h6 m7 h7 m8 h8 m9 h9 m10 h10 hc x0 x1 x2 x3 x4 x5 s0 s1 = k0_pay3 s0 x3 x4 (View.ld x0 (Rect.unit (s := S512x2048) (k0_off1 i) S512x512.size (k0_off1_inb i))) s1 x5 := by
  unfold out0_B_6
  rw [View.read_writes_eq_canon _ _ _ (cover0_B_6 c i m2 h2 m3 h3 m4 h4 m5 h5 m6 h6 m7 h7 m8 h8 m9 h9 m10 h10 hc x0 x1 x2 x3 x4 x5 s0 s1)]
  unfold kernelRun0_B
  dsimp only
  sl_unfold_words
  rw [View.canon_unit_zero (S := S512x512) hz]
  simp only [View.readAt_eq_ld, h2.read_unread, h3.read_unread, h4.read_unread, h5.read_unread, h6.read_unread, h7.read_unread, h8.read_unread, h9.read_unread, h10.read_unread, View.ld_unit_zero (S := S512x2048) hz, View.ld_unit_zero (S := S512x256) hz, View.ld_unit_zero (S := S1x2048) hz, View.ld_unit_zero (S := S2048x512) hz, View.ld_unit_zero (S := S1x512) hz, View.ld_unit_zero (S := S256x512) hz, View.ld_unit_zero (S := S512x512) hz]

/-- Row `r` of the input, normalized. -/
def hrow (a0 : FVec Ideal S8192x2048 .f32) (g : FVec Ideal S2048 .f32) (r : Fin 8192) : Fin 2048 → EReal :=
  nrm (fun k => a0 (ix2 r k)) (fun k => g (ix1 k))

/-- The normalized row block of a point, at an index. -/
theorem norm_at (c : Dev nD) (t : Fin cfg0.N) (y : S512x2048.Idx) (hr : (t.val / 4) * 512 + (y 0).val < 8192) :
    k0_pay1 (iblk m c 0 t) (iblk m c 2 t) y = hrow (A0 m c) (A2 m c) ⟨(t.val / 4) * 512 + (y 0).val, hr⟩ (y 1) := by
  rw [pay1_at]
  have e0 : ∀ k : Fin 2048, (iblk m c 0 t : FVec Ideal S512x2048 .f32) (ix2 (y 0) k) = A0 m c (ix2 ⟨(t.val / 4) * 512 + (y 0).val, hr⟩ k) :=
    fun k => blk0 m c t (ix2 (y 0) k) hr
  have e1 : ∀ k : Fin 2048, (iblk m c 2 t : FVec Ideal S1x2048 .f32) (ix2 0 k) = A2 m c (ix1 k) :=
    fun k => blk2 m c t (ix2 0 k)
  unfold hrow
  simp only [e0, e1]

/-- After every point the scratch holds the row block's normalized rows. -/
theorem scr_eq (c : Dev nD) (n : ℕ) : ∀ (hn : n < cfg0.N) (y : S512x2048.Idx) (hr : (n / 4) * 512 + (y 0).val < 8192),
    (outsAt0 m c n hn).2.1 y = hrow (A0 m c) (A2 m c) ⟨(n / 4) * 512 + (y 0).val, hr⟩ (y 1) := by
  have first : ∀ (t : Fin cfg0.N) (h0 : t.val % 4 = 0) (y : S512x2048.Idx) (hr : (t.val / 4) * 512 + (y 0).val < 8192),
      (outsAt0 m c t.val t.isLt).2.1 y = hrow (A0 m c) (A2 m c) ⟨(t.val / 4) * 512 + (y 0).val, hr⟩ (y 1) := fun t h0 y hr => by
    rw [outsAt0_A m c t h0]
    dsimp only
    rw [soutA0]
    exact norm_at m c t y hr
  induction n with
  | zero => exact fun hn y hr => first ⟨0, hn⟩ rfl y hr
  | succ n ih =>
    intro hn y hr
    by_cases h0 : (n + 1) % 4 = 0
    · exact first ⟨n + 1, hn⟩ h0 y hr
    · have hd : n / 4 = (n + 1) / 4 := by omega
      have ih' := ih (Nat.lt_of_succ_lt hn)
      simp only [hd] at ih'
      have hx := outsAt0_B m c ⟨n + 1, hn⟩ h0
      exact (congrFun (congrArg (fun q => q.2.1) hx) y).trans (ih' y hr)

/-- After every point the second scratch holds the row block's rows of the second input. -/
theorem scr1_eq (c : Dev nD) (n : ℕ) : ∀ (hn : n < cfg0.N) (y : S512x256.Idx) (hr : (n / 4) * 512 + (y 0).val < 8192),
    (outsAt0 m c n hn).2.2 y = A1 m c (ix2 ⟨(n / 4) * 512 + (y 0).val, hr⟩ (y 1)) := by
  have first : ∀ (t : Fin cfg0.N) (h0 : t.val % 4 = 0) (y : S512x256.Idx) (hr : (t.val / 4) * 512 + (y 0).val < 8192),
      (outsAt0 m c t.val t.isLt).2.2 y = A1 m c (ix2 ⟨(t.val / 4) * 512 + (y 0).val, hr⟩ (y 1)) := fun t h0 y hr => by
    rw [outsAt0_A m c t h0]
    dsimp only
    rw [soutA1, pay2_at]
    exact blk1 m c t y hr
  induction n with
  | zero => exact fun hn y hr => first ⟨0, hn⟩ rfl y hr
  | succ n ih =>
    intro hn y hr
    by_cases h0 : (n + 1) % 4 = 0
    · exact first ⟨n + 1, hn⟩ h0 y hr
    · have hd : n / 4 = (n + 1) / 4 := by omega
      have ih' := ih (Nat.lt_of_succ_lt hn)
      simp only [hd] at ih'
      have hx := outsAt0_B m c ⟨n + 1, hn⟩ h0
      exact (congrFun (congrArg (fun q => q.2.2) hx) y).trans (ih' y hr)

/-- The output block after a point, over the scratch after it. -/
theorem out1 (c : Dev nD) (t : Fin cfg0.N) :
    (outsAt0 m c t.val t.isLt).1 = k0_pay3 (outsAt0 m c t.val t.isLt).2.1 (iblk m c 3 t) (iblk m c 4 t) (View.ld (iblk m c 0 t) (Rect.unit (s := S512x2048) (k0_off1 (grid0.coords t)) S512x512.size (k0_off1_inb (grid0.coords t)))) (outsAt0 m c t.val t.isLt).2.2 (iblk m c 5 t) := by
  by_cases h0 : t.val % 4 = 0
  · rw [outsAt0_A m c t h0]
    dsimp only
    rw [outA, soutA0, soutA1]
    rfl
  · rw [outsAt0_B m c t h0]
    dsimp only
    rw [outB]
    rfl

/-- The input plus the gated projection of the embedding, at a row and a column. -/
def outv (a0 : FVec Ideal S8192x2048 .f32) (a1 : FVec Ideal S8192x256 .f32) (a2 : FVec Ideal S2048 .f32) (a3 : FVec Ideal S2048x2048 .f32) (a4 : FVec Ideal S2048 .f32) (a5 : FVec Ideal S256x2048 .f32) (r : Fin 8192) (j : Fin 2048) : EReal :=
  a0 (ix2 r j) + Ideal.logistic (∑ k : Fin 2048, hrow a0 a2 r k * a3 (ix2 k j) + a4 (ix1 j)) * ∑ k : Fin 256, a1 (ix2 r k) * a5 (ix2 k j)

/-- The column offset of the point's block. -/
theorem off_at : ∀ t : Fin cfg0.N, k0_off1 (grid0.coords t) 0 = 0 ∧ k0_off1 (grid0.coords t) 1 = t.val % 4 * 512 :=
  (by decide +kernel : ∀ t : Fin grid0.N, _)

/-- The output block after a point, at an index. -/
theorem out_at (c : Dev nD) (t : Fin cfg0.N) (y : S512x512.Idx) (hr : (t.val / 4) * 512 + (y 0).val < 8192) (hc : (t.val % 4) * 512 + (y 1).val < 2048) :
    (outsAt0 m c t.val t.isLt).1 y = outv (A0 m c) (A1 m c) (A2 m c) (A3 m c) (A4 m c) (A5 m c) ⟨(t.val / 4) * 512 + (y 0).val, hr⟩ ⟨(t.val % 4) * 512 + (y 1).val, hc⟩ := by
  rw [out1]
  have es : ∀ k : Fin 2048, (outsAt0 m c t.val t.isLt).2.1 (ix2 (y 0) k) = hrow (A0 m c) (A2 m c) ⟨(t.val / 4) * 512 + (y 0).val, hr⟩ k :=
    fun k => scr_eq m c t.val t.isLt (ix2 (y 0) k) hr
  have eq : ∀ k : Fin 256, (outsAt0 m c t.val t.isLt).2.2 (ix2 (y 0) k) = A1 m c (ix2 ⟨(t.val / 4) * 512 + (y 0).val, hr⟩ k) :=
    fun k => scr1_eq m c t.val t.isLt (ix2 (y 0) k) hr
  have e3 : ∀ k : Fin 2048, (iblk m c 3 t : FVec Ideal S2048x512 .bf16) (ix2 k (y 1)) = A3 m c (ix2 k ⟨(t.val % 4) * 512 + (y 1).val, hc⟩) := fun k => blk3 m c t (ix2 k (y 1)) hc
  have e4 : (iblk m c 4 t : FVec Ideal S1x512 .f32) (ix2 0 (y 1)) = A4 m c (ix1 ⟨(t.val % 4) * 512 + (y 1).val, hc⟩) := blk4 m c t (ix2 0 (y 1)) hc
  have e5 : ∀ k : Fin 256, (iblk m c 5 t : FVec Ideal S256x512 .bf16) (ix2 k (y 1)) = A5 m c (ix2 k ⟨(t.val % 4) * 512 + (y 1).val, hc⟩) := fun k => blk5 m c t (ix2 k (y 1)) hc
  have ex : View.ld (iblk m c 0 t : FVec Ideal S512x2048 .f32) (Rect.unit (s := S512x2048) (k0_off1 (grid0.coords t)) S512x512.size (k0_off1_inb (grid0.coords t))) y
      = A0 m c (ix2 ⟨(t.val / 4) * 512 + (y 0).val, hr⟩ ⟨(t.val % 4) * 512 + (y 1).val, hc⟩) := by
    obtain ⟨o0, o1⟩ := off_at t
    have hi : (Rect.unit (s := S512x2048) (k0_off1 (grid0.coords t)) S512x512.size (k0_off1_inb (grid0.coords t))).emb y = (ix2 (y 0) ⟨(t.val % 4) * 512 + (y 1).val, hc⟩ : S512x2048.Idx) := by
      funext a
      apply Fin.ext
      match a with
      | ⟨0, _⟩ => show k0_off1 (grid0.coords t) 0 + 1 * (y 0).val = (y 0).val; rw [o0]; omega
      | ⟨1, _⟩ => show k0_off1 (grid0.coords t) 1 + 1 * (y 1).val = t.val % 4 * 512 + (y 1).val; rw [o1]; omega
    refine (congrArg (iblk m c 0 t : FVec Ideal S512x2048 .f32) hi).trans ?_
    exact blk0 m c t (ix2 (y 0) ⟨(t.val % 4) * 512 + (y 1).val, hc⟩) hr
  rw [pay3_at]
  unfold outv
  rw [ex]
  simp only [es, eq, e3, e4, e5]

/-- The reference's composed term over the launch contents. -/
abbrev refv (a0 : FVec Ideal S8192x2048 .f32) (a1 : FVec Ideal S8192x256 .f32) (a2 : FVec Ideal S2048 .f32) (a3 : FVec Ideal S2048x2048 .f32) (a4 : FVec Ideal S2048 .f32) (a5 : FVec Ideal S256x2048 .f32) : FVec Ideal S8192x2048 .f32 :=
  addf a0 (mulf (Host.divf (broadcastInDim Cert.PleRefIdeal.S8192x2048 ![] Cert.PleRefIdeal.Gen.bcast_S_S8192x2048 (constant Cert.PleRefIdeal.S_ .f32 0x3F800000#32)) (addf (broadcastInDim Cert.PleRefIdeal.S8192x2048 ![] Cert.PleRefIdeal.Gen.bcast_S_S8192x2048 (constant Cert.PleRefIdeal.S_ .f32 0x3F800000#32)) (Host.exp (Host.negf (addf (Host.dotGeneral Cert.PleRefIdeal.dot_S8192x2048_S2048x2048_S8192x2048_1_0_0_1_n_n none (mulf (mulf a0 (broadcastInDim Cert.PleRefIdeal.S8192x2048 ![0, 1] Cert.PleRefIdeal.Gen.bcast_S8192x1_S8192x2048_0_1 (Host.rsqrt (addf (Host.divf (broadcastInDim Cert.PleRefIdeal.S8192x1 ![0] Cert.PleRefIdeal.Gen.bcast_S8192_S8192x1_0 (Host.reduceAdd (mulf a0 a0) (constant Cert.PleRefIdeal.S_ .f32 0x00000000#32) Cert.PleRefIdeal.Gen.reducesTo_S8192x2048_S8192_d1 Cert.PleRefIdeal.Gen.h_S_)) (broadcastInDim Cert.PleRefIdeal.S8192x1 ![] Cert.PleRefIdeal.Gen.bcast_S_S8192x1 (constant Cert.PleRefIdeal.S_ .f32 0x45000000#32))) (broadcastInDim Cert.PleRefIdeal.S8192x1 ![] Cert.PleRefIdeal.Gen.bcast_S_S8192x1 (constant Cert.PleRefIdeal.S_ .f32 0x358637BD#32)))))) (broadcastInDim Cert.PleRefIdeal.S8192x2048 ![0, 1] Cert.PleRefIdeal.Gen.bcast_S1x2048_S8192x2048_0_1 (broadcastInDim Cert.PleRefIdeal.S1x2048 ![1] Cert.PleRefIdeal.Gen.bcast_S2048_S1x2048_1 a2))) a3) (broadcastInDim Cert.PleRefIdeal.S8192x2048 ![0, 1] Cert.PleRefIdeal.Gen.bcast_S1x2048_S8192x2048_0_1 (broadcastInDim Cert.PleRefIdeal.S1x2048 ![1] Cert.PleRefIdeal.Gen.bcast_S2048_S1x2048_1 a4))))))) (Host.dotGeneral Cert.PleRefIdeal.dot_S8192x256_S256x2048_S8192x2048_1_0_0_1_n_n none a1 a5))

/-- The reference at an index. -/
theorem refv_at (a0 : FVec Ideal S8192x2048 .f32) (a1 : FVec Ideal S8192x256 .f32) (a2 : FVec Ideal S2048 .f32) (a3 : FVec Ideal S2048x2048 .f32) (a4 : FVec Ideal S2048 .f32) (a5 : FVec Ideal S256x2048 .f32) (y : S8192x2048.Idx) : refv a0 a1 a2 a3 a4 a5 y = outv a0 a1 a2 a3 a4 a5 (y 0) (y 1) := by
  pointwise [refv, outv, hrow, nrm, Ideal.logistic]

/-- The result array is the reference's. -/
theorem final_eq (c : Dev nD) : (dats m 0 c).arrAt 6 cfg0.N = refv (A0 m c) (A1 m c) (A2 m c) (A3 m c) (A4 m c) (A5 m c) := by
  rw [final6]
  funext i
  have h0 : (i 0).val < 8192 := (i 0).isLt
  have h1 : (i 1).val < 2048 := (i 1).isLt
  have hp : pt6Of i = (i 0).val / 512 * 4 + (i 1).val / 512 := by
    show 4 * ((i 0).val / 512 - 0) + 1 * ((i 1).val / 512 - 0) = _
    omega
  have hd : pt6Of i / 4 = (i 0).val / 512 := by rw [hp]; omega
  have hm : pt6Of i % 4 = (i 1).val / 512 := by rw [hp]; omega
  have ht : pt6Of i < cfg0.N := by show _ < grid0.N; rw [N_0, hp]; omega
  have e0 : (loc6Of i 0).val = (i 0).val % 512 := rfl
  have e1 : (loc6Of i 1).val = (i 1).val % 512 := rfl
  have hr : (pt6Of i / 4) * 512 + (loc6Of i 0).val < 8192 := by rw [hd, e0]; omega
  have hc : (pt6Of i % 4) * 512 + (loc6Of i 1).val < 2048 := by rw [hm, e1]; omega
  unfold G6
  rw [dif_pos ht, ← outsAt0_sweep m c (pt6Of i) ht, refv_at]
  refine (out_at m c ⟨pt6Of i, ht⟩ (loc6Of i) hr hc).trans ?_
  have er : (⟨(pt6Of i / 4) * 512 + (loc6Of i 0).val, hr⟩ : Fin 8192) = i 0 := Fin.ext (by dsimp only; rw [hd]; omega)
  have ec : (⟨(pt6Of i % 4) * 512 + (loc6Of i 1).val, hc⟩ : Fin 2048) = i 1 := Fin.ext (by dsimp only; rw [hm]; omega)
  exact congrArg₂ (outv (A0 m c) (A1 m c) (A2 m c) (A3 m c) (A4 m c) (A5 m c)) er ec

end Cert.PleIdeal.Value

namespace Cert.Proof

/-- Over the extended reals the gated embedding computes the reference's sum of the input and the gated projection. -/
theorem algebraic_Ple : algebraic_PleIdeal_PleRefIdeal (hPleIdeal := Cert.PleIdeal.Gen.facts) (hPleRefIdeal := Cert.PleRefIdeal.Gen.facts) := by
  pair_intro
  · run_from Cert.PleIdeal.Value.run_blocks m g
  · run_from Cert.PleRefIdeal.Value.run m' g'
    exact (Cert.PleIdeal.Value.final_eq m c).symm

end Cert.Proof

end
-- ==== Proof.ConvIn.lean ====
module

public import proofs.«01_k».proof.Defs
public import proofs.«01_k».proof.Proof.Gen.ConvInIdeal.Value
public import proofs.«01_k».proof.Proof.Gen.ConvInRefIdeal.Run
public import proofs.«01_k».proof.Proof.Common
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvInIdeal.Value

open Cert.ConvInIdeal Cert.ConvInIdeal.Gen Cert.Layer

variable (m : (ℓ : Loc nD τ sig) → Buf (Elt Ideal) ℓ) (ρ : Dev nD → PrngReg)

/-- The arguments at launch: the input, the gain, the weight and the bias. -/
abbrev A0 (c : Dev nD) : FVec Ideal S8192x2048 .f32 := m ((c : Thread nD τ).loc main_arg0)
abbrev A1 (c : Dev nD) : FVec Ideal S2048 .f32 := m ((c : Thread nD τ).loc main_arg1)
abbrev A2 (c : Dev nD) : FVec Ideal S2048x4096 .f32 := m ((c : Thread nD τ).loc main_arg2)
abbrev A3 (c : Dev nD) : FVec Ideal S4096 .f32 := m ((c : Thread nD τ).loc main_arg3)

theorem hz : (![0, 0] : Fin 2 → Nat) = fun _ => 0 := funext fun a => by fin_cases a <;> rfl

/-- The index maps in closed form. -/
theorem idx_all : ∀ t : Fin cfg0.N,
    (win0_0.index t 0 = t.val / 4 ∧ win0_0.index t 1 = 0)
    ∧ (win0_1.index t 0 = 0 ∧ win0_1.index t 1 = 0)
    ∧ (win0_2.index t 0 = 0 ∧ win0_2.index t 1 = t.val % 4)
    ∧ (win0_3.index t 0 = 0 ∧ win0_3.index t 1 = t.val % 4 + 4)
    ∧ (win0_4.index t 0 = 0 ∧ win0_4.index t 1 = t.val % 4)
    ∧ (win0_5.index t 0 = 0 ∧ win0_5.index t 1 = t.val % 4 + 4) :=
  (by decide +kernel : ∀ t : Fin grid0.N, _)

theorem V_main_v0 (c : Dev nD) : (V m c main_v0 : FVec Ideal S1x2048 .f32) = fun y => A1 m c (ix1 (y 1)) := by
  entry_read
  funext y
  pointwise

theorem V_main_v1 (c : Dev nD) : (V m c main_v1 : FVec Ideal S2048x4096 .bf16) = A2 m c := by
  entry_read
  rfl

theorem V_main_v2 (c : Dev nD) : (V m c main_v2 : FVec Ideal S1x4096 .f32) = fun y => A3 m c (ix1 (y 1)) := by
  entry_read
  funext y
  pointwise

/-- The row-block window reads the block's own rows of the input. -/
theorem blk0 (c : Dev nD) (t : Fin cfg0.N) (y : S512x2048.Idx) (h0 : (t.val / 4) * 512 + (y 0).val < 8192) :
    (iblk m c 0 t : FVec Ideal S512x2048 .f32) y = A0 m c (ix2 ⟨(t.val / 4) * 512 + (y 0).val, h0⟩ (y 1)) := by
  obtain ⟨⟨e0, e1⟩, -⟩ := idx_all t
  unfold iblk
  rw [View.read_apply]
  show (V m c main_arg0 : FVec Ideal S8192x2048 .f32) _ = _
  rw [V_main_arg0]
  congr 1
  funext a
  apply Fin.ext
  match a with
  | ⟨0, _⟩ => show win0_0.index t 0 * 512 + 1 * (y 0).val = _; rw [e0]; show _ = (t.val / 4) * 512 + (y 0).val; omega
  | ⟨1, _⟩ => show win0_0.index t 1 * 2048 + 1 * (y 1).val = (y 1).val; rw [e1]; omega

/-- The gain's window reads the gain. -/
theorem blk1 (c : Dev nD) (t : Fin cfg0.N) (y : S1x2048.Idx) :
    (iblk m c 1 t : FVec Ideal S1x2048 .f32) y = A1 m c (ix1 (y 1)) := by
  obtain ⟨-, ⟨e0, e1⟩, -⟩ := idx_all t
  unfold iblk
  rw [View.read_apply]
  show (V m c main_v0 : FVec Ideal S1x2048 .f32) _ = _
  rw [V_main_v0]
  refine congrArg (A1 m c) (funext fun a => Fin.ext ?_)
  match a with
  | ⟨0, _⟩ => show win0_1.index t 1 * 2048 + 1 * (y 1).val = (y 1).val; rw [e1]; omega

/-- The first weight window reads its block of the first half's columns. -/
theorem blk2 (c : Dev nD) (t : Fin cfg0.N) (y : S2048x512.Idx) (h1 : (t.val % 4) * 512 + (y 1).val < 4096) :
    (iblk m c 2 t : FVec Ideal S2048x512 .bf16) y = A2 m c (ix2 (y 0) ⟨(t.val % 4) * 512 + (y 1).val, h1⟩) := by
  obtain ⟨-, -, ⟨e0, e1⟩, -⟩ := idx_all t
  unfold iblk
  rw [View.read_apply]
  show (V m c main_v1 : FVec Ideal S2048x4096 .bf16) _ = _
  rw [V_main_v1]
  congr 1
  funext a
  apply Fin.ext
  match a with
  | ⟨0, _⟩ => show win0_2.index t 0 * 2048 + 1 * (y 0).val = (y 0).val; rw [e0]; omega
  | ⟨1, _⟩ => show win0_2.index t 1 * 512 + 1 * (y 1).val = _; rw [e1]; show _ = (t.val % 4) * 512 + (y 1).val; omega

/-- The second weight window reads its block of the second half's columns. -/
theorem blk3 (c : Dev nD) (t : Fin cfg0.N) (y : S2048x512.Idx) (h1 : (t.val % 4 + 4) * 512 + (y 1).val < 4096) :
    (iblk m c 3 t : FVec Ideal S2048x512 .bf16) y = A2 m c (ix2 (y 0) ⟨(t.val % 4 + 4) * 512 + (y 1).val, h1⟩) := by
  obtain ⟨-, -, -, ⟨e0, e1⟩, -⟩ := idx_all t
  unfold iblk
  rw [View.read_apply]
  show (V m c main_v1 : FVec Ideal S2048x4096 .bf16) _ = _
  rw [V_main_v1]
  congr 1
  funext a
  apply Fin.ext
  match a with
  | ⟨0, _⟩ => show win0_3.index t 0 * 2048 + 1 * (y 0).val = (y 0).val; rw [e0]; omega
  | ⟨1, _⟩ => show win0_3.index t 1 * 512 + 1 * (y 1).val = _; rw [e1]; show _ = (t.val % 4 + 4) * 512 + (y 1).val; omega

/-- The first bias window reads its block of the first half. -/
theorem blk4 (c : Dev nD) (t : Fin cfg0.N) (y : S1x512.Idx) (h1 : (t.val % 4) * 512 + (y 1).val < 4096) :
    (iblk m c 4 t : FVec Ideal S1x512 .f32) y = A3 m c (ix1 ⟨(t.val % 4) * 512 + (y 1).val, h1⟩) := by
  obtain ⟨-, -, -, -, ⟨e0, e1⟩, -⟩ := idx_all t
  unfold iblk
  rw [View.read_apply]
  show (V m c main_v2 : FVec Ideal S1x4096 .f32) _ = _
  rw [V_main_v2]
  refine congrArg (A3 m c) (funext fun a => Fin.ext ?_)
  match a with
  | ⟨0, _⟩ => show win0_4.index t 1 * 512 + 1 * (y 1).val = _; rw [e1]; show _ = (t.val % 4) * 512 + (y 1).val; omega

/-- The second bias window reads its block of the second half. -/
theorem blk5 (c : Dev nD) (t : Fin cfg0.N) (y : S1x512.Idx) (h1 : (t.val % 4 + 4) * 512 + (y 1).val < 4096) :
    (iblk m c 5 t : FVec Ideal S1x512 .f32) y = A3 m c (ix1 ⟨(t.val % 4 + 4) * 512 + (y 1).val, h1⟩) := by
  obtain ⟨-, -, -, -, -, e0, e1⟩ := idx_all t
  unfold iblk
  rw [View.read_apply]
  show (V m c main_v2 : FVec Ideal S1x4096 .f32) _ = _
  rw [V_main_v2]
  refine congrArg (A3 m c) (funext fun a => Fin.ext ?_)
  match a with
  | ⟨0, _⟩ => show win0_5.index t 1 * 512 + 1 * (y 1).val = _; rw [e1]; show _ = (t.val % 4 + 4) * 512 + (y 1).val; omega

/-- The normalized row block, at an index. -/
theorem pay1_at (x : Vec Ideal S512x2048 .f32) (g : Vec Ideal S1x2048 .f32) (y : S512x2048.Idx) :
    k0_pay1 x g y = nrm (fun k => x (ix2 (y 0) k)) (fun k => g (ix2 0 k)) (y 1) := by
  pointwise [k0_pay1, nrm]

/-- The gated product of the scratch by the weight's two blocks, at an index. -/
theorem pay2_at (h : Vec Ideal S512x2048 .bf16) (w v : Vec Ideal S2048x512 .bf16) (b d : Vec Ideal S1x512 .f32) (y : S512x512.Idx) :
    k0_pay2 h w b v d y = (∑ k : Fin 2048, h (ix2 (y 0) k) * w (ix2 k (y 1)) + b (ix2 0 (y 1))) * Ideal.logistic (∑ k : Fin 2048, h (ix2 (y 0) k) * v (ix2 k (y 1)) + d (ix2 0 (y 1))) := by
  pointwise [k0_pay2]

/-- First point of a row block: the output block after the body. -/
theorem outA (c : Dev nD) (i : grid0.Coords) (m2 : Memref sig .tc .vmem S512x2048 .f32) (h2 : m2.IsWhole) (m3 : Memref sig .tc .vmem S1x2048 .f32) (h3 : m3.IsWhole) (m4 : Memref sig .tc .vmem S2048x512 .bf16) (h4 : m4.IsWhole) (m5 : Memref sig .tc .vmem S2048x512 .bf16) (h5 : m5.IsWhole) (m6 : Memref sig .tc .vmem S1x512 .f32) (h6 : m6.IsWhole) (m7 : Memref sig .tc .vmem S1x512 .f32) (h7 : m7.IsWhole) (m8 : Memref sig .tc .vmem S512x512 .f32) (h8 : m8.IsWhole) (m9 : Memref sig .tc .vmem S512x2048 .bf16) (h9 : m9.IsWhole) (hc : cond0_0 i) (x0 : Vec Ideal S512x2048 .f32) (x1 : Vec Ideal S1x2048 .f32) (x2 : Vec Ideal S2048x512 .bf16) (x3 : Vec Ideal S2048x512 .bf16) (x4 : Vec Ideal S1x512 .f32) (x5 : Vec Ideal S1x512 .f32) :
    out0_A_6 c i m2 h2 m3 h3 m4 h4 m5 h5 m6 h6 m7 h7 m8 h8 m9 h9 hc x0 x1 x2 x3 x4 x5 = k0_pay2 (k0_pay1 x0 x1) x2 x4 x3 x5 := by
  unfold out0_A_6
  rw [View.read_writes_eq_canon _ _ _ (cover0_A_6 c i m2 h2 m3 h3 m4 h4 m5 h5 m6 h6 m7 h7 m8 h8 m9 h9 hc x0 x1 x2 x3 x4 x5)]
  unfold kernelRun0_A
  dsimp only
  sl_unfold_words
  rw [View.canon_unit_zero (S := S512x512) hz]
  simp only [View.readCov_unit_zero (S := S512x2048) _ hz]
  simp only [View.readAt_eq_ld, h2.read_unread, h3.read_unread, h4.read_unread, h5.read_unread, h6.read_unread, h7.read_unread, h8.read_unread, h9.read_unread, View.ld_unit_zero (S := S512x2048) hz, View.ld_unit_zero (S := S1x2048) hz, View.ld_unit_zero (S := S2048x512) hz, View.ld_unit_zero (S := S1x512) hz, View.ld_unit_zero (S := S512x512) hz]

/-- First point of a row block: the scratch after the body. -/
theorem soutA0 (c : Dev nD) (i : grid0.Coords) (m2 : Memref sig .tc .vmem S512x2048 .f32) (h2 : m2.IsWhole) (m3 : Memref sig .tc .vmem S1x2048 .f32) (h3 : m3.IsWhole) (m4 : Memref sig .tc .vmem S2048x512 .bf16) (h4 : m4.IsWhole) (m5 : Memref sig .tc .vmem S2048x512 .bf16) (h5 : m5.IsWhole) (m6 : Memref sig .tc .vmem S1x512 .f32) (h6 : m6.IsWhole) (m7 : Memref sig .tc .vmem S1x512 .f32) (h7 : m7.IsWhole) (m8 : Memref sig .tc .vmem S512x512 .f32) (h8 : m8.IsWhole) (m9 : Memref sig .tc .vmem S512x2048 .bf16) (h9 : m9.IsWhole) (hc : cond0_0 i) (x0 : Vec Ideal S512x2048 .f32) (x1 : Vec Ideal S1x2048 .f32) (x2 : Vec Ideal S2048x512 .bf16) (x3 : Vec Ideal S2048x512 .bf16) (x4 : Vec Ideal S1x512 .f32) (x5 : Vec Ideal S1x512 .f32) :
    sout0_A_0 c i m2 h2 m3 h3 m4 h4 m5 h5 m6 h6 m7 h7 m8 h8 m9 h9 hc x0 x1 x2 x3 x4 x5 = k0_pay1 x0 x1 := by
  unfold sout0_A_0
  rw [View.read_writes_eq_canon _ _ _ (scover0_A_0 c i m2 h2 m3 h3 m4 h4 m5 h5 m6 h6 m7 h7 m8 h8 m9 h9 hc x0 x1 x2 x3 x4 x5)]
  unfold kernelRun0_A
  dsimp only
  sl_unfold_words
  rw [View.canon_unit_zero (S := S512x2048) hz]
  simp only [View.readAt_eq_ld, h2.read_unread, h3.read_unread, h4.read_unread, h5.read_unread, h6.read_unread, h7.read_unread, h8.read_unread, h9.read_unread, View.ld_unit_zero (S := S512x2048) hz, View.ld_unit_zero (S := S1x2048) hz, View.ld_unit_zero (S := S2048x512) hz, View.ld_unit_zero (S := S1x512) hz, View.ld_unit_zero (S := S512x512) hz]

/-- Later points of a row block: the output block after the body. -/
theorem outB (c : Dev nD) (i : grid0.Coords) (m2 : Memref sig .tc .vmem S512x2048 .f32) (h2 : m2.IsWhole) (m3 : Memref sig .tc .vmem S1x2048 .f32) (h3 : m3.IsWhole) (m4 : Memref sig .tc .vmem S2048x512 .bf16) (h4 : m4.IsWhole) (m5 : Memref sig .tc .vmem S2048x512 .bf16) (h5 : m5.IsWhole) (m6 : Memref sig .tc .vmem S1x512 .f32) (h6 : m6.IsWhole) (m7 : Memref sig .tc .vmem S1x512 .f32) (h7 : m7.IsWhole) (m8 : Memref sig .tc .vmem S512x512 .f32) (h8 : m8.IsWhole) (m9 : Memref sig .tc .vmem S512x2048 .bf16) (h9 : m9.IsWhole) (hc : ¬cond0_0 i) (x0 : Vec Ideal S512x2048 .f32) (x1 : Vec Ideal S1x2048 .f32) (x2 : Vec Ideal S2048x512 .bf16) (x3 : Vec Ideal S2048x512 .bf16) (x4 : Vec Ideal S1x512 .f32) (x5 : Vec Ideal S1x512 .f32) (s0 : Vec Ideal S512x2048 .bf16) :
    out0_B_6 c i m2 h2 m3 h3 m4 h4 m5 h5 m6 h6 m7 h7 m8 h8 m9 h9 hc x0 x1 x2 x3 x4 x5 s0 = k0_pay2 s0 x2 x4 x3 x5 := by
  unfold out0_B_6
  rw [View.read_writes_eq_canon _ _ _ (cover0_B_6 c i m2 h2 m3 h3 m4 h4 m5 h5 m6 h6 m7 h7 m8 h8 m9 h9 hc x0 x1 x2 x3 x4 x5 s0)]
  unfold kernelRun0_B
  dsimp only
  sl_unfold_words
  rw [View.canon_unit_zero (S := S512x512) hz]
  simp only [View.readAt_eq_ld, h2.read_unread, h3.read_unread, h4.read_unread, h5.read_unread, h6.read_unread, h7.read_unread, h8.read_unread, h9.read_unread, View.ld_unit_zero (S := S512x2048) hz, View.ld_unit_zero (S := S1x2048) hz, View.ld_unit_zero (S := S2048x512) hz, View.ld_unit_zero (S := S1x512) hz, View.ld_unit_zero (S := S512x512) hz]

/-- Row `r` of the input, normalized. -/
def hrow (a0 : FVec Ideal S8192x2048 .f32) (g : FVec Ideal S2048 .f32) (r : Fin 8192) : Fin 2048 → EReal :=
  nrm (fun k => a0 (ix2 r k)) (fun k => g (ix1 k))

/-- The normalized row block of a point, at an index. -/
theorem norm_at (c : Dev nD) (t : Fin cfg0.N) (y : S512x2048.Idx) (hr : (t.val / 4) * 512 + (y 0).val < 8192) :
    k0_pay1 (iblk m c 0 t) (iblk m c 1 t) y = hrow (A0 m c) (A1 m c) ⟨(t.val / 4) * 512 + (y 0).val, hr⟩ (y 1) := by
  rw [pay1_at]
  have e0 : ∀ k : Fin 2048, (iblk m c 0 t : FVec Ideal S512x2048 .f32) (ix2 (y 0) k) = A0 m c (ix2 ⟨(t.val / 4) * 512 + (y 0).val, hr⟩ k) :=
    fun k => blk0 m c t (ix2 (y 0) k) hr
  have e1 : ∀ k : Fin 2048, (iblk m c 1 t : FVec Ideal S1x2048 .f32) (ix2 0 k) = A1 m c (ix1 k) :=
    fun k => blk1 m c t (ix2 0 k)
  unfold hrow
  simp only [e0, e1]

/-- After every point the scratch holds the row block's normalized rows. -/
theorem scr_eq (c : Dev nD) (n : ℕ) : ∀ (hn : n < cfg0.N) (y : S512x2048.Idx) (hr : (n / 4) * 512 + (y 0).val < 8192),
    (outsAt0 m c n hn).2 y = hrow (A0 m c) (A1 m c) ⟨(n / 4) * 512 + (y 0).val, hr⟩ (y 1) := by
  have first : ∀ (t : Fin cfg0.N) (h0 : t.val % 4 = 0) (y : S512x2048.Idx) (hr : (t.val / 4) * 512 + (y 0).val < 8192),
      (outsAt0 m c t.val t.isLt).2 y = hrow (A0 m c) (A1 m c) ⟨(t.val / 4) * 512 + (y 0).val, hr⟩ (y 1) := fun t h0 y hr => by
    rw [outsAt0_A m c t h0]
    dsimp only
    rw [soutA0]
    exact norm_at m c t y hr
  induction n with
  | zero => exact fun hn y hr => first ⟨0, hn⟩ rfl y hr
  | succ n ih =>
    intro hn y hr
    by_cases h0 : (n + 1) % 4 = 0
    · exact first ⟨n + 1, hn⟩ h0 y hr
    · have hd : n / 4 = (n + 1) / 4 := by omega
      have ih' := ih (Nat.lt_of_succ_lt hn)
      simp only [hd] at ih'
      have hx := outsAt0_B m c ⟨n + 1, hn⟩ h0
      exact (congrFun (congrArg (fun q => q.2) hx) y).trans (ih' y hr)

/-- The output block after a point, over the scratch after it. -/
theorem out1 (c : Dev nD) (t : Fin cfg0.N) :
    (outsAt0 m c t.val t.isLt).1 = k0_pay2 (outsAt0 m c t.val t.isLt).2 (iblk m c 2 t) (iblk m c 4 t) (iblk m c 3 t) (iblk m c 5 t) := by
  by_cases h0 : t.val % 4 = 0
  · rw [outsAt0_A m c t h0]
    dsimp only
    rw [outA, soutA0]
  · rw [outsAt0_B m c t h0]
    dsimp only
    rw [outB]
    rfl

/-- Column `j` of the first half of the doubled width, and of the second half. -/
def lo (j : Fin 2048) : Fin 4096 := ⟨j.val, by have := j.isLt; omega⟩
def hi (j : Fin 2048) : Fin 4096 := ⟨2048 + j.val, by have := j.isLt; omega⟩

/-- The gated projection of a normalized row, at a column. -/
def outv (a0 : FVec Ideal S8192x2048 .f32) (a1 : FVec Ideal S2048 .f32) (a2 : FVec Ideal S2048x4096 .f32) (a3 : FVec Ideal S4096 .f32) (r : Fin 8192) (j : Fin 2048) : EReal :=
  (∑ k : Fin 2048, hrow a0 a1 r k * a2 (ix2 k (lo j)) + a3 (ix1 (lo j))) * Ideal.logistic (∑ k : Fin 2048, hrow a0 a1 r k * a2 (ix2 k (hi j)) + a3 (ix1 (hi j)))

/-- The output block after a point, at an index. -/
theorem out_at (c : Dev nD) (t : Fin cfg0.N) (y : S512x512.Idx) (hr : (t.val / 4) * 512 + (y 0).val < 8192) (hc : (t.val % 4) * 512 + (y 1).val < 2048) :
    (outsAt0 m c t.val t.isLt).1 y = outv (A0 m c) (A1 m c) (A2 m c) (A3 m c) ⟨(t.val / 4) * 512 + (y 0).val, hr⟩ ⟨(t.val % 4) * 512 + (y 1).val, hc⟩ := by
  rw [out1]
  have es : ∀ k : Fin 2048, (outsAt0 m c t.val t.isLt).2 (ix2 (y 0) k) = hrow (A0 m c) (A1 m c) ⟨(t.val / 4) * 512 + (y 0).val, hr⟩ k :=
    fun k => scr_eq m c t.val t.isLt (ix2 (y 0) k) hr
  have hc4 : (t.val % 4 + 4) * 512 + (y 1).val < 4096 := by omega
  have hc' : (t.val % 4) * 512 + (y 1).val < 4096 := by omega
  have el : lo ⟨(t.val % 4) * 512 + (y 1).val, hc⟩ = ⟨(t.val % 4) * 512 + (y 1).val, hc'⟩ := rfl
  have eh : hi ⟨(t.val % 4) * 512 + (y 1).val, hc⟩ = ⟨(t.val % 4 + 4) * 512 + (y 1).val, hc4⟩ := Fin.ext (by show 2048 + ((t.val % 4) * 512 + (y 1).val) = (t.val % 4 + 4) * 512 + (y 1).val; omega)
  have e2 : ∀ k : Fin 2048, (iblk m c 2 t : FVec Ideal S2048x512 .bf16) (ix2 k (y 1)) = A2 m c (ix2 k ⟨(t.val % 4) * 512 + (y 1).val, hc'⟩) := fun k => blk2 m c t (ix2 k (y 1)) hc'
  have e3 : ∀ k : Fin 2048, (iblk m c 3 t : FVec Ideal S2048x512 .bf16) (ix2 k (y 1)) = A2 m c (ix2 k ⟨(t.val % 4 + 4) * 512 + (y 1).val, hc4⟩) := fun k => blk3 m c t (ix2 k (y 1)) hc4
  have e4 : (iblk m c 4 t : FVec Ideal S1x512 .f32) (ix2 0 (y 1)) = A3 m c (ix1 ⟨(t.val % 4) * 512 + (y 1).val, hc'⟩) := blk4 m c t (ix2 0 (y 1)) hc'
  have e5 : (iblk m c 5 t : FVec Ideal S1x512 .f32) (ix2 0 (y 1)) = A3 m c (ix1 ⟨(t.val % 4 + 4) * 512 + (y 1).val, hc4⟩) := blk5 m c t (ix2 0 (y 1)) hc4
  rw [pay2_at]
  unfold outv
  rw [el, eh]
  simp only [es, e2, e3, e4, e5]

/-- The reference's composed term over the launch contents. -/
abbrev refv (a0 : FVec Ideal S8192x2048 .f32) (a1 : FVec Ideal S2048 .f32) (a2 : FVec Ideal S2048x4096 .f32) (a3 : FVec Ideal S4096 .f32) : FVec Ideal S8192x2048 .f32 :=
  mulf (extractStridedSlice Cert.ConvInRefIdeal.S8192x2048 ![0, 0] (addf (Host.dotGeneral Cert.ConvInRefIdeal.dot_S8192x2048_S2048x4096_S8192x4096_1_0_0_1_n_n none (mulf (mulf a0 (broadcastInDim Cert.ConvInRefIdeal.S8192x2048 ![0, 1] Cert.ConvInRefIdeal.Gen.bcast_S8192x1_S8192x2048_0_1 (Host.rsqrt (addf (Host.divf (broadcastInDim Cert.ConvInRefIdeal.S8192x1 ![0] Cert.ConvInRefIdeal.Gen.bcast_S8192_S8192x1_0 (Host.reduceAdd (mulf a0 a0) (constant Cert.ConvInRefIdeal.S_ .f32 0x00000000#32) Cert.ConvInRefIdeal.Gen.reducesTo_S8192x2048_S8192_d1 Cert.ConvInRefIdeal.Gen.h_S_)) (broadcastInDim Cert.ConvInRefIdeal.S8192x1 ![] Cert.ConvInRefIdeal.Gen.bcast_S_S8192x1 (constant Cert.ConvInRefIdeal.S_ .f32 0x45000000#32))) (broadcastInDim Cert.ConvInRefIdeal.S8192x1 ![] Cert.ConvInRefIdeal.Gen.bcast_S_S8192x1 (constant Cert.ConvInRefIdeal.S_ .f32 0x358637BD#32)))))) (broadcastInDim Cert.ConvInRefIdeal.S8192x2048 ![0, 1] Cert.ConvInRefIdeal.Gen.bcast_S1x2048_S8192x2048_0_1 (broadcastInDim Cert.ConvInRefIdeal.S1x2048 ![1] Cert.ConvInRefIdeal.Gen.bcast_S2048_S1x2048_1 a1))) a2) (broadcastInDim Cert.ConvInRefIdeal.S8192x4096 ![0, 1] Cert.ConvInRefIdeal.Gen.bcast_S1x4096_S8192x4096_0_1 (broadcastInDim Cert.ConvInRefIdeal.S1x4096 ![1] Cert.ConvInRefIdeal.Gen.bcast_S4096_S1x4096_1 a3))) Cert.ConvInRefIdeal.Gen.slices_S8192x4096_S8192x2048_0_0) (Host.divf (broadcastInDim Cert.ConvInRefIdeal.S8192x2048 ![] Cert.ConvInRefIdeal.Gen.bcast_S_S8192x2048 (constant Cert.ConvInRefIdeal.S_ .f32 0x3F800000#32)) (addf (broadcastInDim Cert.ConvInRefIdeal.S8192x2048 ![] Cert.ConvInRefIdeal.Gen.bcast_S_S8192x2048 (constant Cert.ConvInRefIdeal.S_ .f32 0x3F800000#32)) (Host.exp (Host.negf (extractStridedSlice Cert.ConvInRefIdeal.S8192x2048 ![0, 2048] (addf (Host.dotGeneral Cert.ConvInRefIdeal.dot_S8192x2048_S2048x4096_S8192x4096_1_0_0_1_n_n none (mulf (mulf a0 (broadcastInDim Cert.ConvInRefIdeal.S8192x2048 ![0, 1] Cert.ConvInRefIdeal.Gen.bcast_S8192x1_S8192x2048_0_1 (Host.rsqrt (addf (Host.divf (broadcastInDim Cert.ConvInRefIdeal.S8192x1 ![0] Cert.ConvInRefIdeal.Gen.bcast_S8192_S8192x1_0 (Host.reduceAdd (mulf a0 a0) (constant Cert.ConvInRefIdeal.S_ .f32 0x00000000#32) Cert.ConvInRefIdeal.Gen.reducesTo_S8192x2048_S8192_d1 Cert.ConvInRefIdeal.Gen.h_S_)) (broadcastInDim Cert.ConvInRefIdeal.S8192x1 ![] Cert.ConvInRefIdeal.Gen.bcast_S_S8192x1 (constant Cert.ConvInRefIdeal.S_ .f32 0x45000000#32))) (broadcastInDim Cert.ConvInRefIdeal.S8192x1 ![] Cert.ConvInRefIdeal.Gen.bcast_S_S8192x1 (constant Cert.ConvInRefIdeal.S_ .f32 0x358637BD#32)))))) (broadcastInDim Cert.ConvInRefIdeal.S8192x2048 ![0, 1] Cert.ConvInRefIdeal.Gen.bcast_S1x2048_S8192x2048_0_1 (broadcastInDim Cert.ConvInRefIdeal.S1x2048 ![1] Cert.ConvInRefIdeal.Gen.bcast_S2048_S1x2048_1 a1))) a2) (broadcastInDim Cert.ConvInRefIdeal.S8192x4096 ![0, 1] Cert.ConvInRefIdeal.Gen.bcast_S1x4096_S8192x4096_0_1 (broadcastInDim Cert.ConvInRefIdeal.S1x4096 ![1] Cert.ConvInRefIdeal.Gen.bcast_S4096_S1x4096_1 a3))) Cert.ConvInRefIdeal.Gen.slices_S8192x4096_S8192x2048_0_2048)))))

/-- The reference at an index. -/
theorem refv_at (a0 : FVec Ideal S8192x2048 .f32) (a1 : FVec Ideal S2048 .f32) (a2 : FVec Ideal S2048x4096 .f32) (a3 : FVec Ideal S4096 .f32) (y : S8192x2048.Idx) : refv a0 a1 a2 a3 y = outv a0 a1 a2 a3 (y 0) (y 1) := by
  pointwise [refv, outv, hrow, nrm, Ideal.logistic, lo, hi]

/-- The result array is the reference's. -/
theorem final_eq (c : Dev nD) : (dats m 0 c).arrAt 6 cfg0.N = refv (A0 m c) (A1 m c) (A2 m c) (A3 m c) := by
  rw [final6]
  funext i
  have h0 : (i 0).val < 8192 := (i 0).isLt
  have h1 : (i 1).val < 2048 := (i 1).isLt
  have hp : pt6Of i = (i 0).val / 512 * 4 + (i 1).val / 512 := by
    show 4 * ((i 0).val / 512 - 0) + 1 * ((i 1).val / 512 - 0) = _
    omega
  have hd : pt6Of i / 4 = (i 0).val / 512 := by rw [hp]; omega
  have hm : pt6Of i % 4 = (i 1).val / 512 := by rw [hp]; omega
  have ht : pt6Of i < cfg0.N := by show _ < grid0.N; rw [N_0, hp]; omega
  have e0 : (loc6Of i 0).val = (i 0).val % 512 := rfl
  have e1 : (loc6Of i 1).val = (i 1).val % 512 := rfl
  have hr : (pt6Of i / 4) * 512 + (loc6Of i 0).val < 8192 := by rw [hd, e0]; omega
  have hc : (pt6Of i % 4) * 512 + (loc6Of i 1).val < 2048 := by rw [hm, e1]; omega
  unfold G6
  rw [dif_pos ht, ← outsAt0_sweep m c (pt6Of i) ht, refv_at]
  refine (out_at m c ⟨pt6Of i, ht⟩ (loc6Of i) hr hc).trans ?_
  have er : (⟨(pt6Of i / 4) * 512 + (loc6Of i 0).val, hr⟩ : Fin 8192) = i 0 := Fin.ext (by dsimp only; rw [hd]; omega)
  have ec : (⟨(pt6Of i % 4) * 512 + (loc6Of i 1).val, hc⟩ : Fin 2048) = i 1 := Fin.ext (by dsimp only; rw [hm]; omega)
  exact congrArg₂ (outv (A0 m c) (A1 m c) (A2 m c) (A3 m c)) er ec

end Cert.ConvInIdeal.Value

namespace Cert.Proof

/-- Over the extended reals the gated input projection computes the reference's product of one half by the logistic of the other. -/
theorem algebraic_ConvIn : algebraic_ConvInIdeal_ConvInRefIdeal (hConvInIdeal := Cert.ConvInIdeal.Gen.facts) (hConvInRefIdeal := Cert.ConvInRefIdeal.Gen.facts) := by
  pair_intro
  · run_from Cert.ConvInIdeal.Value.run_blocks m g
  · run_from Cert.ConvInRefIdeal.Value.run m' g'
    exact (Cert.ConvInIdeal.Value.final_eq m c).symm

end Cert.Proof

end
-- ==== Proof.Qkv.lean ====
module

public import proofs.«01_k».proof.Defs
public import proofs.«01_k».proof.Proof.Gen.QkvIdeal.Value
public import proofs.«01_k».proof.Proof.Gen.QkvRefIdeal.Run
public import proofs.«01_k».proof.Proof.Common
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.QkvIdeal.Value

open Cert.QkvIdeal Cert.QkvIdeal.Gen Cert.Layer

variable (m : (ℓ : Loc nD τ sig) → Buf (Elt Ideal) ℓ) (ρ : Dev nD → PrngReg)

/-- The arguments at launch: the input, the gain and the weight. -/
abbrev A0 (c : Dev nD) : FVec Ideal S8192x2048 .f32 := m ((c : Thread nD τ).loc main_arg0)
abbrev A1 (c : Dev nD) : FVec Ideal S2048 .f32 := m ((c : Thread nD τ).loc main_arg1)
abbrev A2 (c : Dev nD) : FVec Ideal S2048x3072 .f32 := m ((c : Thread nD τ).loc main_arg2)

theorem hz : (![0, 0] : Fin 2 → Nat) = fun _ => 0 := funext fun a => by fin_cases a <;> rfl

/-- The index maps in closed form. -/
theorem idx_all : ∀ t : Fin cfg0.N,
    (win0_0.index t 0 = t.val / 6 ∧ win0_0.index t 1 = 0)
    ∧ (win0_1.index t 0 = 0 ∧ win0_1.index t 1 = 0)
    ∧ (win0_2.index t 0 = 0 ∧ win0_2.index t 1 = t.val % 6) :=
  (by decide +kernel : ∀ t : Fin grid0.N, _)

theorem V_main_v0 (c : Dev nD) : (V m c main_v0 : FVec Ideal S1x2048 .f32) = fun y => A1 m c (ix1 (y 1)) := by
  entry_read
  funext y
  pointwise

theorem V_main_v1 (c : Dev nD) : (V m c main_v1 : FVec Ideal S2048x3072 .bf16) = A2 m c := by
  entry_read
  rfl

/-- The row-block window reads the block's own rows of the input. -/
theorem blk0 (c : Dev nD) (t : Fin cfg0.N) (y : S512x2048.Idx) (h0 : (t.val / 6) * 512 + (y 0).val < 8192) :
    (iblk m c 0 t : FVec Ideal S512x2048 .f32) y = A0 m c (ix2 ⟨(t.val / 6) * 512 + (y 0).val, h0⟩ (y 1)) := by
  obtain ⟨⟨e0, e1⟩, -⟩ := idx_all t
  unfold iblk
  rw [View.read_apply]
  show (V m c main_arg0 : FVec Ideal S8192x2048 .f32) _ = _
  rw [V_main_arg0]
  congr 1
  funext a
  apply Fin.ext
  match a with
  | ⟨0, _⟩ => show win0_0.index t 0 * 512 + 1 * (y 0).val = _; rw [e0]; show _ = (t.val / 6) * 512 + (y 0).val; omega
  | ⟨1, _⟩ => show win0_0.index t 1 * 2048 + 1 * (y 1).val = (y 1).val; rw [e1]; omega

/-- The gain's window reads the gain. -/
theorem blk1 (c : Dev nD) (t : Fin cfg0.N) (y : S1x2048.Idx) :
    (iblk m c 1 t : FVec Ideal S1x2048 .f32) y = A1 m c (ix1 (y 1)) := by
  obtain ⟨-, ⟨e0, e1⟩, -⟩ := idx_all t
  unfold iblk
  rw [View.read_apply]
  show (V m c main_v0 : FVec Ideal S1x2048 .f32) _ = _
  rw [V_main_v0]
  refine congrArg (A1 m c) (funext fun a => Fin.ext ?_)
  match a with
  | ⟨0, _⟩ => show win0_1.index t 1 * 2048 + 1 * (y 1).val = (y 1).val; rw [e1]; omega

/-- The weight's window reads its block of columns. -/
theorem blk2 (c : Dev nD) (t : Fin cfg0.N) (y : S2048x512.Idx) (h1 : (t.val % 6) * 512 + (y 1).val < 3072) :
    (iblk m c 2 t : FVec Ideal S2048x512 .bf16) y = A2 m c (ix2 (y 0) ⟨(t.val % 6) * 512 + (y 1).val, h1⟩) := by
  obtain ⟨-, -, e0, e1⟩ := idx_all t
  unfold iblk
  rw [View.read_apply]
  show (V m c main_v1 : FVec Ideal S2048x3072 .bf16) _ = _
  rw [V_main_v1]
  congr 1
  funext a
  apply Fin.ext
  match a with
  | ⟨0, _⟩ => show win0_2.index t 0 * 2048 + 1 * (y 0).val = (y 0).val; rw [e0]; omega
  | ⟨1, _⟩ => show win0_2.index t 1 * 512 + 1 * (y 1).val = _; rw [e1]; show _ = (t.val % 6) * 512 + (y 1).val; omega

/-- The normalized row block, at an index. -/
theorem pay1_at (x : Vec Ideal S512x2048 .f32) (g : Vec Ideal S1x2048 .f32) (y : S512x2048.Idx) :
    k0_pay1 x g y = nrm (fun k => x (ix2 (y 0) k)) (fun k => g (ix2 0 k)) (y 1) := by
  pointwise [k0_pay1, nrm]

/-- The product of the scratch by the weight's block, at an index. -/
theorem pay2_at (h : Vec Ideal S512x2048 .bf16) (w : Vec Ideal S2048x512 .bf16) (y : S512x512.Idx) :
    k0_pay2 h w y = ∑ k : Fin 2048, h (ix2 (y 0) k) * w (ix2 k (y 1)) := by
  pointwise [k0_pay2]

/-- First point of a row block: the output block after the body. -/
theorem outA (c : Dev nD) (i : grid0.Coords) (m2 : Memref sig .tc .vmem S512x2048 .f32) (h2 : m2.IsWhole) (m3 : Memref sig .tc .vmem S1x2048 .f32) (h3 : m3.IsWhole) (m4 : Memref sig .tc .vmem S2048x512 .bf16) (h4 : m4.IsWhole) (m5 : Memref sig .tc .vmem S512x512 .f32) (h5 : m5.IsWhole) (m6 : Memref sig .tc .vmem S512x2048 .bf16) (h6 : m6.IsWhole) (hc : cond0_0 i) (x0 : Vec Ideal S512x2048 .f32) (x1 : Vec Ideal S1x2048 .f32) (x2 : Vec Ideal S2048x512 .bf16) :
    out0_A_3 c i m2 h2 m3 h3 m4 h4 m5 h5 m6 h6 hc x0 x1 x2 = k0_pay2 (k0_pay1 x0 x1) x2 := by
  unfold out0_A_3
  rw [View.read_writes_eq_canon _ _ _ (cover0_A_3 c i m2 h2 m3 h3 m4 h4 m5 h5 m6 h6 hc x0 x1 x2)]
  unfold kernelRun0_A
  dsimp only
  sl_unfold_words
  rw [View.canon_unit_zero (S := S512x512) hz]
  simp only [View.readCov_unit_zero (S := S512x2048) _ hz]
  simp only [View.readAt_eq_ld, h2.read_unread, h3.read_unread, h4.read_unread, h5.read_unread, h6.read_unread, View.ld_unit_zero (S := S512x2048) hz, View.ld_unit_zero (S := S1x2048) hz, View.ld_unit_zero (S := S2048x512) hz, View.ld_unit_zero (S := S512x512) hz]

/-- First point of a row block: the scratch after the body. -/
theorem soutA0 (c : Dev nD) (i : grid0.Coords) (m2 : Memref sig .tc .vmem S512x2048 .f32) (h2 : m2.IsWhole) (m3 : Memref sig .tc .vmem S1x2048 .f32) (h3 : m3.IsWhole) (m4 : Memref sig .tc .vmem S2048x512 .bf16) (h4 : m4.IsWhole) (m5 : Memref sig .tc .vmem S512x512 .f32) (h5 : m5.IsWhole) (m6 : Memref sig .tc .vmem S512x2048 .bf16) (h6 : m6.IsWhole) (hc : cond0_0 i) (x0 : Vec Ideal S512x2048 .f32) (x1 : Vec Ideal S1x2048 .f32) (x2 : Vec Ideal S2048x512 .bf16) :
    sout0_A_0 c i m2 h2 m3 h3 m4 h4 m5 h5 m6 h6 hc x0 x1 x2 = k0_pay1 x0 x1 := by
  unfold sout0_A_0
  rw [View.read_writes_eq_canon _ _ _ (scover0_A_0 c i m2 h2 m3 h3 m4 h4 m5 h5 m6 h6 hc x0 x1 x2)]
  unfold kernelRun0_A
  dsimp only
  sl_unfold_words
  rw [View.canon_unit_zero (S := S512x2048) hz]
  simp only [View.readAt_eq_ld, h2.read_unread, h3.read_unread, h4.read_unread, h5.read_unread, h6.read_unread, View.ld_unit_zero (S := S512x2048) hz, View.ld_unit_zero (S := S1x2048) hz, View.ld_unit_zero (S := S2048x512) hz, View.ld_unit_zero (S := S512x512) hz]

/-- Later points of a row block: the output block after the body. -/
theorem outB (c : Dev nD) (i : grid0.Coords) (m2 : Memref sig .tc .vmem S512x2048 .f32) (h2 : m2.IsWhole) (m3 : Memref sig .tc .vmem S1x2048 .f32) (h3 : m3.IsWhole) (m4 : Memref sig .tc .vmem S2048x512 .bf16) (h4 : m4.IsWhole) (m5 : Memref sig .tc .vmem S512x512 .f32) (h5 : m5.IsWhole) (m6 : Memref sig .tc .vmem S512x2048 .bf16) (h6 : m6.IsWhole) (hc : ¬cond0_0 i) (x0 : Vec Ideal S512x2048 .f32) (x1 : Vec Ideal S1x2048 .f32) (x2 : Vec Ideal S2048x512 .bf16) (s0 : Vec Ideal S512x2048 .bf16) :
    out0_B_3 c i m2 h2 m3 h3 m4 h4 m5 h5 m6 h6 hc x0 x1 x2 s0 = k0_pay2 s0 x2 := by
  unfold out0_B_3
  rw [View.read_writes_eq_canon _ _ _ (cover0_B_3 c i m2 h2 m3 h3 m4 h4 m5 h5 m6 h6 hc x0 x1 x2 s0)]
  unfold kernelRun0_B
  dsimp only
  sl_unfold_words
  rw [View.canon_unit_zero (S := S512x512) hz]
  simp only [View.readAt_eq_ld, h2.read_unread, h3.read_unread, h4.read_unread, h5.read_unread, h6.read_unread, View.ld_unit_zero (S := S512x2048) hz, View.ld_unit_zero (S := S1x2048) hz, View.ld_unit_zero (S := S2048x512) hz, View.ld_unit_zero (S := S512x512) hz]

/-- Row `r` of the input, normalized. -/
def hrow (a0 : FVec Ideal S8192x2048 .f32) (g : FVec Ideal S2048 .f32) (r : Fin 8192) : Fin 2048 → EReal :=
  nrm (fun k => a0 (ix2 r k)) (fun k => g (ix1 k))

/-- The normalized row block of a point, at an index. -/
theorem norm_at (c : Dev nD) (t : Fin cfg0.N) (y : S512x2048.Idx) (hr : (t.val / 6) * 512 + (y 0).val < 8192) :
    k0_pay1 (iblk m c 0 t) (iblk m c 1 t) y = hrow (A0 m c) (A1 m c) ⟨(t.val / 6) * 512 + (y 0).val, hr⟩ (y 1) := by
  rw [pay1_at]
  have e0 : ∀ k : Fin 2048, (iblk m c 0 t : FVec Ideal S512x2048 .f32) (ix2 (y 0) k) = A0 m c (ix2 ⟨(t.val / 6) * 512 + (y 0).val, hr⟩ k) :=
    fun k => blk0 m c t (ix2 (y 0) k) hr
  have e1 : ∀ k : Fin 2048, (iblk m c 1 t : FVec Ideal S1x2048 .f32) (ix2 0 k) = A1 m c (ix1 k) :=
    fun k => blk1 m c t (ix2 0 k)
  unfold hrow
  simp only [e0, e1]

/-- After every point the scratch holds the row block's normalized rows. -/
theorem scr_eq (c : Dev nD) (n : ℕ) : ∀ (hn : n < cfg0.N) (y : S512x2048.Idx) (hr : (n / 6) * 512 + (y 0).val < 8192),
    (outsAt0 m c n hn).2 y = hrow (A0 m c) (A1 m c) ⟨(n / 6) * 512 + (y 0).val, hr⟩ (y 1) := by
  have first : ∀ (t : Fin cfg0.N) (h0 : t.val % 6 = 0) (y : S512x2048.Idx) (hr : (t.val / 6) * 512 + (y 0).val < 8192),
      (outsAt0 m c t.val t.isLt).2 y = hrow (A0 m c) (A1 m c) ⟨(t.val / 6) * 512 + (y 0).val, hr⟩ (y 1) := fun t h0 y hr => by
    rw [outsAt0_A m c t h0]
    dsimp only
    rw [soutA0]
    exact norm_at m c t y hr
  induction n with
  | zero => exact fun hn y hr => first ⟨0, hn⟩ rfl y hr
  | succ n ih =>
    intro hn y hr
    by_cases h0 : (n + 1) % 6 = 0
    · exact first ⟨n + 1, hn⟩ h0 y hr
    · have hd : n / 6 = (n + 1) / 6 := by omega
      have ih' := ih (Nat.lt_of_succ_lt hn)
      simp only [hd] at ih'
      have hx := outsAt0_B m c ⟨n + 1, hn⟩ h0
      exact (congrFun (congrArg (fun q => q.2) hx) y).trans (ih' y hr)

/-- The output block after a point, over the scratch after it. -/
theorem out1 (c : Dev nD) (t : Fin cfg0.N) :
    (outsAt0 m c t.val t.isLt).1 = k0_pay2 (outsAt0 m c t.val t.isLt).2 (iblk m c 2 t) := by
  by_cases h0 : t.val % 6 = 0
  · rw [outsAt0_A m c t h0]
    dsimp only
    rw [outA, soutA0]
  · rw [outsAt0_B m c t h0]
    dsimp only
    rw [outB]
    rfl

/-- The projection of a normalized row, at a column. -/
def outv (a0 : FVec Ideal S8192x2048 .f32) (a1 : FVec Ideal S2048 .f32) (a2 : FVec Ideal S2048x3072 .f32) (r : Fin 8192) (j : Fin 3072) : EReal :=
  ∑ k : Fin 2048, hrow a0 a1 r k * a2 (ix2 k j)

/-- The output block after a point, at an index. -/
theorem out_at (c : Dev nD) (t : Fin cfg0.N) (y : S512x512.Idx) (hr : (t.val / 6) * 512 + (y 0).val < 8192) (hc : (t.val % 6) * 512 + (y 1).val < 3072) :
    (outsAt0 m c t.val t.isLt).1 y = outv (A0 m c) (A1 m c) (A2 m c) ⟨(t.val / 6) * 512 + (y 0).val, hr⟩ ⟨(t.val % 6) * 512 + (y 1).val, hc⟩ := by
  rw [out1]
  have es : ∀ k : Fin 2048, (outsAt0 m c t.val t.isLt).2 (ix2 (y 0) k) = hrow (A0 m c) (A1 m c) ⟨(t.val / 6) * 512 + (y 0).val, hr⟩ k :=
    fun k => scr_eq m c t.val t.isLt (ix2 (y 0) k) hr
  rw [pay2_at]
  unfold outv
  refine Finset.sum_congr rfl fun k _ => ?_
  rw [es, blk2 m c t (ix2 k (y 1)) hc]
  rfl

/-- The reference's composed term over the launch contents. -/
abbrev refv (a0 : FVec Ideal S8192x2048 .f32) (a1 : FVec Ideal S2048 .f32) (a2 : FVec Ideal S2048x3072 .f32) : FVec Ideal S8192x3072 .f32 :=
  Host.dotGeneral Cert.QkvRefIdeal.dot_S8192x2048_S2048x3072_S8192x3072_1_0_0_1_n_n none (mulf (mulf a0 (broadcastInDim Cert.QkvRefIdeal.S8192x2048 ![0, 1] Cert.QkvRefIdeal.Gen.bcast_S8192x1_S8192x2048_0_1 (Host.rsqrt (addf (Host.divf (broadcastInDim Cert.QkvRefIdeal.S8192x1 ![0] Cert.QkvRefIdeal.Gen.bcast_S8192_S8192x1_0 (Host.reduceAdd (mulf a0 a0) (constant Cert.QkvRefIdeal.S_ .f32 0x00000000#32) Cert.QkvRefIdeal.Gen.reducesTo_S8192x2048_S8192_d1 Cert.QkvRefIdeal.Gen.h_S_)) (broadcastInDim Cert.QkvRefIdeal.S8192x1 ![] Cert.QkvRefIdeal.Gen.bcast_S_S8192x1 (constant Cert.QkvRefIdeal.S_ .f32 0x45000000#32))) (broadcastInDim Cert.QkvRefIdeal.S8192x1 ![] Cert.QkvRefIdeal.Gen.bcast_S_S8192x1 (constant Cert.QkvRefIdeal.S_ .f32 0x358637BD#32)))))) (broadcastInDim Cert.QkvRefIdeal.S8192x2048 ![0, 1] Cert.QkvRefIdeal.Gen.bcast_S1x2048_S8192x2048_0_1 (broadcastInDim Cert.QkvRefIdeal.S1x2048 ![1] Cert.QkvRefIdeal.Gen.bcast_S2048_S1x2048_1 a1))) a2

/-- The reference at an index. -/
theorem refv_at (a0 : FVec Ideal S8192x2048 .f32) (a1 : FVec Ideal S2048 .f32) (a2 : FVec Ideal S2048x3072 .f32) (y : S8192x3072.Idx) : refv a0 a1 a2 y = outv a0 a1 a2 (y 0) (y 1) := by
  pointwise [refv, outv, hrow, nrm, Ideal.logistic]

/-- The result array is the reference's. -/
theorem final_eq (c : Dev nD) : (dats m 0 c).arrAt 3 cfg0.N = refv (A0 m c) (A1 m c) (A2 m c) := by
  rw [final3]
  funext i
  have h0 : (i 0).val < 8192 := (i 0).isLt
  have h1 : (i 1).val < 3072 := (i 1).isLt
  have hp : pt3Of i = (i 0).val / 512 * 6 + (i 1).val / 512 := by
    show 6 * ((i 0).val / 512 - 0) + 1 * ((i 1).val / 512 - 0) = _
    omega
  have hd : pt3Of i / 6 = (i 0).val / 512 := by rw [hp]; omega
  have hm : pt3Of i % 6 = (i 1).val / 512 := by rw [hp]; omega
  have ht : pt3Of i < cfg0.N := by show _ < grid0.N; rw [N_0, hp]; omega
  have e0 : (loc3Of i 0).val = (i 0).val % 512 := rfl
  have e1 : (loc3Of i 1).val = (i 1).val % 512 := rfl
  have hr : (pt3Of i / 6) * 512 + (loc3Of i 0).val < 8192 := by rw [hd, e0]; omega
  have hc : (pt3Of i % 6) * 512 + (loc3Of i 1).val < 3072 := by rw [hm, e1]; omega
  unfold G3
  rw [dif_pos ht, ← outsAt0_sweep m c (pt3Of i) ht, refv_at]
  refine (out_at m c ⟨pt3Of i, ht⟩ (loc3Of i) hr hc).trans ?_
  have er : (⟨(pt3Of i / 6) * 512 + (loc3Of i 0).val, hr⟩ : Fin 8192) = i 0 := Fin.ext (by dsimp only; rw [hd]; omega)
  have ec : (⟨(pt3Of i % 6) * 512 + (loc3Of i 1).val, hc⟩ : Fin 3072) = i 1 := Fin.ext (by dsimp only; rw [hm]; omega)
  exact congrArg₂ (outv (A0 m c) (A1 m c) (A2 m c)) er ec

end Cert.QkvIdeal.Value

namespace Cert.Proof

/-- Over the extended reals the combined projection computes the normalized rows times the weight. -/
theorem algebraic_Qkv : algebraic_QkvIdeal_QkvRefIdeal (hQkvIdeal := Cert.QkvIdeal.Gen.facts) (hQkvRefIdeal := Cert.QkvRefIdeal.Gen.facts) := by
  pair_intro
  · run_from Cert.QkvIdeal.Value.run_blocks m g
  · run_from Cert.QkvRefIdeal.Value.run m' g'
    exact (Cert.QkvIdeal.Value.final_eq m c).symm

end Cert.Proof

end
-- ==== Proof.OutProj.lean ====
module

public import proofs.«01_k».proof.Defs
public import proofs.«01_k».proof.Proof.Gen.OutProjIdeal.Value
public import proofs.«01_k».proof.Proof.Gen.OutProjRefIdeal.Run
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutProjIdeal.Value

open Cert.OutProjIdeal Cert.OutProjIdeal.Gen

variable (m : (ℓ : Loc nD τ sig) → Buf (Elt Ideal) ℓ) (ρ : Dev nD → PrngReg)

theorem hz : (![0, 0] : Fin 2 → Nat) = fun _ => 0 := funext fun a => by fin_cases a <;> rfl

/-- The index maps in closed form: the point's row block and its column block. -/
theorem idx_all : ∀ t : Fin cfg0.N,
    (win0_0.index t 0 = t.val / 4 ∧ win0_0.index t 1 = 0) ∧ (win0_1.index t 0 = 0 ∧ win0_1.index t 1 = t.val % 4)
    ∧ (win0_2.index t 0 = t.val / 4 ∧ win0_2.index t 1 = t.val % 4) ∧ (win0_3.index t 0 = t.val / 4 ∧ win0_3.index t 1 = t.val % 4)
    ∧ win0_3.flush t = true :=
  (by decide +kernel : ∀ t : Fin grid0.N, _)

/-- The reference's product, spelled over the launch contents of the arguments. -/
abbrev spec (a0 : FVec Ideal S8192x2048 .bf16) (a1 : FVec Ideal S2048x2048 .f32) (a2 : FVec Ideal S8192x2048 .f32) : FVec Ideal S8192x2048 .f32 :=
  addf a2 (Host.dotGeneral Cert.OutProjRefIdeal.dot_S8192x2048_S2048x2048_S8192x2048_1_0_0_1_n_n none (extf .f32 a0 bitsLt_bf16_f32) a1)

/-- The body's block: the residual block plus the product of the row block by the column block. -/
theorem out_eq (x0 : Vec Ideal S512x2048 .bf16) (x1 : Vec Ideal S2048x512 .bf16) (x2 : Vec Ideal S512x512 .f32) :
    out0_3 x0 x1 x2 = k0_pay1 x2 x0 x1 := by
  unfold out0_3
  rw [View.canon_unit_zero hz]
  simp only [View.ld_unit_zero (S := S512x512) hz, View.ld_unit_zero (S := S512x2048) hz, View.ld_unit_zero (S := S2048x512) hz]

theorem V_w (c : Dev nD) : (V m c main_v0 : FVec Ideal S2048x2048 .bf16) = m ((c : Thread nD τ).loc main_arg1) := by
  entry_read
  rfl

/-- The row-block window reads the attention's output at the row block's rows. -/
theorem blk0 (c : Dev nD) (t : Fin cfg0.N) (y : S512x2048.Idx) (h : (t.val / 4) * 512 + (y 0).val < 8192) :
    (iblk m c 0 t : FVec Ideal S512x2048 .bf16) y = (m ((c : Thread nD τ).loc main_arg0) : FVec Ideal S8192x2048 .bf16) (ix2 ⟨(t.val / 4) * 512 + (y 0).val, h⟩ (y 1)) := by
  obtain ⟨⟨e0, e1⟩, -⟩ := idx_all t
  unfold iblk
  rw [View.read_apply]
  show V m c main_arg0 _ = _
  rw [V_main_arg0]
  congr 1
  funext a
  apply Fin.ext
  match a with
  | ⟨0, _⟩ => show win0_0.index t 0 * 512 + 1 * (y 0).val = _; rw [e0]; show _ = t.val / 4 * 512 + (y 0).val; omega
  | ⟨1, _⟩ => show win0_0.index t 1 * 2048 + 1 * (y 1).val = (y 1).val; rw [e1]; omega

/-- The column-block window reads the projection's weight at the column block's columns. -/
theorem blk1 (c : Dev nD) (t : Fin cfg0.N) (y : S2048x512.Idx) (h : (t.val % 4) * 512 + (y 1).val < 2048) :
    (iblk m c 1 t : FVec Ideal S2048x512 .bf16) y = (m ((c : Thread nD τ).loc main_arg1) : FVec Ideal S2048x2048 .f32) (ix2 (y 0) ⟨(t.val % 4) * 512 + (y 1).val, h⟩) := by
  obtain ⟨-, ⟨e0, e1⟩, -⟩ := idx_all t
  unfold iblk
  rw [View.read_apply]
  show (V m c main_v0 : FVec Ideal S2048x2048 .bf16) _ = _
  rw [V_w]
  congr 1
  funext a
  apply Fin.ext
  match a with
  | ⟨0, _⟩ => show win0_1.index t 0 * 2048 + 1 * (y 0).val = (y 0).val; rw [e0]; omega
  | ⟨1, _⟩ => show win0_1.index t 1 * 512 + 1 * (y 1).val = _; rw [e1]; show _ = t.val % 4 * 512 + (y 1).val; omega

/-- The residual window reads the block's own entries. -/
theorem blk2 (c : Dev nD) (t : Fin cfg0.N) (y : S512x512.Idx) (h0 : (t.val / 4) * 512 + (y 0).val < 8192) (h1 : (t.val % 4) * 512 + (y 1).val < 2048) :
    (iblk m c 2 t : FVec Ideal S512x512 .f32) y = (m ((c : Thread nD τ).loc main_arg2) : FVec Ideal S8192x2048 .f32) (ix2 ⟨(t.val / 4) * 512 + (y 0).val, h0⟩ ⟨(t.val % 4) * 512 + (y 1).val, h1⟩) := by
  obtain ⟨-, -, ⟨e0, e1⟩, -⟩ := idx_all t
  unfold iblk
  rw [View.read_apply]
  show V m c main_arg2 _ = _
  rw [V_main_arg2]
  congr 1
  funext a
  apply Fin.ext
  match a with
  | ⟨0, _⟩ => show win0_2.index t 0 * 512 + 1 * (y 0).val = _; rw [e0]; show _ = t.val / 4 * 512 + (y 0).val; omega
  | ⟨1, _⟩ => show win0_2.index t 1 * 512 + 1 * (y 1).val = _; rw [e1]; show _ = t.val % 4 * 512 + (y 1).val; omega

theorem pay_at (x0 : Vec Ideal S512x2048 .bf16) (x1 : Vec Ideal S2048x512 .bf16) (x2 : Vec Ideal S512x512 .f32) (y : S512x512.Idx) :
    k0_pay1 x2 x0 x1 y = x2 y + ∑ k : Fin 2048, x0 (ix2 (y 0) k) * x1 (ix2 k (y 1)) := by
  pointwise [k0_pay1]

theorem spec_at (a0 : FVec Ideal S8192x2048 .bf16) (a1 : FVec Ideal S2048x2048 .f32) (a2 : FVec Ideal S8192x2048 .f32) (y : S8192x2048.Idx) :
    spec a0 a1 a2 y = a2 y + ∑ k : Fin 2048, a0 (ix2 (y 0) k) * a1 (ix2 k (y 1)) := by
  pointwise [spec]

/-- What point `t` writes back is its block of the reference's array. -/
theorem flushed_eq (c : Dev nD) (t : Fin cfg0.N) (hf : (cfg0.win 3).flush t = true) :
    (dats m 0 c).flushed 3 t = ((cfg0.win 3).blk t).view.read (Elt Ideal)
      (spec (m ((c : Thread nD τ).loc main_arg0)) (m ((c : Thread nD τ).loc main_arg1)) (m ((c : Thread nD τ).loc main_arg2))) := by
  have hN : t.val < 64 := lt_of_lt_of_eq t.isLt N_0
  obtain ⟨-, -, -, ⟨e0, e1⟩, -⟩ := idx_all t
  rw [flushed3, out_eq]
  funext y
  have hy0 : (y 0).val < 512 := (y 0).isLt
  have hy1 : (y 1).val < 512 := (y 1).isLt
  rw [View.read_apply]
  have he : ((cfg0.win 3).blk t).view.emb y = (ix2 (⟨(t.val / 4) * 512 + (y 0).val, by omega⟩ : Fin 8192) (⟨(t.val % 4) * 512 + (y 1).val, by omega⟩ : Fin 2048) : S8192x2048.Idx) := by
    funext a
    apply Fin.ext
    match a with
    | ⟨0, _⟩ => show win0_3.index t 0 * 512 + 1 * (y 0).val = _; rw [e0]; show _ = t.val / 4 * 512 + (y 0).val; omega
    | ⟨1, _⟩ => show win0_3.index t 1 * 512 + 1 * (y 1).val = _; rw [e1]; show _ = t.val % 4 * 512 + (y 1).val; omega
  rw [he, spec_at]
  show k0_pay1 (iblk m c 2 t) (iblk m c 0 t) (iblk m c 1 t) y = _
  rw [pay_at, blk2 m c t y (by omega) (by omega)]
  congr 1
  refine Finset.sum_congr rfl fun k _ => ?_
  rw [blk0 m c t _ (by show _ + (y 0).val < _; omega), blk1 m c t _ (by show _ + (y 1).val < _; omega)]
  rfl

/-- The result array is the reference's: the residual plus the product. -/
theorem final_eq (c : Dev nD) : (dats m 0 c).arrAt 3 cfg0.N =
    spec (m ((c : Thread nD τ).loc main_arg0)) (m ((c : Thread nD τ).loc main_arg1)) (m ((c : Thread nD τ).loc main_arg2)) := by
  refine (dats m 0 c).arrAt_eq_of_cover 3 _ (flushed_eq m c) fun i => ?_
  have h0 : (i 0).val < 8192 := (i 0).isLt
  have h1 : (i 1).val < 2048 := (i 1).isLt
  have ht : (i 0).val / 512 * 4 + (i 1).val / 512 < cfg0.N := by show _ < grid0.N; rw [N_0]; omega
  obtain ⟨-, -, -, ⟨e0, e1⟩, hf⟩ := idx_all ⟨_, ht⟩
  refine ⟨⟨_, ht⟩, hf, ?_⟩
  show i ∈ ((View.whole main_v1).slice (win0_3.rect ⟨_, ht⟩)).set
  rw [View.set_slice_whole, Rect.mem_set_unit]
  intro a
  match a with
  | ⟨0, _⟩ => show win0_3.index ⟨_, ht⟩ 0 * 512 ≤ (i 0).val ∧ (i 0).val < win0_3.index ⟨_, ht⟩ 0 * 512 + 512; rw [e0]; dsimp only; omega
  | ⟨1, _⟩ => show win0_3.index ⟨_, ht⟩ 1 * 512 ≤ (i 1).val ∧ (i 1).val < win0_3.index ⟨_, ht⟩ 1 * 512 + 512; rw [e1]; dsimp only; omega

end Cert.OutProjIdeal.Value

namespace Cert.Proof

/-- Over the extended reals the projection kernel computes the reference's residual plus product. -/
theorem algebraic_OutProj : algebraic_OutProjIdeal_OutProjRefIdeal (hOutProjIdeal := Cert.OutProjIdeal.Gen.facts) (hOutProjRefIdeal := Cert.OutProjRefIdeal.Gen.facts) := by
  pair_intro
  · run_from Cert.OutProjIdeal.Value.run_blocks m g
  · run_from Cert.OutProjRefIdeal.Value.run m' g'
    exact (Cert.OutProjIdeal.Value.final_eq m c).symm

end Cert.Proof

end
-- ==== Proof.PoolSpec.lean ====
module

public import proofs.«01_k».proof.Proof.Common
public import proofs.«01_k».proof.Proof.AttnSpec
public import Idealize.ShloMosaic.Lib.Pointwise
public import Idealize.ShloMosaic.Lib.WordCmp

@[expose] public section

set_option maxRecDepth 16384

noncomputable section

open Idealize.ShloMosaic

namespace Cert.Layer

/-- The normalized frame `t` at channel `k`, zero outside. -/
def hz (x : (⟨2, ![8192, 2048]⟩ : Shape).Idx → EReal) (g : (⟨1, ![2048]⟩ : Shape).Idx → EReal) (t k : ℕ) : EReal :=
  if h : t < 8192 ∧ k < 2048 then nrm (fun j => x (ix2 ⟨t, h.1⟩ j)) (fun j => g (ix1 j)) ⟨k, h.2⟩ else 0

theorem hz_of_lt (x : (⟨2, ![8192, 2048]⟩ : Shape).Idx → EReal) (g : (⟨1, ![2048]⟩ : Shape).Idx → EReal) (t k : ℕ) (ht : t < 8192) (hk : k < 2048) :
    hz x g t k = nrm (fun j => x (ix2 ⟨t, ht⟩ j)) (fun j => g (ix1 j)) ⟨k, hk⟩ := by
  unfold hz
  rw [dif_pos ⟨ht, hk⟩]

/-- The frame `j` steps before frame `t`, zero before the first frame. -/
def hb (x : (⟨2, ![8192, 2048]⟩ : Shape).Idx → EReal) (g : (⟨1, ![2048]⟩ : Shape).Idx → EReal) (t k j : ℕ) : EReal :=
  if j ≤ t then hz x g (t - j) k else 0

/-- The number of frames a trailing window of width `W` holds at frame `t`. -/
def cntW (W t : ℕ) : EReal := (((min (t + 1) W : ℕ) : ℝ) : EReal)

/-- The trailing mean less the frame itself. -/
def mixW (x : (⟨2, ![8192, 2048]⟩ : Shape).Idx → EReal) (g : (⟨1, ![2048]⟩ : Shape).Idx → EReal) (W t k : ℕ) : EReal :=
  Ideal.div (∑ j ∈ Finset.range W, hb x g t k j) (cntW W t) - hz x g t k

/-- The pooling mixer's result: the frame plus the scaled group map of the trailing mean less the normalized frame. -/
def gpool (x : (⟨2, ![8192, 2048]⟩ : Shape).Idx → EReal) (g : (⟨1, ![2048]⟩ : Shape).Idx → EReal)
    (w : (⟨3, ![4, 512, 512]⟩ : Shape).Idx → EReal) (s : (⟨1, ![2048]⟩ : Shape).Idx → EReal) (t : Fin 8192) (q : Fin 4) (d : Fin 512) : EReal :=
  x (ix2 t ⟨512 * q.val + d.val, by omega⟩)
    + (∑ k : Fin 512, mixW x g (2 ^ (q.val + 1)) t.val (512 * q.val + k.val) * w (ix3 q k d)) * s (ix1 ⟨512 * q.val + d.val, by omega⟩)

/-- A position's count as the device computes it: the position plus one, at most the width, as a signed word. -/
theorem word_count (i r W : ℕ) (hi : i < 32) (hr : r < 256) (hW : W ≤ 16) :
    (IntOp.minsi (BitVec.ofNat 32 i * 256#32 + BitVec.ofNat 32 r + 1#32) (BitVec.ofNat 32 W)).toInt = ((min (256 * i + r + 1) W : ℕ) : Int) := by
  have e : BitVec.ofNat 32 i * 256#32 + BitVec.ofNat 32 r + 1#32 = BitVec.ofNat 32 (256 * i + r + 1) := by
    apply BitVec.eq_of_toNat_eq
    simp only [BitVec.toNat_add, BitVec.toNat_mul, BitVec.toNat_ofNat]
    omega
  rw [e]
  have ea : (BitVec.ofNat 32 (256 * i + r + 1)).toInt = ((256 * i + r + 1 : ℕ) : Int) := Idealize.ShloMosaic.WordCmp.toInt_ofNat_of_lt (by omega)
  have eb : (BitVec.ofNat 32 W).toInt = (W : Int) := Idealize.ShloMosaic.WordCmp.toInt_ofNat_of_lt (by omega)
  unfold IntOp.minsi BitVec.slt
  rw [ea, eb]
  by_cases h : 256 * i + r + 1 < W
  · rw [if_pos (by simpa using (by omega : ((256 * i + r + 1 : ℕ) : Int) < (W : Int))), ea, min_eq_left (by omega)]
  · rw [if_neg (by simpa using (by omega : ¬ ((256 * i + r + 1 : ℕ) : Int) < (W : Int))), eb, min_eq_right (by omega)]

end Cert.Layer

end
-- ==== Proof.PoolKernel.lean ====
module

public import proofs.«01_k».proof.Proof.PoolSpec
public import proofs.«01_k».proof.Proof.Gen.PoolIdeal.Value
public import Idealize.ShloMosaic.Lib.Pointwise

@[expose] public section

set_option maxRecDepth 16384

noncomputable section

open Idealize.ShloMosaic Idealize.ShloMosaic.TcCoe Idealize.SL.Sem

namespace Cert.PoolIdeal.Body

open Cert.PoolIdeal Cert.PoolIdeal.Gen Cert.Layer

/-- The normalized block, at an index. -/
theorem pay1_at (x : Vec Ideal S256x2048 .f32) (g : Vec Ideal S1x2048 .f32) (y : S256x2048.Idx) :
    k0_pay1 x g y = nrm (fun k => x (ix2 (y 0) k)) (fun k => g (ix2 0 k)) (y 1) := by
  pointwise [k0_pay1, nrm]

/-- The sixteen frames before the block: zero before the first block, else normalized. -/
theorem pay2_at (i : grid0.Coords) (x : Vec Ideal S16x2048 .f32) (g : Vec Ideal S1x2048 .f32) (y : S16x2048.Idx) :
    k0_pay2 i x g y = if (i 0).val = 0 then 0 else nrm (fun k => x (ix2 (y 0) k)) (fun k => g (ix2 0 k)) (y 1) := by
  have hi : (i 0).val < 32 := (i 0).isLt
  by_cases h : (i 0).val = 0
  · rw [if_pos h]
    pointwise [k0_pay2, h]
  · rw [if_neg h]
    have e : Scalar.cmpi .eq (BitVec.ofNat 32 (i 0).val) 0#32 = 0#1 := by
      generalize (i 0).val = n at h hi
      interval_cases n <;> first | exact absurd rfl h | rfl
    unfold k0_pay2
    pointwise [e, nrm]

/-- The four groups' payloads, at an index. -/
theorem pay5_at (b : BitVec 32) (v0 : Vec Ideal S256x2048 .f32) (h : FVec Ideal S256x2048 .f32) (u : Vec Ideal S256x512 .f32) (w : Vec Ideal S1x512x512 .bf16) (s : Vec Ideal S1x512 .f32) (r : Fin 256) (d : Fin 512) :
    k0_pay5 b v0 h u w s (ix2 r d) = v0 (ix2 r ⟨0 + d.val, by omega⟩) + (∑ k : Fin 512, (Ideal.div (h (ix2 r ⟨0 + k.val, by omega⟩) + u (ix2 r k)) ((((IntOp.minsi (b * 256#32 + BitVec.ofNat 32 r.val + 1#32) 2#32).toInt : ℝ)) : EReal) - h (ix2 r ⟨0 + k.val, by omega⟩)) * w (ix3 0 k d)) * s (ix2 0 d) := by
  pointwise [k0_pay5, k0_pay4]
  rfl

theorem pay6_at (h : FVec Ideal S256x2048 .f32) (u1 u2 u3 : Vec Ideal S256x512 .f32) (r : Fin 256) (k : Fin 512) :
    k0_pay6 h u1 u2 u3 (ix2 r k) = h (ix2 r ⟨512 + k.val, by omega⟩) + u1 (ix2 r k) + u2 (ix2 r k) + u3 (ix2 r k) := by
  pointwise [k0_pay6]

theorem pay9_at (h : FVec Ideal S256x2048 .f32) (u1 u2 u3 u4 u5 u6 u7 : Vec Ideal S256x512 .f32) (r : Fin 256) (k : Fin 512) :
    k0_pay9 h u1 u2 u3 u4 u5 u6 u7 (ix2 r k) = h (ix2 r ⟨1024 + k.val, by omega⟩) + u1 (ix2 r k) + u2 (ix2 r k) + u3 (ix2 r k) + u4 (ix2 r k) + u5 (ix2 r k) + u6 (ix2 r k) + u7 (ix2 r k) := by
  pointwise [k0_pay9]

theorem pay12_at (h : FVec Ideal S256x2048 .f32) (u1 u2 u3 u4 u5 u6 u7 u8 : Vec Ideal S256x512 .f32) (r : Fin 256) (k : Fin 512) :
    k0_pay12 h u1 u2 u3 u4 u5 u6 u7 u8 (ix2 r k) = h (ix2 r ⟨1536 + k.val, by omega⟩) + u1 (ix2 r k) + u2 (ix2 r k) + u3 (ix2 r k) + u4 (ix2 r k) + u5 (ix2 r k) + u6 (ix2 r k) + u7 (ix2 r k) + u8 (ix2 r k) := by
  pointwise [k0_pay12]

/-- The positions the counts are computed from. -/
theorem pay4_at (b : BitVec 32) (r : Fin 256) : k0_pay4 b (ix2 r 0) = b * 256#32 + BitVec.ofNat 32 r.val := by
  pointwise [k0_pay4]
  rfl

theorem pay7_at (b : BitVec 32) (r : Fin 256) : k0_pay7 b (ix2 r 0) = b * 256#32 + BitVec.ofNat 32 r.val + 1#32 := by
  pointwise [k0_pay7, k0_pay4]
  rfl

theorem pay10_at (n : IVec S256x1 32) (r : Fin 256) : k0_pay10 n (ix2 r 0) = n (ix2 r 0) + 1#32 := by
  pointwise [k0_pay10]
  rfl

theorem pay8_at (v0 : Vec Ideal S256x2048 .f32) (h : FVec Ideal S256x2048 .f32) (p : Vec Ideal S256x512 .f32) (n : IVec S256x1 32) (c : BitVec 32) (w : Vec Ideal S1x512x512 .bf16) (s : Vec Ideal S1x512 .f32) (r : Fin 256) (d : Fin 512) :
    k0_pay8 v0 h p n c w s (ix2 r d) = v0 (ix2 r ⟨512 + d.val, by omega⟩) + (∑ k : Fin 512, (Ideal.div (p (ix2 r k)) ((((IntOp.minsi (n (ix2 r 0)) c).toInt : ℝ)) : EReal) - h (ix2 r ⟨512 + k.val, by omega⟩)) * w (ix3 0 k d)) * s (ix2 0 d) := by
  pointwise [k0_pay8]
  rfl

theorem pay11_at (v0 : Vec Ideal S256x2048 .f32) (h : FVec Ideal S256x2048 .f32) (p : Vec Ideal S256x512 .f32) (n : IVec S256x1 32) (c : BitVec 32) (w : Vec Ideal S1x512x512 .bf16) (s : Vec Ideal S1x512 .f32) (r : Fin 256) (d : Fin 512) :
    k0_pay11 v0 h p n c w s (ix2 r d) = v0 (ix2 r ⟨1024 + d.val, by omega⟩) + (∑ k : Fin 512, (Ideal.div (p (ix2 r k)) ((((IntOp.minsi (n (ix2 r 0)) c).toInt : ℝ)) : EReal) - h (ix2 r ⟨1024 + k.val, by omega⟩)) * w (ix3 0 k d)) * s (ix2 0 d) := by
  pointwise [k0_pay11]
  rfl

theorem pay13_at (v0 : Vec Ideal S256x2048 .f32) (h : FVec Ideal S256x2048 .f32) (n : IVec S256x1 32) (p u1 u2 u3 u4 u5 u6 u7 : Vec Ideal S256x512 .f32) (w : Vec Ideal S1x512x512 .bf16) (s : Vec Ideal S1x512 .f32) (r : Fin 256) (d : Fin 512) :
    k0_pay13 v0 h n p u1 u2 u3 u4 u5 u6 u7 w s (ix2 r d) = v0 (ix2 r ⟨1536 + d.val, by omega⟩) + (∑ k : Fin 512, (Ideal.div (p (ix2 r k) + u1 (ix2 r k) + u2 (ix2 r k) + u3 (ix2 r k) + u4 (ix2 r k) + u5 (ix2 r k) + u6 (ix2 r k) + u7 (ix2 r k)) ((((IntOp.minsi (n (ix2 r 0) + 1#32) 16#32).toInt : ℝ)) : EReal) - h (ix2 r ⟨1536 + k.val, by omega⟩)) * w (ix3 0 k d)) * s (ix2 0 d) := by
  pointwise [k0_pay13]
  rfl

theorem hz2 : (![0, 0] : Fin 2 → Nat) = fun _ => 0 := funext fun a => by fin_cases a <;> rfl

variable (c : Dev nD) (i : grid0.Coords) (arg1 : Memref sig .tc .vmem S256x2048 .f32) (harg1 : arg1.IsWhole) (arg2 : Memref sig .tc .vmem S16x2048 .f32) (harg2 : arg2.IsWhole) (arg3 : Memref sig .tc .vmem S1x2048 .f32) (harg3 : arg3.IsWhole) (arg4 : Memref sig .tc .vmem S4x512x512 .bf16) (harg4 : arg4.IsWhole) (arg5 : Memref sig .tc .vmem S1x2048 .f32) (harg5 : arg5.IsWhole) (arg6 : Memref sig .tc .vmem S256x2048 .f32) (harg6 : arg6.IsWhole) (arg7 : Memref sig .tc .vmem S272x2048 .f32) (harg7 : arg7.IsWhole)
  (x0 : Vec Ideal S256x2048 .f32) (x1 : Vec Ideal S16x2048 .f32) (x2 : Vec Ideal S1x2048 .f32) (x3 : Vec Ideal S4x512x512 .bf16) (x4 : Vec Ideal S1x2048 .f32)

/-- What the body finds in its staging buffers, in terms of the whole arrays. -/
structure Found (n : ℕ) (X : FVec Ideal S8192x2048 .f32) (G : FVec Ideal S2048 .f32) (Wt : FVec Ideal S4x512x512 .f32) (S : FVec Ideal S2048 .f32) : Prop where
  own : ∀ (r : Fin 256) (k : Fin 2048) (h : 256 * n + r.val < 8192), x0 (ix2 r k) = X (ix2 ⟨256 * n + r.val, h⟩ k)
  prev : 0 < n → ∀ (r : Fin 16) (k : Fin 2048) (h : 256 * n - 16 + r.val < 8192), x1 (ix2 r k) = X (ix2 ⟨256 * n - 16 + r.val, h⟩ k)
  gain : ∀ k : Fin 2048, x2 (ix2 0 k) = G (ix1 k)
  maps : ∀ (q : Fin 4) (k d : Fin 512), x3 (ix3 q k d) = Wt (ix3 q k d)
  scale : ∀ k : Fin 2048, x4 (ix2 0 k) = S (ix1 k)

variable (X : FVec Ideal S8192x2048 .f32) (G : FVec Ideal S2048 .f32) (Wt : FVec Ideal S4x512x512 .f32) (S : FVec Ideal S2048 .f32)

theorem r_eq : kernelRun0_A.sl.r c arg1 harg1 x0 = x0 := by
  unfold kernelRun0_A.sl.r
  rw [View.readAt_eq_ld, harg1.read_unread, View.ld_unit_zero (S := S256x2048) hz2]

theorem r1_eq : kernelRun0_A.sl.r_1 c arg1 harg1 arg3 harg3 x0 x2 = k0_pay1 x0 x2 := by
  unfold kernelRun0_A.sl.r_1
  rw [View.readAt_eq_ld, harg1.read_unread, View.ld_unit_zero (S := S256x2048) hz2, View.readAt_eq_ld, harg3.read_unread, View.ld_unit_zero (S := S1x2048) hz2]

theorem own_at (hf : Found x0 x1 x2 x3 x4 (i 0).val X G Wt S) (r : Fin 256) (k : ℕ) (hk : k < 2048) :
    k0_pay1 x0 x2 (ix2 r ⟨k, hk⟩) = hz X G (256 * (i 0).val + r.val) k := by
  have hi : (i 0).val < 32 := (i 0).isLt
  have hr := r.isLt
  rw [pay1_at, hz_of_lt X G _ k (by omega) hk]
  exact congrArg₂ (fun a b => nrm a b ⟨k, hk⟩) (funext fun j => hf.own r j _) (funext fun j => hf.gain j)

/-- The scratch: the sixteen frames before the block, then the block. -/
def scr (y : S272x2048.Idx) : EReal := if 16 + 256 * (i 0).val ≤ 256 * (i 0).val + (y 0).val then hz X G (256 * (i 0).val + (y 0).val - 16) (y 1).val
  else if (i 0).val = 0 then 0 else hz X G (256 * (i 0).val + (y 0).val - 16) (y 1).val

/-- A load of the scratch `j` rows up reads the frames `j` steps before. -/
theorem scr_at (hf : Found x0 x1 x2 x3 x4 (i 0).val X G Wt S) (o n j : ℕ) (hoj : o + j = 16)
    (hn : ∀ a, (![o, n] : Fin 2 → Nat) a + S256x512.size a ≤ S272x2048.size a) (r : Fin 256) (k : Fin 512) :
    arg7.view.readCov (kernelRun0_A.sl.HS0_2 c i arg1 harg1 arg2 harg2 arg3 harg3 x0 x1 x2) (Rect.unit (s := S272x2048) ![o, n] S256x512.size hn).toLoadRect (ix2 r k)
      = hb X G (256 * (i 0).val + r.val) (n + k.val) j := by
  have hi : (i 0).val < 32 := (i 0).isLt
  have hr := r.isLt
  have hk := k.isLt
  have hn1 : n + 512 ≤ 2048 := hn 1
  rw [View.readCov_eq_canon']
  have hG : ∀ q ∈ kernelRun0_A.sl.HS0_2 (F := Ideal) c i arg1 harg1 arg2 harg2 arg3 harg3 x0 x1 x2, ∀ y : q.1.shape.Idx, q.2 y = scr i X G (q.1.emb y) := by
    unfold kernelRun0_A.sl.HS0_2
    simp only [List.forall_mem_cons]
    refine ⟨fun y => ?_, fun y => ?_, fun q hq => absurd hq List.not_mem_nil⟩
    · have hy0 : (y 0).val < 256 := (y 0).isLt
      have hy1 : (y 1).val < 2048 := (y 1).isLt
      have a0 : ∀ q : 16 + 1 * (y 0).val < 272, ((Rect.unit (s := S272x2048) ![16, 0] S256x2048.size inb_S272x2048_S256x2048_16_0).emb y 0).val = 16 + (y 0).val := fun _ => by
        show 16 + 1 * (y 0).val = _; omega
      have a1 : ((Rect.unit (s := S272x2048) ![16, 0] S256x2048.size inb_S272x2048_S256x2048_16_0).emb y 1).val = (y 1).val := by
        show 0 + 1 * (y 1).val = _; omega
      unfold scr
      rw [a0 (by omega), a1, if_pos (by omega), r1_eq]
      have e : k0_pay3 (k0_pay1 x0 x2) = k0_pay1 x0 x2 := by pointwise [k0_pay3]
      rw [e]
      refine ((congrArg (k0_pay1 x0 x2) (eq_ix2 y)).trans (own_at i x0 x1 x2 x3 x4 X G Wt S hf (y 0) (y 1).val hy1)).trans ?_
      congr 1
      omega
    · have hy0 : (y 0).val < 16 := (y 0).isLt
      have hy1 : (y 1).val < 2048 := (y 1).isLt
      have a0 : ((Rect.unit (s := S272x2048) ![0, 0] S16x2048.size inb_S272x2048_S16x2048_0_0).emb y 0).val = (y 0).val := by
        show 0 + 1 * (y 0).val = _; omega
      have a1 : ((Rect.unit (s := S272x2048) ![0, 0] S16x2048.size inb_S272x2048_S16x2048_0_0).emb y 1).val = (y 1).val := by
        show 0 + 1 * (y 1).val = _; omega
      unfold scr
      rw [a0, a1, if_neg (by omega), View.readAt_eq_ld, harg2.read_unread, View.ld_unit_zero (S := S16x2048) hz2, View.readAt_eq_ld, harg3.read_unread, View.ld_unit_zero (S := S1x2048) hz2, pay2_at]
      by_cases h0 : (i 0).val = 0
      · rw [if_pos h0, if_pos h0]
      · rw [if_neg h0, if_neg h0, hz_of_lt X G _ _ (by omega) hy1]
        refine congrArg₂ (fun a b => nrm a b ⟨(y 1).val, hy1⟩) (funext fun j => ?_) (funext fun j => hf.gain j)
        refine (hf.prev (by omega) (y 0) j (by omega)).trans (congrArg X (congrArg (fun a => ix2 a j) (Fin.ext ?_)))
        show 256 * (i 0).val - 16 + (y 0).val = 256 * (i 0).val + (y 0).val - 16
        omega
  have b0 : ((Rect.unit (s := S272x2048) ![o, n] S256x512.size hn).toLoadRect.idx (ix2 r k) 0).val = o + r.val := by
    show o + 1 * r.val = _; omega
  have b1 : ((Rect.unit (s := S272x2048) ![o, n] S256x512.size hn).toLoadRect.idx (ix2 r k) 1).val = n + k.val := by
    show n + 1 * k.val = _; omega
  refine (View.canon_apply_of_pieces (Val := Elt Ideal) (e := .f32) (scr i X G) _ hG _ ?_).trans ?_
  · unfold kernelRun0_A.sl.HS0_2
    by_cases h16 : 16 ≤ o + r.val
    · refine ⟨_, List.mem_cons_self, ?_⟩
      rw [Rect.mem_set_unit]
      intro a
      match a with
      | ⟨0, _⟩ => show 16 ≤ o + 1 * r.val ∧ o + 1 * r.val < 16 + 256; omega
      | ⟨1, _⟩ => show 0 ≤ n + 1 * k.val ∧ n + 1 * k.val < 0 + 2048; omega
    · refine ⟨_, List.mem_cons_of_mem _ List.mem_cons_self, ?_⟩
      rw [Rect.mem_set_unit]
      intro a
      match a with
      | ⟨0, _⟩ => show 0 ≤ o + 1 * r.val ∧ o + 1 * r.val < 0 + 16; omega
      | ⟨1, _⟩ => show 0 ≤ n + 1 * k.val ∧ n + 1 * k.val < 0 + 2048; omega
  · unfold scr hb
    rw [b0, b1]
    have e : 256 * (i 0).val + (o + r.val) - 16 = 256 * (i 0).val + r.val - j := by omega
    rw [e]
    by_cases hj : j ≤ r.val
    · rw [if_pos (by omega), if_pos (by omega)]
    · rw [if_neg (by omega)]
      by_cases h0 : (i 0).val = 0
      · rw [if_pos h0, if_neg (by omega)]
      · rw [if_neg h0, if_pos (by omega)]

theorem hb_zero (t k : ℕ) : hb X G t k 0 = hz X G t k := by
  unfold hb
  rw [if_pos (Nat.zero_le _), Nat.sub_zero]

/-- A group's map, read from its staging buffer. -/
theorem rdw_at (hf : Found x0 x1 x2 x3 x4 (i 0).val X G Wt S) (q : Fin 4) (hn : ∀ a, (![q.val, 0, 0] : Fin 3 → Nat) a + S1x512x512.size a ≤ S4x512x512.size a) (k d : Fin 512) :
    View.readAt (Elt Ideal) arg4.view (Rect.unit (s := S4x512x512) ![q.val, 0, 0] S1x512x512.size hn).toLoadRect (harg4.unread x3) (ix3 0 k d) = Wt (ix3 q k d) := by
  rw [View.readAt_eq_ld, harg4.read_unread, ← hf.maps q k d]
  refine congrArg x3 (funext fun a => Fin.ext ?_)
  match a with
  | ⟨0, _⟩ => show q.val + 1 * 0 = q.val; omega
  | ⟨1, _⟩ => show 0 + 1 * k.val = k.val; omega
  | ⟨2, _⟩ => show 0 + 1 * d.val = d.val; omega

theorem rds_at (hf : Found x0 x1 x2 x3 x4 (i 0).val X G Wt S) (n : ℕ) (hn : ∀ a, (![0, n] : Fin 2 → Nat) a + S1x512.size a ≤ S1x2048.size a) (d : Fin 512) (h : n + d.val < 2048) :
    View.readAt (Elt Ideal) arg5.view (Rect.unit (s := S1x2048) ![0, n] S1x512.size hn).toLoadRect (harg5.unread x4) (ix2 0 d) = S (ix1 ⟨n + d.val, h⟩) := by
  rw [View.readAt_eq_ld, harg5.read_unread, ← hf.scale ⟨n + d.val, h⟩]
  refine congrArg x4 (funext fun a => Fin.ext ?_)
  match a with
  | ⟨0, _⟩ => rfl
  | ⟨1, _⟩ => show n + 1 * d.val = n + d.val; omega

/-- A payload whose trailing sums, counts, maps and scale are the group's is the group's part of the result. -/
theorem group_eq (hf : Found x0 x1 x2 x3 x4 (i 0).val X G Wt S) (q : Fin 4) (r : Fin 256) (d : Fin 512) (ht : 256 * (i 0).val + r.val < 8192)
    (sums cnts : Fin 512 → EReal) (w : Fin 512 → EReal) (s : EReal)
    (hs : ∀ k : Fin 512, sums k = ∑ j ∈ Finset.range (2 ^ (q.val + 1)), hb X G (256 * (i 0).val + r.val) (512 * q.val + k.val) j)
    (hc : ∀ k, cnts k = cntW (2 ^ (q.val + 1)) (256 * (i 0).val + r.val)) (hw : ∀ k, w k = Wt (ix3 q k d))
    (hsc : s = S (ix1 ⟨512 * q.val + d.val, by omega⟩)) :
    x0 (ix2 r ⟨512 * q.val + d.val, by omega⟩) + (∑ k : Fin 512, (Ideal.div (sums k) (cnts k) - k0_pay1 x0 x2 (ix2 r ⟨512 * q.val + k.val, by omega⟩)) * w k) * s
      = gpool X G Wt S ⟨256 * (i 0).val + r.val, ht⟩ q d := by
  unfold gpool mixW
  rw [hf.own r _ ht, hsc]
  refine congrArg₂ (· + ·) rfl (congrArg (· * _) (Finset.sum_congr rfl fun k _ => ?_))
  rw [hs k, hc k, hw k, own_at i x0 x1 x2 x3 x4 X G Wt S hf]

theorem cnt_eq (r : Fin 256) (W : ℕ) (hW : W ≤ 16) :
    ((((IntOp.minsi (BitVec.ofNat 32 (i 0).val * 256#32 + BitVec.ofNat 32 r.val + 1#32) (BitVec.ofNat 32 W)).toInt : ℝ)) : EReal) = cntW W (256 * (i 0).val + r.val) := by
  rw [word_count _ _ _ (i 0).isLt r.isLt hW]
  unfold cntW
  norm_cast

/-- The block the body leaves, at an index. -/
def blockOf (y : S256x2048.Idx) : EReal :=
  if h : 256 * (i 0).val + (y 0).val < 8192 ∧ (y 1).val / 512 < 4 then gpool X G Wt S ⟨256 * (i 0).val + (y 0).val, h.1⟩ ⟨(y 1).val / 512, h.2⟩ ⟨(y 1).val % 512, Nat.mod_lt _ (by decide)⟩ else 0

theorem blockOf_emb (q : Fin 4) (n : ℕ) (hq : n = 512 * q.val) (hn : ∀ a, (![0, n] : Fin 2 → Nat) a + S256x512.size a ≤ S256x2048.size a) (r : Fin 256) (d : Fin 512) (ht : 256 * (i 0).val + r.val < 8192) :
    blockOf i X G Wt S ((Rect.unit (s := S256x2048) ![0, n] S256x512.size hn).emb (ix2 r d)) = gpool X G Wt S ⟨256 * (i 0).val + r.val, ht⟩ q d := by
  have a0 : ((Rect.unit (s := S256x2048) ![0, n] S256x512.size hn).emb (ix2 r d) 0).val = r.val := by
    show 0 + 1 * r.val = _; omega
  have a1 : ((Rect.unit (s := S256x2048) ![0, n] S256x512.size hn).emb (ix2 r d) 1).val = n + d.val := by
    show n + 1 * d.val = _; omega
  have hd := d.isLt
  have hq4 := q.isLt
  unfold blockOf
  rw [dif_pos ⟨by rw [a0]; exact ht, by rw [a1]; omega⟩]
  have f0 : (⟨256 * (i 0).val + ((Rect.unit (s := S256x2048) ![0, n] S256x512.size hn).emb (ix2 r d) 0).val, by rw [a0]; exact ht⟩ : Fin 8192) = ⟨256 * (i 0).val + r.val, ht⟩ := Fin.ext (by show _ + _ = _ + _; rw [a0])
  have f1 : (⟨((Rect.unit (s := S256x2048) ![0, n] S256x512.size hn).emb (ix2 r d) 1).val / 512, by rw [a1]; omega⟩ : Fin 4) = q := Fin.ext (by show _ / 512 = _; rw [a1]; omega)
  have f2 : (⟨((Rect.unit (s := S256x2048) ![0, n] S256x512.size hn).emb (ix2 r d) 1).val % 512, Nat.mod_lt _ (by decide)⟩ : Fin 512) = d := Fin.ext (by show _ % 512 = _; rw [a1]; omega)
  rw [f0, f1, f2]

/-- The block the body leaves. -/
theorem out_eq (hf : Found x0 x1 x2 x3 x4 (i 0).val X G Wt S) : out0_A_5 c i arg1 harg1 arg2 harg2 arg3 harg3 arg4 harg4 arg5 harg5 arg6 harg6 arg7 harg7 x0 x1 x2 x3 x4 = blockOf i X G Wt S := by
  have hi : (i 0).val < 32 := (i 0).isLt
  unfold out0_A_5
  rw [View.read_writes_eq_canon _ _ _ (cover0_A_5 c i arg1 harg1 arg2 harg2 arg3 harg3 arg4 harg4 arg5 harg5 arg6 harg6 arg7 harg7 x0 x1 x2 x3 x4)]
  funext y
  refine View.canon_apply_of_pieces (Val := Elt Ideal) (e := .f32) (blockOf i X G Wt S) _ ?_ y ?_
  · unfold kernelRun0_A
    dsimp only
    simp only [List.forall_mem_cons]
    refine ⟨fun y => ?_, fun y => ?_, fun y => ?_, fun y => ?_, ?_⟩
    · obtain ⟨r, d, rfl⟩ : ∃ (r : Fin 256) (d : Fin 512), y = ix2 r d := ⟨y 0, y 1, eq_ix2 y⟩
      have ht : 256 * (i 0).val + r.val < 8192 := by have h0 := r.isLt; omega
      refine Eq.trans ?_ (blockOf_emb i X G Wt S 3 1536 rfl inb_S256x2048_S256x512_0_1536 r d ht).symm
      unfold kernelRun0_A.sl.r_8 kernelRun0_A.sl.r_7 kernelRun0_A.sl.r_2
      rw [r_eq, r1_eq, pay13_at, pay4_at]
      refine group_eq i x0 x1 x2 x3 x4 X G Wt S hf 3 r d ht _ _ _ _ (fun k => ?_) (fun k => cnt_eq i r 16 (by decide)) (fun k => rdw_at i arg4 harg4 x0 x1 x2 x3 x4 X G Wt S hf 3 _ k d) (rds_at i arg5 harg5 x0 x1 x2 x3 x4 X G Wt S hf 1536 _ d _)
      rw [show (2 : ℕ) ^ ((3 : Fin 4).val + 1) = 16 from rfl]
      simp only [Finset.sum_range_succ, Finset.sum_range_zero, zero_add, hb_zero]
      rw [pay12_at]
      unfold kernelRun0_A.sl.v129 kernelRun0_A.sl.v131 kernelRun0_A.sl.v133 kernelRun0_A.sl.v135 kernelRun0_A.sl.v137 kernelRun0_A.sl.v139 kernelRun0_A.sl.v141 kernelRun0_A.sl.v143 kernelRun0_A.sl.v145 kernelRun0_A.sl.v147 kernelRun0_A.sl.v149 kernelRun0_A.sl.v151 kernelRun0_A.sl.v153 kernelRun0_A.sl.v155 kernelRun0_A.sl.v157
      rw [own_at i x0 x1 x2 x3 x4 X G Wt S hf,
        scr_at c i arg1 harg1 arg2 harg2 arg3 harg3 arg7 x0 x1 x2 x3 x4 X G Wt S hf 15 1536 1 rfl, scr_at c i arg1 harg1 arg2 harg2 arg3 harg3 arg7 x0 x1 x2 x3 x4 X G Wt S hf 14 1536 2 rfl, scr_at c i arg1 harg1 arg2 harg2 arg3 harg3 arg7 x0 x1 x2 x3 x4 X G Wt S hf 13 1536 3 rfl, scr_at c i arg1 harg1 arg2 harg2 arg3 harg3 arg7 x0 x1 x2 x3 x4 X G Wt S hf 12 1536 4 rfl, scr_at c i arg1 harg1 arg2 harg2 arg3 harg3 arg7 x0 x1 x2 x3 x4 X G Wt S hf 11 1536 5 rfl, scr_at c i arg1 harg1 arg2 harg2 arg3 harg3 arg7 x0 x1 x2 x3 x4 X G Wt S hf 10 1536 6 rfl, scr_at c i arg1 harg1 arg2 harg2 arg3 harg3 arg7 x0 x1 x2 x3 x4 X G Wt S hf 9 1536 7 rfl, scr_at c i arg1 harg1 arg2 harg2 arg3 harg3 arg7 x0 x1 x2 x3 x4 X G Wt S hf 8 1536 8 rfl, scr_at c i arg1 harg1 arg2 harg2 arg3 harg3 arg7 x0 x1 x2 x3 x4 X G Wt S hf 7 1536 9 rfl, scr_at c i arg1 harg1 arg2 harg2 arg3 harg3 arg7 x0 x1 x2 x3 x4 X G Wt S hf 6 1536 10 rfl, scr_at c i arg1 harg1 arg2 harg2 arg3 harg3 arg7 x0 x1 x2 x3 x4 X G Wt S hf 5 1536 11 rfl, scr_at c i arg1 harg1 arg2 harg2 arg3 harg3 arg7 x0 x1 x2 x3 x4 X G Wt S hf 4 1536 12 rfl, scr_at c i arg1 harg1 arg2 harg2 arg3 harg3 arg7 x0 x1 x2 x3 x4 X G Wt S hf 3 1536 13 rfl, scr_at c i arg1 harg1 arg2 harg2 arg3 harg3 arg7 x0 x1 x2 x3 x4 X G Wt S hf 2 1536 14 rfl, scr_at c i arg1 harg1 arg2 harg2 arg3 harg3 arg7 x0 x1 x2 x3 x4 X G Wt S hf 1 1536 15 rfl]
      rfl
    · obtain ⟨r, d, rfl⟩ : ∃ (r : Fin 256) (d : Fin 512), y = ix2 r d := ⟨y 0, y 1, eq_ix2 y⟩
      have ht : 256 * (i 0).val + r.val < 8192 := by have h0 := r.isLt; omega
      refine Eq.trans ?_ (blockOf_emb i X G Wt S 2 1024 rfl inb_S256x2048_S256x512_0_1024 r d ht).symm
      unfold kernelRun0_A.sl.r_5 kernelRun0_A.sl.r_6 kernelRun0_A.sl.r_2
      rw [r_eq, r1_eq, pay11_at, pay10_at, pay4_at]
      refine group_eq i x0 x1 x2 x3 x4 X G Wt S hf 2 r d ht _ _ _ _ (fun k => ?_) (fun k => cnt_eq i r 8 (by decide)) (fun k => rdw_at i arg4 harg4 x0 x1 x2 x3 x4 X G Wt S hf 2 _ k d) (rds_at i arg5 harg5 x0 x1 x2 x3 x4 X G Wt S hf 1024 _ d _)
      rw [show (2 : ℕ) ^ ((2 : Fin 4).val + 1) = 8 from rfl]
      simp only [Finset.sum_range_succ, Finset.sum_range_zero, zero_add, hb_zero]
      rw [pay9_at]
      unfold kernelRun0_A.sl.v94 kernelRun0_A.sl.v96 kernelRun0_A.sl.v98 kernelRun0_A.sl.v100 kernelRun0_A.sl.v102 kernelRun0_A.sl.v104 kernelRun0_A.sl.v106
      rw [own_at i x0 x1 x2 x3 x4 X G Wt S hf,
        scr_at c i arg1 harg1 arg2 harg2 arg3 harg3 arg7 x0 x1 x2 x3 x4 X G Wt S hf 15 1024 1 rfl, scr_at c i arg1 harg1 arg2 harg2 arg3 harg3 arg7 x0 x1 x2 x3 x4 X G Wt S hf 14 1024 2 rfl, scr_at c i arg1 harg1 arg2 harg2 arg3 harg3 arg7 x0 x1 x2 x3 x4 X G Wt S hf 13 1024 3 rfl, scr_at c i arg1 harg1 arg2 harg2 arg3 harg3 arg7 x0 x1 x2 x3 x4 X G Wt S hf 12 1024 4 rfl, scr_at c i arg1 harg1 arg2 harg2 arg3 harg3 arg7 x0 x1 x2 x3 x4 X G Wt S hf 11 1024 5 rfl, scr_at c i arg1 harg1 arg2 harg2 arg3 harg3 arg7 x0 x1 x2 x3 x4 X G Wt S hf 10 1024 6 rfl, scr_at c i arg1 harg1 arg2 harg2 arg3 harg3 arg7 x0 x1 x2 x3 x4 X G Wt S hf 9 1024 7 rfl]
      rfl
    · obtain ⟨r, d, rfl⟩ : ∃ (r : Fin 256) (d : Fin 512), y = ix2 r d := ⟨y 0, y 1, eq_ix2 y⟩
      have ht : 256 * (i 0).val + r.val < 8192 := by have h0 := r.isLt; omega
      refine Eq.trans ?_ (blockOf_emb i X G Wt S 1 512 rfl inb_S256x2048_S256x512_0_512 r d ht).symm
      unfold kernelRun0_A.sl.r_3 kernelRun0_A.sl.r_4
      rw [r_eq, r1_eq, pay8_at, pay7_at]
      refine group_eq i x0 x1 x2 x3 x4 X G Wt S hf 1 r d ht _ _ _ _ (fun k => ?_) (fun k => cnt_eq i r 4 (by decide)) (fun k => rdw_at i arg4 harg4 x0 x1 x2 x3 x4 X G Wt S hf 1 _ k d) (rds_at i arg5 harg5 x0 x1 x2 x3 x4 X G Wt S hf 512 _ d _)
      rw [show (2 : ℕ) ^ ((1 : Fin 4).val + 1) = 4 from rfl]
      simp only [Finset.sum_range_succ, Finset.sum_range_zero, zero_add, hb_zero]
      rw [pay6_at]
      unfold kernelRun0_A.sl.v67 kernelRun0_A.sl.v69 kernelRun0_A.sl.v71
      rw [own_at i x0 x1 x2 x3 x4 X G Wt S hf,
        scr_at c i arg1 harg1 arg2 harg2 arg3 harg3 arg7 x0 x1 x2 x3 x4 X G Wt S hf 15 512 1 rfl, scr_at c i arg1 harg1 arg2 harg2 arg3 harg3 arg7 x0 x1 x2 x3 x4 X G Wt S hf 14 512 2 rfl, scr_at c i arg1 harg1 arg2 harg2 arg3 harg3 arg7 x0 x1 x2 x3 x4 X G Wt S hf 13 512 3 rfl]
      rfl
    · obtain ⟨r, d, rfl⟩ : ∃ (r : Fin 256) (d : Fin 512), y = ix2 r d := ⟨y 0, y 1, eq_ix2 y⟩
      have ht : 256 * (i 0).val + r.val < 8192 := by have h0 := r.isLt; omega
      refine Eq.trans ?_ (blockOf_emb i X G Wt S 0 0 rfl inb_S256x2048_S256x512_0_0 r d ht).symm
      rw [r_eq, r1_eq, pay5_at]
      refine group_eq i x0 x1 x2 x3 x4 X G Wt S hf 0 r d ht _ _ _ _ (fun k => ?_) (fun k => cnt_eq i r 2 (by decide)) (fun k => rdw_at i arg4 harg4 x0 x1 x2 x3 x4 X G Wt S hf 0 _ k d) (rds_at i arg5 harg5 x0 x1 x2 x3 x4 X G Wt S hf 0 _ d _)
      rw [show (2 : ℕ) ^ ((0 : Fin 4).val + 1) = 2 from rfl]
      simp only [Finset.sum_range_succ, Finset.sum_range_zero, zero_add, hb_zero]
      unfold kernelRun0_A.sl.v44
      rw [own_at i x0 x1 x2 x3 x4 X G Wt S hf,
        scr_at c i arg1 harg1 arg2 harg2 arg3 harg3 arg7 x0 x1 x2 x3 x4 X G Wt S hf 15 0 1 rfl]
      rw [show ((0 : Fin 4).val) = 0 from rfl]
      simp only [Nat.mul_zero, Nat.zero_add]
    · intro p hp
      exact absurd hp List.not_mem_nil
  · exact cover0_A_5 c i arg1 harg1 arg2 harg2 arg3 harg3 arg4 harg4 arg5 harg5 arg6 harg6 arg7 harg7 x0 x1 x2 x3 x4 y

end Cert.PoolIdeal.Body

namespace Cert.PoolIdeal.Value

open Cert.PoolIdeal Cert.PoolIdeal.Gen Cert.Layer Cert.PoolIdeal.Body

variable (m : (ℓ : Loc nD τ sig) → Buf (Elt Ideal) ℓ) (ρ : Dev nD → PrngReg)

/-- The arguments at launch: the frames, the gain, the groups' maps and the scale. -/
abbrev A0 (c : Dev nD) : FVec Ideal S8192x2048 .f32 := m ((c : Thread nD τ).loc main_arg0)
abbrev A1 (c : Dev nD) : FVec Ideal S2048 .f32 := m ((c : Thread nD τ).loc main_arg1)
abbrev A2 (c : Dev nD) : FVec Ideal S4x512x512 .f32 := m ((c : Thread nD τ).loc main_arg2)
abbrev A3 (c : Dev nD) : FVec Ideal S2048 .f32 := m ((c : Thread nD τ).loc main_arg3)

/-- The index maps in closed form. -/
theorem idx_all : ∀ t : Fin cfg0.N,
    (win0_0.index t 0 = t.val ∧ win0_0.index t 1 = 0)
    ∧ (win0_1.index t 0 = t.val * 16 - 1 ∧ win0_1.index t 1 = 0)
    ∧ (win0_2.index t 0 = 0 ∧ win0_2.index t 1 = 0)
    ∧ (win0_3.index t 0 = 0 ∧ win0_3.index t 1 = 0 ∧ win0_3.index t 2 = 0)
    ∧ (win0_4.index t 0 = 0 ∧ win0_4.index t 1 = 0)
    ∧ (win0_5.index t 0 = t.val ∧ win0_5.index t 1 = 0)
    ∧ (grid0.coords t 0).val = t.val ∧ (cfg0.win 5).flush t = true :=
  (by decide +kernel : ∀ t : Fin grid0.N, _)

theorem V_main_v0 (c : Dev nD) : (V m c main_v0 : FVec Ideal S1x2048 .f32) = fun y => A1 m c (ix1 (y 1)) := by
  entry_read
  funext y
  pointwise

theorem V_main_v1 (c : Dev nD) : (V m c main_v1 : FVec Ideal S4x512x512 .bf16) = A2 m c := by
  entry_read
  rfl

theorem V_main_v2 (c : Dev nD) : (V m c main_v2 : FVec Ideal S1x2048 .f32) = fun y => A3 m c (ix1 (y 1)) := by
  entry_read
  funext y
  pointwise

/-- What the staging buffers hold at a point. -/
theorem found (c : Dev nD) (t : Fin cfg0.N) :
    Found (iblk m c 0 t) (iblk m c 1 t) (iblk m c 2 t) (iblk m c 3 t) (iblk m c 4 t) t.val (A0 m c) (A1 m c) (A2 m c) (A3 m c) := by
  obtain ⟨⟨a0, a1⟩, ⟨b0, b1⟩, ⟨c0, c1⟩, ⟨d0, d1, d2⟩, ⟨e0, e1⟩, -⟩ := idx_all t
  refine ⟨fun r k h => ?_, fun hn r k h => ?_, fun k => ?_, fun q k d => ?_, fun k => ?_⟩
  · unfold iblk
    rw [View.read_apply]
    show (V m c main_arg0 : FVec Ideal S8192x2048 .f32) _ = _
    rw [V_main_arg0]
    refine congrArg (A0 m c) (funext fun a => Fin.ext ?_)
    match a with
    | ⟨0, _⟩ => show win0_0.index t 0 * 256 + 1 * r.val = 256 * t.val + r.val; rw [a0]; omega
    | ⟨1, _⟩ => show win0_0.index t 1 * 2048 + 1 * k.val = k.val; rw [a1]; omega
  · unfold iblk
    rw [View.read_apply]
    show (V m c main_arg0 : FVec Ideal S8192x2048 .f32) _ = _
    rw [V_main_arg0]
    refine congrArg (A0 m c) (funext fun a => Fin.ext ?_)
    match a with
    | ⟨0, _⟩ => show win0_1.index t 0 * 16 + 1 * r.val = 256 * t.val - 16 + r.val; rw [b0]; omega
    | ⟨1, _⟩ => show win0_1.index t 1 * 2048 + 1 * k.val = k.val; rw [b1]; omega
  · unfold iblk
    rw [View.read_apply]
    show (V m c main_v0 : FVec Ideal S1x2048 .f32) _ = _
    rw [V_main_v0]
    refine congrArg (A1 m c) (funext fun a => Fin.ext ?_)
    match a with
    | ⟨0, _⟩ => show win0_2.index t 1 * 2048 + 1 * k.val = k.val; rw [c1]; omega
  · unfold iblk
    rw [View.read_apply]
    show (V m c main_v1 : FVec Ideal S4x512x512 .bf16) _ = _
    rw [V_main_v1]
    refine congrArg (A2 m c) (funext fun a => Fin.ext ?_)
    match a with
    | ⟨0, _⟩ => show win0_3.index t 0 * 4 + 1 * q.val = q.val; rw [d0]; omega
    | ⟨1, _⟩ => show win0_3.index t 1 * 512 + 1 * k.val = k.val; rw [d1]; omega
    | ⟨2, _⟩ => show win0_3.index t 2 * 512 + 1 * d.val = d.val; rw [d2]; omega
  · unfold iblk
    rw [View.read_apply]
    show (V m c main_v2 : FVec Ideal S1x2048 .f32) _ = _
    rw [V_main_v2]
    refine congrArg (A3 m c) (funext fun a => Fin.ext ?_)
    match a with
    | ⟨0, _⟩ => show win0_4.index t 1 * 2048 + 1 * k.val = k.val; rw [e1]; omega

/-- The pooling mixer's array. -/
def pooled (a0 : FVec Ideal S8192x2048 .f32) (a1 : FVec Ideal S2048 .f32) (a2 : FVec Ideal S4x512x512 .f32) (a3 : FVec Ideal S2048 .f32) : FVec Ideal S8192x2048 .f32 :=
  fun i => gpool a0 a1 a2 a3 (i 0) ⟨(i 1).val / 512, by have h : (i 1).val < 2048 := (i 1).isLt; omega⟩ ⟨(i 1).val % 512, Nat.mod_lt _ (by decide)⟩

/-- What a point writes back, at an index. -/
theorem out_at (c : Dev nD) (t : Fin cfg0.N) (y : S256x2048.Idx) (h : 256 * t.val + (y 0).val < 8192) (h1 : (y 1).val / 512 < 4) :
    (outsAt0 m c t : FVec Ideal S256x2048 .f32) y = gpool (A0 m c) (A1 m c) (A2 m c) (A3 m c) ⟨256 * t.val + (y 0).val, h⟩ ⟨(y 1).val / 512, h1⟩ ⟨(y 1).val % 512, Nat.mod_lt _ (by decide)⟩ := by
  have e := (idx_all t).2.2.2.2.2.2.1
  have hf := found m c t
  rw [← e] at hf
  unfold outsAt0
  rw [out_eq _ _ _ _ _ _ _ _ _ _ _ _ _ _ _ _ _ _ _ _ _ _ _ _ _ hf]
  unfold blockOf
  simp only [e]
  rw [dif_pos ⟨h, h1⟩]

/-- The result array is the pooling mixer's. -/
theorem final_at (c : Dev nD) : (dats m 0 c).arrAt 5 cfg0.N = pooled (A0 m c) (A1 m c) (A2 m c) (A3 m c) := by
  refine (dats m 0 c).arrAt_eq_of_cover 5 _ (fun t hf => ?_) (fun i => ?_)
  · rw [flushed5]
    obtain ⟨-, -, -, -, -, ⟨e0, e1⟩, -⟩ := idx_all t
    funext y
    have ht : t.val < 32 := lt_of_lt_of_eq t.isLt N_0
    have hy0 : (y 0).val < 256 := (y 0).isLt
    have hy1 : (y 1).val < 2048 := (y 1).isLt
    have hb0 : (((cfg0.win 5).blk t).view.emb y 0).val = win0_5.index t (0 : Fin 2) * 256 + 1 * (y 0).val := rfl
    have hb1 : (((cfg0.win 5).blk t).view.emb y 1).val = win0_5.index t (1 : Fin 2) * 2048 + 1 * (y 1).val := rfl
    show (outsAt0 m c t : FVec Ideal S256x2048 .f32) ((cfg0.win 5).xinj (grid0.coords t) y)
      = pooled (A0 m c) (A1 m c) (A2 m c) (A3 m c) (((cfg0.win 5).blk t).view.emb y)
    have x0 : ((cfg0.win 5).xinj (grid0.coords t) y 0).val = (y 0).val := rfl
    have x1 : ((cfg0.win 5).xinj (grid0.coords t) y 1).val = (y 1).val := rfl
    rw [out_at m c t _ (by rw [x0]; omega) (by rw [x1]; omega)]
    unfold pooled
    congr 1
    · apply Fin.ext
      show 256 * t.val + ((cfg0.win 5).xinj (grid0.coords t) y 0).val = (((cfg0.win 5).blk t).view.emb y 0).val
      rw [x0, hb0, e0]; omega
    · apply Fin.ext
      show ((cfg0.win 5).xinj (grid0.coords t) y 1).val / 512 = (((cfg0.win 5).blk t).view.emb y 1).val / 512
      rw [x1, hb1, e1]; congr 1; omega
    · apply Fin.ext
      show ((cfg0.win 5).xinj (grid0.coords t) y 1).val % 512 = (((cfg0.win 5).blk t).view.emb y 1).val % 512
      rw [x1, hb1, e1]; congr 1; omega
  · have h0 : (i 0).val < 8192 := (i 0).isLt
    have h1 : (i 1).val < 2048 := (i 1).isLt
    let t : Fin cfg0.N := ⟨(i 0).val / 256, lt_of_lt_of_eq (by omega) N_0.symm⟩
    obtain ⟨-, -, -, -, -, ⟨e0, e1⟩, -, hfl⟩ := idx_all t
    refine ⟨t, hfl, ?_⟩
    have ev : t.val = (i 0).val / 256 := rfl
    show i ∈ ((View.whole main_v3).slice (win0_5.rect t)).set
    rw [View.set_slice_whole, Rect.mem_set_unit]
    intro a
    match a with
    | ⟨0, _⟩ => show win0_5.index t (0 : Fin 2) * 256 ≤ (i 0).val ∧ (i 0).val < win0_5.index t (0 : Fin 2) * 256 + 256; rw [e0]; omega
    | ⟨1, _⟩ => show win0_5.index t (1 : Fin 2) * 2048 ≤ (i 1).val ∧ (i 1).val < win0_5.index t (1 : Fin 2) * 2048 + 2048; rw [e1]; omega

end Cert.PoolIdeal.Value

end
-- ==== Proof.PoolMath.lean ====
module

public import proofs.«01_k».proof.Proof.PoolSpec
public import Idealize.ShloMosaic.Lib.ValueIdxCore

@[expose] public section

set_option maxRecDepth 16384

noncomputable section

open Idealize.ShloMosaic

namespace Cert.Layer

theorem foldl_plus {ι : Type} (l : List ι) (g : ι → EReal) (v : EReal) : l.foldl (fun r a => r + g a) v = v + (l.map g).sum := by
  induction l generalizing v with
  | nil => simp
  | cons a l ih =>
    rw [List.foldl_cons, ih, List.map_cons, List.sum_cons, add_assoc]

/-- A window of `M + 1` ending at `j`, padded below, holds the first `j + 1` entries. -/
theorem sum_ending (f : ℕ → EReal) (M j : ℕ) (hj : j ≤ M) :
    ∑ n ∈ Finset.range (M + 1), (if M ≤ j + n then f (j + n - M) else 0) = ∑ i ∈ Finset.range (j + 1), f i := by
  rw [show M + 1 = (M - j) + (j + 1) by omega, Finset.sum_range_add]
  rw [Finset.sum_eq_zero (s := Finset.range (M - j)) fun n hn => if_neg (by have := Finset.mem_range.1 hn; omega), zero_add]
  refine Finset.sum_congr rfl fun n _ => ?_
  rw [if_pos (by omega)]
  congr 1
  omega

theorem numel_col (N : ℕ) : (⟨3, ![1, N, 1]⟩ : Shape).numel = N := by
  show ∏ a : Fin 3, (![1, N, 1] : Fin 3 → Nat) a = N
  rw [Fin.prod_univ_three]
  show 1 * N * 1 = N
  omega

theorem symm_col {N : ℕ} (n : Fin (⟨3, ![1, N, 1]⟩ : Shape).numel) :
    (⟨3, ![1, N, 1]⟩ : Shape).rowMajor.symm n = ix3 (0 : Fin 1) (n.cast (numel_col N)) (0 : Fin 1) :=
  ((⟨3, ![1, N, 1]⟩ : Shape).rowMajor.symm_apply_eq).2 (Fin.ext (by
    rw [Shape.rowMajor_val_three]
    show n.val = (0 * N + n.val) * 1 + 0
    omega))

/-- The running sums along the middle axis. -/
theorem cumsum_mid {N C M : ℕ} (hN : M + 1 = N) (x : (⟨3, ![1, N, C]⟩ : Shape).Idx → EReal) (f : ℕ → EReal) (k : Fin C)
    (hx : ∀ i : Fin N, x (ix3 (0 : Fin 1) i k) = f i.val)
    (h : (⟨3, ![1, N, C]⟩ : Shape).ReduceWindows (![1, N, 1] : Fin 3 → Nat) ![1, 1, 1] ![0, M, 0] ![0, 0, 0] ⟨3, ![1, N, C]⟩) (j : Fin N) :
    Ideal.hostReduceWindowAdd ![1, N, 1] ![1, 1, 1] ![0, M, 0] ![0, 0, 0] h x 0 (ix3 (0 : Fin 1) j k) = ∑ i ∈ Finset.range (j.val + 1), f i := by
  subst hN
  have hj := j.isLt
  have hk := k.isLt
  unfold Ideal.hostReduceWindowAdd Host.reduceWindow
  refine (foldl_plus _ _ _).trans ?_
  rw [zero_add, ← Fin.sum_univ_def]
  refine (Finset.sum_congr rfl fun n _ => ?_ : _ = ∑ n : Fin (⟨3, ![1, M + 1, 1]⟩ : Shape).numel, if M ≤ j.val + n.val then f (j.val + n.val - M) else 0).trans ?_
  · have hw0 : ((⟨3, ![1, M + 1, 1]⟩ : Shape).rowMajor.symm n 0).val = 0 := by rw [symm_col]; rfl
    have hw : ((⟨3, ![1, M + 1, 1]⟩ : Shape).rowMajor.symm n 1).val = n.val := by rw [symm_col]; rfl
    have hw2 : ((⟨3, ![1, M + 1, 1]⟩ : Shape).rowMajor.symm n 2).val = 0 := by rw [symm_col]; rfl
    have hn : n.val < M + 1 := (n.cast (numel_col _)).isLt
    dsimp only
    split
    · next hin =>
      have h1 := hin 1
      change M ≤ j.val * 1 + ((⟨3, ![1, M + 1, 1]⟩ : Shape).rowMajor.symm n 1).val
        ∧ j.val * 1 + ((⟨3, ![1, M + 1, 1]⟩ : Shape).rowMajor.symm n 1).val - M < M + 1 at h1
      rw [hw] at h1
      rw [if_pos (by omega)]
      refine (congrArg x (funext fun a => Fin.ext ?_)).trans (hx ⟨j.val + n.val - M, by omega⟩)
      match a with
      | ⟨0, _⟩ =>
        show 0 * 1 + ((⟨3, ![1, M + 1, 1]⟩ : Shape).rowMajor.symm n 0).val - 0 = 0
        rw [hw0]
      | ⟨1, _⟩ =>
        show j.val * 1 + ((⟨3, ![1, M + 1, 1]⟩ : Shape).rowMajor.symm n 1).val - M = j.val + n.val - M
        rw [hw, Nat.mul_one]
      | ⟨2, _⟩ =>
        show k.val * 1 + ((⟨3, ![1, M + 1, 1]⟩ : Shape).rowMajor.symm n 2).val - 0 = k.val
        rw [hw2]; omega
    · next hin =>
      rw [if_neg fun hle => hin fun a => by
        match a with
        | ⟨0, _⟩ =>
          show 0 ≤ 0 * 1 + ((⟨3, ![1, M + 1, 1]⟩ : Shape).rowMajor.symm n 0).val ∧ 0 * 1 + ((⟨3, ![1, M + 1, 1]⟩ : Shape).rowMajor.symm n 0).val - 0 < 1
          rw [hw0]
          omega
        | ⟨1, _⟩ =>
          show M ≤ j.val * 1 + ((⟨3, ![1, M + 1, 1]⟩ : Shape).rowMajor.symm n 1).val
            ∧ j.val * 1 + ((⟨3, ![1, M + 1, 1]⟩ : Shape).rowMajor.symm n 1).val - M < M + 1
          rw [hw]
          omega
        | ⟨2, _⟩ =>
          show 0 ≤ k.val * 1 + ((⟨3, ![1, M + 1, 1]⟩ : Shape).rowMajor.symm n 2).val
            ∧ k.val * 1 + ((⟨3, ![1, M + 1, 1]⟩ : Shape).rowMajor.symm n 2).val - 0 < C
          rw [hw2]
          omega]
  · rw [← Finset.sum_range (fun n => if M ≤ j.val + n then f (j.val + n - M) else 0), numel_col]
    exact sum_ending f M j.val (by omega)

theorem coe_sum (r : ℕ → ℝ) (n : ℕ) : ∑ i ∈ Finset.range n, ((r i : ℝ) : EReal) = ((∑ i ∈ Finset.range n, r i : ℝ) : EReal) := by
  induction n with
  | zero => simp
  | succ n ih => rw [Finset.sum_range_succ, Finset.sum_range_succ, ih, EReal.coe_add]

theorem real_diff (r : ℕ → ℝ) (t W : ℕ) :
    ∑ i ∈ Finset.range (t + 1), r i - ∑ i ∈ Finset.range (t + 1 - W), r i = ∑ j ∈ Finset.range W, if j ≤ t then r (t - j) else 0 := by
  induction W with
  | zero => simp
  | succ W ih =>
    rw [Finset.sum_range_succ _ W, ← ih]
    by_cases h : W ≤ t
    · rw [if_pos h, show t + 1 - W = (t - W) + 1 by omega, show t + 1 - (W + 1) = t - W by omega, Finset.sum_range_succ _ (t - W)]
      ring
    · rw [if_neg h, show t + 1 - W = 0 by omega, show t + 1 - (W + 1) = 0 by omega]
      ring

theorem sq_nonneg_top (x : EReal) : IsReal x ∨ x * x = ⊤ := by
  induction x with
  | bot => right; simp
  | top => right; simp
  | coe r => exact Or.inl ⟨r, rfl⟩

theorem lit_2048 : Ideal.ofBits .f32 0x45000000#32 = ((2048 : ℝ) : EReal) := by
  simp [Ideal.ofBits, Ideal.ieee, -EReal.coe_mul]; norm_num

/-- The reciprocal root of the mean of squares is finite, and the entry times it too, whatever the entries. -/
theorem unit_real (x : Fin 2048 → EReal) (k : Fin 2048) :
    IsReal (x k * Ideal.rsqrt (Ideal.div (∑ j : Fin 2048, x j * x j) (Ideal.ofBits .f32 0x45000000#32) + Ideal.ofBits .f32 0x358637BD#32)) := by
  obtain ⟨e, he, ee⟩ := lit_eps
  rw [ee, lit_2048]
  have hd : ∀ y : EReal, Ideal.div y ((2048 : ℝ) : EReal) = y * ((1 / 2048 : ℝ) : EReal) := fun y => by
    unfold Ideal.div
    rw [if_neg (by norm_cast), ← EReal.coe_inv, one_div]
  rw [hd]
  by_cases hx : ∀ j, IsReal (x j)
  · choose r hr using hx
    have es : ∑ j : Fin 2048, x j * x j = ((∑ j : Fin 2048, r j * r j : ℝ) : EReal) := by
      have : ∀ s : Finset (Fin 2048), ∑ j ∈ s, x j * x j = ((∑ j ∈ s, r j * r j : ℝ) : EReal) := fun s => by
        induction s using Finset.induction_on with
        | empty => simp
        | insert a s ha ih => rw [Finset.sum_insert ha, Finset.sum_insert ha, ih, hr a, EReal.coe_add, EReal.coe_mul]
      exact this _
    have h0 : 0 ≤ ∑ j : Fin 2048, r j * r j := Finset.sum_nonneg fun j _ => mul_self_nonneg _
    rw [es, ← EReal.coe_mul, ← EReal.coe_add]
    have hp : 0 < (∑ j : Fin 2048, r j * r j) * (1 / 2048) + e := by positivity
    refine IsReal.mul ⟨r k, hr k⟩ ⟨(Real.sqrt ((∑ j : Fin 2048, r j * r j) * (1 / 2048) + e))⁻¹, ?_⟩
    show (if _ then (_ : EReal) else if _ then _ else _) = _
    rw [if_neg (not_lt.2 hp.le), if_neg hp.ne']
  · obtain ⟨j, hj⟩ := not_forall.1 hx
    have hjj : x j * x j = ⊤ := (sq_nonneg_top (x j)).resolve_left hj
    have hn : ∀ i : Fin 2048, 0 ≤ x i * x i := fun i => by
      rcases sq_nonneg_top (x i) with ⟨r, hr⟩ | h
      · rw [hr, ← EReal.coe_mul]; exact_mod_cast mul_self_nonneg r
      · rw [h]; exact le_top
    have hs : ∑ i : Fin 2048, x i * x i = ⊤ :=
      top_le_iff.1 (hjj ▸ Finset.single_le_sum (f := fun i => x i * x i) (fun i _ => hn i) (Finset.mem_univ j))
    rw [hs, EReal.top_mul_coe_of_pos (by norm_num : (0 : ℝ) < 1 / 2048), EReal.top_add_coe]
    show IsReal (x k * 0)
    rw [mul_zero]
    exact ⟨0, rfl⟩

/-- Where the gain is finite, so is every normalized frame. -/
theorem hz_real (x : (⟨2, ![8192, 2048]⟩ : Shape).Idx → EReal) (g : (⟨1, ![2048]⟩ : Shape).Idx → EReal) (hg : ∀ i, IsReal (g i)) (t k : ℕ) :
    IsReal (hz x g t k) := by
  unfold hz
  split
  · unfold nrm
    exact (unit_real (fun j => x (ix2 ⟨t, _⟩ j)) ⟨k, _⟩).mul (hg _)
  · exact ⟨0, rfl⟩

/-- The difference of two running sums is the trailing window's sum. -/
theorem win_diff (x : (⟨2, ![8192, 2048]⟩ : Shape).Idx → EReal) (g : (⟨1, ![2048]⟩ : Shape).Idx → EReal) (hg : ∀ i, IsReal (g i)) (t W k : ℕ) :
    ∑ i ∈ Finset.range (t + 1), hz x g i k - ∑ i ∈ Finset.range (t + 1 - W), hz x g i k = ∑ j ∈ Finset.range W, hb x g t k j := by
  choose r hr using fun i => hz_real x g hg i k
  have hh : ∀ j, hb x g t k j = (((if j ≤ t then r (t - j) else 0 : ℝ)) : EReal) := fun j => by
    unfold hb
    rw [hr]
    split <;> rfl
  simp only [hr, hh]
  rw [coe_sum, coe_sum, coe_sum, ← EReal.coe_sub, real_diff]

/-- The window's first frame, as a word. -/
theorem start_word (t W : ℕ) (ht : t < 8192) (hW : W ≤ 16) :
    IntOp.maxsi (IntOp.subi (IntOp.addi (BitVec.ofNat 32 t) 1#32) (BitVec.ofNat 32 W)) 0#32 = BitVec.ofNat 32 (t + 1 - W) := by
  have e : (IntOp.subi (IntOp.addi (BitVec.ofNat 32 t) 1#32) (BitVec.ofNat 32 W)).toInt = (t : Int) + 1 - W := by
    show (BitVec.ofNat 32 t + 1#32 - BitVec.ofNat 32 W).toInt = _
    rw [BitVec.toInt_sub, BitVec.toInt_add, Idealize.ShloMosaic.WordCmp.toInt_ofNat_of_lt (by omega : t < 2 ^ (32 - 1)),
      Idealize.ShloMosaic.WordCmp.toInt_ofNat_of_lt (by omega : W < 2 ^ (32 - 1)), show (1#32 : BitVec 32).toInt = 1 from rfl]
    simp only [Int.bmod]
    omega
  apply BitVec.eq_of_toInt_eq
  rw [Idealize.ShloMosaic.WordCmp.toInt_ofNat_of_lt (by omega : t + 1 - W < 2 ^ (32 - 1))]
  unfold IntOp.maxsi BitVec.slt
  rw [e, show (0#32 : BitVec 32).toInt = 0 from rfl]
  by_cases h : W ≤ t + 1
  · by_cases h' : (0 : Int) < (t : Int) + 1 - W
    · rw [if_pos (by simpa using h'), e]; omega
    · first
        | (rw [if_neg (by simpa using h')]; show (0 : Int) = _; omega)
        | (rw [if_neg (by simpa using h'), e]; omega)
  · first
      | (rw [if_neg (by simpa using (by omega : ¬ (0 : Int) < (t : Int) + 1 - W))]; show (0 : Int) = _; omega)
      | (rw [if_pos (by simpa using (by omega : (t : Int) + 1 - W < 0))]; show (0 : Int) = _; omega)

/-- The window's first frame is no negative word, so the wrap leaves it. -/
theorem wrap_word (n : ℕ) (hn : n < 8192) :
    Scalar.select (IntOp.cmpi .slt (BitVec.ofNat 32 n) 0#32) (IntOp.addi (BitVec.ofNat 32 n) 8193#32) (BitVec.ofNat 32 n) = BitVec.ofNat 32 n := by
  have e : IntOp.cmpi .slt (BitVec.ofNat 32 n) 0#32 = 0#1 := by
    show BitVec.ofBool (decide ((BitVec.ofNat 32 n).toInt < (0#32 : BitVec 32).toInt)) = 0#1
    rw [Idealize.ShloMosaic.WordCmp.toInt_ofNat_of_lt (by omega : n < 2 ^ (32 - 1)), show (0#32 : BitVec 32).toInt = 0 from rfl,
      decide_eq_false (by omega)]
    rfl
  rw [e]
  rfl

/-- The window's number of frames, as a word. -/
theorem count_word (t W : ℕ) (ht : t < 8192) :
    (IntOp.subi (IntOp.addi (BitVec.ofNat 32 t) 1#32) (BitVec.ofNat 32 (t + 1 - W))).toInt = ((min (t + 1) W : ℕ) : Int) := by
  show (BitVec.ofNat 32 t + 1#32 - BitVec.ofNat 32 (t + 1 - W)).toInt = _
  rw [BitVec.toInt_sub, BitVec.toInt_add, Idealize.ShloMosaic.WordCmp.toInt_ofNat_of_lt (by omega : t < 2 ^ (32 - 1)),
    Idealize.ShloMosaic.WordCmp.toInt_ofNat_of_lt (by omega : t + 1 - W < 2 ^ (32 - 1)), show (1#32 : BitVec 32).toInt = 1 from rfl]
  simp only [Int.bmod]
  omega

end Cert.Layer

end
-- ==== Proof.PoolRef.lean ====
module

public import proofs.«01_k».proof.Proof.Gen.PoolRefIdeal.Run
public import proofs.«01_k».proof.Proof.PoolMath
public import Idealize.ShloMosaic.Lib.Pointwise

@[expose] public section

set_option maxRecDepth 16384

noncomputable section

open Idealize.ShloMosaic Idealize.ShloMosaic.TcCoe Idealize.SL.Sem

namespace Cert.PoolRefIdeal.Body

open Cert.PoolRefIdeal Cert.PoolRefIdeal.Gen Cert.Layer

/-- The normalized frames. -/
def hR (a0 : FVec Ideal S8192x2048 .f32) (a1 : FVec Ideal S2048 .f32) : FVec Ideal S1x8192x2048 .f32 :=
  broadcastInDim S1x8192x2048 ![1, 2] bcast_S8192x2048_S1x8192x2048_1_2 (mulf (mulf a0 (broadcastInDim S8192x2048 ![0, 1] bcast_S8192x1_S8192x2048_0_1
    (Host.rsqrt (addf (Host.divf (broadcastInDim S8192x1 ![0] bcast_S8192_S8192x1_0 (Host.reduceAdd (mulf a0 a0) (constant S_ .f32 0x00000000#32) reducesTo_S8192x2048_S8192_d1 h_S_))
      (broadcastInDim S8192x1 ![] bcast_S_S8192x1 (constant S_ .f32 0x45000000#32))) (broadcastInDim S8192x1 ![] bcast_S_S8192x1 (constant S_ .f32 0x358637BD#32))))))
    (broadcastInDim S8192x2048 ![0, 1] bcast_S1x2048_S8192x2048_0_1 (broadcastInDim S1x2048 ![1] bcast_S2048_S1x2048_1 a1)))

/-- The running sums, and the same after a row of zeros. -/
def runR (h : FVec Ideal S1x8192x2048 .f32) : FVec Ideal S1x8192x2048 .f32 :=
  Host.reduceWindowAdd ![1, 8192, 1] ![1, 1, 1] ![0, 8191, 0] ![0, 0, 0] h (broadcastInDim S_ ![] bcast_S_S_ (constant S_ .f32 0x00000000#32))
    reduceWindows_S1x8192x2048_S1x8192x2048_w1s1p0_0_w8192s1p8191_0_w1s1p0_0 h_S_
def padR (r : FVec Ideal S1x8192x2048 .f32) : FVec Ideal S1x8193x2048 .f32 :=
  concatenate S1x8193x2048 1 [⟨S1x1x2048, (broadcastInDim S1x1x2048 ![] bcast_S_S1x1x2048 (constant S_ .f32 0x00000000#32))⟩, ⟨S1x8192x2048, r⟩] concatenates_S1x1x2048_S1x8192x2048_S1x8193x2048_d1

/-- The window's first frame, the words it is looked up by, and the window's count. -/
def startR (w : BitVec 32) : IVec S8192 32 :=
  maxsi (subi (addi (iotaInDim S8192 32 0) (broadcastInDim S8192 ![] bcast_S_S8192 (constantI S_ 32 1#32))) (broadcastInDim S8192 ![] bcast_S_S8192 (constantI S_ 32 w))) (broadcastInDim S8192 ![] bcast_S_S8192 (constantI S_ 32 0#32))
def wrapR (s : IVec S8192 32) : IVec S8192 32 :=
  select (cmpi .slt s (broadcastInDim S8192 ![] bcast_S_S8192 (constantI S_ 32 0#32))) (addi s (broadcastInDim S8192 ![] bcast_S_S8192 (constantI S_ 32 8193#32))) s
def idxR (s : IVec S8192 32) (o : BitVec 32) : IVec S8192x2 32 :=
  concatenate S8192x2 1 [⟨S8192x1, (broadcastInDim S8192x1 ![0] bcast_S8192_S8192x1_0 s)⟩, ⟨S8192x1, (broadcastInDim S8192x1 ![] bcast_S_S8192x1 (constantI S_ 32 o))⟩] concatenates_S8192x1_S8192x1_S8192x2_d1
def cntR (s : IVec S8192 32) : FVec Ideal S1x8192x512 .f32 :=
  broadcastInDim S1x8192x512 ![0, 1, 2] bcast_S1x8192x1_S1x8192x512_0_1_2 (broadcastInDim S1x8192x1 ![1] bcast_S8192_S1x8192x1_1 (sitofp .f32 (subi (addi (iotaInDim S8192 32 0) (broadcastInDim S8192 ![] bcast_S_S8192 (constantI S_ 32 1#32))) s)))

/-- What the window's sums lose before its first frame, and a group's trailing means. -/
def lossR (cs : FVec Ideal S1x8193x2048 .f32) (i : IVec S8192x2 32) : FVec Ideal S1x8192x512 .f32 :=
  Host.gather gather_S1x8193x2048_S8192x2_S1x8192x512_02_1_n_n_12_1_11512 cs i
def meanR (top loss cnt : FVec Ideal S1x8192x512 .f32) : FVec Ideal S1x8192x1x512 .f32 :=
  broadcastInDim S1x8192x1x512 ![0, 1, 3] bcast_S1x8192x512_S1x8192x1x512_0_1_3 (Host.divf (subf top loss) cnt)
def grpR (cs : FVec Ideal S1x8193x2048 .f32) (top : FVec Ideal S1x8192x512 .f32) (w o : BitVec 32) : FVec Ideal S1x8192x1x512 .f32 :=
  meanR top (lossR cs (idxR (wrapR (startR w)) o)) (cntR (startR w))

/-- The four groups' trailing means side by side. -/
def catR (b0 b1 b2 b3 : FVec Ideal S1x8192x1x512 .f32) : FVec Ideal S1x8192x4x512 .f32 :=
  concatenate S1x8192x4x512 2 [⟨S1x8192x1x512, b0⟩, ⟨S1x8192x1x512, b1⟩, ⟨S1x8192x1x512, b2⟩, ⟨S1x8192x1x512, b3⟩]
    concatenates_S1x8192x1x512_S1x8192x1x512_S1x8192x1x512_S1x8192x1x512_S1x8192x4x512_d2
def topR0 (cs : FVec Ideal S1x8193x2048 .f32) : FVec Ideal S1x8192x512 .f32 := extractStridedSlice S1x8192x512 ![0, 1, 0] cs slices_S1x8193x2048_S1x8192x512_0_1_0
def topR1 (cs : FVec Ideal S1x8193x2048 .f32) : FVec Ideal S1x8192x512 .f32 := extractStridedSlice S1x8192x512 ![0, 1, 512] cs slices_S1x8193x2048_S1x8192x512_0_1_512
def topR2 (cs : FVec Ideal S1x8193x2048 .f32) : FVec Ideal S1x8192x512 .f32 := extractStridedSlice S1x8192x512 ![0, 1, 1024] cs slices_S1x8193x2048_S1x8192x512_0_1_1024
def topR3 (cs : FVec Ideal S1x8193x2048 .f32) : FVec Ideal S1x8192x512 .f32 := extractStridedSlice S1x8192x512 ![0, 1, 1536] cs slices_S1x8193x2048_S1x8192x512_0_1_1536
def poolR (cs : FVec Ideal S1x8193x2048 .f32) : FVec Ideal S1x8192x4x512 .f32 :=
  catR (grpR cs (topR0 cs) 2#32 0#32) (grpR cs (topR1 cs) 4#32 512#32) (grpR cs (topR2 cs) 8#32 1024#32) (grpR cs (topR3 cs) 16#32 1536#32)

/-- The mean less the frame, the groups' maps, and the scaled result added to the frames. -/
def diffR (p : FVec Ideal S1x8192x4x512 .f32) (h : FVec Ideal S1x8192x2048 .f32) : FVec Ideal S1x8192x4x512 .f32 :=
  subf p (shapeCast _ h shapeCasts_S1x8192x2048_S1x8192x4x512)
def mapR (d : FVec Ideal S1x8192x4x512 .f32) (a2 : FVec Ideal S4x512x512 .f32) : FVec Ideal S4x512x1x8192 .f32 :=
  Host.dotGeneral dot_S4x512x512_S1x8192x4x512_S4x512x1x8192_1_3_2_01_0_2 none a2 d
def addR (a0 : FVec Ideal S8192x2048 .f32) (y : FVec Ideal S4x512x1x8192 .f32) (a3 : FVec Ideal S2048 .f32) : FVec Ideal S8192x2048 .f32 :=
  addf a0 (shapeCast _ (mulf (shapeCast _ (transpose S1x8192x4x512 [2, 3, 0, 1] y transposes_S4x512x1x8192_S1x8192x4x512_2_3_0_1) shapeCasts_S1x8192x4x512_S1x8192x2048)
    (broadcastInDim S1x8192x2048 ![0, 1, 2] bcast_S1x1x2048_S1x8192x2048_0_1_2 (broadcastInDim S1x1x2048 ![2] bcast_S2048_S1x1x2048_2 a3))) shapeCasts_S1x8192x2048_S8192x2048)
def mixR (a0 : FVec Ideal S8192x2048 .f32) (a1 : FVec Ideal S2048 .f32) : FVec Ideal S1x8192x4x512 .f32 :=
  diffR (poolR (padR (runR (hR a0 a1)))) (hR a0 a1)

/-- The reference's value, stage by stage. -/
def refv (a0 : FVec Ideal S8192x2048 .f32) (a1 : FVec Ideal S2048 .f32) (a2 : FVec Ideal S4x512x512 .f32) (a3 : FVec Ideal S2048 .f32) : FVec Ideal S8192x2048 .f32 :=
  addR a0 (mapR (mixR a0 a1) a2) a3

/-- The run's result is that value. -/
theorem res_eq (m : (ℓ : Loc nD τ sig) → Buf (Elt Ideal) ℓ) (c : Dev nD) :
    Cert.PoolRefIdeal.Value.res_main_v128 m c = refv (m ((c.tc : Thread nD τ).loc main_arg0)) (m ((c.tc : Thread nD τ).loc main_arg1)) (m ((c.tc : Thread nD τ).loc main_arg2))
      (m ((c.tc : Thread nD τ).loc main_arg3)) := rfl

theorem hR_at (a0 : FVec Ideal S8192x2048 .f32) (a1 : FVec Ideal S2048 .f32) (t : Fin 8192) (k : Fin 2048) : hR a0 a1 (ix3 0 t k) = hz a0 a1 t.val k.val := by
  rw [hz_of_lt _ _ _ _ t.isLt k.isLt]
  unfold nrm
  pointwise [hR]

theorem runR_at (h : FVec Ideal S1x8192x2048 .f32) (f : ℕ → EReal) (k : Fin 2048) (hh : ∀ i : Fin 8192, h (ix3 0 i k) = f i.val) (t : Fin 8192) :
    runR h (ix3 0 t k) = ∑ i ∈ Finset.range (t.val + 1), f i := by
  have e := cumsum_mid (show 8191 + 1 = 8192 from rfl) h f k hh reduceWindows_S1x8192x2048_S1x8192x2048_w1s1p0_0_w8192s1p8191_0_w1s1p0_0 t
  have e0 : (broadcastInDim S_ ![] bcast_S_S_ (constant (F := Ideal) S_ .f32 0x00000000#32) : FVec Ideal S_ .f32) (Shape.Idx.first h_S_) = (0 : EReal) := by
    show Ideal.ofBits .f32 0x00000000#32 = 0
    simp [Ideal.ofBits, Ideal.ieee]
  unfold runR Host.reduceWindowAdd
  rw [Ideal.hostReduceWindowAdd_def, e0]
  exact e

theorem padR_at (r : FVec Ideal S1x8192x2048 .f32) (f : ℕ → EReal) (k : Fin 2048) (hr : ∀ i : Fin 8192, r (ix3 0 i k) = ∑ j ∈ Finset.range (i.val + 1), f j) (n : Fin 8193) :
    padR r (ix3 0 n k) = ∑ j ∈ Finset.range n.val, f j := by
  obtain ⟨n, hl⟩ := n
  by_cases hn : n = 0
  · subst hn
    rw [Finset.range_zero, Finset.sum_empty]
    pointwise [padR]
  · obtain ⟨i, rfl⟩ : ∃ i : ℕ, n = i + 1 := ⟨n - 1, by omega⟩
    have hi : i < 8192 := by omega
    refine Eq.trans ?_ (hr ⟨i, hi⟩)
    pointwise [padR]
    rw [dif_neg (by omega)]
    rfl

theorem startR_at (W : ℕ) (hW : W ≤ 16) (t : Fin 8192) : startR (BitVec.ofNat 32 W) (ix1 t) = BitVec.ofNat 32 (t.val + 1 - W) := by
  rw [← start_word _ _ t.isLt hW]
  rfl

theorem wrapR_at (s : IVec S8192 32) (n : ℕ) (hn : n < 8192) (t : Fin 8192) (hs : s (ix1 t) = BitVec.ofNat 32 n) : wrapR s (ix1 t) = BitVec.ofNat 32 n := by
  show Scalar.select (IntOp.cmpi .slt (s (ix1 t)) 0#32) (IntOp.addi (s (ix1 t)) 8193#32) (s (ix1 t)) = _
  rw [hs]
  exact wrap_word n hn

theorem idxR_at0 (s : IVec S8192 32) (o : BitVec 32) (t : Fin 8192) : idxR s o (ix2 t (0 : Fin 2)) = s (ix1 t) := by
  pointwise [idxR]

theorem idxR_at1 (s : IVec S8192 32) (o : BitVec 32) (t : Fin 8192) : idxR s o (ix2 t (1 : Fin 2)) = o := by
  pointwise [idxR]

theorem cntR_at (s : IVec S8192 32) (W : ℕ) (t : Fin 8192) (hs : s (ix1 t) = BitVec.ofNat 32 (t.val + 1 - W)) (d : Fin 512) : cntR s (ix3 0 t d) = cntW W t.val := by
  have e : cntR s (ix3 0 t d) = (((IntOp.subi (IntOp.addi (BitVec.ofNat 32 t.val) 1#32) (s (ix1 t))).toInt : ℝ) : EReal) := by
    pointwise [cntR]
    rfl
  rw [e, hs, count_word _ _ t.isLt]
  unfold cntW
  push_cast
  rfl

theorem lossR_at (cs : FVec Ideal S1x8193x2048 .f32) (idx : IVec S8192x2 32) (t : Fin 8192) (d : Fin 512) (n o : ℕ) (hn : n < 8193) (ho : o + 512 ≤ 2048)
    (h0 : idx (ix2 t (0 : Fin 2)) = BitVec.ofNat 32 n) (h1 : idx (ix2 t (1 : Fin 2)) = BitVec.ofNat 32 o) :
    lossR cs idx (ix3 0 t d) = cs (ix3 0 ⟨n, hn⟩ ⟨o + d.val, by omega⟩) := by
  unfold lossR Host.gather
  refine congrArg cs (funext fun a => Fin.ext ?_)
  generalize hD : gather_S1x8193x2048_S8192x2_S1x8192x512_02_1_n_n_12_1_11512 = D
  have hob : ∀ a', a' ∉ D.operandBatchingDims := fun a' => by rw [← hD]; exact List.not_mem_nil
  match a with
  | ⟨0, _⟩ =>
    show D.start (ix3 0 t d) idx 0 + D.batchCoord (ix3 0 t d) 0 + D.offCoord (ix3 0 t d) 0 = 0
    rw [D.batchCoord_eq_zero _ _ (hob 0)]
    subst hD
    rfl
  | ⟨1, _⟩ =>
    show D.start (ix3 0 t d) idx 1 + D.batchCoord (ix3 0 t d) 1 + D.offCoord (ix3 0 t d) 1 = n
    rw [D.batchCoord_eq_zero _ _ (hob 1), D.offCoord_eq_zero _ _ (fun h => ((GatherDims.mem_sKept _ _).mp h).1 (by rw [← hD]; exact List.mem_singleton.mpr rfl))]
    simp only [Nat.add_zero]
    have hm : (1 : Fin 3) ∈ D.startIndexMap := by rw [← hD]; decide
    unfold GatherDims.start
    rw [dif_pos hm]
    have hsi : D.siIdx (ix3 0 t d) ⟨List.idxOf (1 : Fin 3) D.startIndexMap, List.idxOf_lt_length_iff.2 hm⟩ = ix2 t (0 : Fin 2) := by
      subst hD
      funext b; refine Fin.ext ?_
      match b with
      | ⟨0, _⟩ => rfl
      | ⟨1, _⟩ => rfl
    rw [hsi, h0, Idealize.ShloMosaic.WordCmp.toInt_ofNat_of_lt (by omega : n < 2 ^ (32 - 1))]
    subst hD
    show min ((n : Int)).toNat (8193 - 1) = n
    omega
  | ⟨2, _⟩ =>
    show D.start (ix3 0 t d) idx 2 + D.batchCoord (ix3 0 t d) 2 + D.offCoord (ix3 0 t d) 2 = o + d.val
    rw [D.batchCoord_eq_zero _ _ (hob 2), Nat.add_zero]
    have ho2 : D.offCoord (ix3 0 t d) 2 = d.val := by subst hD; rfl
    rw [ho2]
    have hm : (2 : Fin 3) ∈ D.startIndexMap := by rw [← hD]; decide
    unfold GatherDims.start
    rw [dif_pos hm]
    have hsi : D.siIdx (ix3 0 t d) ⟨List.idxOf (2 : Fin 3) D.startIndexMap, List.idxOf_lt_length_iff.2 hm⟩ = ix2 t (1 : Fin 2) := by
      subst hD
      funext b; refine Fin.ext ?_
      match b with
      | ⟨0, _⟩ => rfl
      | ⟨1, _⟩ => rfl
    rw [hsi, h1, Idealize.ShloMosaic.WordCmp.toInt_ofNat_of_lt (by omega : o < 2 ^ (32 - 1))]
    subst hD
    show min ((o : Int)).toNat (2048 - 512) + d.val = o + d.val
    omega

theorem meanR_at (top loss cnt : FVec Ideal S1x8192x512 .f32) (t : Fin 8192) (d : Fin 512) :
    meanR top loss cnt (ix4 0 t 0 d) = Ideal.div (top (ix3 0 t d) - loss (ix3 0 t d)) (cnt (ix3 0 t d)) := by
  pointwise [meanR]

/-- A group's trailing mean. -/
theorem grpR_at (a0 : FVec Ideal S8192x2048 .f32) (a1 : FVec Ideal S2048 .f32) (hg : ∀ i, IsReal (a1 i)) (cs : FVec Ideal S1x8193x2048 .f32)
    (hcs : ∀ (n : Fin 8193) (k : Fin 2048), cs (ix3 0 n k) = ∑ j ∈ Finset.range n.val, hz a0 a1 j k.val) (top : FVec Ideal S1x8192x512 .f32) (W o : ℕ) (hW : W ≤ 16) (hW1 : 1 ≤ W) (ho : o + 512 ≤ 2048)
    (ht : ∀ (t : Fin 8192) (d : Fin 512), top (ix3 0 t d) = cs (ix3 0 ⟨t.val + 1, by omega⟩ ⟨o + d.val, by omega⟩)) (t : Fin 8192) (d : Fin 512) :
    grpR cs top (BitVec.ofNat 32 W) (BitVec.ofNat 32 o) (ix4 0 t 0 d) = Ideal.div (∑ j ∈ Finset.range W, hb a0 a1 t.val (o + d.val) j) (cntW W t.val) := by
  unfold grpR
  rw [meanR_at, ht, cntR_at _ W t (startR_at W hW t),
    lossR_at cs _ t d (t.val + 1 - W) o (by omega) ho (by rw [idxR_at0]; exact wrapR_at _ _ (by omega) t (startR_at W hW t)) (idxR_at1 _ _ t), hcs, hcs]
  show Ideal.div (∑ j ∈ Finset.range (t.val + 1), hz a0 a1 j (o + d.val) - ∑ j ∈ Finset.range (t.val + 1 - W), hz a0 a1 j (o + d.val)) _ = _
  rw [win_diff a0 a1 hg]

theorem topR0_at (cs : FVec Ideal S1x8193x2048 .f32) (t : Fin 8192) (d : Fin 512) : topR0 cs (ix3 0 t d) = cs (ix3 0 ⟨t.val + 1, by omega⟩ ⟨0 + d.val, by omega⟩) := by
  pointwise [topR0]
  try (congr 1; first | rfl | (congr 1; first | rfl | (apply Fin.ext; dsimp only; omega)))
theorem topR1_at (cs : FVec Ideal S1x8193x2048 .f32) (t : Fin 8192) (d : Fin 512) : topR1 cs (ix3 0 t d) = cs (ix3 0 ⟨t.val + 1, by omega⟩ ⟨512 + d.val, by omega⟩) := by
  pointwise [topR1]
  try (congr 1; first | rfl | (congr 1; first | rfl | (apply Fin.ext; dsimp only; omega)))
theorem topR2_at (cs : FVec Ideal S1x8193x2048 .f32) (t : Fin 8192) (d : Fin 512) : topR2 cs (ix3 0 t d) = cs (ix3 0 ⟨t.val + 1, by omega⟩ ⟨1024 + d.val, by omega⟩) := by
  pointwise [topR2]
  try (congr 1; first | rfl | (congr 1; first | rfl | (apply Fin.ext; dsimp only; omega)))
theorem topR3_at (cs : FVec Ideal S1x8193x2048 .f32) (t : Fin 8192) (d : Fin 512) : topR3 cs (ix3 0 t d) = cs (ix3 0 ⟨t.val + 1, by omega⟩ ⟨1536 + d.val, by omega⟩) := by
  pointwise [topR3]
  try (congr 1; first | rfl | (congr 1; first | rfl | (apply Fin.ext; dsimp only; omega)))

theorem catR_at0 (b0 b1 b2 b3 : FVec Ideal S1x8192x1x512 .f32) (t : Fin 8192) (d : Fin 512) : catR b0 b1 b2 b3 (ix4 0 t 0 d) = b0 (ix4 0 t 0 d) := by
  pointwise [catR]
theorem catR_at1 (b0 b1 b2 b3 : FVec Ideal S1x8192x1x512 .f32) (t : Fin 8192) (d : Fin 512) : catR b0 b1 b2 b3 (ix4 0 t 1 d) = b1 (ix4 0 t 0 d) := by
  pointwise [catR]
theorem catR_at2 (b0 b1 b2 b3 : FVec Ideal S1x8192x1x512 .f32) (t : Fin 8192) (d : Fin 512) : catR b0 b1 b2 b3 (ix4 0 t 2 d) = b2 (ix4 0 t 0 d) := by
  pointwise [catR]
theorem catR_at3 (b0 b1 b2 b3 : FVec Ideal S1x8192x1x512 .f32) (t : Fin 8192) (d : Fin 512) : catR b0 b1 b2 b3 (ix4 0 t 3 d) = b3 (ix4 0 t 0 d) := by
  pointwise [catR]

theorem diffR_at (p : FVec Ideal S1x8192x4x512 .f32) (h : FVec Ideal S1x8192x2048 .f32) (t : Fin 8192) (q : Fin 4) (d : Fin 512) :
    diffR p h (ix4 0 t q d) = p (ix4 0 t q d) - h (ix3 0 t ⟨512 * q.val + d.val, by omega⟩) := by
  pointwise [diffR]
  congr 3
  apply Fin.ext
  show q.val * 512 + d.val = 512 * q.val + d.val
  omega

theorem mapR_at (p : FVec Ideal S1x8192x4x512 .f32) (a2 : FVec Ideal S4x512x512 .f32) (t : Fin 8192) (q : Fin 4) (d : Fin 512) :
    mapR p a2 (ix4 q d 0 t) = ∑ k : Fin 512, a2 (ix3 q k d) * p (ix4 0 t q k) := by
  pointwise [mapR]

theorem addR_at (a0 : FVec Ideal S8192x2048 .f32) (y : FVec Ideal S4x512x1x8192 .f32) (a3 : FVec Ideal S2048 .f32) (t : Fin 8192) (q : Fin 4) (d : Fin 512) :
    addR a0 y a3 (ix2 t ⟨512 * q.val + d.val, by omega⟩) = a0 (ix2 t ⟨512 * q.val + d.val, by omega⟩) + y (ix4 q d 0 t) * a3 (ix1 ⟨512 * q.val + d.val, by omega⟩) := by
  pointwise [addR]

theorem mixR_at (a0 : FVec Ideal S8192x2048 .f32) (a1 : FVec Ideal S2048 .f32) (hg : ∀ i, IsReal (a1 i)) (t : Fin 8192) (q : Fin 4) (k : Fin 512) :
    mixR a0 a1 (ix4 0 t q k) = mixW a0 a1 (2 ^ (q.val + 1)) t.val (512 * q.val + k.val) := by
  have hcs : ∀ (n : Fin 8193) (k : Fin 2048), padR (runR (hR a0 a1)) (ix3 0 n k) = ∑ j ∈ Finset.range n.val, hz a0 a1 j k.val :=
    fun n k => padR_at _ (fun j => hz a0 a1 j k.val) k (runR_at _ (fun j => hz a0 a1 j k.val) k (fun i => hR_at a0 a1 i k)) n
  unfold mixR mixW
  rw [diffR_at, hR_at]
  congr 1
  unfold poolR
  match q with
  | ⟨0, _⟩ => exact (catR_at0 _ _ _ _ t k).trans (grpR_at a0 a1 hg _ hcs _ 2 0 (by decide) (by decide) (by decide) (topR0_at _) t k)
  | ⟨1, _⟩ => exact (catR_at1 _ _ _ _ t k).trans (grpR_at a0 a1 hg _ hcs _ 4 512 (by decide) (by decide) (by decide) (topR1_at _) t k)
  | ⟨2, _⟩ => exact (catR_at2 _ _ _ _ t k).trans (grpR_at a0 a1 hg _ hcs _ 8 1024 (by decide) (by decide) (by decide) (topR2_at _) t k)
  | ⟨3, _⟩ => exact (catR_at3 _ _ _ _ t k).trans (grpR_at a0 a1 hg _ hcs _ 16 1536 (by decide) (by decide) (by decide) (topR3_at _) t k)

/-- On a finite gain the reference's value is the pooling mixer's, entry by entry. -/
theorem refv_at (a0 : FVec Ideal S8192x2048 .f32) (a1 : FVec Ideal S2048 .f32) (hg : ∀ i, IsReal (a1 i)) (a2 : FVec Ideal S4x512x512 .f32) (a3 : FVec Ideal S2048 .f32)
    (t : Fin 8192) (q : Fin 4) (d : Fin 512) : refv a0 a1 a2 a3 (ix2 t ⟨512 * q.val + d.val, by omega⟩) = gpool a0 a1 a2 a3 t q d := by
  unfold refv gpool
  rw [addR_at, mapR_at]
  congr 2
  refine Finset.sum_congr rfl fun k _ => ?_
  rw [mixR_at a0 a1 hg, mul_comm]

end Cert.PoolRefIdeal.Body

end
-- ==== Proof.Pool.lean ====
module

public import proofs.«01_k».proof.Defs
public import proofs.«01_k».proof.Proof.Attn
public import proofs.«01_k».proof.Proof.PoolKernel
public import proofs.«01_k».proof.Proof.PoolRef
public import Idealize.ShloMosaic.Lib.Claim

@[expose] public section

set_option maxRecDepth 16384

noncomputable section

open Idealize.ShloMosaic Idealize.ShloMosaic.TcCoe Idealize.SL.Sem

namespace Cert.Layer

/-- The side conditions of the gain's precondition. -/
theorem gain_facts : Cert.Pre_finite_gain.Facts where
  bcast_S_S2048 := by decide

end Cert.Layer

namespace Cert.PoolIdeal.Value

open Cert.PoolIdeal Cert.PoolIdeal.Gen Cert.Layer Cert.PoolIdeal.Body

variable (m : (ℓ : Loc nD τ sig) → Buf (Elt Ideal) ℓ)

/-- On a finite gain the pooling mixer's array is the reference's. -/
theorem pooled_eq (a0 : FVec Ideal S8192x2048 .f32) (a1 : FVec Ideal S2048 .f32) (hg : ∀ i, IsReal (a1 i)) (a2 : FVec Ideal S4x512x512 .f32) (a3 : FVec Ideal S2048 .f32) :
    pooled a0 a1 a2 a3 = Cert.PoolRefIdeal.Body.refv a0 a1 a2 a3 := by
  funext i
  have h1 : (i 1).val < 2048 := (i 1).isLt
  have e := Cert.PoolRefIdeal.Body.refv_at a0 a1 hg a2 a3 (i 0) ⟨(i 1).val / 512, by omega⟩ ⟨(i 1).val % 512, Nat.mod_lt _ (by decide)⟩
  refine e.symm.trans (congrArg (Cert.PoolRefIdeal.Body.refv a0 a1 a2 a3) (funext fun a => Fin.ext ?_))
  match a with
  | ⟨0, _⟩ => rfl
  | ⟨1, _⟩ => exact Nat.div_add_mod (i 1).val 512

/-- On a finite gain the result array is the reference's. -/
theorem final_eq (c : Dev nD) (hp : Cert.Pre_PoolIdeal_finite_gain (hPre_finite_gain := gain_facts) m) :
    (dats m 0 c).arrAt 5 cfg0.N = Cert.PoolRefIdeal.Body.refv (A0 m c) (A1 m c) (A2 m c) (A3 m c) := by
  rw [final_at]
  exact pooled_eq _ _ (real_of_flag _ _ (hp c)) _ _

end Cert.PoolIdeal.Value

namespace Cert.Proof

/-- On a finite gain the pooling mixer computes, over the extended reals, the reference's trailing means mapped by group. -/
theorem algebraic_Pool : algebraic_PoolIdeal_PoolRefIdeal_pre_finite_gain (hPoolIdeal := Cert.PoolIdeal.Gen.facts)
    (hPoolRefIdeal := Cert.PoolRefIdeal.Gen.facts) (hPre_finite_gain := Cert.Layer.gain_facts) := by
  pair_intro
  · run_from Cert.PoolIdeal.Value.run_blocks m g
  · refine θ_run_mono (Cert.PoolRefIdeal.Value.run (F := Ideal) m' g') fun r h c => ⟨?_, (h c).2⟩
    obtain ⟨q0, q1, q2, q3⟩ := hagree c
    rw [(h c).1, Cert.PoolRefIdeal.Body.res_eq, q0, q1, q2, q3]
    exact (Cert.PoolIdeal.Value.final_eq m c hpre).symm

end Cert.Proof

end
-- ==== Proof.ConvOutBody.lean ====
module

public import proofs.«01_k».proof.Proof.Gen.ConvOutIdeal.Loops
public import proofs.«01_k».proof.Proof.Gen.ConvOutIdeal.Frame
public import Idealize.ShloMosaic.Lib.WritesUnit
public import Idealize.ShloMosaic.Lib.VecWindow
public import Idealize.ShloMosaic.Lib.Pointwise
public import Idealize.ShloMosaic.Lib.Claim

@[expose] public section

set_option maxRecDepth 16384

noncomputable section

namespace Cert.ConvOutIdeal.Body

open Cert.ConvOutIdeal Cert.ConvOutIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The loop makes thirty-two trips. -/
theorem trips_eq : k0_t1_loop.trips = 32 := by decide

/-- A trip's rows start at sixteen times its number. -/
theorem off5_eq : ∀ k : Fin k0_t1_loop.trips, k0_off5 k = ![16 * k.val, 0] := by decide +kernel

/-- The rows the convolution reads: the thirty-two rows before the block, then the block. -/
def ext (i : grid0.Coords) (u : Vec F S512x2048 .f32) (p : Vec F S32x2048 .f32) : Vec F S544x2048 .f32 := fun y =>
  if h : 32 ≤ (y 0).val then k0_pay2 u (ix2 ⟨(y 0).val - 32, by have : (y 0).val < 544 := (y 0).isLt; omega⟩ (y 1))
  else k0_pay1 i p (ix2 ⟨(y 0).val, by omega⟩ (y 1))

/-- One whole buffer of each kind a trip reads, through which its rows are stated. -/
abbrev M4 : Memref sig .tc .vmem S31x2048 .f32 := Memref.whole cc0_stg2_0
abbrev M5 : Memref sig .tc .vmem S1x2048 .f32 := Memref.whole cc0_stg3_0
abbrev M12 : Memref sig .tc .vmem S544x2048 .f32 := Memref.whole cc0_scratch0
abbrev M13 : Memref sig .tc .vmem S16x2048 .f32 := Memref.whole cc0_scratch1
abbrev M14 : Memref sig .tc .vmem S512x2048 .bf16 := Memref.whole cc0_scratch2
theorem h4 : (M4 : Memref sig .tc .vmem S31x2048 .f32).IsWhole := Memref.isWhole_whole _
theorem h5 : (M5 : Memref sig .tc .vmem S1x2048 .f32).IsWhole := Memref.isWhole_whole _
theorem h12 : (M12 : Memref sig .tc .vmem S544x2048 .f32).IsWhole := Memref.isWhole_whole _
theorem h13 : (M13 : Memref sig .tc .vmem S16x2048 .f32).IsWhole := Memref.isWhole_whole _
theorem h14 : (M14 : Memref sig .tc .vmem S512x2048 .bf16).IsWhole := Memref.isWhole_whole _

/-- The sixteen convolved and normalized rows of a trip, before the gain and the bias. -/
def core (i : grid0.Coords) (h1 : k0_cond1 i = 1#1) (e : Vec F S544x2048 .f32) (x2 : Vec F S31x2048 .f32) (x3 : Vec F S1x2048 .f32) (k : Fin k0_t1_loop.trips) : FVec F S16x2048 .f32 :=
  trip_k0_t1.sl.r_30 i M4 M5 M12 M13 h1 (h4.unread x2) (h5.unread x3) (h12.unread e) k

/-- The block of activations the loop leaves: each trip's sixteen rows. -/
def rows (i : grid0.Coords) (h1 : k0_cond1 i = 1#1) (e : Vec F S544x2048 .f32) (x2 : Vec F S31x2048 .f32) (x3 x4 x5 : Vec F S1x2048 .f32) : Vec F S512x2048 .bf16 := fun y =>
  k0_pay3 (core i h1 e x2 x3 ⟨(y 0).val / 16, by have h : (y 0).val < 512 := (y 0).isLt; rw [trips_eq]; omega⟩) (k0_pay32 x4) x5 (ix2 ⟨(y 0).val % 16, Nat.mod_lt _ (by decide)⟩ (y 1))

theorem hz2 : (![0, 0] : Fin 2 → Nat) = fun _ => 0 := funext fun a => by fin_cases a <;> rfl

section Run

variable (c : Dev nD) (i : grid0.Coords) (arg2 : Memref sig .tc .vmem S512x2048 .f32) (harg2 : arg2.IsWhole) (arg3 : Memref sig .tc .vmem S32x2048 .f32) (harg3 : arg3.IsWhole) (arg4 : Memref sig .tc .vmem S31x2048 .f32) (harg4 : arg4.IsWhole) (arg5 : Memref sig .tc .vmem S1x2048 .f32) (harg5 : arg5.IsWhole) (arg6 : Memref sig .tc .vmem S1x2048 .f32) (harg6 : arg6.IsWhole) (arg7 : Memref sig .tc .vmem S1x2048 .f32) (harg7 : arg7.IsWhole) (arg8 : Memref sig .tc .vmem S2048x512 .bf16) (harg8 : arg8.IsWhole) (arg9 : Memref sig .tc .vmem S1x512 .f32) (harg9 : arg9.IsWhole) (arg10 : Memref sig .tc .vmem S512x512 .f32) (harg10 : arg10.IsWhole) (arg11 : Memref sig .tc .vmem S512x512 .f32) (harg11 : arg11.IsWhole) (arg12 : Memref sig .tc .vmem S544x2048 .f32) (harg12 : arg12.IsWhole) (arg13 : Memref sig .tc .vmem S16x2048 .f32) (harg13 : arg13.IsWhole) (arg14 : Memref sig .tc .vmem S512x2048 .bf16) (harg14 : arg14.IsWhole)

set_option maxHeartbeats 4000000 in
/-- A trip's rows depend on the contents of what it reads, not on where they lie. -/
theorem core_eq (h1 : k0_cond1 i = 1#1) (X4 : BufTy.Contents (Elt F) arg4.view.ty) (X5 : BufTy.Contents (Elt F) arg5.view.ty) (X12 : BufTy.Contents (Elt F) arg12.view.ty) (k : Fin k0_t1_loop.trips) :
    trip_k0_t1.sl.r_30 i arg4 arg5 arg12 arg13 h1 X4 X5 X12 k = core i h1 (arg12.view.read (Elt F) X12) (arg4.view.read (Elt F) X4) (arg5.view.read (Elt F) X5) k := by
  unfold core
  sl_unfold_words
  simp only [View.readAt_eq_ld, View.readCov_eq_canon', h4.read_unread, h5.read_unread, h12.read_unread]

/-- After `k` trips the first `16 k` rows of the activations are in place. -/
theorem rows_at (h1 : k0_cond1 i = 1#1) (X4 : BufTy.Contents (Elt F) arg4.view.ty) (X5 : BufTy.Contents (Elt F) arg5.view.ty) (X6 : BufTy.Contents (Elt F) arg6.view.ty) (X7 : BufTy.Contents (Elt F) arg7.view.ty) (X12 : BufTy.Contents (Elt F) arg12.view.ty) (G13 : BufTy.Contents (Elt F) arg13.view.ty) (G14 : BufTy.Contents (Elt F) arg14.view.ty)
    (k : ℕ) (hk : k ≤ k0_t1_loop.trips) (y : S512x2048.Idx) (hy : (y 0).val < 16 * k) :
    arg14.view.read (Elt F) (arg14.view.writes (Elt F) G14 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 h1 X4 X5 X6 X7 X12 G13 G14 k).2) y
      = rows i h1 (arg12.view.read (Elt F) X12) (arg4.view.read (Elt F) X4) (arg5.view.read (Elt F) X5) (arg6.view.read (Elt F) X6) (arg7.view.read (Elt F) X7) y := by
  induction k with
  | zero => exact absurd hy (by omega)
  | succ k ih =>
    have e := pb_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 h1 X4 X5 X6 X7 X12 G13 G14 ⟨k, hk⟩
    rw [show (⟨k, hk⟩ : Fin k0_t1_loop.trips).val + 1 = k + 1 from rfl] at e
    rw [e]
    unfold tripL_k0_t1 trip_k0_t1
    dsimp only [List.cons_append, List.nil_append]
    by_cases h : (y 0).val < 16 * k
    · refine (View.read_writes_cons_unit_of_not_mem _ _ _ _ _ y (off5_eq ⟨k, hk⟩) 0 (Or.inl h)).trans ?_
      exact ih (Nat.le_of_succ_le hk) h
    · have h0 : (y 0).val = 16 * k + (y 0).val % 16 := by omega
      have h2 : (y 0).val / 16 = k := by omega
      refine (View.read_writes_cons_unit_of_mem _ _ _ _ _ y (ix2 ⟨(y 0).val % 16, Nat.mod_lt _ (by decide)⟩ (y 1)) (off5_eq ⟨k, hk⟩) fun a => ?_).trans ?_
      · match a with
        | ⟨0, _⟩ => exact h0
        | ⟨1, _⟩ => show (y 1).val = 0 + (y 1).val; omega
      have e6 : trip_k0_t1.sl.r_31 arg6 X6 = k0_pay32 (arg6.view.read (Elt F) X6) := by
        unfold trip_k0_t1.sl.r_31
        rw [View.readAt_eq_ld, View.ld_unit_zero (S := S1x2048) hz2]
      unfold rows
      rw [core_eq, e6, View.readAt_eq_ld]
      erw [View.ld_unit_zero (S := S1x2048) hz2]
      simp only [h2]
      rfl

/-- What the two stores leave in the buffer the convolution reads. -/
theorem ext_eq (f : BufTy.Contents (Elt F) arg12.view.ty) (u : Vec F S512x2048 .f32) (p : Vec F S32x2048 .f32) :
    arg12.view.read (Elt F) (arg12.view.writes (Elt F) f [⟨Rect.unit (s := S544x2048) ![32, 0] S512x2048.size inb_S544x2048_S512x2048_32_0, k0_pay2 u⟩, ⟨Rect.unit (s := S544x2048) ![0, 0] S32x2048.size inb_S544x2048_S32x2048_0_0, k0_pay1 i p⟩]) = ext i u p := by
  funext y
  have hy : (y 0).val < 544 := (y 0).isLt
  unfold ext
  by_cases h : 32 ≤ (y 0).val
  · rw [dif_pos h]
    refine View.read_writes_cons_unit_of_mem _ _ _ _ _ y (ix2 ⟨(y 0).val - 32, by omega⟩ (y 1)) rfl fun a => ?_
    match a with
    | ⟨0, _⟩ => show (y 0).val = 32 + ((y 0).val - 32); omega
    | ⟨1, _⟩ => show (y 1).val = 0 + (y 1).val; omega
  · rw [dif_neg h]
    refine (View.read_writes_cons_unit_of_not_mem _ _ _ _ _ y rfl 0 (Or.inl ?_)).trans (View.read_writes_cons_unit_of_mem _ _ _ _ _ y (ix2 ⟨(y 0).val, by omega⟩ (y 1)) rfl fun a => ?_)
    · show (y 0).val < 32; omega
    match a with
    | ⟨0, _⟩ => show (y 0).val = 0 + (y 0).val; omega
    | ⟨1, _⟩ => show (y 1).val = 0 + (y 1).val; omega

/-- After the loop all the rows are in place. -/
theorem rows_all (h1 : k0_cond1 i = 1#1) (X4 : BufTy.Contents (Elt F) arg4.view.ty) (X5 : BufTy.Contents (Elt F) arg5.view.ty) (X6 : BufTy.Contents (Elt F) arg6.view.ty) (X7 : BufTy.Contents (Elt F) arg7.view.ty) (X12 : BufTy.Contents (Elt F) arg12.view.ty) (G13 : BufTy.Contents (Elt F) arg13.view.ty) (G14 : BufTy.Contents (Elt F) arg14.view.ty) :
    arg14.view.read (Elt F) (arg14.view.writes (Elt F) G14 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 h1 X4 X5 X6 X7 X12 G13 G14 k0_t1_loop.trips).2)
      = rows i h1 (arg12.view.read (Elt F) X12) (arg4.view.read (Elt F) X4) (arg5.view.read (Elt F) X5) (arg6.view.read (Elt F) X6) (arg7.view.read (Elt F) X7) := by
  funext y
  refine rows_at c i arg2 harg2 arg3 harg3 arg4 harg4 arg5 harg5 arg6 harg6 arg7 harg7 arg8 harg8 arg9 harg9 arg10 harg10 arg11 harg11 arg12 harg12 arg13 harg13 arg14 harg14 h1 X4 X5 X6 X7 X12 G13 G14 _ le_rfl y ?_
  have hy : (y 0).val < 512 := (y 0).isLt
  rw [trips_eq]; omega

variable (x0 : Vec F S512x2048 .f32) (x1 : Vec F S32x2048 .f32) (x2 : Vec F S31x2048 .f32) (x3 : Vec F S1x2048 .f32) (x4 : Vec F S1x2048 .f32) (x5 : Vec F S1x2048 .f32) (x6 : Vec F S2048x512 .bf16) (x7 : Vec F S1x512 .f32) (x8 : Vec F S512x512 .f32)

set_option maxHeartbeats 4000000 in
/-- The body at a point that starts a block of rows. -/
theorem runA (hc0 : k0_cond1 i = 1#1) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay4 x8 (rows i hc0 (ext i x0 x1) x2 x3 x4 x5) x6 x7) ∗ (∃ d, owns (c : Thread nD τ) arg12 fullShare d) ∗ (∃ d, owns (c : Thread nD τ) arg13 fullShare d) ∗ owns (c : Thread nD τ) arg14 fullShare (rows i hc0 (ext i x0 x1) x2 x3 x4 x5)) -∗ K ⟨⟩))
      ⊢ wp frame (wpE (defs₀ (F := F)) Variants.none c none) E (cc0_conv_out i arg2 harg2 arg3 harg3 arg4 harg4 arg5 harg5 arg6 harg6 arg7 harg7 arg8 harg8 arg9 harg9 arg10 harg10 arg11 harg11 arg12 harg12 arg13 harg13 arg14 harg14) K := by
  simp only [cc0_conv_out_eq_skeleton]; unfold cc0_conv_out_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d12, %f12, -, H12⟩, ⟨%d13, %f13, -, H13⟩, ⟨%d14, %f14, -, H14⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0)
  sl_step
  have hv : ∀ (G13 : BufTy.Contents (Elt F) arg13.view.ty) (G14 : BufTy.Contents (Elt F) arg14.view.ty),
      arg14.view.read (Elt F) (arg14.view.writes (Elt F) G14 (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 hc0 (harg4.unread x2) (harg5.unread x3) (harg6.unread x4) (harg7.unread x5) (arg12.view.writes (Elt F) arg12.view.junk (runA.sl.H12_2 c i arg2 harg2 arg3 harg3 x0 x1)) G13 G14 k0_t1_loop.trips).2) = rows i hc0 (ext i x0 x1) x2 x3 x4 x5 := fun G13 G14 => by
    rw [rows_all, hf2, hf3, hf4, hf5]
    unfold runA.sl.H12_2
    sl_unfold_words
    rw [View.readAt_eq_ld, View.readAt_eq_ld, hf0, hf1, View.ld_unit_zero (S := S512x2048) hz2, View.ld_unit_zero (S := S32x2048) hz2]
    exact congrArg (fun e => rows i hc0 e x2 x3 x4 x5) (ext_eq i arg12 arg12.view.junk x0 x1)
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    rw [View.read_writes_full, View.readAt_eq_ld, View.readAt_eq_ld, View.readAt_eq_ld, hf6, hf7, hf8, View.ld_unit_zero (S := S512x512) hz2, View.ld_unit_zero (S := S2048x512) hz2, View.ld_unit_zero (S := S1x512) hz2]
    refine congrArg (fun v => k0_pay4 x8 v x6 x7) ?_
    unfold runA.sl.v4
    rw [View.readAt_eq_ld, View.ld_unit_zero (S := S512x2048) hz2]
    exact hv f13 f14
  isplitl [H12]
  · iexists _; iexists _; isplitr
    swap; · iexact H12
    ipureintro; rfl
  isplitl [H13]
  · iexists _; iexists _; isplitr
    swap; · iexact H13
    ipureintro; rfl
  iexists _; isplitr
  swap; · iexact H14
  ipureintro
  exact hv f13 f14

set_option maxHeartbeats 4000000 in
/-- The body at the other points: the activations are as the point before left them. -/
theorem runB (hc0 : ¬k0_cond1 i = 1#1) (v : Vec F S512x2048 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare v
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay4 x8 v x6 x7) ∗ (∃ d, owns (c : Thread nD τ) arg12 fullShare d) ∗ (∃ d, owns (c : Thread nD τ) arg13 fullShare d) ∗ owns (c : Thread nD τ) arg14 fullShare v) -∗ K ⟨⟩))
      ⊢ wp frame (wpE (defs₀ (F := F)) Variants.none c none) E (cc0_conv_out i arg2 harg2 arg3 harg3 arg4 harg4 arg5 harg5 arg6 harg6 arg7 harg7 arg8 harg8 arg9 harg9 arg10 harg10 arg11 harg11 arg12 harg12 arg13 harg13 arg14 harg14) K := by
  simp only [cc0_conv_out_eq_skeleton]; unfold cc0_conv_out_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, H12, H13, ⟨%f14, %hf14, H14⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg14.eq_unread hf14
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr
    swap; · iexact H9
    ipureintro
    rw [View.read_writes_full, View.readAt_eq_ld, View.readAt_eq_ld, View.readAt_eq_ld, View.readAt_eq_ld, hf6, hf7, hf8, hf14, View.ld_unit_zero (S := S512x512) hz2, View.ld_unit_zero (S := S512x2048) hz2, View.ld_unit_zero (S := S2048x512) hz2, View.ld_unit_zero (S := S1x512) hz2]
  isplitl [H12]; · iexact H12
  isplitl [H13]; · iexact H13
  iexists _; isplitr; · ipureintro; exact harg14.read_unread _
  iexact H14

end Run

section Launch

variable (m : (ℓ : Loc nD τ sig) → Buf (Elt F) ℓ) (ρ : Dev nD → PrngReg)

/-- A point starts a block of rows exactly when its number is a multiple of four. -/
theorem starts_iff (t : Fin cfg0.N) : k0_cond1 (grid0.coords t) = 1#1 ↔ t.val % 4 = 0 := by
  have ht : t.val < 64 := Nat.lt_of_lt_of_eq t.isLt N_0
  have e1 : (grid0.coords t 1).val = t.val / 1 % 4 := Pipeline.Grid.coords_val t 1 (by decide) rfl
  simp only [k0_cond1, e1]
  word_cmp

/-- The point that starts the block of rows a point is in. -/
def start (n : ℕ) (hn : n < cfg0.N) : Fin cfg0.N := ⟨4 * (n / 4), by omega⟩

/-- The activations the point `s` computes. -/
def actOf (c : Dev nD) (s : Fin cfg0.N) (h : k0_cond1 (grid0.coords s) = 1#1) : Vec F S512x2048 .bf16 :=
  rows (grid0.coords s) h (ext (grid0.coords s) (iblk m c 0 s) (iblk m c 1 s)) (iblk m c 2 s) (iblk m c 3 s) (iblk m c 4 s) (iblk m c 5 s)

theorem actOf_congr (c : Dev nD) (s s' : Fin cfg0.N) (e : s = s') (h : k0_cond1 (grid0.coords s) = 1#1) (h' : k0_cond1 (grid0.coords s') = 1#1) : actOf m c s h = actOf m c s' h' := by
  subst e; rfl

/-- The activations in place after the body at position `n`. -/
def act (c : Dev nD) (n : ℕ) (hn : n < cfg0.N) : Vec F S512x2048 .bf16 :=
  actOf m c (start n hn) ((starts_iff _).mpr (show 4 * (n / 4) % 4 = 0 by omega))

theorem act_start (c : Dev nD) (t : Fin cfg0.N) (h : t.val % 4 = 0) : act m c t.val t.isLt = actOf m c t ((starts_iff t).mpr h) :=
  actOf_congr m c _ _ (Fin.ext (show 4 * (t.val / 4) = t.val by omega)) _ _

theorem act_keep (c : Dev nD) (n : ℕ) (hn : n < cfg0.N) (h : ¬n % 4 = 0) (h' : n - 1 < cfg0.N) : act m c n hn = act m c (n - 1) h' :=
  actOf_congr m c _ _ (Fin.ext (show 4 * (n / 4) = 4 * ((n - 1) / 4) by omega)) _ _

/-- The block the body leaves at a point. -/
def outAt (c : Dev nD) (t : Fin cfg0.N) : Vec F S512x512 .f32 :=
  k0_pay4 (iblk m c 8 t) (act m c t.val t.isLt) (iblk m c 6 t) (iblk m c 7 t)

theorem PhiA_eq (c : Dev nD) :
    (Pipeline.ΦA spec0 c : sProp 𝕄)
      = iprop(iprop((∃ d, owns (c : Thread nD τ) M12 fullShare d) ∗ (∃ d, owns (c : Thread nD τ) M13 fullShare d) ∗ (∃ d, owns (c : Thread nD τ) M14 fullShare d)) ∗ (∃ r, prngReg c r)) := by
  unfold Pipeline.ΦA; rw [scopedRest0_eq]; simp only [M12, M13, M14, owns_whole]; try rfl

/-- Before a point: at the first, the launch's; later, the activations the point before left. -/
def Phi (c : Dev nD) : (n : ℕ) → n ≤ cfg0.N → sProp 𝕄
  | 0, _ => Pipeline.ΦA spec0 c
  | n + 1, hn => iprop(iprop((∃ d, owns (c : Thread nD τ) M12 fullShare d) ∗ (∃ d, owns (c : Thread nD τ) M13 fullShare d) ∗ owns (c : Thread nD τ) M14 fullShare (act m c n hn)) ∗ (∃ r, prngReg c r))

theorem Phi_zero (c : Dev nD) (n : ℕ) (h : n ≤ cfg0.N) (hz : n = 0) : Phi m c n h = Pipeline.ΦA spec0 c := by
  subst hz; rfl

theorem Phi_pos (c : Dev nD) (n : ℕ) (h : n ≤ cfg0.N) (hz : n ≠ 0) :
    Phi m c n h = iprop(iprop((∃ d, owns (c : Thread nD τ) M12 fullShare d) ∗ (∃ d, owns (c : Thread nD τ) M13 fullShare d) ∗ owns (c : Thread nD τ) M14 fullShare (act m c (n - 1) (by omega))) ∗ (∃ r, prngReg c r)) := by
  cases n with
  | zero => exact absurd rfl hz
  | succ n => rfl

theorem Phi_succ (c : Dev nD) (n : ℕ) (h : n + 1 ≤ cfg0.N) :
    Phi m c (n + 1) h = iprop(iprop((∃ d, owns (c : Thread nD τ) M12 fullShare d) ∗ (∃ d, owns (c : Thread nD τ) M13 fullShare d) ∗ owns (c : Thread nD τ) M14 fullShare (act m c n h)) ∗ (∃ r, prngReg c r)) := rfl

/-- The launch's data: each input's buffer keeps its block, the output's holds `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outAt m c t
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = Phi m c t.val (Nat.le_of_lt t.isLt) := by
  dsimp only [dats]; exact Pipeline.Dat.Φ_castSucc (Phi m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t))

/-- The body applied at a block-starting point, from any contents of the three scratch buffers. -/
theorem sound_start (c : Dev nD) (t : Fin cfg0.N) (h0 : t.val % 4 = 0) (K : PUnit → sProp 𝕄) :
    iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ (∃ d, owns (c : Thread nD τ) (win0_9.stage (cfg0.slots t 9)) fullShare d) ∗ (∃ d, owns (c : Thread nD τ) M12 fullShare d) ∗ (∃ d, owns (c : Thread nD τ) M13 fullShare d) ∗ (∃ d, owns (c : Thread nD τ) M14 fullShare d)
        ∗ (iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (outAt m c t) ∗ (∃ d, owns (c : Thread nD τ) M12 fullShare d) ∗ (∃ d, owns (c : Thread nD τ) M13 fullShare d) ∗ owns (c : Thread nD τ) M14 fullShare (act m c t.val t.isLt)) -∗ K ⟨⟩))
      ⊢ wp frame (wpE (defs₀ (F := F)) Variants.none c none) Set.univ (bodyAt0 t) K := by
  unfold outAt
  rw [act_start m c t h0]
  exact runA c (grid0.coords t) _ _ _ _ _ _ _ _ _ _ _ _ _ _ _ _ _ _ _ _ _ (Memref.isWhole_whole _) _ (Memref.isWhole_whole _) _ (Memref.isWhole_whole _) (iblk m c 0 t) (iblk m c 1 t) (iblk m c 2 t) (iblk m c 3 t) (iblk m c 4 t) (iblk m c 5 t) (iblk m c 6 t) (iblk m c 7 t) (iblk m c 8 t) ((starts_iff t).mpr h0) Set.univ K

/-- The body applied at a later point of a block, over the activations in place. -/
theorem sound_next (c : Dev nD) (t : Fin cfg0.N) (h0 : ¬t.val % 4 = 0) (K : PUnit → sProp 𝕄) :
    iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ (∃ d, owns (c : Thread nD τ) (win0_9.stage (cfg0.slots t 9)) fullShare d) ∗ (∃ d, owns (c : Thread nD τ) M12 fullShare d) ∗ (∃ d, owns (c : Thread nD τ) M13 fullShare d) ∗ owns (c : Thread nD τ) M14 fullShare (act m c t.val t.isLt)
        ∗ (iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t) ∗ owns (c : Thread nD τ) (win0_6.stage (cfg0.slots t 6)) fullShare (iblk m c 6 t) ∗ owns (c : Thread nD τ) (win0_7.stage (cfg0.slots t 7)) fullShare (iblk m c 7 t) ∗ owns (c : Thread nD τ) (win0_8.stage (cfg0.slots t 8)) fullShare (iblk m c 8 t) ∗ owns (c : Thread nD τ) (win0_9.stage (cfg0.slots t 9)) fullShare (outAt m c t) ∗ (∃ d, owns (c : Thread nD τ) M12 fullShare d) ∗ (∃ d, owns (c : Thread nD τ) M13 fullShare d) ∗ owns (c : Thread nD τ) M14 fullShare (act m c t.val t.isLt)) -∗ K ⟨⟩))
      ⊢ wp frame (wpE (defs₀ (F := F)) Variants.none c none) Set.univ (bodyAt0 t) K := by
  unfold outAt
  exact runB c (grid0.coords t) _ _ _ _ _ _ _ _ _ _ _ _ _ _ _ _ _ _ _ _ _ (Memref.isWhole_whole _) _ (Memref.isWhole_whole _) _ (Memref.isWhole_whole _) (iblk m c 0 t) (iblk m c 1 t) (iblk m c 2 t) (iblk m c 3 t) (iblk m c 4 t) (iblk m c 5 t) (iblk m c 6 t) (iblk m c 7 t) (iblk m c 8 t) (fun h => h0 ((starts_iff t).mp h)) (act m c t.val t.isLt) Set.univ K

attribute [local irreducible] act outAt in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = Phi m c (t.val + 1) t.isLt from rfl, Phi_succ m c t.val t.isLt]
  rw [Phi_castSucc m c t]
  by_cases h0 : t.val % 4 = 0
  · by_cases hz : t.val = 0
    · rw [Phi_zero m c _ _ hz, PhiA_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_start m c t h0 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexact HS2
      iintro ⟨H0, H1, H2, H3, H4, H5, H6, H7, H8, H9, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [Phi_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (sound_start m c t h0 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HS0]; · iexact HS0
      isplitl [HS1]; · iexact HS1
      isplitl [HS2]; · iexists _; iexact HS2
      iintro ⟨H0, H1, H2, H3, H4, H5, H6, H7, H8, H9, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
  · have hz : t.val ≠ 0 := fun h => h0 (by rw [h])
    rw [Phi_pos m c _ _ hz]
    rw [← act_keep m c t.val t.isLt h0]
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (sound_next m c t h0 _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HS0]; · iexact HS0
    isplitl [HS1]; · iexact HS1
    isplitl [HS2]; · iexact HS2
    iintro ⟨H0, H1, H2, H3, H4, H5, H6, H7, H8, H9, HS0, HS1, HS2⟩
    isplitl [HS0 HS1 HS2 Hg]
    · isplitl [HS0 HS1 HS2]
      · isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  have hl : (Fin.last cfg0.N).val ≠ 0 := by rw [Fin.val_last]; have : cfg0.N = 64 := N_0; omega
  rw [show (dats m 0 c).Φ (Fin.last cfg0.N) = Phi m c (Fin.last cfg0.N).val (Nat.le_of_lt_succ (Fin.last cfg0.N).isLt) from rfl, Phi_pos m c _ _ hl, PhiA_eq]
  iintro ⟨⟨HS0, HS1, HS2⟩, Hg⟩
  isplitl [HS0 HS1 HS2]
  · isplitl [HS0]; · iexact HS0
    isplitl [HS1]; · iexact HS1
    iexists _; iexact HS2
  iexact Hg

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- Every execution ends, with the argument arrays as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_main_quiescent m ρ))

end Launch

end Cert.ConvOutIdeal.Body

end
-- ==== Proof.ConvOutSpec.lean ====
module

public import Idealize.ShloMosaic.Lib.Pointwise

@[expose] public section

set_option maxRecDepth 16384

noncomputable section

open Idealize.ShloMosaic

namespace Cert.Layer

/-- Row `n - 30` of the input at a channel, zero before the first row. -/
def tap (u : FVec Ideal ⟨2, ![8192, 2048]⟩ .f32) (n : ℕ) (c : Fin 2048) : EReal :=
  if h : 30 ≤ n ∧ n - 30 < 8192 then u (ix2 ⟨n - 30, h.2⟩ c) else 0

/-- One channel of the depthwise convolution: thirty-one shifted rows by the channel's weights, and the bias. -/
def mix (x w : Fin 31 → EReal) (b : EReal) : EReal := ∑ k : Fin 31, x k * w k + b

/-- The sum written out in the order of the taps, the bias first. -/
theorem mix_eq (x w : Fin 31 → EReal) (b : EReal) :
    mix x w b = (b + w 0 * x 0 + w 1 * x 1 + w 2 * x 2 + w 3 * x 3 + w 4 * x 4 + w 5 * x 5 + w 6 * x 6 + w 7 * x 7 + w 8 * x 8 + w 9 * x 9 + w 10 * x 10 + w 11 * x 11 + w 12 * x 12 + w 13 * x 13 + w 14 * x 14 + w 15 * x 15 + w 16 * x 16 + w 17 * x 17 + w 18 * x 18 + w 19 * x 19 + w 20 * x 20 + w 21 * x 21 + w 22 * x 22 + w 23 * x 23 + w 24 * x 24 + w 25 * x 25 + w 26 * x 26 + w 27 * x 27 + w 28 * x 28 + w 29 * x 29 + w 30 * x 30) := by
  unfold mix
  rw [add_comm]
  simp only [Fin.sum_univ_castSucc, Fin.sum_univ_zero, zero_add, ← add_assoc]
  simp only [mul_comm (x _)]
  rfl

/-- The sum written out in the order of the taps, the bias last. -/
theorem mix_eq' (x w : Fin 31 → EReal) (b : EReal) :
    mix x w b = (x 0 * w 0 + x 1 * w 1 + x 2 * w 2 + x 3 * w 3 + x 4 * w 4 + x 5 * w 5 + x 6 * w 6 + x 7 * w 7 + x 8 * w 8 + x 9 * w 9 + x 10 * w 10 + x 11 * w 11 + x 12 * w 12 + x 13 * w 13 + x 14 * w 14 + x 15 * w 15 + x 16 * w 16 + x 17 * w 17 + x 18 * w 18 + x 19 * w 19 + x 20 * w 20 + x 21 * w 21 + x 22 * w 22 + x 23 * w 23 + x 24 * w 24 + x 25 * w 25 + x 26 * w 26 + x 27 * w 27 + x 28 * w 28 + x 29 * w 29 + x 30 * w 30 + b) := by
  unfold mix
  simp only [Fin.sum_univ_castSucc, Fin.sum_univ_zero, zero_add]
  rfl

/-- One row, its mean taken off, over the root of its variance plus the small constant. -/
def lnm (x : Fin 2048 → EReal) (k : Fin 2048) : EReal :=
  (x k - Ideal.div (∑ j : Fin 2048, x j) (Ideal.ofBits .f32 0x45000000#32)) * Ideal.rsqrt (Ideal.div (∑ j : Fin 2048, (x j - Ideal.div (∑ j : Fin 2048, x j) (Ideal.ofBits .f32 0x45000000#32)) * (x j - Ideal.div (∑ j : Fin 2048, x j) (Ideal.ofBits .f32 0x45000000#32))) (Ideal.ofBits .f32 0x45000000#32) + Ideal.ofBits .f32 0x358637BD#32)

/-- The gain, the bias, and the product with the logistic. -/
def swish (x g b : EReal) : EReal := (x * g + b) * Ideal.logistic (x * g + b)

end Cert.Layer

end
-- ==== Proof.ConvOutCore.lean ====
module

public import proofs.«01_k».proof.Proof.ConvOutBody
public import proofs.«01_k».proof.Proof.ConvOutSpec
public import Idealize.ShloMosaic.Lib.Pointwise

@[expose] public section

set_option maxRecDepth 16384

noncomputable section

open Idealize.ShloMosaic Idealize.ShloMosaic.TcCoe Idealize.SL.Sem

namespace Cert.ConvOutIdeal.Body

open Cert.ConvOutIdeal Cert.ConvOutIdeal.Gen Cert.Layer

/-- A trip's first row. -/
theorem start_eq : ∀ k : Fin k0_t1_loop.trips, BitVec.toNat (Scalar.indexCast (Scalar.muli (Scf.iv 0#32 1#32 k.val) 16#32)) = 16 * k.val := by decide +kernel

theorem row (s K a d : ℕ) (h : s = 16 * K) : s + ((d + 2) + a) = 16 * K + (0 + 1 * a) + 2 + d := by omega

theorem col (n a : ℕ) (h : n + a < 2048) (h' : n + 1 * a < 2048) : (⟨n + a, h⟩ : Fin 2048) = ⟨n + 1 * a, h'⟩ := Fin.ext (by dsimp only; omega)

theorem col0 (a : ℕ) (h : a < 2048) (h' : 0 + 1 * a < 2048) : (⟨a, h⟩ : Fin 2048) = ⟨0 + 1 * a, h'⟩ := Fin.ext (by dsimp only; omega)

theorem pay31_at (x : Vec Ideal S16x2048 .f32) (y : S16x2048.Idx) : k0_pay31 x y = lnm (fun l => x (ix2 (y 0) l)) (y 1) := by
  pointwise [k0_pay31, lnm]

theorem pay3_at (x : FVec Ideal S16x2048 .f32) (g b : Vec Ideal S1x2048 .f32) (y : S16x2048.Idx) :
    k0_pay3 x (k0_pay32 g) b y = swish (x y) (g (ix2 0 (y 1))) (b (ix2 0 (y 1))) := by
  pointwise [k0_pay3, k0_pay32, swish]

theorem pay4_at (x : Vec Ideal S512x512 .f32) (v : Vec Ideal S512x2048 .bf16) (w : Vec Ideal S2048x512 .bf16) (b : Vec Ideal S1x512 .f32) (y : S512x512.Idx) :
    k0_pay4 x v w b y = x y + (∑ l : Fin 2048, v (ix2 (y 0) l) * w (ix2 l (y 1)) + b (ix2 0 (y 1))) := by
  rw [← add_assoc]
  pointwise [k0_pay4]

/-- A trip's convolved rows. -/
def kconv (e : Vec Ideal S544x2048 .f32) (x2 : Vec Ideal S31x2048 .f32) (x3 : Vec Ideal S1x2048 .f32) (k : Fin k0_t1_loop.trips) : Vec Ideal S16x2048 .f32 := fun y =>
  mix (fun q => e (ix2 ⟨16 * k.val + (y 0).val + 2 + q.val, by have := lt_of_lt_of_eq k.isLt trips_eq; have h : (y 0).val < 16 := (y 0).isLt; omega⟩ (y 1))) (fun q => x2 (ix2 q (y 1))) (x3 (ix2 0 (y 1)))

theorem core_at (i : grid0.Coords) (h1 : k0_cond1 i = 1#1) (e : Vec Ideal S544x2048 .f32) (x2 : Vec Ideal S31x2048 .f32) (x3 : Vec Ideal S1x2048 .f32) (k : Fin k0_t1_loop.trips) (y : S16x2048.Idx) :
    core i h1 e x2 x3 k y = lnm (fun l => kconv e x2 x3 k (ix2 (y 0) l)) (y 1) := by
  unfold core
  sl_unfold_words
  rw [pay31_at]
  simp only [View.readAt_eq_ld, View.readCov_eq_canon', h4.read_unread, h5.read_unread, h12.read_unread]
  refine congrArg (fun f => lnm f (y 1)) (funext fun l => ?_)
  refine (View.canon_apply_of_pieces (Val := Elt Ideal) (e := .f32) (kconv e x2 x3 k) _ ?_ _ ?_).trans ?_
  · simp only [List.forall_mem_cons, List.not_mem_nil, false_imp_iff, implies_true, and_true]
    refine ⟨fun x => ?_, fun x => ?_, fun x => ?_, fun x => ?_⟩
    all_goals
      unfold kconv
      rw [mix_eq]
      simp only [View.ld_unit]
      pointwise [k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay10, k0_pay9, k0_pay8, k0_pay7, k0_pay6, k0_pay5]
      iterate 30 refine congrArg₂ _ ?_ (congrArg₂ _ (congrArg x2 (congrArg (ix2 _) (by first | exact col _ _ _ _ | exact col0 _ _ _))) (congrArg e (congrArg₂ ix2 (Fin.ext (row _ _ _ _ (start_eq k))) (by first | exact col _ _ _ _ | exact col0 _ _ _))))
      exact congrArg₂ _ (congrArg x3 (congrArg (ix2 _) (by first | exact col _ _ _ _ | exact col0 _ _ _))) (congrArg₂ _ (congrArg x2 (congrArg (ix2 _) (by first | exact col _ _ _ _ | exact col0 _ _ _))) (congrArg e (congrArg₂ ix2 (Fin.ext (row _ _ _ _ (start_eq k))) (by first | exact col _ _ _ _ | exact col0 _ _ _))))
  · have hy : (y 0).val < 16 := (y 0).isLt
    have hl := l.isLt
    by_cases h3 : 1536 ≤ l.val
    · refine ⟨_, List.mem_cons_self, ?_⟩
      rw [Rect.mem_set_unit]
      intro a
      match a with
      | ⟨0, _⟩ => show 0 ≤ 0 + 1 * (y 0).val ∧ 0 + 1 * (y 0).val < 0 + 16; omega
      | ⟨1, _⟩ => show 1536 ≤ 0 + 1 * l.val ∧ 0 + 1 * l.val < 1536 + 512; omega
    by_cases h2 : 1024 ≤ l.val
    · refine ⟨_, List.mem_cons_of_mem _ List.mem_cons_self, ?_⟩
      rw [Rect.mem_set_unit]
      intro a
      match a with
      | ⟨0, _⟩ => show 0 ≤ 0 + 1 * (y 0).val ∧ 0 + 1 * (y 0).val < 0 + 16; omega
      | ⟨1, _⟩ => show 1024 ≤ 0 + 1 * l.val ∧ 0 + 1 * l.val < 1024 + 512; omega
    by_cases h1 : 512 ≤ l.val
    · refine ⟨_, List.mem_cons_of_mem _ (List.mem_cons_of_mem _ List.mem_cons_self), ?_⟩
      rw [Rect.mem_set_unit]
      intro a
      match a with
      | ⟨0, _⟩ => show 0 ≤ 0 + 1 * (y 0).val ∧ 0 + 1 * (y 0).val < 0 + 16; omega
      | ⟨1, _⟩ => show 512 ≤ 0 + 1 * l.val ∧ 0 + 1 * l.val < 512 + 512; omega
    · refine ⟨_, List.mem_cons_of_mem _ (List.mem_cons_of_mem _ (List.mem_cons_of_mem _ List.mem_cons_self)), ?_⟩
      rw [Rect.mem_set_unit]
      intro a
      match a with
      | ⟨0, _⟩ => show 0 ≤ 0 + 1 * (y 0).val ∧ 0 + 1 * (y 0).val < 0 + 16; omega
      | ⟨1, _⟩ => show 0 ≤ 0 + 1 * l.val ∧ 0 + 1 * l.val < 0 + 512; omega
  · refine congrArg (kconv e x2 x3 k) (funext fun a => Fin.ext ?_)
    match a with
    | ⟨0, _⟩ => show 0 + 1 * (y 0).val = (y 0).val; omega
    | ⟨1, _⟩ => show 0 + 1 * l.val = l.val; omega

end Cert.ConvOutIdeal.Body

end
-- ==== Proof.ConvOutRef.lean ====
module

public import proofs.«01_k».proof.Proof.Gen.ConvOutRefIdeal.Run
public import proofs.«01_k».proof.Proof.ConvOutSpec

@[expose] public section

set_option maxRecDepth 16384

noncomputable section

open Idealize.ShloMosaic Idealize.ShloMosaic.TcCoe Idealize.SL.Sem

namespace Cert.ConvOutRefIdeal.Value

open Cert.ConvOutRefIdeal Cert.ConvOutRefIdeal.Gen Cert.Layer

variable (V0 : Valuation τ sig (Elt Ideal))

/-- The arguments. -/
abbrev B0 : FVec Ideal S8192x2048 .f32 := V0 (Proc.devRef .tc main_arg0)
abbrev B1 : FVec Ideal S8192x2048 .f32 := V0 (Proc.devRef .tc main_arg1)
abbrev B2 : FVec Ideal S31x2048 .f32 := V0 (Proc.devRef .tc main_arg2)
abbrev B3 : FVec Ideal S2048 .f32 := V0 (Proc.devRef .tc main_arg3)
abbrev B4 : FVec Ideal S2048 .f32 := V0 (Proc.devRef .tc main_arg4)
abbrev B5 : FVec Ideal S2048 .f32 := V0 (Proc.devRef .tc main_arg5)
abbrev B6 : FVec Ideal S2048x2048 .f32 := V0 (Proc.devRef .tc main_arg6)
abbrev B7 : FVec Ideal S2048 .f32 := V0 (Proc.devRef .tc main_arg7)

/-- The padded input at a row. -/
theorem pad_at (n : Fin 8222) (l : Fin 2048) : (res_main_v1 V0 : FVec Ideal S8222x2048 .f32) (ix2 n l) = tap (B0 V0) n.val l := by
  unfold res_main_v1 tap
  by_cases h : 30 ≤ n.val ∧ n.val - 30 < 8192
  · rw [dif_pos h]
    pointwise
    rw [dif_neg (by omega)]
  · rw [dif_neg h]
    pointwise
    have hn := n.isLt
    rw [dif_pos (by omega)]

/-- The convolution at a row and a channel. -/
theorem conv_at (y : S8192x2048.Idx) : (res_main_v220 V0 : FVec Ideal S8192x2048 .f32) y = mix (fun k => tap (B0 V0) ((y 0).val + k.val) (y 1)) (fun k => B2 V0 (ix2 k (y 1))) (B3 V0 (ix1 (y 1))) := by
  rw [mix_eq']
  have hp := pad_at V0
  unfold res_main_v220 res_main_v161 res_main_v84
  generalize res_main_v1 V0 = P at hp ⊢
  pointwise
  refine congrArg₂ _ ?_ rfl
  iterate 30 refine congrArg₂ _ ?_ (congrArg₂ _ ((hp _ _).trans (congrArg (fun n => tap (B0 V0) n (y 1)) (Nat.add_comm _ _))) rfl)
  exact congrArg₂ _ (hp _ _) rfl

theorem norm_at (y : S8192x2048.Idx) : (res_main_v242 V0 : FVec Ideal S8192x2048 .f32) y = lnm (fun l => (res_main_v220 V0 : FVec Ideal S8192x2048 .f32) (ix2 (y 0) l)) (y 1) * B4 V0 (ix1 (y 1)) + B5 V0 (ix1 (y 1)) := by
  unfold res_main_v242 res_main_v226
  generalize (res_main_v220 V0 : FVec Ideal S8192x2048 .f32) = P
  pointwise [lnm]

end Cert.ConvOutRefIdeal.Value

end
-- ==== Proof.ConvOutFrame.lean ====
module

public import proofs.«01_k».proof.Proof.ConvOutBody
public import proofs.«01_k».proof.Proof.Gen.ConvOut.Frame

@[expose] public section

set_option maxRecDepth 16384

noncomputable section

open Idealize.ShloMosaic Idealize.ShloMosaic.TcCoe Idealize.SL.Sem

namespace Cert.ConvOut.Body

variable {F : FTy → Type} [FloatOps F]

/-- The printed program and the one read over the extended reals have the same body table. -/
theorem defs₀_eq : Cert.ConvOut.defs₀ (F := F) = Cert.ConvOutIdeal.defs₀ (F := F) := by
  unfold Cert.ConvOut.defs₀ Cert.ConvOutIdeal.defs₀
  refine congrArg Defs.onTc (funext fun l => funext fun x => ?_)
  match l, x with
  | 0, (t, s) => rfl
  | ⟨n + 1, h⟩, _ => exact absurd h (by omega)

theorem defs_eq : Cert.ConvOut.defs (F := F) = Cert.ConvOutIdeal.defs (F := F) := by
  unfold Cert.ConvOut.defs Cert.ConvOutIdeal.defs
  rw [defs₀_eq]
  rfl

theorem main_eq : Cert.ConvOut.main (F := F) = Cert.ConvOutIdeal.main (F := F) := rfl

/-- Every execution of the printed program ends, with the argument arrays as launched and the counters at zero. -/
theorem frame (m : (ℓ : Loc Cert.ConvOut.nD Cert.ConvOut.τ Cert.ConvOut.sig) → Buf (Elt F) ℓ) (ρ : Dev Cert.ConvOut.nD → PrngReg) :
    θ_run (Cert.ConvOut.defs (F := F)) (onTc (τ := Cert.ConvOut.τ) (Cert.ConvOut.main (F := F))) ⟨m, fun _ => 0, ρ⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2)
      ∧ r.2.mem ((c.tc : Thread Cert.ConvOut.nD Cert.ConvOut.τ).loc Cert.ConvOut.main_arg3) = m ((c.tc : Thread Cert.ConvOut.nD Cert.ConvOut.τ).loc Cert.ConvOut.main_arg3)
      ∧ r.2.mem ((c.tc : Thread Cert.ConvOut.nD Cert.ConvOut.τ).loc Cert.ConvOut.main_arg4) = m ((c.tc : Thread Cert.ConvOut.nD Cert.ConvOut.τ).loc Cert.ConvOut.main_arg4)
      ∧ r.2.mem ((c.tc : Thread Cert.ConvOut.nD Cert.ConvOut.τ).loc Cert.ConvOut.main_arg5) = m ((c.tc : Thread Cert.ConvOut.nD Cert.ConvOut.τ).loc Cert.ConvOut.main_arg5)
      ∧ r.2.mem ((c.tc : Thread Cert.ConvOut.nD Cert.ConvOut.τ).loc Cert.ConvOut.main_arg6) = m ((c.tc : Thread Cert.ConvOut.nD Cert.ConvOut.τ).loc Cert.ConvOut.main_arg6)
      ∧ r.2.mem ((c.tc : Thread Cert.ConvOut.nD Cert.ConvOut.τ).loc Cert.ConvOut.main_arg7) = m ((c.tc : Thread Cert.ConvOut.nD Cert.ConvOut.τ).loc Cert.ConvOut.main_arg7))
      ∧ r.2.sem = fun _ => 0) := by
  rw [defs_eq, main_eq]
  exact Cert.ConvOutIdeal.Body.frame m ρ

end Cert.ConvOut.Body

end
-- ==== Proof.ConvOut.lean ====
module

public import proofs.«01_k».proof.Defs
public import proofs.«01_k».proof.Proof.ConvOutCore
public import proofs.«01_k».proof.Proof.ConvOutRef
public import proofs.«01_k».proof.Proof.ConvOutFrame
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.ConvOutIdeal.Value

open Cert.ConvOutIdeal Cert.ConvOutIdeal.Gen Cert.ConvOutIdeal.Body Cert.Layer

variable (m : (ℓ : Loc nD τ sig) → Buf (Elt Ideal) ℓ) (ρ : Dev nD → PrngReg)

/-- The arguments at launch: the gated rows, the residual rows, the depthwise weights and bias, the normalization's gain and bias, the output map and its bias. -/
abbrev A0 (c : Dev nD) : FVec Ideal S8192x2048 .f32 := m ((c : Thread nD τ).loc main_arg0)
abbrev A1 (c : Dev nD) : FVec Ideal S8192x2048 .f32 := m ((c : Thread nD τ).loc main_arg1)
abbrev A2 (c : Dev nD) : FVec Ideal S31x2048 .f32 := m ((c : Thread nD τ).loc main_arg2)
abbrev A3 (c : Dev nD) : FVec Ideal S2048 .f32 := m ((c : Thread nD τ).loc main_arg3)
abbrev A4 (c : Dev nD) : FVec Ideal S2048 .f32 := m ((c : Thread nD τ).loc main_arg4)
abbrev A5 (c : Dev nD) : FVec Ideal S2048 .f32 := m ((c : Thread nD τ).loc main_arg5)
abbrev A6 (c : Dev nD) : FVec Ideal S2048x2048 .f32 := m ((c : Thread nD τ).loc main_arg6)
abbrev A7 (c : Dev nD) : FVec Ideal S2048 .f32 := m ((c : Thread nD τ).loc main_arg7)

/-- The index maps in closed form. -/
theorem idx_all : ∀ t : Fin cfg0.N,
    (win0_0.index t 0 = t.val / 4 ∧ win0_0.index t 1 = 0)
    ∧ (win0_1.index t 0 = 16 * (t.val / 4) - 1 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = t.val % 4)
    ∧ (win0_7.index t 0 = 0 ∧ win0_7.index t 1 = t.val % 4)
    ∧ (win0_8.index t 0 = t.val / 4 ∧ win0_8.index t 1 = t.val % 4)
    ∧ (win0_9.index t 0 = t.val / 4 ∧ win0_9.index t 1 = t.val % 4) :=
  (by decide +kernel : ∀ t : Fin grid0.N, _)

theorem V_main_v0 (c : Dev nD) : (V m c main_v0 : FVec Ideal S1x2048 .f32) = fun y => A3 m c (ix1 (y 1)) := by
  entry_read
  funext y
  pointwise

theorem V_main_v1 (c : Dev nD) : (V m c main_v1 : FVec Ideal S1x2048 .f32) = fun y => A4 m c (ix1 (y 1)) := by
  entry_read
  funext y
  pointwise

theorem V_main_v2 (c : Dev nD) : (V m c main_v2 : FVec Ideal S1x2048 .f32) = fun y => A5 m c (ix1 (y 1)) := by
  entry_read
  funext y
  pointwise

theorem V_main_v3 (c : Dev nD) : (V m c main_v3 : FVec Ideal S2048x2048 .bf16) = A6 m c := by
  entry_read
  rfl

theorem V_main_v4 (c : Dev nD) : (V m c main_v4 : FVec Ideal S1x2048 .f32) = fun y => A7 m c (ix1 (y 1)) := by
  entry_read
  funext y
  pointwise

/-- The row window reads the block's own rows. -/
theorem blk0 (c : Dev nD) (t : Fin cfg0.N) (y : S512x2048.Idx) (h0 : (t.val / 4) * 512 + (y 0).val < 8192) :
    (iblk m c 0 t : FVec Ideal S512x2048 .f32) y = A0 m c (ix2 ⟨(t.val / 4) * 512 + (y 0).val, h0⟩ (y 1)) := by
  obtain ⟨⟨e0, e1⟩, -⟩ := idx_all t
  unfold iblk
  rw [View.read_apply]
  show (V m c main_arg0 : FVec Ideal S8192x2048 .f32) _ = _
  rw [V_main_arg0]
  refine congrArg (A0 m c) (funext fun a => Fin.ext ?_)
  match a with
  | ⟨0, _⟩ => show win0_0.index t 0 * 512 + 1 * (y 0).val = (t.val / 4) * 512 + (y 0).val; rw [e0]; omega
  | ⟨1, _⟩ => show win0_0.index t 1 * 2048 + 1 * (y 1).val = (y 1).val; rw [e1]; omega

/-- The second row window reads the thirty-two rows before the block. -/
theorem blk1 (c : Dev nD) (t : Fin cfg0.N) (y : S32x2048.Idx) (h0 : (16 * (t.val / 4) - 1) * 32 + (y 0).val < 8192) :
    (iblk m c 1 t : FVec Ideal S32x2048 .f32) y = A0 m c (ix2 ⟨(16 * (t.val / 4) - 1) * 32 + (y 0).val, h0⟩ (y 1)) := by
  obtain ⟨-, ⟨e0, e1⟩, -⟩ := idx_all t
  unfold iblk
  rw [View.read_apply]
  show (V m c main_arg0 : FVec Ideal S8192x2048 .f32) _ = _
  rw [V_main_arg0]
  refine congrArg (A0 m c) (funext fun a => Fin.ext ?_)
  match a with
  | ⟨0, _⟩ => show win0_1.index t 0 * 32 + 1 * (y 0).val = (16 * (t.val / 4) - 1) * 32 + (y 0).val; rw [e0]; omega
  | ⟨1, _⟩ => show win0_1.index t 1 * 2048 + 1 * (y 1).val = (y 1).val; rw [e1]; omega

/-- The weight window reads the depthwise weights. -/
theorem blk2 (c : Dev nD) (t : Fin cfg0.N) (y : S31x2048.Idx) :
    (iblk m c 2 t : FVec Ideal S31x2048 .f32) y = A2 m c (ix2 (y 0) (y 1)) := by
  obtain ⟨-, -, ⟨e0, e1⟩, -⟩ := idx_all t
  unfold iblk
  rw [View.read_apply]
  show (V m c main_arg2 : FVec Ideal S31x2048 .f32) _ = _
  rw [V_main_arg2]
  refine congrArg (A2 m c) (funext fun a => Fin.ext ?_)
  match a with
  | ⟨0, _⟩ => show win0_2.index t 0 * 31 + 1 * (y 0).val = (y 0).val; rw [e0]; omega
  | ⟨1, _⟩ => show win0_2.index t 1 * 2048 + 1 * (y 1).val = (y 1).val; rw [e1]; omega

/-- The bias's window reads the depthwise bias. -/
theorem blk3 (c : Dev nD) (t : Fin cfg0.N) (y : S1x2048.Idx) :
    (iblk m c 3 t : FVec Ideal S1x2048 .f32) y = A3 m c (ix1 (y 1)) := by
  obtain ⟨-, -, -, ⟨e0, e1⟩, -⟩ := idx_all t
  unfold iblk
  rw [View.read_apply]
  show (V m c main_v0 : FVec Ideal S1x2048 .f32) _ = _
  rw [V_main_v0]
  refine congrArg (A3 m c) (funext fun a => Fin.ext ?_)
  match a with
  | ⟨0, _⟩ => show win0_3.index t 1 * 2048 + 1 * (y 1).val = (y 1).val; rw [e1]; omega

/-- The gain's window reads the gain. -/
theorem blk4 (c : Dev nD) (t : Fin cfg0.N) (y : S1x2048.Idx) :
    (iblk m c 4 t : FVec Ideal S1x2048 .f32) y = A4 m c (ix1 (y 1)) := by
  obtain ⟨-, -, -, -, ⟨e0, e1⟩, -⟩ := idx_all t
  unfold iblk
  rw [View.read_apply]
  show (V m c main_v1 : FVec Ideal S1x2048 .f32) _ = _
  rw [V_main_v1]
  refine congrArg (A4 m c) (funext fun a => Fin.ext ?_)
  match a with
  | ⟨0, _⟩ => show win0_4.index t 1 * 2048 + 1 * (y 1).val = (y 1).val; rw [e1]; omega

/-- The normalization's bias, read. -/
theorem blk5 (c : Dev nD) (t : Fin cfg0.N) (y : S1x2048.Idx) :
    (iblk m c 5 t : FVec Ideal S1x2048 .f32) y = A5 m c (ix1 (y 1)) := by
  obtain ⟨-, -, -, -, -, ⟨e0, e1⟩, -⟩ := idx_all t
  unfold iblk
  rw [View.read_apply]
  show (V m c main_v2 : FVec Ideal S1x2048 .f32) _ = _
  rw [V_main_v2]
  refine congrArg (A5 m c) (funext fun a => Fin.ext ?_)
  match a with
  | ⟨0, _⟩ => show win0_5.index t 1 * 2048 + 1 * (y 1).val = (y 1).val; rw [e1]; omega

/-- The map's window reads its block of columns. -/
theorem blk6 (c : Dev nD) (t : Fin cfg0.N) (y : S2048x512.Idx) (h1 : (t.val % 4) * 512 + (y 1).val < 2048) :
    (iblk m c 6 t : FVec Ideal S2048x512 .bf16) y = A6 m c (ix2 (y 0) ⟨(t.val % 4) * 512 + (y 1).val, h1⟩) := by
  obtain ⟨-, -, -, -, -, -, ⟨e0, e1⟩, -⟩ := idx_all t
  unfold iblk
  rw [View.read_apply]
  show (V m c main_v3 : FVec Ideal S2048x2048 .bf16) _ = _
  rw [V_main_v3]
  refine congrArg (A6 m c) (funext fun a => Fin.ext ?_)
  match a with
  | ⟨0, _⟩ => show win0_6.index t 0 * 2048 + 1 * (y 0).val = (y 0).val; rw [e0]; omega
  | ⟨1, _⟩ => show win0_6.index t 1 * 512 + 1 * (y 1).val = (t.val % 4) * 512 + (y 1).val; rw [e1]; omega

/-- The output bias's window reads its block. -/
theorem blk7 (c : Dev nD) (t : Fin cfg0.N) (y : S1x512.Idx) (h1 : (t.val % 4) * 512 + (y 1).val < 2048) :
    (iblk m c 7 t : FVec Ideal S1x512 .f32) y = A7 m c (ix1 ⟨(t.val % 4) * 512 + (y 1).val, h1⟩) := by
  obtain ⟨-, -, -, -, -, -, -, ⟨e0, e1⟩, -⟩ := idx_all t
  unfold iblk
  rw [View.read_apply]
  show (V m c main_v4 : FVec Ideal S1x2048 .f32) _ = _
  rw [V_main_v4]
  refine congrArg (A7 m c) (funext fun a => Fin.ext ?_)
  match a with
  | ⟨0, _⟩ => show win0_7.index t 1 * 512 + 1 * (y 1).val = (t.val % 4) * 512 + (y 1).val; rw [e1]; omega

/-- The residual window reads its block. -/
theorem blk8 (c : Dev nD) (t : Fin cfg0.N) (y : S512x512.Idx) (h0 : (t.val / 4) * 512 + (y 0).val < 8192) (h1 : (t.val % 4) * 512 + (y 1).val < 2048) :
    (iblk m c 8 t : FVec Ideal S512x512 .f32) y = A1 m c (ix2 ⟨(t.val / 4) * 512 + (y 0).val, h0⟩ ⟨(t.val % 4) * 512 + (y 1).val, h1⟩) := by
  obtain ⟨-, -, -, -, -, -, -, -, ⟨e0, e1⟩, -⟩ := idx_all t
  unfold iblk
  rw [View.read_apply]
  show (V m c main_arg1 : FVec Ideal S8192x2048 .f32) _ = _
  rw [V_main_arg1]
  refine congrArg (A1 m c) (funext fun a => Fin.ext ?_)
  match a with
  | ⟨0, _⟩ => show win0_8.index t 0 * 512 + 1 * (y 0).val = (t.val / 4) * 512 + (y 0).val; rw [e0]; omega
  | ⟨1, _⟩ => show win0_8.index t 1 * 512 + 1 * (y 1).val = (t.val % 4) * 512 + (y 1).val; rw [e1]; omega

/-- The block's own rows, as stored. -/
theorem pay2_at (u : Vec Ideal S512x2048 .f32) (y : S512x2048.Idx) : k0_pay2 u y = u y := by
  pointwise [k0_pay2]

/-- The thirty-two rows before the block, as stored: zero before the first block. -/
theorem pay1_at (i : grid0.Coords) (p : Vec Ideal S32x2048 .f32) (y : S32x2048.Idx) : k0_pay1 i p y = if (i 0).val = 0 then 0 else p y := by
  have hi : (i 0).val < 16 := (i 0).isLt
  by_cases h : (i 0).val = 0
  · rw [if_pos h]
    pointwise [k0_pay1, h]
  · rw [if_neg h]
    have e : Scalar.cmpi .eq (BitVec.ofNat 32 (i 0).val) 0#32 = 0#1 := by
      generalize (i 0).val = n at h hi
      interval_cases n <;> first | exact absurd rfl h | rfl
    unfold k0_pay1
    pointwise [e]

/-- The rows the convolution reads, from the third on: the input's from thirty before the block. -/
theorem ext_at (c : Dev nD) (t : Fin cfg0.N) (q : Fin 544) (l : Fin 2048) (n : ℕ) (hn : (t.val / 4) * 512 + q.val = n + 2) :
    ext (grid0.coords t) (iblk m c 0 t) (iblk m c 1 t) (ix2 q l) = tap (A0 m c) n l := by
  have ht : t.val < 64 := Nat.lt_of_lt_of_eq t.isLt N_0
  have hq := q.isLt
  have e0 : (grid0.coords t 0).val = t.val / 4 % 16 := Pipeline.Grid.coords_val t 0 (by decide) rfl
  unfold ext tap
  by_cases h : 32 ≤ q.val
  · rw [dif_pos (show 32 ≤ ((ix2 q l : S544x2048.Idx) 0).val from h), dif_pos (by omega), pay2_at]
    refine (blk0 m c t _ (show (t.val / 4) * 512 + (q.val - 32) < 8192 by omega)).trans ?_
    refine congrArg (A0 m c) (congrArg₂ ix2 (Fin.ext ?_) rfl)
    show (t.val / 4) * 512 + (q.val - 32) = n - 30
    omega
  · rw [dif_neg (show ¬32 ≤ ((ix2 q l : S544x2048.Idx) 0).val from h), pay1_at, e0]
    by_cases hz : t.val / 4 = 0
    · rw [if_pos (by omega), dif_neg (by omega)]
    · rw [if_neg (by omega), dif_pos (by omega)]
      refine (blk1 m c t _ (show (16 * (t.val / 4) - 1) * 32 + q.val < 8192 by omega)).trans ?_
      refine congrArg (A0 m c) (congrArg₂ ix2 (Fin.ext ?_) rfl)
      show (16 * (t.val / 4) - 1) * 32 + q.val = n - 30
      omega

/-- The convolution at a row and a channel. -/
def cv (a0 : FVec Ideal S8192x2048 .f32) (a2 : FVec Ideal S31x2048 .f32) (a3 : FVec Ideal S2048 .f32) (R : ℕ) (l : Fin 2048) : EReal :=
  mix (fun k => tap a0 (R + k.val) l) (fun k => a2 (ix2 k l)) (a3 (ix1 l))

/-- The activation at a row and a channel. -/
def actv (a0 : FVec Ideal S8192x2048 .f32) (a2 : FVec Ideal S31x2048 .f32) (a3 a4 a5 : FVec Ideal S2048 .f32) (R : ℕ) (l : Fin 2048) : EReal :=
  swish (lnm (fun k => cv a0 a2 a3 R k) l) (a4 (ix1 l)) (a5 (ix1 l))

/-- The module's output at a row and a column. -/
def outv (a0 a1 : FVec Ideal S8192x2048 .f32) (a2 : FVec Ideal S31x2048 .f32) (a3 a4 a5 : FVec Ideal S2048 .f32) (a6 : FVec Ideal S2048x2048 .f32) (a7 : FVec Ideal S2048 .f32) (R : Fin 8192) (j : Fin 2048) : EReal :=
  a1 (ix2 R j) + (∑ l : Fin 2048, actv a0 a2 a3 a4 a5 R.val l * a6 (ix2 l j) + a7 (ix1 j))

/-- The activations a block-starting point computes, at an index. -/
theorem actOf_at (c : Dev nD) (t : Fin cfg0.N) (h1 : k0_cond1 (grid0.coords t) = 1#1) (y : S512x2048.Idx) :
    actOf m c t h1 y = actv (A0 m c) (A2 m c) (A3 m c) (A4 m c) (A5 m c) ((t.val / 4) * 512 + (y 0).val) (y 1) := by
  have hy : (y 0).val < 512 := (y 0).isLt
  unfold actOf rows actv
  rw [pay3_at, core_at]
  have e4 : (iblk m c 4 t : FVec Ideal S1x2048 .f32) (ix2 0 (y 1)) = A4 m c (ix1 (y 1)) := blk4 m c t (ix2 0 (y 1))
  have e5 : (iblk m c 5 t : FVec Ideal S1x2048 .f32) (ix2 0 (y 1)) = A5 m c (ix1 (y 1)) := blk5 m c t (ix2 0 (y 1))
  refine (congrArg₂ (swish _) e4 e5).trans (congrArg (fun f => swish (lnm f (y 1)) (A4 m c (ix1 (y 1))) (A5 m c (ix1 (y 1)))) (funext fun l => ?_))
  have e2 : (fun q : Fin 31 => (iblk m c 2 t : FVec Ideal S31x2048 .f32) (ix2 q l)) = fun q => A2 m c (ix2 q l) := funext fun q => blk2 m c t (ix2 q l)
  have e3 : (iblk m c 3 t : FVec Ideal S1x2048 .f32) (ix2 0 l) = A3 m c (ix1 l) := blk3 m c t (ix2 0 l)
  unfold kconv cv
  refine (congrArg₂ (mix _) e2 e3).trans (congrArg (fun f => mix f (fun q => A2 m c (ix2 q l)) (A3 m c (ix1 l))) (funext fun q => ?_))
  refine ext_at m c t _ l _ ?_
  show (t.val / 4) * 512 + (16 * ((y 0).val / 16) + (y 0).val % 16 + 2 + q.val) = (t.val / 4) * 512 + (y 0).val + q.val + 2
  omega

/-- The activations in place at a point, at an index. -/
theorem act_at (c : Dev nD) (t : Fin cfg0.N) (y : S512x2048.Idx) :
    act m c t.val t.isLt y = actv (A0 m c) (A2 m c) (A3 m c) (A4 m c) (A5 m c) ((t.val / 4) * 512 + (y 0).val) (y 1) := by
  unfold act
  rw [actOf_at, show (start t.val t.isLt).val / 4 = t.val / 4 from (show 4 * (t.val / 4) / 4 = t.val / 4 by omega)]

/-- The block a point leaves, at an index. -/
theorem out_at (c : Dev nD) (t : Fin cfg0.N) (y : S512x512.Idx) (h0 : (t.val / 4) * 512 + (y 0).val < 8192) (h1 : (t.val % 4) * 512 + (y 1).val < 2048) :
    outAt m c t y = outv (A0 m c) (A1 m c) (A2 m c) (A3 m c) (A4 m c) (A5 m c) (A6 m c) (A7 m c) ⟨(t.val / 4) * 512 + (y 0).val, h0⟩ ⟨(t.val % 4) * 512 + (y 1).val, h1⟩ := by
  unfold outAt outv
  rw [pay4_at]
  refine congrArg₂ _ (blk8 m c t y h0 h1) (congrArg₂ _ (Finset.sum_congr rfl fun l _ => congrArg₂ _ (act_at m c t (ix2 (y 0) l)) (blk6 m c t (ix2 l (y 1)) h1)) (blk7 m c t (ix2 0 (y 1)) h1))

/-- The array the run leaves. -/
def G (c : Dev nD) : FVec Ideal S8192x2048 .f32 := fun i => outv (A0 m c) (A1 m c) (A2 m c) (A3 m c) (A4 m c) (A5 m c) (A6 m c) (A7 m c) (i 0) (i 1)

theorem flush_all : ∀ t : Fin cfg0.N, (cfg0.win 9).flush t = true :=
  (by decide +kernel : ∀ t : Fin grid0.N, win0_9.flush t = true)

/-- Each point writes back its block of the array. -/
theorem flushed9 (c : Dev nD) (t : Fin cfg0.N) : (dats m 0 c).flushed 9 t = ((cfg0.win 9).blk t).view.read (Elt Ideal) (G m c) := by
  show (cfg0.win 9).cut (grid0.coords t) ((dats m 0 c).after 9 t) = _
  rw [after0_9]
  obtain ⟨-, -, -, -, -, -, -, -, -, e0, e1⟩ := idx_all t
  have ht : t.val < 64 := Nat.lt_of_lt_of_eq t.isLt N_0
  funext y
  have hy0 : (y 0).val < 512 := (y 0).isLt
  have hy1 : (y 1).val < 512 := (y 1).isLt
  refine (out_at m c t ((cfg0.win 9).xinj (grid0.coords t) y) (show (t.val / 4) * 512 + (y 0).val < 8192 by omega) (show (t.val % 4) * 512 + (y 1).val < 2048 by omega)).trans ?_
  refine congrArg₂ (outv (A0 m c) (A1 m c) (A2 m c) (A3 m c) (A4 m c) (A5 m c) (A6 m c) (A7 m c)) (Fin.ext ?_) (Fin.ext ?_)
  · show (t.val / 4) * 512 + (y 0).val = win0_9.index t (0 : Fin 2) * 512 + 1 * (y 0).val
    rw [e0]; omega
  · show (t.val % 4) * 512 + (y 1).val = win0_9.index t (1 : Fin 2) * 512 + 1 * (y 1).val
    rw [e1]; omega

/-- Every index of the array lies in some point's block. -/
theorem covered9 (i : S8192x2048.Idx) : ∃ t : Fin cfg0.N, (cfg0.win 9).flush t = true ∧ i ∈ ((cfg0.win 9).blk t).view.set := by
  have h0 : (i 0).val < 8192 := (i 0).isLt
  have h1 : (i 1).val < 2048 := (i 1).isLt
  have ht : 4 * ((i 0).val / 512) + (i 1).val / 512 < cfg0.N := by show _ < grid0.N; rw [N_0]; omega
  refine ⟨⟨_, ht⟩, flush_all _, ?_⟩
  obtain ⟨-, -, -, -, -, -, -, -, -, e0, e1⟩ := idx_all ⟨_, ht⟩
  show i ∈ ((View.whole main_v5).slice (win0_9.rect ⟨_, ht⟩)).set
  rw [View.set_slice_whole, Rect.mem_set_unit]
  intro a
  match a with
  | ⟨0, _⟩ =>
    show win0_9.index ⟨_, ht⟩ (0 : Fin 2) * 512 ≤ (i 0).val ∧ (i 0).val < win0_9.index ⟨_, ht⟩ (0 : Fin 2) * 512 + 512
    rw [e0]; dsimp only; omega
  | ⟨1, _⟩ =>
    show win0_9.index ⟨_, ht⟩ (1 : Fin 2) * 512 ≤ (i 1).val ∧ (i 1).val < win0_9.index ⟨_, ht⟩ (1 : Fin 2) * 512 + 512
    rw [e1]; dsimp only; omega

theorem final9 (c : Dev nD) : (dats m 0 c).arrAt 9 cfg0.N = G m c :=
  (dats m 0 c).arrAt_eq_of_cover 9 _ (fun t _ => flushed9 m c t) covered9

/-- The frame run with the result array named, the arguments unchanged. -/
theorem run : θ_run defs (onTc (τ := τ) (main (F := Ideal))) ⟨m, fun _ => 0, ρ⟩ fun r => ∀ c : Dev nD,
      r.2.mem ((c : Thread nD τ).loc main_v5) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨((h.1 c).1 9).trans (final9 m c), h.2.1 c⟩)
    (θ_run_and (run_main m ρ) (frame m ρ))

/-- The reference's last operations, at an index: the activation of the normalized rows through the output map, added to the residual. -/
theorem tail_at (P a1 : FVec Ideal S8192x2048 .f32) (a6 : FVec Ideal S2048x2048 .f32) (a7 : FVec Ideal S2048 .f32) (y : S8192x2048.Idx) :
    (addf a1 (addf (Host.dotGeneral Cert.ConvOutRefIdeal.dot_S8192x2048_S2048x2048_S8192x2048_1_0_0_1_n_n none (mulf P (Host.divf (broadcastInDim Cert.ConvOutRefIdeal.S8192x2048 ![] Cert.ConvOutRefIdeal.Gen.bcast_S_S8192x2048 (constant Cert.ConvOutRefIdeal.S_ .f32 0x3F800000#32)) (addf (broadcastInDim Cert.ConvOutRefIdeal.S8192x2048 ![] Cert.ConvOutRefIdeal.Gen.bcast_S_S8192x2048 (constant Cert.ConvOutRefIdeal.S_ .f32 0x3F800000#32)) (Host.exp (Host.negf P))))) a6) (broadcastInDim Cert.ConvOutRefIdeal.S8192x2048 ![0, 1] Cert.ConvOutRefIdeal.Gen.bcast_S1x2048_S8192x2048_0_1 (broadcastInDim Cert.ConvOutRefIdeal.S1x2048 ![1] Cert.ConvOutRefIdeal.Gen.bcast_S2048_S1x2048_1 a7))) : FVec Ideal S8192x2048 .f32) y
      = a1 (ix2 (y 0) (y 1)) + (∑ l : Fin 2048, P (ix2 (y 0) l) * Ideal.logistic (P (ix2 (y 0) l)) * a6 (ix2 l (y 1)) + a7 (ix1 (y 1))) := by
  rw [show (ix2 (y 0) (y 1) : S8192x2048.Idx) = y from ix2_eta y]
  pointwise [Ideal.logistic]

/-- The reference's activation, at an index. -/
theorem ref_act (V0 : Valuation Cert.ConvOutRefIdeal.τ Cert.ConvOutRefIdeal.sig (Elt Ideal)) (P : FVec Ideal S8192x2048 .f32) (hP : P = Cert.ConvOutRefIdeal.Value.res_main_v242 V0) (R : Fin 8192) (l : Fin 2048) :
    P (ix2 R l) * Ideal.logistic (P (ix2 R l)) = actv (Cert.ConvOutRefIdeal.Value.B0 V0) (Cert.ConvOutRefIdeal.Value.B2 V0) (Cert.ConvOutRefIdeal.Value.B3 V0) (Cert.ConvOutRefIdeal.Value.B4 V0) (Cert.ConvOutRefIdeal.Value.B5 V0) R.val l := by
  have e : P (ix2 R l) = lnm (fun k => cv (Cert.ConvOutRefIdeal.Value.B0 V0) (Cert.ConvOutRefIdeal.Value.B2 V0) (Cert.ConvOutRefIdeal.Value.B3 V0) R.val k) l * Cert.ConvOutRefIdeal.Value.B4 V0 (ix1 l) + Cert.ConvOutRefIdeal.Value.B5 V0 (ix1 l) :=
    (congrFun hP (ix2 R l)).trans ((Cert.ConvOutRefIdeal.Value.norm_at V0 (ix2 R l)).trans (congrArg (fun f => lnm f l * Cert.ConvOutRefIdeal.Value.B4 V0 (ix1 l) + Cert.ConvOutRefIdeal.Value.B5 V0 (ix1 l)) (funext fun k => Cert.ConvOutRefIdeal.Value.conv_at V0 (ix2 R k))))
  unfold actv swish
  rw [e]

end Cert.ConvOutIdeal.Value

namespace Cert.Proof

/-- Over the extended reals the convolution module's second half computes the reference's depthwise convolution, normalization, activation and output map, added to the residual. -/
theorem algebraic_ConvOut : algebraic_ConvOutIdeal_ConvOutRefIdeal (hConvOutIdeal := Cert.ConvOutIdeal.Gen.facts) (hConvOutRefIdeal := Cert.ConvOutRefIdeal.Gen.facts) := by
  pair_intro
  · run_from Cert.ConvOutIdeal.Value.run m g
  · run_from Cert.ConvOutRefIdeal.Value.run m' g'
    obtain ⟨h0, -, h2, h3, h4, h5, -, -⟩ := hagree c
    funext y
    refine (Cert.ConvOutIdeal.Value.tail_at _ _ _ _ y).trans ?_
    unfold Cert.ConvOutIdeal.Value.G Cert.ConvOutIdeal.Value.outv
    refine congrArg₂ _ rfl (congrArg₂ _ (Finset.sum_congr rfl fun l _ => congrArg₂ _ ((Cert.ConvOutIdeal.Value.ref_act (StableHlo.launchContents m' c) _ rfl (y 0) l).trans ?_) rfl) rfl)
    show Cert.ConvOutIdeal.Value.actv (m' ((c.tc).loc ConvOutRefIdeal.main_arg0)) (m' ((c.tc).loc ConvOutRefIdeal.main_arg2)) (m' ((c.tc).loc ConvOutRefIdeal.main_arg3)) (m' ((c.tc).loc ConvOutRefIdeal.main_arg4)) (m' ((c.tc).loc ConvOutRefIdeal.main_arg5)) (y 0).val l = _
    rw [h0, h2, h3, h4, h5]

end Cert.Proof

end
-- ==== Proof.lean ====
module

public import proofs.«01_k».proof.Defs
public import proofs.«01_k».proof.Proof.Attn
public import proofs.«01_k».proof.Proof.Gen.Attn.Frame
public import proofs.«01_k».proof.Proof.Gen.AttnIdeal.Frame
public import proofs.«01_k».proof.Proof.Gen.AttnRefIdeal.Run
public import proofs.«01_k».proof.Proof.Ffn
public import proofs.«01_k».proof.Proof.Gen.Ffn.Frame
public import proofs.«01_k».proof.Proof.Gen.FfnIdeal.Frame
public import proofs.«01_k».proof.Proof.Gen.FfnRefIdeal.Run
public import proofs.«01_k».proof.Proof.Ple
public import proofs.«01_k».proof.Proof.Gen.Ple.Frame
public import proofs.«01_k».proof.Proof.Gen.PleIdeal.Frame
public import proofs.«01_k».proof.Proof.Gen.PleRefIdeal.Run
public import proofs.«01_k».proof.Proof.ConvIn
public import proofs.«01_k».proof.Proof.Gen.ConvIn.Frame
public import proofs.«01_k».proof.Proof.Gen.ConvInIdeal.Frame
public import proofs.«01_k».proof.Proof.Gen.ConvInRefIdeal.Run
public import proofs.«01_k».proof.Proof.Qkv
public import proofs.«01_k».proof.Proof.Gen.Qkv.Frame
public import proofs.«01_k».proof.Proof.Gen.QkvIdeal.Frame
public import proofs.«01_k».proof.Proof.Gen.QkvRefIdeal.Run
public import proofs.«01_k».proof.Proof.OutProj
public import proofs.«01_k».proof.Proof.Gen.OutProj.Frame
public import proofs.«01_k».proof.Proof.Gen.OutProjIdeal.Frame
public import proofs.«01_k».proof.Proof.Gen.OutProjRefIdeal.Run
public import proofs.«01_k».proof.Proof.Pool
public import proofs.«01_k».proof.Proof.Gen.Pool.Frame
public import proofs.«01_k».proof.Proof.Gen.PoolIdeal.Frame
public import proofs.«01_k».proof.Proof.Gen.PoolRefIdeal.Run
public import proofs.«01_k».proof.Proof.ConvOut
public import proofs.«01_k».proof.Proof.Gen.ConvOutRefIdeal.Run
public import proofs.«01_k».proof.Proof.Gen.ConvOut.Frame
public import proofs.«01_k».proof.Proof.Gen.ConvOut.Skeleton
public import proofs.«01_k».proof.Proof.Gen.ConvOut.Loops
public import proofs.«01_k».proof.Proof.Gen.ConvOutIdeal.Frame
public import proofs.«01_k».proof.Proof.Gen.ConvOutIdeal.Skeleton
public import proofs.«01_k».proof.Proof.Gen.ConvOutIdeal.Loops
public import Idealize.ShloMosaic.Adequacy
public import Idealize.ShloMosaic.Init

@[expose] public section

set_option maxRecDepth 16384

noncomputable section

namespace Cert.Proof

open Idealize.ShloMosaic Idealize.SL.Sem

/-- The printed Attn kernel, over machine floats: it ends, its arguments stay, every counter ends at zero. -/
theorem frame_Attn : quiescent_Attn (hAttn := Cert.Attn.Gen.facts) := fun m ρ _ => Cert.Attn.Gen.frame m ρ

/-- The same of the Attn kernel over the extended reals. -/
theorem frame_AttnIdeal : quiescent_AttnIdeal (hAttnIdeal := Cert.AttnIdeal.Gen.facts) := fun m ρ _ => Cert.AttnIdeal.Gen.frame m ρ

/-- The same of the Attn reference over the extended reals. -/
theorem frame_AttnRefIdeal : quiescent_AttnRefIdeal (hAttnRefIdeal := Cert.AttnRefIdeal.Gen.facts) := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The printed Ffn kernel, over machine floats: it ends, its arguments stay, every counter ends at zero. -/
theorem frame_Ffn : quiescent_Ffn (hFfn := Cert.Ffn.Gen.facts) := fun m ρ _ => Cert.Ffn.Gen.frame m ρ

/-- The same of the Ffn kernel over the extended reals. -/
theorem frame_FfnIdeal : quiescent_FfnIdeal (hFfnIdeal := Cert.FfnIdeal.Gen.facts) := fun m ρ _ => Cert.FfnIdeal.Gen.frame m ρ

/-- The same of the Ffn reference over the extended reals. -/
theorem frame_FfnRefIdeal : quiescent_FfnRefIdeal (hFfnRefIdeal := Cert.FfnRefIdeal.Gen.facts) := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The printed Ple kernel, over machine floats: it ends, its arguments stay, every counter ends at zero. -/
theorem frame_Ple : quiescent_Ple (hPle := Cert.Ple.Gen.facts) := fun m ρ _ => Cert.Ple.Gen.frame m ρ

/-- The same of the Ple kernel over the extended reals. -/
theorem frame_PleIdeal : quiescent_PleIdeal (hPleIdeal := Cert.PleIdeal.Gen.facts) := fun m ρ _ => Cert.PleIdeal.Gen.frame m ρ

/-- The same of the Ple reference over the extended reals. -/
theorem frame_PleRefIdeal : quiescent_PleRefIdeal (hPleRefIdeal := Cert.PleRefIdeal.Gen.facts) := fun m ρ _ =>
  (θ_run Cert.PleRefIdeal.defs _ _).mono (fun r h => ⟨fun c => (h c).2, sem_eq_zero_of_no_sems (by decide) r.2⟩)
    (Cert.PleRefIdeal.Value.run (F := Ideal) m ρ)

/-- The printed ConvIn kernel, over machine floats: it ends, its arguments stay, every counter ends at zero. -/
theorem frame_ConvIn : quiescent_ConvIn (hConvIn := Cert.ConvIn.Gen.facts) := fun m ρ _ => Cert.ConvIn.Gen.frame m ρ

/-- The same of the ConvIn kernel over the extended reals. -/
theorem frame_ConvInIdeal : quiescent_ConvInIdeal (hConvInIdeal := Cert.ConvInIdeal.Gen.facts) := fun m ρ _ => Cert.ConvInIdeal.Gen.frame m ρ

/-- The same of the ConvIn reference over the extended reals. -/
theorem frame_ConvInRefIdeal : quiescent_ConvInRefIdeal (hConvInRefIdeal := Cert.ConvInRefIdeal.Gen.facts) := fun m ρ _ =>
  (θ_run Cert.ConvInRefIdeal.defs _ _).mono (fun r h => ⟨fun c => (h c).2, sem_eq_zero_of_no_sems (by decide) r.2⟩)
    (Cert.ConvInRefIdeal.Value.run (F := Ideal) m ρ)

/-- The printed Qkv kernel, over machine floats: it ends, its arguments stay, every counter ends at zero. -/
theorem frame_Qkv : quiescent_Qkv (hQkv := Cert.Qkv.Gen.facts) := fun m ρ _ => Cert.Qkv.Gen.frame m ρ

/-- The same of the Qkv kernel over the extended reals. -/
theorem frame_QkvIdeal : quiescent_QkvIdeal (hQkvIdeal := Cert.QkvIdeal.Gen.facts) := fun m ρ _ => Cert.QkvIdeal.Gen.frame m ρ

/-- The same of the Qkv reference over the extended reals. -/
theorem frame_QkvRefIdeal : quiescent_QkvRefIdeal (hQkvRefIdeal := Cert.QkvRefIdeal.Gen.facts) := fun m ρ _ =>
  (θ_run Cert.QkvRefIdeal.defs _ _).mono (fun r h => ⟨fun c => (h c).2, sem_eq_zero_of_no_sems (by decide) r.2⟩)
    (Cert.QkvRefIdeal.Value.run (F := Ideal) m ρ)

/-- The printed OutProj kernel, over machine floats: it ends, its arguments stay, every counter ends at zero. -/
theorem frame_OutProj : quiescent_OutProj (hOutProj := Cert.OutProj.Gen.facts) := fun m ρ _ => Cert.OutProj.Gen.frame m ρ

/-- The same of the OutProj kernel over the extended reals. -/
theorem frame_OutProjIdeal : quiescent_OutProjIdeal (hOutProjIdeal := Cert.OutProjIdeal.Gen.facts) := fun m ρ _ => Cert.OutProjIdeal.Gen.frame m ρ

/-- The same of the OutProj reference over the extended reals. -/
theorem frame_OutProjRefIdeal : quiescent_OutProjRefIdeal (hOutProjRefIdeal := Cert.OutProjRefIdeal.Gen.facts) := fun m ρ _ =>
  (θ_run Cert.OutProjRefIdeal.defs _ _).mono (fun r h => ⟨fun c => (h c).2, sem_eq_zero_of_no_sems (by decide) r.2⟩)
    (Cert.OutProjRefIdeal.Value.run (F := Ideal) m ρ)

/-- The printed Pool kernel, over machine floats: it ends, its arguments stay, every counter ends at zero. -/
theorem frame_Pool : quiescent_Pool (hPool := Cert.Pool.Gen.facts) := fun m ρ _ => Cert.Pool.Gen.frame m ρ

/-- The same of the Pool kernel over the extended reals. -/
theorem frame_PoolIdeal : quiescent_PoolIdeal (hPoolIdeal := Cert.PoolIdeal.Gen.facts) := fun m ρ _ => Cert.PoolIdeal.Gen.frame m ρ

/-- The same of the Pool reference over the extended reals. -/
theorem frame_PoolRefIdeal : quiescent_PoolRefIdeal (hPoolRefIdeal := Cert.PoolRefIdeal.Gen.facts) := fun m ρ _ =>
  (θ_run Cert.PoolRefIdeal.defs _ _).mono (fun r h => ⟨fun c => (h c).2, sem_eq_zero_of_no_sems (by decide) r.2⟩)
    (Cert.PoolRefIdeal.Value.run (F := Ideal) m ρ)

/-- The printed ConvOut kernel, over machine floats: it ends, its arguments stay, every counter ends at zero. -/
theorem frame_ConvOut : quiescent_ConvOut (hConvOut := Cert.ConvOut.Gen.facts) := fun m ρ _ => Cert.ConvOut.Body.frame m ρ

/-- The same of the ConvOut kernel over the extended reals. -/
theorem frame_ConvOutIdeal : quiescent_ConvOutIdeal (hConvOutIdeal := Cert.ConvOutIdeal.Gen.facts) := fun m ρ _ => Cert.ConvOutIdeal.Body.frame m ρ

/-- The same of the ConvOut reference over the extended reals. -/
theorem frame_ConvOutRefIdeal : quiescent_ConvOutRefIdeal (hConvOutRefIdeal := Cert.ConvOutRefIdeal.Gen.facts) := fun m ρ _ =>
  (θ_run Cert.ConvOutRefIdeal.defs _ _).mono (fun r h => ⟨fun c => (h c).2, sem_eq_zero_of_no_sems (by decide) r.2⟩)
    (Cert.ConvOutRefIdeal.Value.run (F := Ideal) m ρ)

/-- The Attn kernel's frame asks nothing of its arguments, so it holds on finite ones. -/
theorem frame_AttnIdeal_finite : quiescent_AttnIdeal_pre_finite (hAttnIdeal := Cert.AttnIdeal.Gen.facts) (hPre_finite := Cert.Layer.pre_facts) :=
  fun m ρ _ => frame_AttnIdeal m ρ trivial

/-- And so does the Attn reference's. -/
theorem frame_AttnRefIdeal_finite : quiescent_AttnRefIdeal_pre_finite (hAttnRefIdeal := Cert.AttnRefIdeal.Gen.facts) (hPre_finite := Cert.Layer.pre_facts) :=
  fun m ρ _ => frame_AttnRefIdeal m ρ trivial

/-- The Pool kernel's frame asks nothing of its arguments, so it holds on finite ones. -/
theorem frame_PoolIdeal_finite_gain : quiescent_PoolIdeal_pre_finite_gain (hPoolIdeal := Cert.PoolIdeal.Gen.facts) (hPre_finite_gain := Cert.Layer.gain_facts) :=
  fun m ρ _ => frame_PoolIdeal m ρ trivial

/-- And so does the Pool reference's. -/
theorem frame_PoolRefIdeal_finite_gain : quiescent_PoolRefIdeal_pre_finite_gain (hPoolRefIdeal := Cert.PoolRefIdeal.Gen.facts) (hPre_finite_gain := Cert.Layer.gain_facts) :=
  fun m ρ _ => frame_PoolRefIdeal m ρ trivial

/-- Everything claimed of the programs. -/
theorem claim : Cert.Claim :=
  ⟨Cert.Attn.Gen.facts, Cert.AttnIdeal.Gen.facts, Cert.AttnRefIdeal.Gen.facts, Cert.Ffn.Gen.facts, Cert.FfnIdeal.Gen.facts, Cert.FfnRefIdeal.Gen.facts, Cert.Ple.Gen.facts, Cert.PleIdeal.Gen.facts, Cert.PleRefIdeal.Gen.facts, Cert.ConvIn.Gen.facts, Cert.ConvInIdeal.Gen.facts, Cert.ConvInRefIdeal.Gen.facts, Cert.Qkv.Gen.facts, Cert.QkvIdeal.Gen.facts, Cert.QkvRefIdeal.Gen.facts, Cert.OutProj.Gen.facts, Cert.OutProjIdeal.Gen.facts, Cert.OutProjRefIdeal.Gen.facts, Cert.Pool.Gen.facts, Cert.PoolIdeal.Gen.facts, Cert.PoolRefIdeal.Gen.facts, Cert.ConvOut.Gen.facts, Cert.ConvOutIdeal.Gen.facts, Cert.ConvOutRefIdeal.Gen.facts, Cert.Layer.pre_facts, Cert.Layer.gain_facts,
   frame_Attn, frame_AttnIdeal, frame_AttnIdeal_finite, frame_AttnRefIdeal, frame_AttnRefIdeal_finite, frame_Ffn, frame_FfnIdeal, frame_FfnRefIdeal, frame_Ple, frame_PleIdeal, frame_PleRefIdeal, frame_ConvIn, frame_ConvInIdeal, frame_ConvInRefIdeal, frame_Qkv, frame_QkvIdeal, frame_QkvRefIdeal, frame_OutProj, frame_OutProjIdeal, frame_OutProjRefIdeal, frame_Pool, frame_PoolIdeal, frame_PoolIdeal_finite_gain, frame_PoolRefIdeal, frame_PoolRefIdeal_finite_gain, frame_ConvOut, frame_ConvOutIdeal, frame_ConvOutRefIdeal,
   preserves_Attn, algebraic_Attn, trivial, algebraic_Ffn, trivial, algebraic_Ple, trivial, algebraic_ConvIn, trivial, algebraic_Qkv, trivial, algebraic_OutProj, trivial, algebraic_Pool, trivial, algebraic_ConvOut⟩

end Cert.Proof

end
